-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_inputs [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14)) (m ((c.tc : Thread Cert.KernelIdeal.nD Cert.KernelIdeal.τ).loc Cert.KernelIdeal.main_arg15)) (m ((c.tc : Thread Cert.KernelIdeal.nD Cert.KernelIdeal.τ).loc Cert.KernelIdeal.main_arg16)) (m ((c.tc : Thread Cert.KernelIdeal.nD Cert.KernelIdeal.τ).loc Cert.KernelIdeal.main_arg17)) (m ((c.tc : Thread Cert.KernelIdeal.nD Cert.KernelIdeal.τ).loc Cert.KernelIdeal.main_arg18)) (m ((c.tc : Thread Cert.KernelIdeal.nD Cert.KernelIdeal.τ).loc Cert.KernelIdeal.main_arg19)) (m ((c.tc : Thread Cert.KernelIdeal.nD Cert.KernelIdeal.τ).loc Cert.KernelIdeal.main_arg20)) (m ((c.tc : Thread Cert.KernelIdeal.nD Cert.KernelIdeal.τ).loc Cert.KernelIdeal.main_arg21)) (m ((c.tc : Thread Cert.KernelIdeal.nD Cert.KernelIdeal.τ).loc Cert.KernelIdeal.main_arg22))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_inputs [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14)) (m ((c.tc : Thread Cert.ReferenceIdeal.nD Cert.ReferenceIdeal.τ).loc Cert.ReferenceIdeal.main_arg15)) (m ((c.tc : Thread Cert.ReferenceIdeal.nD Cert.ReferenceIdeal.τ).loc Cert.ReferenceIdeal.main_arg16)) (m ((c.tc : Thread Cert.ReferenceIdeal.nD Cert.ReferenceIdeal.τ).loc Cert.ReferenceIdeal.main_arg17)) (m ((c.tc : Thread Cert.ReferenceIdeal.nD Cert.ReferenceIdeal.τ).loc Cert.ReferenceIdeal.main_arg18)) (m ((c.tc : Thread Cert.ReferenceIdeal.nD Cert.ReferenceIdeal.τ).loc Cert.ReferenceIdeal.main_arg19)) (m ((c.tc : Thread Cert.ReferenceIdeal.nD Cert.ReferenceIdeal.τ).loc Cert.ReferenceIdeal.main_arg20)) (m ((c.tc : Thread Cert.ReferenceIdeal.nD Cert.ReferenceIdeal.τ).loc Cert.ReferenceIdeal.main_arg21)) (m ((c.tc : Thread Cert.ReferenceIdeal.nD Cert.ReferenceIdeal.τ).loc Cert.ReferenceIdeal.main_arg22))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14)
      ∧ r.2.mem ((c.tc : Thread Cert.Kernel.nD Cert.Kernel.τ).loc Cert.Kernel.main_arg15) = m ((c.tc : Thread Cert.Kernel.nD Cert.Kernel.τ).loc Cert.Kernel.main_arg15)
      ∧ r.2.mem ((c.tc : Thread Cert.Kernel.nD Cert.Kernel.τ).loc Cert.Kernel.main_arg16) = m ((c.tc : Thread Cert.Kernel.nD Cert.Kernel.τ).loc Cert.Kernel.main_arg16)
      ∧ r.2.mem ((c.tc : Thread Cert.Kernel.nD Cert.Kernel.τ).loc Cert.Kernel.main_arg17) = m ((c.tc : Thread Cert.Kernel.nD Cert.Kernel.τ).loc Cert.Kernel.main_arg17)
      ∧ r.2.mem ((c.tc : Thread Cert.Kernel.nD Cert.Kernel.τ).loc Cert.Kernel.main_arg18) = m ((c.tc : Thread Cert.Kernel.nD Cert.Kernel.τ).loc Cert.Kernel.main_arg18)
      ∧ r.2.mem ((c.tc : Thread Cert.Kernel.nD Cert.Kernel.τ).loc Cert.Kernel.main_arg19) = m ((c.tc : Thread Cert.Kernel.nD Cert.Kernel.τ).loc Cert.Kernel.main_arg19)
      ∧ r.2.mem ((c.tc : Thread Cert.Kernel.nD Cert.Kernel.τ).loc Cert.Kernel.main_arg20) = m ((c.tc : Thread Cert.Kernel.nD Cert.Kernel.τ).loc Cert.Kernel.main_arg20)
      ∧ r.2.mem ((c.tc : Thread Cert.Kernel.nD Cert.Kernel.τ).loc Cert.Kernel.main_arg21) = m ((c.tc : Thread Cert.Kernel.nD Cert.Kernel.τ).loc Cert.Kernel.main_arg21)
      ∧ r.2.mem ((c.tc : Thread Cert.Kernel.nD Cert.Kernel.τ).loc Cert.Kernel.main_arg22) = m ((c.tc : Thread Cert.Kernel.nD Cert.Kernel.τ).loc Cert.Kernel.main_arg22))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_KernelIdeal_pre_finite_inputs [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_inputs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
      ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
      ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
      ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
      ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
      ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
      ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
      ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
      ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def quiescent_ReferenceIdeal_pre_finite_inputs [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_inputs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14)
      ∧ r.2.mem ((c.tc : Thread Cert.ReferenceIdeal.nD Cert.ReferenceIdeal.τ).loc Cert.ReferenceIdeal.main_arg15) = m ((c.tc : Thread Cert.ReferenceIdeal.nD Cert.ReferenceIdeal.τ).loc Cert.ReferenceIdeal.main_arg15)
      ∧ r.2.mem ((c.tc : Thread Cert.ReferenceIdeal.nD Cert.ReferenceIdeal.τ).loc Cert.ReferenceIdeal.main_arg16) = m ((c.tc : Thread Cert.ReferenceIdeal.nD Cert.ReferenceIdeal.τ).loc Cert.ReferenceIdeal.main_arg16)
      ∧ r.2.mem ((c.tc : Thread Cert.ReferenceIdeal.nD Cert.ReferenceIdeal.τ).loc Cert.ReferenceIdeal.main_arg17) = m ((c.tc : Thread Cert.ReferenceIdeal.nD Cert.ReferenceIdeal.τ).loc Cert.ReferenceIdeal.main_arg17)
      ∧ r.2.mem ((c.tc : Thread Cert.ReferenceIdeal.nD Cert.ReferenceIdeal.τ).loc Cert.ReferenceIdeal.main_arg18) = m ((c.tc : Thread Cert.ReferenceIdeal.nD Cert.ReferenceIdeal.τ).loc Cert.ReferenceIdeal.main_arg18)
      ∧ r.2.mem ((c.tc : Thread Cert.ReferenceIdeal.nD Cert.ReferenceIdeal.τ).loc Cert.ReferenceIdeal.main_arg19) = m ((c.tc : Thread Cert.ReferenceIdeal.nD Cert.ReferenceIdeal.τ).loc Cert.ReferenceIdeal.main_arg19)
      ∧ r.2.mem ((c.tc : Thread Cert.ReferenceIdeal.nD Cert.ReferenceIdeal.τ).loc Cert.ReferenceIdeal.main_arg20) = m ((c.tc : Thread Cert.ReferenceIdeal.nD Cert.ReferenceIdeal.τ).loc Cert.ReferenceIdeal.main_arg20)
      ∧ r.2.mem ((c.tc : Thread Cert.ReferenceIdeal.nD Cert.ReferenceIdeal.τ).loc Cert.ReferenceIdeal.main_arg21) = m ((c.tc : Thread Cert.ReferenceIdeal.nD Cert.ReferenceIdeal.τ).loc Cert.ReferenceIdeal.main_arg21)
      ∧ r.2.mem ((c.tc : Thread Cert.ReferenceIdeal.nD Cert.ReferenceIdeal.τ).loc Cert.ReferenceIdeal.main_arg22) = m ((c.tc : Thread Cert.ReferenceIdeal.nD Cert.ReferenceIdeal.τ).loc Cert.ReferenceIdeal.main_arg22))
      ∧ r.2.sem = fun _ => 0)

def preserves_Kernel_KernelIdeal : Prop :=
  True

def algebraic_KernelIdeal_ReferenceIdeal_pre_finite_inputs [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_inputs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
      ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
      ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
      ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
      ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
      ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
      ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
      ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
      ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)) →
    ∃ (v0 : (c : Dev Cert.KernelIdeal.nD) → Buf (Elt Ideal) ((c.tc : Thread Cert.KernelIdeal.nD Cert.KernelIdeal.τ).loc Cert.KernelIdeal.main_v55_0)) (v1 : (c : Dev Cert.KernelIdeal.nD) → Buf (Elt Ideal) ((c.tc : Thread Cert.KernelIdeal.nD Cert.KernelIdeal.τ).loc Cert.KernelIdeal.main_v55_1)) (v2 : (c : Dev Cert.KernelIdeal.nD) → Buf (Elt Ideal) ((c.tc : Thread Cert.KernelIdeal.nD Cert.KernelIdeal.τ).loc Cert.KernelIdeal.main_v55_2)) (v3 : (c : Dev Cert.KernelIdeal.nD) → Buf (Elt Ideal) ((c.tc : Thread Cert.KernelIdeal.nD Cert.KernelIdeal.τ).loc Cert.KernelIdeal.main_v56)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v55_0) = v0 c
          ∧ r.2.mem ((c.tc : Thread Cert.KernelIdeal.nD Cert.KernelIdeal.τ).loc Cert.KernelIdeal.main_v55_1) = v1 c
          ∧ r.2.mem ((c.tc : Thread Cert.KernelIdeal.nD Cert.KernelIdeal.τ).loc Cert.KernelIdeal.main_v55_2) = v2 c
          ∧ r.2.mem ((c.tc : Thread Cert.KernelIdeal.nD Cert.KernelIdeal.τ).loc Cert.KernelIdeal.main_v56) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14)
          ∧ r.2.mem ((c.tc : Thread Cert.KernelIdeal.nD Cert.KernelIdeal.τ).loc Cert.KernelIdeal.main_arg15) = m ((c.tc : Thread Cert.KernelIdeal.nD Cert.KernelIdeal.τ).loc Cert.KernelIdeal.main_arg15)
          ∧ r.2.mem ((c.tc : Thread Cert.KernelIdeal.nD Cert.KernelIdeal.τ).loc Cert.KernelIdeal.main_arg16) = m ((c.tc : Thread Cert.KernelIdeal.nD Cert.KernelIdeal.τ).loc Cert.KernelIdeal.main_arg16)
          ∧ r.2.mem ((c.tc : Thread Cert.KernelIdeal.nD Cert.KernelIdeal.τ).loc Cert.KernelIdeal.main_arg17) = m ((c.tc : Thread Cert.KernelIdeal.nD Cert.KernelIdeal.τ).loc Cert.KernelIdeal.main_arg17)
          ∧ r.2.mem ((c.tc : Thread Cert.KernelIdeal.nD Cert.KernelIdeal.τ).loc Cert.KernelIdeal.main_arg18) = m ((c.tc : Thread Cert.KernelIdeal.nD Cert.KernelIdeal.τ).loc Cert.KernelIdeal.main_arg18)
          ∧ r.2.mem ((c.tc : Thread Cert.KernelIdeal.nD Cert.KernelIdeal.τ).loc Cert.KernelIdeal.main_arg19) = m ((c.tc : Thread Cert.KernelIdeal.nD Cert.KernelIdeal.τ).loc Cert.KernelIdeal.main_arg19)
          ∧ r.2.mem ((c.tc : Thread Cert.KernelIdeal.nD Cert.KernelIdeal.τ).loc Cert.KernelIdeal.main_arg20) = m ((c.tc : Thread Cert.KernelIdeal.nD Cert.KernelIdeal.τ).loc Cert.KernelIdeal.main_arg20)
          ∧ r.2.mem ((c.tc : Thread Cert.KernelIdeal.nD Cert.KernelIdeal.τ).loc Cert.KernelIdeal.main_arg21) = m ((c.tc : Thread Cert.KernelIdeal.nD Cert.KernelIdeal.τ).loc Cert.KernelIdeal.main_arg21)
          ∧ r.2.mem ((c.tc : Thread Cert.KernelIdeal.nD Cert.KernelIdeal.τ).loc Cert.KernelIdeal.main_arg22) = m ((c.tc : Thread Cert.KernelIdeal.nD Cert.KernelIdeal.τ).loc Cert.KernelIdeal.main_arg22))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v300) = v0 c
          ∧ r.2.mem ((c.tc : Thread Cert.ReferenceIdeal.nD Cert.ReferenceIdeal.τ).loc Cert.ReferenceIdeal.main_v301) = v1 c
          ∧ r.2.mem ((c.tc : Thread Cert.ReferenceIdeal.nD Cert.ReferenceIdeal.τ).loc Cert.ReferenceIdeal.main_v230) = v2 c
          ∧ r.2.mem ((c.tc : Thread Cert.ReferenceIdeal.nD Cert.ReferenceIdeal.τ).loc Cert.ReferenceIdeal.main_v299) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14)
          ∧ r.2.mem ((c.tc : Thread Cert.ReferenceIdeal.nD Cert.ReferenceIdeal.τ).loc Cert.ReferenceIdeal.main_arg15) = m' ((c.tc : Thread Cert.ReferenceIdeal.nD Cert.ReferenceIdeal.τ).loc Cert.ReferenceIdeal.main_arg15)
          ∧ r.2.mem ((c.tc : Thread Cert.ReferenceIdeal.nD Cert.ReferenceIdeal.τ).loc Cert.ReferenceIdeal.main_arg16) = m' ((c.tc : Thread Cert.ReferenceIdeal.nD Cert.ReferenceIdeal.τ).loc Cert.ReferenceIdeal.main_arg16)
          ∧ r.2.mem ((c.tc : Thread Cert.ReferenceIdeal.nD Cert.ReferenceIdeal.τ).loc Cert.ReferenceIdeal.main_arg17) = m' ((c.tc : Thread Cert.ReferenceIdeal.nD Cert.ReferenceIdeal.τ).loc Cert.ReferenceIdeal.main_arg17)
          ∧ r.2.mem ((c.tc : Thread Cert.ReferenceIdeal.nD Cert.ReferenceIdeal.τ).loc Cert.ReferenceIdeal.main_arg18) = m' ((c.tc : Thread Cert.ReferenceIdeal.nD Cert.ReferenceIdeal.τ).loc Cert.ReferenceIdeal.main_arg18)
          ∧ r.2.mem ((c.tc : Thread Cert.ReferenceIdeal.nD Cert.ReferenceIdeal.τ).loc Cert.ReferenceIdeal.main_arg19) = m' ((c.tc : Thread Cert.ReferenceIdeal.nD Cert.ReferenceIdeal.τ).loc Cert.ReferenceIdeal.main_arg19)
          ∧ r.2.mem ((c.tc : Thread Cert.ReferenceIdeal.nD Cert.ReferenceIdeal.τ).loc Cert.ReferenceIdeal.main_arg20) = m' ((c.tc : Thread Cert.ReferenceIdeal.nD Cert.ReferenceIdeal.τ).loc Cert.ReferenceIdeal.main_arg20)
          ∧ r.2.mem ((c.tc : Thread Cert.ReferenceIdeal.nD Cert.ReferenceIdeal.τ).loc Cert.ReferenceIdeal.main_arg21) = m' ((c.tc : Thread Cert.ReferenceIdeal.nD Cert.ReferenceIdeal.τ).loc Cert.ReferenceIdeal.main_arg21)
          ∧ r.2.mem ((c.tc : Thread Cert.ReferenceIdeal.nD Cert.ReferenceIdeal.τ).loc Cert.ReferenceIdeal.main_arg22) = m' ((c.tc : Thread Cert.ReferenceIdeal.nD Cert.ReferenceIdeal.τ).loc Cert.ReferenceIdeal.main_arg22))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    quiescent_Kernel (hKernel := hKernel)
    ∧ quiescent_KernelIdeal (hKernelIdeal := hKernelIdeal)
    ∧ quiescent_KernelIdeal_pre_finite_inputs (hKernelIdeal := hKernelIdeal) (hPre_finite_inputs := hPre_finite_inputs)
    ∧ quiescent_ReferenceIdeal (hReferenceIdeal := hReferenceIdeal)
    ∧ quiescent_ReferenceIdeal_pre_finite_inputs (hReferenceIdeal := hReferenceIdeal) (hPre_finite_inputs := hPre_finite_inputs)
    ∧ preserves_Kernel_KernelIdeal
    ∧ algebraic_KernelIdeal_ReferenceIdeal_pre_finite_inputs (hKernelIdeal := hKernelIdeal) (hReferenceIdeal := hReferenceIdeal) (hPre_finite_inputs := hPre_finite_inputs)
-- ==== Pre_finite_inputs.lean ====
abbrev S16x2048x165 : Shape := ⟨3, ![16, 2048, 165]⟩
abbrev S16x2048x330 : Shape := ⟨3, ![16, 2048, 330]⟩
abbrev S16x2048x3 : Shape := ⟨3, ![16, 2048, 3]⟩
abbrev S144x64 : Shape := ⟨2, ![144, 64]⟩
abbrev S64 : Shape := ⟨1, ![64]⟩
abbrev S512x64 : Shape := ⟨2, ![512, 64]⟩
abbrev S64x144 : Shape := ⟨2, ![64, 144]⟩
abbrev S144 : Shape := ⟨1, ![144]⟩
abbrev S84x64 : Shape := ⟨2, ![84, 64]⟩
abbrev S64x84 : Shape := ⟨2, ![64, 84]⟩
abbrev S84 : Shape := ⟨1, ![84]⟩
abbrev S135x64 : Shape := ⟨2, ![135, 64]⟩
abbrev S64x135 : Shape := ⟨2, ![64, 135]⟩
abbrev S135 : Shape := ⟨1, ![135]⟩
abbrev S_ : Shape := ⟨0, ![]⟩

class Facts : Prop where
  bcast_S_S16x2048x165 : S_.BroadcastsInDim S16x2048x165 (![] : Fin 0 → Fin S16x2048x165.rank)
  reducesTo_S16x2048x165_S_d0_1_2 : S16x2048x165.ReducesTo [0, 1, 2] S_
  h_S_ : 0 < S_.numel
  bcast_S_S16x2048x330 : S_.BroadcastsInDim S16x2048x330 (![] : Fin 0 → Fin S16x2048x330.rank)
  reducesTo_S16x2048x330_S_d0_1_2 : S16x2048x330.ReducesTo [0, 1, 2] S_
  bcast_S_S16x2048x3 : S_.BroadcastsInDim S16x2048x3 (![] : Fin 0 → Fin S16x2048x3.rank)
  reducesTo_S16x2048x3_S_d0_1_2 : S16x2048x3.ReducesTo [0, 1, 2] S_
  bcast_S_S144x64 : S_.BroadcastsInDim S144x64 (![] : Fin 0 → Fin S144x64.rank)
  reducesTo_S144x64_S_d0_1 : S144x64.ReducesTo [0, 1] S_
  bcast_S_S64 : S_.BroadcastsInDim S64 (![] : Fin 0 → Fin S64.rank)
  reducesTo_S64_S_d0 : S64.ReducesTo [0] S_
  bcast_S_S512x64 : S_.BroadcastsInDim S512x64 (![] : Fin 0 → Fin S512x64.rank)
  reducesTo_S512x64_S_d0_1 : S512x64.ReducesTo [0, 1] S_
  bcast_S_S84x64 : S_.BroadcastsInDim S84x64 (![] : Fin 0 → Fin S84x64.rank)
  reducesTo_S84x64_S_d0_1 : S84x64.ReducesTo [0, 1] S_
  bcast_S_S135x64 : S_.BroadcastsInDim S135x64 (![] : Fin 0 → Fin S135x64.rank)
  reducesTo_S135x64_S_d0_1 : S135x64.ReducesTo [0, 1] S_

variable [Facts]

def fn_part4 {F : FTy → Type} [FloatOps F] (main_arg20 : FVec F S512x64 .f32) (main_v63 : IVec S_ 1) (main_v67 : IVec S_ 1) : IVec S_ 1 :=
  let main_v68 : IVec S_ 1 := andi main_v63 main_v67
  let main_v69 : FVec F S512x64 .f32 := Host.absf main_arg20
  let main_cst_26 : FVec F S_ .f32 := constant S_ .f32 0x7F800000#32
  let main_v70 : FVec F S512x64 .f32 := broadcastInDim S512x64 ![] bcast_S_S512x64 main_cst_26
  let main_v71 : IVec S512x64 1 := cmpf .olt main_v69 main_v70
  let main_c_27 : IVec S_ 1 := constantI S_ 1 1#1
  let main_v72 : IVec S_ 1 := (fun x v => Host.reduce IntOp.andi x v reducesTo_S512x64_S_d0_1 h_S_) main_v71 main_c_27
  let main_v73 : IVec S_ 1 := andi main_v68 main_v72
  main_v73

def fn_part3 {F : FTy → Type} [FloatOps F] (main_arg15 : FVec F S512x64 .f32) (main_arg18 : FVec F S135x64 .f32) (main_arg19 : FVec F S64 .f32) (main_arg20 : FVec F S512x64 .f32) (main_v48 : IVec S_ 1) (main_v49 : FVec F S64 .f32) (main_v50 : FVec F S64 .f32) : IVec S_ 1 :=
  let main_v51 : IVec S64 1 := cmpf .olt main_v49 main_v50
  let main_c_19 : IVec S_ 1 := constantI S_ 1 1#1
  let main_v52 : IVec S_ 1 := (fun x v => Host.reduce IntOp.andi x v reducesTo_S64_S_d0 h_S_) main_v51 main_c_19
  let main_v53 : IVec S_ 1 := andi main_v48 main_v52
  let main_v54 : FVec F S512x64 .f32 := Host.absf main_arg15
  let main_cst_20 : FVec F S_ .f32 := constant S_ .f32 0x7F800000#32
  let main_v55 : FVec F S512x64 .f32 := broadcastInDim S512x64 ![] bcast_S_S512x64 main_cst_20
  let main_v56 : IVec S512x64 1 := cmpf .olt main_v54 main_v55
  let main_c_21 : IVec S_ 1 := constantI S_ 1 1#1
  let main_v57 : IVec S_ 1 := (fun x v => Host.reduce IntOp.andi x v reducesTo_S512x64_S_d0_1 h_S_) main_v56 main_c_21
  let main_v58 : IVec S_ 1 := andi main_v53 main_v57
  let main_v59 : FVec F S135x64 .f32 := Host.absf main_arg18
  let main_cst_22 : FVec F S_ .f32 := constant S_ .f32 0x7F800000#32
  let main_v60 : FVec F S135x64 .f32 := broadcastInDim S135x64 ![] bcast_S_S135x64 main_cst_22
  let main_v61 : IVec S135x64 1 := cmpf .olt main_v59 main_v60
  let main_c_23 : IVec S_ 1 := constantI S_ 1 1#1
  let main_v62 : IVec S_ 1 := (fun x v => Host.reduce IntOp.andi x v reducesTo_S135x64_S_d0_1 h_S_) main_v61 main_c_23
  let main_v63 : IVec S_ 1 := andi main_v58 main_v62
  let main_v64 : FVec F S64 .f32 := Host.absf main_arg19
  let main_cst_24 : FVec F S_ .f32 := constant S_ .f32 0x7F800000#32
  let main_v65 : FVec F S64 .f32 := broadcastInDim S64 ![] bcast_S_S64 main_cst_24
  let main_v66 : IVec S64 1 := cmpf .olt main_v64 main_v65
  let main_c_25 : IVec S_ 1 := constantI S_ 1 1#1
  let main_v67 : IVec S_ 1 := (fun x v => Host.reduce IntOp.andi x v reducesTo_S64_S_d0 h_S_) main_v66 main_c_25
  fn_part4 (F := F) main_arg20 main_v63 main_v67

def fn_part2 {F : FTy → Type} [FloatOps F] (main_arg9 : FVec F S64 .f32) (main_arg10 : FVec F S512x64 .f32) (main_arg13 : FVec F S135x64 .f32) (main_arg14 : FVec F S64 .f32) (main_arg15 : FVec F S512x64 .f32) (main_arg18 : FVec F S135x64 .f32) (main_arg19 : FVec F S64 .f32) (main_arg20 : FVec F S512x64 .f32) (main_v33 : IVec S_ 1) : IVec S_ 1 :=
  let main_v34 : FVec F S64 .f32 := Host.absf main_arg9
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S512x64 .f32 := Host.absf main_arg10
  let main_cst_14 : FVec F S_ .f32 := constant S_ .f32 0x7F800000#32
  let main_v40 : FVec F S512x64 .f32 := broadcastInDim S512x64 ![] bcast_S_S512x64 main_cst_14
  let main_v41 : IVec S512x64 1 := cmpf .olt main_v39 main_v40
  let main_c_15 : IVec S_ 1 := constantI S_ 1 1#1
  let main_v42 : IVec S_ 1 := (fun x v => Host.reduce IntOp.andi x v reducesTo_S512x64_S_d0_1 h_S_) main_v41 main_c_15
  let main_v43 : IVec S_ 1 := andi main_v38 main_v42
  let main_v44 : FVec F S135x64 .f32 := Host.absf main_arg13
  let main_cst_16 : FVec F S_ .f32 := constant S_ .f32 0x7F800000#32
  let main_v45 : FVec F S135x64 .f32 := broadcastInDim S135x64 ![] bcast_S_S135x64 main_cst_16
  let main_v46 : IVec S135x64 1 := cmpf .olt main_v44 main_v45
  let main_c_17 : IVec S_ 1 := constantI S_ 1 1#1
  let main_v47 : IVec S_ 1 := (fun x v => Host.reduce IntOp.andi x v reducesTo_S135x64_S_d0_1 h_S_) main_v46 main_c_17
  let main_v48 : IVec S_ 1 := andi main_v43 main_v47
  let main_v49 : FVec F S64 .f32 := Host.absf main_arg14
  let main_cst_18 : FVec F S_ .f32 := constant S_ .f32 0x7F800000#32
  let main_v50 : FVec F S64 .f32 := broadcastInDim S64 ![] bcast_S_S64 main_cst_18
  fn_part3 (F := F) main_arg15 main_arg18 main_arg19 main_arg20 main_v48 main_v49 main_v50

def fn_part1 {F : FTy → Type} [FloatOps F] (main_arg4 : FVec F S64 .f32) (main_arg5 : FVec F S512x64 .f32) (main_arg8 : FVec F S84x64 .f32) (main_arg9 : FVec F S64 .f32) (main_arg10 : FVec F S512x64 .f32) (main_arg13 : FVec F S135x64 .f32) (main_arg14 : FVec F S64 .f32) (main_arg15 : FVec F S512x64 .f32) (main_arg18 : FVec F S135x64 .f32) (main_arg19 : FVec F S64 .f32) (main_arg20 : FVec F S512x64 .f32) (main_v13 : IVec S_ 1) (main_v16 : IVec S144x64 1) : IVec S_ 1 :=
  let main_c_5 : IVec S_ 1 := constantI S_ 1 1#1
  let main_v17 : IVec S_ 1 := (fun x v => Host.reduce IntOp.andi x v reducesTo_S144x64_S_d0_1 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S512x64 .f32 := Host.absf main_arg5
  let main_cst_8 : FVec F S_ .f32 := constant S_ .f32 0x7F800000#32
  let main_v25 : FVec F S512x64 .f32 := broadcastInDim S512x64 ![] bcast_S_S512x64 main_cst_8
  let main_v26 : IVec S512x64 1 := cmpf .olt main_v24 main_v25
  let main_c_9 : IVec S_ 1 := constantI S_ 1 1#1
  let main_v27 : IVec S_ 1 := (fun x v => Host.reduce IntOp.andi x v reducesTo_S512x64_S_d0_1 h_S_) main_v26 main_c_9
  let main_v28 : IVec S_ 1 := andi main_v23 main_v27
  let main_v29 : FVec F S84x64 .f32 := Host.absf main_arg8
  let main_cst_10 : FVec F S_ .f32 := constant S_ .f32 0x7F800000#32
  let main_v30 : FVec F S84x64 .f32 := broadcastInDim S84x64 ![] bcast_S_S84x64 main_cst_10
  let main_v31 : IVec S84x64 1 := cmpf .olt main_v29 main_v30
  let main_c_11 : IVec S_ 1 := constantI S_ 1 1#1
  let main_v32 : IVec S_ 1 := (fun x v => Host.reduce IntOp.andi x v reducesTo_S84x64_S_d0_1 h_S_) main_v31 main_c_11
  let main_v33 : IVec S_ 1 := andi main_v28 main_v32
  fn_part2 (F := F) main_arg9 main_arg10 main_arg13 main_arg14 main_arg15 main_arg18 main_arg19 main_arg20 main_v33

def fn {F : FTy → Type} [FloatOps F] (main_arg0 : FVec F S16x2048x165 .f32) (main_arg1 : FVec F S16x2048x330 .f32) (main_arg2 : FVec F S16x2048x3 .f32) (main_arg3 : FVec F S144x64 .f32) (main_arg4 : FVec F S64 .f32) (main_arg5 : FVec F S512x64 .f32) (main_arg6 : FVec F S64x144 .f32) (main_arg7 : FVec F S144 .f32) (main_arg8 : FVec F S84x64 .f32) (main_arg9 : FVec F S64 .f32) (main_arg10 : FVec F S512x64 .f32) (main_arg11 : FVec F S64x84 .f32) (main_arg12 : FVec F S84 .f32) (main_arg13 : FVec F S135x64 .f32) (main_arg14 : FVec F S64 .f32) (main_arg15 : FVec F S512x64 .f32) (main_arg16 : FVec F S64x135 .f32) (main_arg17 : FVec F S135 .f32) (main_arg18 : FVec F S135x64 .f32) (main_arg19 : FVec F S64 .f32) (main_arg20 : FVec F S512x64 .f32) (main_arg21 : FVec F S64x135 .f32) (main_arg22 : FVec F S135 .f32) : IVec S_ 1 :=
  let main_v0 : FVec F S16x2048x165 .f32 := Host.absf main_arg0
  let main_cst : FVec F S_ .f32 := constant S_ .f32 0x7F800000#32
  let main_v1 : FVec F S16x2048x165 .f32 := broadcastInDim S16x2048x165 ![] bcast_S_S16x2048x165 main_cst
  let main_v2 : IVec S16x2048x165 1 := cmpf .olt main_v0 main_v1
  let main_c : IVec S_ 1 := constantI S_ 1 1#1
  let main_v3 : IVec S_ 1 := (fun x v => Host.reduce IntOp.andi x v reducesTo_S16x2048x165_S_d0_1_2 h_S_) main_v2 main_c
  let main_v4 : FVec F S16x2048x330 .f32 := Host.absf main_arg1
  let main_cst_0 : FVec F S_ .f32 := constant S_ .f32 0x7F800000#32
  let main_v5 : FVec F S16x2048x330 .f32 := broadcastInDim S16x2048x330 ![] bcast_S_S16x2048x330 main_cst_0
  let main_v6 : IVec S16x2048x330 1 := cmpf .olt main_v4 main_v5
  let main_c_1 : IVec S_ 1 := constantI S_ 1 1#1
  let main_v7 : IVec S_ 1 := (fun x v => Host.reduce IntOp.andi x v reducesTo_S16x2048x330_S_d0_1_2 h_S_) main_v6 main_c_1
  let main_v8 : IVec S_ 1 := andi main_v3 main_v7
  let main_v9 : FVec F S16x2048x3 .f32 := Host.absf main_arg2
  let main_cst_2 : FVec F S_ .f32 := constant S_ .f32 0x7F800000#32
  let main_v10 : FVec F S16x2048x3 .f32 := broadcastInDim S16x2048x3 ![] bcast_S_S16x2048x3 main_cst_2
  let main_v11 : IVec S16x2048x3 1 := cmpf .olt main_v9 main_v10
  let main_c_3 : IVec S_ 1 := constantI S_ 1 1#1
  let main_v12 : IVec S_ 1 := (fun x v => Host.reduce IntOp.andi x v reducesTo_S16x2048x3_S_d0_1_2 h_S_) main_v11 main_c_3
  let main_v13 : IVec S_ 1 := andi main_v8 main_v12
  let main_v14 : FVec F S144x64 .f32 := Host.absf main_arg3
  let main_cst_4 : FVec F S_ .f32 := constant S_ .f32 0x7F800000#32
  let main_v15 : FVec F S144x64 .f32 := broadcastInDim S144x64 ![] bcast_S_S144x64 main_cst_4
  let main_v16 : IVec S144x64 1 := cmpf .olt main_v14 main_v15
  fn_part1 (F := F) main_arg4 main_arg5 main_arg8 main_arg9 main_arg10 main_arg13 main_arg14 main_arg15 main_arg18 main_arg19 main_arg20 main_v13 main_v16
-- ==== Kernel.lean ====
abbrev S16x2048x165 : Shape := ⟨3, ![16, 2048, 165]⟩
abbrev S16x2048x330 : Shape := ⟨3, ![16, 2048, 330]⟩
abbrev S16x2048x3 : Shape := ⟨3, ![16, 2048, 3]⟩
abbrev S144x64 : Shape := ⟨2, ![144, 64]⟩
abbrev S64 : Shape := ⟨1, ![64]⟩
abbrev S512x64 : Shape := ⟨2, ![512, 64]⟩
abbrev S64x144 : Shape := ⟨2, ![64, 144]⟩
abbrev S144 : Shape := ⟨1, ![144]⟩
abbrev S84x64 : Shape := ⟨2, ![84, 64]⟩
abbrev S64x84 : Shape := ⟨2, ![64, 84]⟩
abbrev S84 : Shape := ⟨1, ![84]⟩
abbrev S135x64 : Shape := ⟨2, ![135, 64]⟩
abbrev S64x135 : Shape := ⟨2, ![64, 135]⟩
abbrev S135 : Shape := ⟨1, ![135]⟩
abbrev S165 : Shape := ⟨1, ![165]⟩
abbrev S330 : Shape := ⟨1, ![330]⟩
abbrev S3 : Shape := ⟨1, ![3]⟩
abbrev S225 : Shape := ⟨1, ![225]⟩
abbrev S1x225 : Shape := ⟨2, ![1, 225]⟩
abbrev S111 : Shape := ⟨1, ![111]⟩
abbrev S1x111 : Shape := ⟨2, ![1, 111]⟩
abbrev S_ : Shape := ⟨0, ![]⟩
abbrev S144x256 : Shape := ⟨2, ![144, 256]⟩
abbrev S84x256 : Shape := ⟨2, ![84, 256]⟩
abbrev S135x256 : Shape := ⟨2, ![135, 256]⟩
abbrev S498x256 : Shape := ⟨2, ![498, 256]⟩
abbrev S165x1 : Shape := ⟨2, ![165, 1]⟩
abbrev S165x256 : Shape := ⟨2, ![165, 256]⟩
abbrev S330x1 : Shape := ⟨2, ![330, 1]⟩
abbrev S330x256 : Shape := ⟨2, ![330, 256]⟩
abbrev S3x1 : Shape := ⟨2, ![3, 1]⟩
abbrev S3x256 : Shape := ⟨2, ![3, 256]⟩
abbrev S256 : Shape := ⟨1, ![256]⟩
abbrev S1x256 : Shape := ⟨2, ![1, 256]⟩
abbrev S225x1 : Shape := ⟨2, ![225, 1]⟩
abbrev S64x225 : Shape := ⟨2, ![64, 225]⟩
abbrev S111x1 : Shape := ⟨2, ![111, 1]⟩
abbrev S64x111 : Shape := ⟨2, ![64, 111]⟩
abbrev S64x90 : Shape := ⟨2, ![64, 90]⟩
abbrev S90 : Shape := ⟨1, ![90]⟩
abbrev S1x90 : Shape := ⟨2, ![1, 90]⟩
abbrev S512x225 : Shape := ⟨2, ![512, 225]⟩
abbrev S512x111 : Shape := ⟨2, ![512, 111]⟩
abbrev S512x90 : Shape := ⟨2, ![512, 90]⟩
abbrev S4x512 : Shape := ⟨2, ![4, 512]⟩
abbrev S512 : Shape := ⟨1, ![512]⟩
abbrev S1x512 : Shape := ⟨2, ![1, 512]⟩
abbrev S1x1 : Shape := ⟨2, ![1, 1]⟩
abbrev S1x1024x165 : Shape := ⟨3, ![1, 1024, 165]⟩
abbrev S1x1024x330 : Shape := ⟨3, ![1, 1024, 330]⟩
abbrev S1x1024x3 : Shape := ⟨3, ![1, 1024, 3]⟩
abbrev S1024x165 : Shape := ⟨2, ![1024, 165]⟩
abbrev S1024x330 : Shape := ⟨2, ![1024, 330]⟩
abbrev S1024x3 : Shape := ⟨2, ![1024, 3]⟩
abbrev S1024x256 : Shape := ⟨2, ![1024, 256]⟩
abbrev S1x1024x256 : Shape := ⟨3, ![1, 1024, 256]⟩
abbrev S1 : Shape := ⟨1, ![1]⟩
abbrev S1x1x1 : Shape := ⟨3, ![1, 1, 1]⟩
abbrev S1024x512 : Shape := ⟨2, ![1024, 512]⟩
abbrev S1024x64 : Shape := ⟨2, ![1024, 64]⟩
abbrev S1024 : Shape := ⟨1, ![1024]⟩
abbrev S1x1024 : Shape := ⟨2, ![1, 1024]⟩
abbrev S1024x1 : Shape := ⟨2, ![1024, 1]⟩
abbrev S1024x225 : Shape := ⟨2, ![1024, 225]⟩
abbrev S1024x111 : Shape := ⟨2, ![1024, 111]⟩
abbrev S1024x90 : Shape := ⟨2, ![1024, 90]⟩
abbrev S1024x36 : Shape := ⟨2, ![1024, 36]⟩
abbrev S1024x39 : Shape := ⟨2, ![1024, 39]⟩
abbrev S1024x72 : Shape := ⟨2, ![1024, 72]⟩
abbrev S1024x78 : Shape := ⟨2, ![1024, 78]⟩

abbrev nBuf : Space → Nat
  | .hbm => 122
  | .vmem => 47
  | .smem => 0
  | _ => 0

abbrev bufTy : (tb : Table) → Fin (tcTables nBuf tb) → BufTy
  | .hbm, ⟨0, _⟩ => ⟨S16x2048x165, .f32⟩
  | .hbm, ⟨1, _⟩ => ⟨S16x2048x330, .f32⟩
  | .hbm, ⟨2, _⟩ => ⟨S16x2048x3, .f32⟩
  | .hbm, ⟨3, _⟩ => ⟨S144x64, .f32⟩
  | .hbm, ⟨4, _⟩ => ⟨S64, .f32⟩
  | .hbm, ⟨5, _⟩ => ⟨S512x64, .f32⟩
  | .hbm, ⟨6, _⟩ => ⟨S64x144, .f32⟩
  | .hbm, ⟨7, _⟩ => ⟨S144, .f32⟩
  | .hbm, ⟨8, _⟩ => ⟨S84x64, .f32⟩
  | .hbm, ⟨9, _⟩ => ⟨S64, .f32⟩
  | .hbm, ⟨10, _⟩ => ⟨S512x64, .f32⟩
  | .hbm, ⟨11, _⟩ => ⟨S64x84, .f32⟩
  | .hbm, ⟨12, _⟩ => ⟨S84, .f32⟩
  | .hbm, ⟨13, _⟩ => ⟨S135x64, .f32⟩
  | .hbm, ⟨14, _⟩ => ⟨S64, .f32⟩
  | .hbm, ⟨15, _⟩ => ⟨S512x64, .f32⟩
  | .hbm, ⟨16, _⟩ => ⟨S64x135, .f32⟩
  | .hbm, ⟨17, _⟩ => ⟨S135, .f32⟩
  | .hbm, ⟨18, _⟩ => ⟨S135x64, .f32⟩
  | .hbm, ⟨19, _⟩ => ⟨S64, .f32⟩
  | .hbm, ⟨20, _⟩ => ⟨S512x64, .f32⟩
  | .hbm, ⟨21, _⟩ => ⟨S64x135, .f32⟩
  | .hbm, ⟨22, _⟩ => ⟨S135, .f32⟩
  | .hbm, ⟨23, _⟩ => ⟨S165, .i32⟩
  | .hbm, ⟨24, _⟩ => ⟨S165, .i1⟩
  | .hbm, ⟨25, _⟩ => ⟨S330, .i32⟩
  | .hbm, ⟨26, _⟩ => ⟨S330, .i1⟩
  | .hbm, ⟨27, _⟩ => ⟨S3, .i32⟩
  | .hbm, ⟨28, _⟩ => ⟨S3, .i1⟩
  | .hbm, ⟨29, _⟩ => ⟨S225, .i32⟩
  | .hbm, ⟨30, _⟩ => ⟨S225, .i1⟩
  | .hbm, ⟨31, _⟩ => ⟨S225, .f32⟩
  | .hbm, ⟨32, _⟩ => ⟨S1x225, .f32⟩
  | .hbm, ⟨33, _⟩ => ⟨S225, .i1⟩
  | .hbm, ⟨34, _⟩ => ⟨S225, .f32⟩
  | .hbm, ⟨35, _⟩ => ⟨S111, .i32⟩
  | .hbm, ⟨36, _⟩ => ⟨S111, .i1⟩
  | .hbm, ⟨37, _⟩ => ⟨S111, .f32⟩
  | .hbm, ⟨38, _⟩ => ⟨S1x111, .f32⟩
  | .hbm, ⟨39, _⟩ => ⟨S111, .i1⟩
  | .hbm, ⟨40, _⟩ => ⟨S111, .f32⟩
  | .hbm, ⟨41, _⟩ => ⟨S_, .f32⟩
  | .hbm, ⟨42, _⟩ => ⟨S144x256, .f32⟩
  | .hbm, ⟨43, _⟩ => ⟨S_, .f32⟩
  | .hbm, ⟨44, _⟩ => ⟨S84x256, .f32⟩
  | .hbm, ⟨45, _⟩ => ⟨S_, .f32⟩
  | .hbm, ⟨46, _⟩ => ⟨S135x256, .f32⟩
  | .hbm, ⟨47, _⟩ => ⟨S_, .f32⟩
  | .hbm, ⟨48, _⟩ => ⟨S135x256, .f32⟩
  | .hbm, ⟨49, _⟩ => ⟨S498x256, .f32⟩
  | .hbm, ⟨50, _⟩ => ⟨S_, .i32⟩
  | .hbm, ⟨51, _⟩ => ⟨S165, .i32⟩
  | .hbm, ⟨52, _⟩ => ⟨S165, .i32⟩
  | .hbm, ⟨53, _⟩ => ⟨S165, .i32⟩
  | .hbm, ⟨54, _⟩ => ⟨S165x1, .i32⟩
  | .hbm, ⟨55, _⟩ => ⟨S165x256, .f32⟩
  | .hbm, ⟨56, _⟩ => ⟨S_, .i32⟩
  | .hbm, ⟨57, _⟩ => ⟨S330, .i32⟩
  | .hbm, ⟨58, _⟩ => ⟨S330, .i32⟩
  | .hbm, ⟨59, _⟩ => ⟨S330, .i32⟩
  | .hbm, ⟨60, _⟩ => ⟨S330x1, .i32⟩
  | .hbm, ⟨61, _⟩ => ⟨S330x256, .f32⟩
  | .hbm, ⟨62, _⟩ => ⟨S_, .i32⟩
  | .hbm, ⟨63, _⟩ => ⟨S3, .i32⟩
  | .hbm, ⟨64, _⟩ => ⟨S3, .i32⟩
  | .hbm, ⟨65, _⟩ => ⟨S3, .i32⟩
  | .hbm, ⟨66, _⟩ => ⟨S3x1, .i32⟩
  | .hbm, ⟨67, _⟩ => ⟨S3x256, .f32⟩
  | .hbm, ⟨68, _⟩ => ⟨S256, .f32⟩
  | .hbm, ⟨69, _⟩ => ⟨S1x256, .f32⟩
  | .hbm, ⟨70, _⟩ => ⟨S_, .i32⟩
  | .hbm, ⟨71, _⟩ => ⟨S225, .i32⟩
  | .hbm, ⟨72, _⟩ => ⟨S225, .i32⟩
  | .hbm, ⟨73, _⟩ => ⟨S225, .i32⟩
  | .hbm, ⟨74, _⟩ => ⟨S225x1, .i32⟩
  | .hbm, ⟨75, _⟩ => ⟨S64x225, .f32⟩
  | .hbm, ⟨76, _⟩ => ⟨S64x225, .f32⟩
  | .hbm, ⟨77, _⟩ => ⟨S64x225, .f32⟩
  | .hbm, ⟨78, _⟩ => ⟨S_, .i32⟩
  | .hbm, ⟨79, _⟩ => ⟨S225, .i32⟩
  | .hbm, ⟨80, _⟩ => ⟨S225, .i32⟩
  | .hbm, ⟨81, _⟩ => ⟨S225, .i32⟩
  | .hbm, ⟨82, _⟩ => ⟨S225x1, .i32⟩
  | .hbm, ⟨83, _⟩ => ⟨S225, .f32⟩
  | .hbm, ⟨84, _⟩ => ⟨S225, .f32⟩
  | .hbm, ⟨85, _⟩ => ⟨S1x225, .f32⟩
  | .hbm, ⟨86, _⟩ => ⟨S_, .i32⟩
  | .hbm, ⟨87, _⟩ => ⟨S111, .i32⟩
  | .hbm, ⟨88, _⟩ => ⟨S111, .i32⟩
  | .hbm, ⟨89, _⟩ => ⟨S111, .i32⟩
  | .hbm, ⟨90, _⟩ => ⟨S111x1, .i32⟩
  | .hbm, ⟨91, _⟩ => ⟨S64x111, .f32⟩
  | .hbm, ⟨92, _⟩ => ⟨S64x111, .f32⟩
  | .hbm, ⟨93, _⟩ => ⟨S64x111, .f32⟩
  | .hbm, ⟨94, _⟩ => ⟨S_, .i32⟩
  | .hbm, ⟨95, _⟩ => ⟨S111, .i32⟩
  | .hbm, ⟨96, _⟩ => ⟨S111, .i32⟩
  | .hbm, ⟨97, _⟩ => ⟨S111, .i32⟩
  | .hbm, ⟨98, _⟩ => ⟨S111x1, .i32⟩
  | .hbm, ⟨99, _⟩ => ⟨S111, .f32⟩
  | .hbm, ⟨100, _⟩ => ⟨S111, .f32⟩
  | .hbm, ⟨101, _⟩ => ⟨S1x111, .f32⟩
  | .hbm, ⟨102, _⟩ => ⟨S64x90, .f32⟩
  | .hbm, ⟨103, _⟩ => ⟨S90, .f32⟩
  | .hbm, ⟨104, _⟩ => ⟨S1x90, .f32⟩
  | .hbm, ⟨105, _⟩ => ⟨S64x90, .f32⟩
  | .hbm, ⟨106, _⟩ => ⟨S90, .f32⟩
  | .hbm, ⟨107, _⟩ => ⟨S1x90, .f32⟩
  | .hbm, ⟨108, _⟩ => ⟨S512x225, .f32⟩
  | .hbm, ⟨109, _⟩ => ⟨S512x111, .f32⟩
  | .hbm, ⟨110, _⟩ => ⟨S512x90, .f32⟩
  | .hbm, ⟨111, _⟩ => ⟨S512x90, .f32⟩
  | .hbm, ⟨112, _⟩ => ⟨S512x64, .f32⟩
  | .hbm, ⟨113, _⟩ => ⟨S512x64, .f32⟩
  | .hbm, ⟨114, _⟩ => ⟨S512x64, .f32⟩
  | .hbm, ⟨115, _⟩ => ⟨S512x64, .f32⟩
  | .hbm, ⟨116, _⟩ => ⟨S4x512, .f32⟩
  | .hbm, ⟨117, _⟩ => ⟨S16x2048x165, .f32⟩
  | .hbm, ⟨118, _⟩ => ⟨S16x2048x330, .f32⟩
  | .hbm, ⟨119, _⟩ => ⟨S16x2048x3, .f32⟩
  | .hbm, ⟨120, _⟩ => ⟨S1x1, .f32⟩
  | .hbm, ⟨121, _⟩ => ⟨S_, .f32⟩
  | .local _ .vmem, ⟨0, _⟩ => ⟨S512x64, .f32⟩
  | .local _ .vmem, ⟨1, _⟩ => ⟨S512x64, .f32⟩
  | .local _ .vmem, ⟨2, _⟩ => ⟨S512x64, .f32⟩
  | .local _ .vmem, ⟨3, _⟩ => ⟨S512x64, .f32⟩
  | .local _ .vmem, ⟨4, _⟩ => ⟨S64x225, .f32⟩
  | .local _ .vmem, ⟨5, _⟩ => ⟨S64x111, .f32⟩
  | .local _ .vmem, ⟨6, _⟩ => ⟨S64x90, .f32⟩
  | .local _ .vmem, ⟨7, _⟩ => ⟨S64x90, .f32⟩
  | .local _ .vmem, ⟨8, _⟩ => ⟨S1x225, .f32⟩
  | .local _ .vmem, ⟨9, _⟩ => ⟨S1x111, .f32⟩
  | .local _ .vmem, ⟨10, _⟩ => ⟨S1x90, .f32⟩
  | .local _ .vmem, ⟨11, _⟩ => ⟨S1x90, .f32⟩
  | .local _ .vmem, ⟨12, _⟩ => ⟨S512x225, .f32⟩
  | .local _ .vmem, ⟨13, _⟩ => ⟨S512x111, .f32⟩
  | .local _ .vmem, ⟨14, _⟩ => ⟨S512x90, .f32⟩
  | .local _ .vmem, ⟨15, _⟩ => ⟨S512x90, .f32⟩
  | .local _ .vmem, ⟨16, _⟩ => ⟨S512x64, .f32⟩
  | .local _ .vmem, ⟨17, _⟩ => ⟨S512x64, .f32⟩
  | .local _ .vmem, ⟨18, _⟩ => ⟨S512x64, .f32⟩
  | .local _ .vmem, ⟨19, _⟩ => ⟨S512x64, .f32⟩
  | .local _ .vmem, ⟨20, _⟩ => ⟨S4x512, .f32⟩
  | .local _ .vmem, ⟨21, _⟩ => ⟨S1x1024x165, .f32⟩
  | .local _ .vmem, ⟨22, _⟩ => ⟨S1x1024x165, .f32⟩
  | .local _ .vmem, ⟨23, _⟩ => ⟨S1x1024x330, .f32⟩
  | .local _ .vmem, ⟨24, _⟩ => ⟨S1x1024x330, .f32⟩
  | .local _ .vmem, ⟨25, _⟩ => ⟨S1x1024x3, .f32⟩
  | .local _ .vmem, ⟨26, _⟩ => ⟨S1x1024x3, .f32⟩
  | .local _ .vmem, ⟨27, _⟩ => ⟨S165x256, .f32⟩
  | .local _ .vmem, ⟨28, _⟩ => ⟨S330x256, .f32⟩
  | .local _ .vmem, ⟨29, _⟩ => ⟨S3x256, .f32⟩
  | .local _ .vmem, ⟨30, _⟩ => ⟨S1x256, .f32⟩
  | .local _ .vmem, ⟨31, _⟩ => ⟨S512x64, .f32⟩
  | .local _ .vmem, ⟨32, _⟩ => ⟨S512x64, .f32⟩
  | .local _ .vmem, ⟨33, _⟩ => ⟨S512x64, .f32⟩
  | .local _ .vmem, ⟨34, _⟩ => ⟨S512x64, .f32⟩
  | .local _ .vmem, ⟨35, _⟩ => ⟨S4x512, .f32⟩
  | .local _ .vmem, ⟨36, _⟩ => ⟨S512x225, .f32⟩
  | .local _ .vmem, ⟨37, _⟩ => ⟨S512x111, .f32⟩
  | .local _ .vmem, ⟨38, _⟩ => ⟨S512x90, .f32⟩
  | .local _ .vmem, ⟨39, _⟩ => ⟨S512x90, .f32⟩
  | .local _ .vmem, ⟨40, _⟩ => ⟨S1x1024x165, .f32⟩
  | .local _ .vmem, ⟨41, _⟩ => ⟨S1x1024x165, .f32⟩
  | .local _ .vmem, ⟨42, _⟩ => ⟨S1x1024x330, .f32⟩
  | .local _ .vmem, ⟨43, _⟩ => ⟨S1x1024x330, .f32⟩
  | .local _ .vmem, ⟨44, _⟩ => ⟨S1x1024x3, .f32⟩
  | .local _ .vmem, ⟨45, _⟩ => ⟨S1x1024x3, .f32⟩
  | .local _ .vmem, ⟨46, _⟩ => ⟨S1x1, .f32⟩
  | _, _ => ⟨S16x2048x165, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_c_0 : Ref sig .tc := ⟨.hbm, 24, rfl⟩
abbrev main_c_1 : Ref sig .tc := ⟨.hbm, 25, rfl⟩
abbrev main_c_2 : Ref sig .tc := ⟨.hbm, 26, rfl⟩
abbrev main_c_3 : Ref sig .tc := ⟨.hbm, 27, rfl⟩
abbrev main_c_4 : Ref sig .tc := ⟨.hbm, 28, rfl⟩
abbrev main_c_5 : Ref sig .tc := ⟨.hbm, 29, rfl⟩
abbrev main_c_6 : Ref sig .tc := ⟨.hbm, 30, rfl⟩
abbrev main_cst : Ref sig .tc := ⟨.hbm, 31, rfl⟩
abbrev main_v0 : Ref sig .tc := ⟨.hbm, 32, rfl⟩
abbrev main_c_7 : Ref sig .tc := ⟨.hbm, 33, rfl⟩
abbrev main_cst_8 : Ref sig .tc := ⟨.hbm, 34, rfl⟩
abbrev main_c_9 : Ref sig .tc := ⟨.hbm, 35, rfl⟩
abbrev main_c_10 : Ref sig .tc := ⟨.hbm, 36, rfl⟩
abbrev main_cst_11 : Ref sig .tc := ⟨.hbm, 37, rfl⟩
abbrev main_v1 : Ref sig .tc := ⟨.hbm, 38, rfl⟩
abbrev main_c_12 : Ref sig .tc := ⟨.hbm, 39, rfl⟩
abbrev main_cst_13 : Ref sig .tc := ⟨.hbm, 40, rfl⟩
abbrev main_call0_cst : Ref sig .tc := ⟨.hbm, 41, rfl⟩
abbrev main_call0_v4 : Ref sig .tc := ⟨.hbm, 42, rfl⟩
abbrev main_call0_cst_0 : Ref sig .tc := ⟨.hbm, 43, rfl⟩
abbrev main_call0_v5 : Ref sig .tc := ⟨.hbm, 44, rfl⟩
abbrev main_call0_cst_1 : Ref sig .tc := ⟨.hbm, 45, rfl⟩
abbrev main_call0_v6 : Ref sig .tc := ⟨.hbm, 46, rfl⟩
abbrev main_call0_cst_2 : Ref sig .tc := ⟨.hbm, 47, rfl⟩
abbrev main_call0_v7 : Ref sig .tc := ⟨.hbm, 48, rfl⟩
abbrev main_v2 : Ref sig .tc := ⟨.hbm, 49, rfl⟩
abbrev main_c_14 : Ref sig .tc := ⟨.hbm, 50, rfl⟩
abbrev main_v3 : Ref sig .tc := ⟨.hbm, 51, rfl⟩
abbrev main_v4 : Ref sig .tc := ⟨.hbm, 52, rfl⟩
abbrev main_v5 : Ref sig .tc := ⟨.hbm, 53, rfl⟩
abbrev main_v6 : Ref sig .tc := ⟨.hbm, 54, rfl⟩
abbrev main_v7 : Ref sig .tc := ⟨.hbm, 55, rfl⟩
abbrev main_c_15 : Ref sig .tc := ⟨.hbm, 56, rfl⟩
abbrev main_v8 : Ref sig .tc := ⟨.hbm, 57, rfl⟩
abbrev main_v9 : Ref sig .tc := ⟨.hbm, 58, rfl⟩
abbrev main_v10 : Ref sig .tc := ⟨.hbm, 59, rfl⟩
abbrev main_v11 : Ref sig .tc := ⟨.hbm, 60, rfl⟩
abbrev main_v12 : Ref sig .tc := ⟨.hbm, 61, rfl⟩
abbrev main_c_16 : Ref sig .tc := ⟨.hbm, 62, rfl⟩
abbrev main_v13 : Ref sig .tc := ⟨.hbm, 63, rfl⟩
abbrev main_v14 : Ref sig .tc := ⟨.hbm, 64, rfl⟩
abbrev main_v15 : Ref sig .tc := ⟨.hbm, 65, rfl⟩
abbrev main_v16 : Ref sig .tc := ⟨.hbm, 66, rfl⟩
abbrev main_v17 : Ref sig .tc := ⟨.hbm, 67, rfl⟩
abbrev main_v18 : Ref sig .tc := ⟨.hbm, 68, rfl⟩
abbrev main_v19 : Ref sig .tc := ⟨.hbm, 69, rfl⟩
abbrev main_c_17 : Ref sig .tc := ⟨.hbm, 70, rfl⟩
abbrev main_v20 : Ref sig .tc := ⟨.hbm, 71, rfl⟩
abbrev main_v21 : Ref sig .tc := ⟨.hbm, 72, rfl⟩
abbrev main_v22 : Ref sig .tc := ⟨.hbm, 73, rfl⟩
abbrev main_v23 : Ref sig .tc := ⟨.hbm, 74, rfl⟩
abbrev main_v24 : Ref sig .tc := ⟨.hbm, 75, rfl⟩
abbrev main_v25 : Ref sig .tc := ⟨.hbm, 76, rfl⟩
abbrev main_v26 : Ref sig .tc := ⟨.hbm, 77, rfl⟩
abbrev main_c_18 : Ref sig .tc := ⟨.hbm, 78, rfl⟩
abbrev main_v27 : Ref sig .tc := ⟨.hbm, 79, rfl⟩
abbrev main_v28 : Ref sig .tc := ⟨.hbm, 80, rfl⟩
abbrev main_v29 : Ref sig .tc := ⟨.hbm, 81, rfl⟩
abbrev main_v30 : Ref sig .tc := ⟨.hbm, 82, rfl⟩
abbrev main_v31 : Ref sig .tc := ⟨.hbm, 83, rfl⟩
abbrev main_v32 : Ref sig .tc := ⟨.hbm, 84, rfl⟩
abbrev main_v33 : Ref sig .tc := ⟨.hbm, 85, rfl⟩
abbrev main_c_19 : Ref sig .tc := ⟨.hbm, 86, rfl⟩
abbrev main_v34 : Ref sig .tc := ⟨.hbm, 87, rfl⟩
abbrev main_v35 : Ref sig .tc := ⟨.hbm, 88, rfl⟩
abbrev main_v36 : Ref sig .tc := ⟨.hbm, 89, rfl⟩
abbrev main_v37 : Ref sig .tc := ⟨.hbm, 90, rfl⟩
abbrev main_v38 : Ref sig .tc := ⟨.hbm, 91, rfl⟩
abbrev main_v39 : Ref sig .tc := ⟨.hbm, 92, rfl⟩
abbrev main_v40 : Ref sig .tc := ⟨.hbm, 93, rfl⟩
abbrev main_c_20 : Ref sig .tc := ⟨.hbm, 94, rfl⟩
abbrev main_v41 : Ref sig .tc := ⟨.hbm, 95, rfl⟩
abbrev main_v42 : Ref sig .tc := ⟨.hbm, 96, rfl⟩
abbrev main_v43 : Ref sig .tc := ⟨.hbm, 97, rfl⟩
abbrev main_v44 : Ref sig .tc := ⟨.hbm, 98, rfl⟩
abbrev main_v45 : Ref sig .tc := ⟨.hbm, 99, rfl⟩
abbrev main_v46 : Ref sig .tc := ⟨.hbm, 100, rfl⟩
abbrev main_v47 : Ref sig .tc := ⟨.hbm, 101, rfl⟩
abbrev main_v48 : Ref sig .tc := ⟨.hbm, 102, rfl⟩
abbrev main_v49 : Ref sig .tc := ⟨.hbm, 103, rfl⟩
abbrev main_v50 : Ref sig .tc := ⟨.hbm, 104, rfl⟩
abbrev main_v51 : Ref sig .tc := ⟨.hbm, 105, rfl⟩
abbrev main_v52 : Ref sig .tc := ⟨.hbm, 106, rfl⟩
abbrev main_v53 : Ref sig .tc := ⟨.hbm, 107, rfl⟩
abbrev main_v54_0 : Ref sig .tc := ⟨.hbm, 108, rfl⟩
abbrev main_v54_1 : Ref sig .tc := ⟨.hbm, 109, rfl⟩
abbrev main_v54_2 : Ref sig .tc := ⟨.hbm, 110, rfl⟩
abbrev main_v54_3 : Ref sig .tc := ⟨.hbm, 111, rfl⟩
abbrev main_v54_4 : Ref sig .tc := ⟨.hbm, 112, rfl⟩
abbrev main_v54_5 : Ref sig .tc := ⟨.hbm, 113, rfl⟩
abbrev main_v54_6 : Ref sig .tc := ⟨.hbm, 114, rfl⟩
abbrev main_v54_7 : Ref sig .tc := ⟨.hbm, 115, rfl⟩
abbrev main_v54_8 : Ref sig .tc := ⟨.hbm, 116, rfl⟩
abbrev main_v55_0 : Ref sig .tc := ⟨.hbm, 117, rfl⟩
abbrev main_v55_1 : Ref sig .tc := ⟨.hbm, 118, rfl⟩
abbrev main_v55_2 : Ref sig .tc := ⟨.hbm, 119, rfl⟩
abbrev main_v55_3 : Ref sig .tc := ⟨.hbm, 120, rfl⟩
abbrev main_v56 : Ref sig .tc := ⟨.hbm, 121, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_stg12_0 : Ref sig .tc := ⟨.vmem, 12, rfl⟩
abbrev cc0_stg13_0 : Ref sig .tc := ⟨.vmem, 13, rfl⟩
abbrev cc0_stg14_0 : Ref sig .tc := ⟨.vmem, 14, rfl⟩
abbrev cc0_stg15_0 : Ref sig .tc := ⟨.vmem, 15, rfl⟩
abbrev cc0_stg16_0 : Ref sig .tc := ⟨.vmem, 16, rfl⟩
abbrev cc0_stg17_0 : Ref sig .tc := ⟨.vmem, 17, rfl⟩
abbrev cc0_stg18_0 : Ref sig .tc := ⟨.vmem, 18, rfl⟩
abbrev cc0_stg19_0 : Ref sig .tc := ⟨.vmem, 19, rfl⟩
abbrev cc0_stg20_0 : Ref sig .tc := ⟨.vmem, 20, rfl⟩
abbrev cc1_stg0_0 : Ref sig .tc := ⟨.vmem, 21, rfl⟩
abbrev cc1_stg0_1 : Ref sig .tc := ⟨.vmem, 22, rfl⟩
abbrev cc1_stg1_0 : Ref sig .tc := ⟨.vmem, 23, rfl⟩
abbrev cc1_stg1_1 : Ref sig .tc := ⟨.vmem, 24, rfl⟩
abbrev cc1_stg2_0 : Ref sig .tc := ⟨.vmem, 25, rfl⟩
abbrev cc1_stg2_1 : Ref sig .tc := ⟨.vmem, 26, rfl⟩
abbrev cc1_stg3_0 : Ref sig .tc := ⟨.vmem, 27, rfl⟩
abbrev cc1_stg4_0 : Ref sig .tc := ⟨.vmem, 28, rfl⟩
abbrev cc1_stg5_0 : Ref sig .tc := ⟨.vmem, 29, rfl⟩
abbrev cc1_stg6_0 : Ref sig .tc := ⟨.vmem, 30, rfl⟩
abbrev cc1_stg7_0 : Ref sig .tc := ⟨.vmem, 31, rfl⟩
abbrev cc1_stg8_0 : Ref sig .tc := ⟨.vmem, 32, rfl⟩
abbrev cc1_stg9_0 : Ref sig .tc := ⟨.vmem, 33, rfl⟩
abbrev cc1_stg10_0 : Ref sig .tc := ⟨.vmem, 34, rfl⟩
abbrev cc1_stg11_0 : Ref sig .tc := ⟨.vmem, 35, rfl⟩
abbrev cc1_stg12_0 : Ref sig .tc := ⟨.vmem, 36, rfl⟩
abbrev cc1_stg13_0 : Ref sig .tc := ⟨.vmem, 37, rfl⟩
abbrev cc1_stg14_0 : Ref sig .tc := ⟨.vmem, 38, rfl⟩
abbrev cc1_stg15_0 : Ref sig .tc := ⟨.vmem, 39, rfl⟩
abbrev cc1_stg16_0 : Ref sig .tc := ⟨.vmem, 40, rfl⟩
abbrev cc1_stg16_1 : Ref sig .tc := ⟨.vmem, 41, rfl⟩
abbrev cc1_stg17_0 : Ref sig .tc := ⟨.vmem, 42, rfl⟩
abbrev cc1_stg17_1 : Ref sig .tc := ⟨.vmem, 43, rfl⟩
abbrev cc1_stg18_0 : Ref sig .tc := ⟨.vmem, 44, rfl⟩
abbrev cc1_stg18_1 : Ref sig .tc := ⟨.vmem, 45, rfl⟩
abbrev cc1_stg19_0 : Ref sig .tc := ⟨.vmem, 46, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11
abbrev cc0_sem12_0 : DmaSem sig := 12
abbrev cc0_sem13_0 : DmaSem sig := 13
abbrev cc0_sem14_0 : DmaSem sig := 14
abbrev cc0_sem15_0 : DmaSem sig := 15
abbrev cc0_sem16_0 : DmaSem sig := 16
abbrev cc0_sem17_0 : DmaSem sig := 17
abbrev cc0_sem18_0 : DmaSem sig := 18
abbrev cc0_sem19_0 : DmaSem sig := 19
abbrev cc0_sem20_0 : DmaSem sig := 20
abbrev cc1_sem0_0 : DmaSem sig := 21
abbrev cc1_sem0_1 : DmaSem sig := 22
abbrev cc1_sem1_0 : DmaSem sig := 23
abbrev cc1_sem1_1 : DmaSem sig := 24
abbrev cc1_sem2_0 : DmaSem sig := 25
abbrev cc1_sem2_1 : DmaSem sig := 26
abbrev cc1_sem3_0 : DmaSem sig := 27
abbrev cc1_sem4_0 : DmaSem sig := 28
abbrev cc1_sem5_0 : DmaSem sig := 29
abbrev cc1_sem6_0 : DmaSem sig := 30
abbrev cc1_sem7_0 : DmaSem sig := 31
abbrev cc1_sem8_0 : DmaSem sig := 32
abbrev cc1_sem9_0 : DmaSem sig := 33
abbrev cc1_sem10_0 : DmaSem sig := 34
abbrev cc1_sem11_0 : DmaSem sig := 35
abbrev cc1_sem12_0 : DmaSem sig := 36
abbrev cc1_sem13_0 : DmaSem sig := 37
abbrev cc1_sem14_0 : DmaSem sig := 38
abbrev cc1_sem15_0 : DmaSem sig := 39
abbrev cc1_sem16_0 : DmaSem sig := 40
abbrev cc1_sem16_1 : DmaSem sig := 41
abbrev cc1_sem17_0 : DmaSem sig := 42
abbrev cc1_sem17_1 : DmaSem sig := 43
abbrev cc1_sem18_0 : DmaSem sig := 44
abbrev cc1_sem18_1 : DmaSem sig := 45
abbrev cc1_sem19_0 : DmaSem sig := 46

abbrev nD : Nat := 1
abbrev τ : Topo := Topo.v7x

variable {F : FTy → Type} [FloatOps F]

abbrev grid0 : Pipeline.Grid := .none

abbrev stage0_0 : Fin 1 → Memref sig .tc .vmem S512x64 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S512x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S512x64 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S512x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S64x225 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S64x111 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S64x90 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S64x90 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S1x225 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S1x111 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S1x90 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S1x90 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))

abbrev stage0_12 : Fin 1 → Memref sig .tc .vmem S512x225 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))

abbrev stage0_13 : Fin 1 → Memref sig .tc .vmem S512x111 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))

abbrev stage0_14 : Fin 1 → Memref sig .tc .vmem S512x90 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))

abbrev stage0_15 : Fin 1 → Memref sig .tc .vmem S512x90 .f32 := fun | 0 => Memref.whole cc0_stg15_0 | ⟨_ + 1, h⟩ => absurd h (Nat.not_lt.2 (Nat.le_add_left _ _))
abbrev sem0_15 : Fin 1 → DmaSem sig := fun | 0 => cc0_sem15_0 | ⟨_ + 1, h⟩ => absurd h (Nat.not_lt.2 (Nat.le_add_left _ _))

abbrev stage0_16 : Fin 1 → Memref sig .tc .vmem S512x64 .f32 := fun | 0 => Memref.whole cc0_stg16_0 | ⟨_ + 1, h⟩ => absurd h (Nat.not_lt.2 (Nat.le_add_left _ _))
abbrev sem0_16 : Fin 1 → DmaSem sig := fun | 0 => cc0_sem16_0 | ⟨_ + 1, h⟩ => absurd h (Nat.not_lt.2 (Nat.le_add_left _ _))

abbrev stage0_17 : Fin 1 → Memref sig .tc .vmem S512x64 .f32 := fun | 0 => Memref.whole cc0_stg17_0 | ⟨_ + 1, h⟩ => absurd h (Nat.not_lt.2 (Nat.le_add_left _ _))
abbrev sem0_17 : Fin 1 → DmaSem sig := fun | 0 => cc0_sem17_0 | ⟨_ + 1, h⟩ => absurd h (Nat.not_lt.2 (Nat.le_add_left _ _))

abbrev stage0_18 : Fin 1 → Memref sig .tc .vmem S512x64 .f32 := fun | 0 => Memref.whole cc0_stg18_0 | ⟨_ + 1, h⟩ => absurd h (Nat.not_lt.2 (Nat.le_add_left _ _))
abbrev sem0_18 : Fin 1 → DmaSem sig := fun | 0 => cc0_sem18_0 | ⟨_ + 1, h⟩ => absurd h (Nat.not_lt.2 (Nat.le_add_left _ _))

abbrev stage0_19 : Fin 1 → Memref sig .tc .vmem S512x64 .f32 := fun | 0 => Memref.whole cc0_stg19_0 | ⟨_ + 1, h⟩ => absurd h (Nat.not_lt.2 (Nat.le_add_left _ _))
abbrev sem0_19 : Fin 1 → DmaSem sig := fun | 0 => cc0_sem19_0 | ⟨_ + 1, h⟩ => absurd h (Nat.not_lt.2 (Nat.le_add_left _ _))

abbrev stage0_20 : Fin 1 → Memref sig .tc .vmem S4x512 .f32 := fun | 0 => Memref.whole cc0_stg20_0 | ⟨_ + 1, h⟩ => absurd h (Nat.not_lt.2 (Nat.le_add_left _ _))
abbrev sem0_20 : Fin 1 → DmaSem sig := fun | 0 => cc0_sem20_0 | ⟨_ + 1, h⟩ => absurd h (Nat.not_lt.2 (Nat.le_add_left _ _))

abbrev grid1 : Pipeline.Grid := ⟨2, ![16, 2], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_9 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_10 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_11 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_12 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_13 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_14 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_15 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_16 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_17 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_18 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_19 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S1x1024x165 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1024x330 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S1x1024x3 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 1 → Memref sig .tc .vmem S165x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 1 → Memref sig .tc .vmem S330x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false]

abbrev stage1_5 : Fin 1 → Memref sig .tc .vmem S3x256 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false]

abbrev stage1_6 : Fin 1 → Memref sig .tc .vmem S1x256 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false, false]

abbrev stage1_7 : Fin 1 → Memref sig .tc .vmem S512x64 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false, false]

abbrev stage1_8 : Fin 1 → Memref sig .tc .vmem S512x64 .f32 := fun | 0 => Memref.whole cc1_stg8_0 | ⟨_ + 1, h⟩ => absurd h (Nat.not_lt.2 (Nat.le_add_left _ _))
abbrev sem1_8 : Fin 1 → DmaSem sig := fun | 0 => cc1_sem8_0 | ⟨_ + 1, h⟩ => absurd h (Nat.not_lt.2 (Nat.le_add_left _ _))
abbrev reads1_8 : Fin grid1.rank → Bool := ![false, false]

abbrev stage1_9 : Fin 1 → Memref sig .tc .vmem S512x64 .f32 := fun | 0 => Memref.whole cc1_stg9_0 | ⟨_ + 1, h⟩ => absurd h (Nat.not_lt.2 (Nat.le_add_left _ _))
abbrev sem1_9 : Fin 1 → DmaSem sig := fun | 0 => cc1_sem9_0 | ⟨_ + 1, h⟩ => absurd h (Nat.not_lt.2 (Nat.le_add_left _ _))
abbrev reads1_9 : Fin grid1.rank → Bool := ![false, false]

abbrev stage1_10 : Fin 1 → Memref sig .tc .vmem S512x64 .f32 := fun | 0 => Memref.whole cc1_stg10_0 | ⟨_ + 1, h⟩ => absurd h (Nat.not_lt.2 (Nat.le_add_left _ _))
abbrev sem1_10 : Fin 1 → DmaSem sig := fun | 0 => cc1_sem10_0 | ⟨_ + 1, h⟩ => absurd h (Nat.not_lt.2 (Nat.le_add_left _ _))
abbrev reads1_10 : Fin grid1.rank → Bool := ![false, false]

abbrev stage1_11 : Fin 1 → Memref sig .tc .vmem S4x512 .f32 := fun | 0 => Memref.whole cc1_stg11_0 | ⟨_ + 1, h⟩ => absurd h (Nat.not_lt.2 (Nat.le_add_left _ _))
abbrev sem1_11 : Fin 1 → DmaSem sig := fun | 0 => cc1_sem11_0 | ⟨_ + 1, h⟩ => absurd h (Nat.not_lt.2 (Nat.le_add_left _ _))
abbrev reads1_11 : Fin grid1.rank → Bool := ![false, false]

abbrev stage1_12 : Fin 1 → Memref sig .tc .vmem S512x225 .f32 := fun | 0 => Memref.whole cc1_stg12_0 | ⟨_ + 1, h⟩ => absurd h (Nat.not_lt.2 (Nat.le_add_left _ _))
abbrev sem1_12 : Fin 1 → DmaSem sig := fun | 0 => cc1_sem12_0 | ⟨_ + 1, h⟩ => absurd h (Nat.not_lt.2 (Nat.le_add_left _ _))
abbrev reads1_12 : Fin grid1.rank → Bool := ![false, false]

abbrev stage1_13 : Fin 1 → Memref sig .tc .vmem S512x111 .f32 := fun | 0 => Memref.whole cc1_stg13_0 | ⟨_ + 1, h⟩ => absurd h (Nat.not_lt.2 (Nat.le_add_left _ _))
abbrev sem1_13 : Fin 1 → DmaSem sig := fun | 0 => cc1_sem13_0 | ⟨_ + 1, h⟩ => absurd h (Nat.not_lt.2 (Nat.le_add_left _ _))
abbrev reads1_13 : Fin grid1.rank → Bool := ![false, false]

abbrev stage1_14 : Fin 1 → Memref sig .tc .vmem S512x90 .f32 := fun | 0 => Memref.whole cc1_stg14_0 | ⟨_ + 1, h⟩ => absurd h (Nat.not_lt.2 (Nat.le_add_left _ _))
abbrev sem1_14 : Fin 1 → DmaSem sig := fun | 0 => cc1_sem14_0 | ⟨_ + 1, h⟩ => absurd h (Nat.not_lt.2 (Nat.le_add_left _ _))
abbrev reads1_14 : Fin grid1.rank → Bool := ![false, false]

abbrev stage1_15 : Fin 1 → Memref sig .tc .vmem S512x90 .f32 := fun | 0 => Memref.whole cc1_stg15_0 | ⟨_ + 1, h⟩ => absurd h (Nat.not_lt.2 (Nat.le_add_left _ _))
abbrev sem1_15 : Fin 1 → DmaSem sig := fun | 0 => cc1_sem15_0 | ⟨_ + 1, h⟩ => absurd h (Nat.not_lt.2 (Nat.le_add_left _ _))
abbrev reads1_15 : Fin grid1.rank → Bool := ![false, false]

abbrev stage1_16 : Fin 2 → Memref sig .tc .vmem S1x1024x165 .f32 := fun | 0 => Memref.whole cc1_stg16_0 | 1 => Memref.whole cc1_stg16_1 | ⟨_ + 2, h⟩ => absurd h (Nat.not_lt.2 (Nat.le_add_left _ _))
abbrev sem1_16 : Fin 2 → DmaSem sig := fun | 0 => cc1_sem16_0 | 1 => cc1_sem16_1 | ⟨_ + 2, h⟩ => absurd h (Nat.not_lt.2 (Nat.le_add_left _ _))
abbrev reads1_16 : Fin grid1.rank → Bool := ![true, true]

abbrev stage1_17 : Fin 2 → Memref sig .tc .vmem S1x1024x330 .f32 := fun | 0 => Memref.whole cc1_stg17_0 | 1 => Memref.whole cc1_stg17_1 | ⟨_ + 2, h⟩ => absurd h (Nat.not_lt.2 (Nat.le_add_left _ _))
abbrev sem1_17 : Fin 2 → DmaSem sig := fun | 0 => cc1_sem17_0 | 1 => cc1_sem17_1 | ⟨_ + 2, h⟩ => absurd h (Nat.not_lt.2 (Nat.le_add_left _ _))
abbrev reads1_17 : Fin grid1.rank → Bool := ![true, true]

abbrev stage1_18 : Fin 2 → Memref sig .tc .vmem S1x1024x3 .f32 := fun | 0 => Memref.whole cc1_stg18_0 | 1 => Memref.whole cc1_stg18_1 | ⟨_ + 2, h⟩ => absurd h (Nat.not_lt.2 (Nat.le_add_left _ _))
abbrev sem1_18 : Fin 2 → DmaSem sig := fun | 0 => cc1_sem18_0 | 1 => cc1_sem18_1 | ⟨_ + 2, h⟩ => absurd h (Nat.not_lt.2 (Nat.le_add_left _ _))
abbrev reads1_18 : Fin grid1.rank → Bool := ![true, true]

abbrev stage1_19 : Fin 1 → Memref sig .tc .vmem S1x1 .f32 := fun | 0 => Memref.whole cc1_stg19_0 | ⟨_ + 1, h⟩ => absurd h (Nat.not_lt.2 (Nat.le_add_left _ _))
abbrev sem1_19 : Fin 1 → DmaSem sig := fun | 0 => cc1_sem19_0 | ⟨_ + 1, h⟩ => absurd h (Nat.not_lt.2 (Nat.le_add_left _ _))
abbrev reads1_19 : Fin grid1.rank → Bool := ![false, false]
-- ==== ReferenceIdeal.lean ====
abbrev S16x2048x165 : Shape := ⟨3, ![16, 2048, 165]⟩
abbrev S16x2048x330 : Shape := ⟨3, ![16, 2048, 330]⟩
abbrev S16x2048x3 : Shape := ⟨3, ![16, 2048, 3]⟩
abbrev S144x64 : Shape := ⟨2, ![144, 64]⟩
abbrev S64 : Shape := ⟨1, ![64]⟩
abbrev S512x64 : Shape := ⟨2, ![512, 64]⟩
abbrev S64x144 : Shape := ⟨2, ![64, 144]⟩
abbrev S144 : Shape := ⟨1, ![144]⟩
abbrev S84x64 : Shape := ⟨2, ![84, 64]⟩
abbrev S64x84 : Shape := ⟨2, ![64, 84]⟩
abbrev S84 : Shape := ⟨1, ![84]⟩
abbrev S135x64 : Shape := ⟨2, ![135, 64]⟩
abbrev S64x135 : Shape := ⟨2, ![64, 135]⟩
abbrev S135 : Shape := ⟨1, ![135]⟩
abbrev S16 : Shape := ⟨1, ![16]⟩
abbrev S9 : Shape := ⟨1, ![9]⟩
abbrev S15 : Shape := ⟨1, ![15]⟩
abbrev S16x2048x55x3 : Shape := ⟨4, ![16, 2048, 55, 3]⟩
abbrev S16x2048x55x6 : Shape := ⟨4, ![16, 2048, 55, 6]⟩
abbrev S_ : Shape := ⟨0, ![]⟩
abbrev S16x1 : Shape := ⟨2, ![16, 1]⟩
abbrev S16x2048x16x3 : Shape := ⟨4, ![16, 2048, 16, 3]⟩
abbrev S16x2048x48 : Shape := ⟨3, ![16, 2048, 48]⟩
abbrev S9x1 : Shape := ⟨2, ![9, 1]⟩
abbrev S16x2048x9x3 : Shape := ⟨4, ![16, 2048, 9, 3]⟩
abbrev S16x2048x27 : Shape := ⟨3, ![16, 2048, 27]⟩
abbrev S15x1 : Shape := ⟨2, ![15, 1]⟩
abbrev S16x2048x15x3 : Shape := ⟨4, ![16, 2048, 15, 3]⟩
abbrev S16x2048x45 : Shape := ⟨3, ![16, 2048, 45]⟩
abbrev S16x2048x16x6 : Shape := ⟨4, ![16, 2048, 16, 6]⟩
abbrev S16x2048x96 : Shape := ⟨3, ![16, 2048, 96]⟩
abbrev S16x2048x9x6 : Shape := ⟨4, ![16, 2048, 9, 6]⟩
abbrev S16x2048x54 : Shape := ⟨3, ![16, 2048, 54]⟩
abbrev S16x2048x15x6 : Shape := ⟨4, ![16, 2048, 15, 6]⟩
abbrev S16x2048x90 : Shape := ⟨3, ![16, 2048, 90]⟩
abbrev S16x2048x144 : Shape := ⟨3, ![16, 2048, 144]⟩
abbrev S32768x144 : Shape := ⟨2, ![32768, 144]⟩
abbrev S32768x64 : Shape := ⟨2, ![32768, 64]⟩
abbrev S1x64 : Shape := ⟨2, ![1, 64]⟩
abbrev S32768 : Shape := ⟨1, ![32768]⟩
abbrev S32768x1 : Shape := ⟨2, ![32768, 1]⟩
abbrev S64x512 : Shape := ⟨2, ![64, 512]⟩
abbrev S32768x512 : Shape := ⟨2, ![32768, 512]⟩
abbrev S512 : Shape := ⟨1, ![512]⟩
abbrev S1x512 : Shape := ⟨2, ![1, 512]⟩
abbrev S1 : Shape := ⟨1, ![1]⟩
abbrev S1x1 : Shape := ⟨2, ![1, 1]⟩
abbrev S1x144 : Shape := ⟨2, ![1, 144]⟩
abbrev S16x2048x135 : Shape := ⟨3, ![16, 2048, 135]⟩
abbrev S32768x135 : Shape := ⟨2, ![32768, 135]⟩
abbrev S1x135 : Shape := ⟨2, ![1, 135]⟩
abbrev S16x2048x84 : Shape := ⟨3, ![16, 2048, 84]⟩
abbrev S32768x84 : Shape := ⟨2, ![32768, 84]⟩
abbrev S1x84 : Shape := ⟨2, ![1, 84]⟩

abbrev nBuf : Space → Nat
  | .hbm => 499
  | .vmem => 0
  | .smem => 0
  | _ => 0

abbrev hbmTy0_0 (i : Nat) : BufTy := match i % 128 with
  | 0 => ⟨S16x2048x165, .f32⟩
  | 1 => ⟨S16x2048x330, .f32⟩
  | 2 => ⟨S16x2048x3, .f32⟩
  | 3 => ⟨S144x64, .f32⟩
  | 4 => ⟨S64, .f32⟩
  | 5 => ⟨S512x64, .f32⟩
  | 6 => ⟨S64x144, .f32⟩
  | 7 => ⟨S144, .f32⟩
  | 8 => ⟨S84x64, .f32⟩
  | 9 => ⟨S64, .f32⟩
  | 10 => ⟨S512x64, .f32⟩
  | 11 => ⟨S64x84, .f32⟩
  | 12 => ⟨S84, .f32⟩
  | 13 => ⟨S135x64, .f32⟩
  | 14 => ⟨S64, .f32⟩
  | 15 => ⟨S512x64, .f32⟩
  | 16 => ⟨S64x135, .f32⟩
  | 17 => ⟨S135, .f32⟩
  | 18 => ⟨S135x64, .f32⟩
  | 19 => ⟨S64, .f32⟩
  | 20 => ⟨S512x64, .f32⟩
  | 21 => ⟨S64x135, .f32⟩
  | 22 => ⟨S135, .f32⟩
  | 23 => ⟨S16, .i32⟩
  | 24 => ⟨S9, .i32⟩
  | 25 => ⟨S15, .i32⟩
  | 26 => ⟨S15, .i32⟩
  | 27 => ⟨S16x2048x55x3, .f32⟩
  | 28 => ⟨S16x2048x55x6, .f32⟩
  | 29 => ⟨S_, .i32⟩
  | 30 => ⟨S16, .i32⟩
  | 31 => ⟨S16, .i1⟩
  | 32 => ⟨S_, .i32⟩
  | 33 => ⟨S16, .i32⟩
  | 34 => ⟨S16, .i32⟩
  | 35 => ⟨S16, .i32⟩
  | 36 => ⟨S16x1, .i32⟩
  | 37 => ⟨S16x2048x16x3, .f32⟩
  | 38 => ⟨S16x2048x48, .f32⟩
  | 39 => ⟨S_, .i32⟩
  | 40 => ⟨S9, .i32⟩
  | 41 => ⟨S9, .i1⟩
  | 42 => ⟨S_, .i32⟩
  | 43 => ⟨S9, .i32⟩
  | 44 => ⟨S9, .i32⟩
  | 45 => ⟨S9, .i32⟩
  | 46 => ⟨S9x1, .i32⟩
  | 47 => ⟨S16x2048x9x3, .f32⟩
  | 48 => ⟨S16x2048x27, .f32⟩
  | 49 => ⟨S_, .i32⟩
  | 50 => ⟨S15, .i32⟩
  | 51 => ⟨S15, .i1⟩
  | 52 => ⟨S_, .i32⟩
  | 53 => ⟨S15, .i32⟩
  | 54 => ⟨S15, .i32⟩
  | 55 => ⟨S15, .i32⟩
  | 56 => ⟨S15x1, .i32⟩
  | 57 => ⟨S16x2048x15x3, .f32⟩
  | 58 => ⟨S16x2048x45, .f32⟩
  | 59 => ⟨S_, .i32⟩
  | 60 => ⟨S15, .i32⟩
  | 61 => ⟨S15, .i1⟩
  | 62 => ⟨S_, .i32⟩
  | 63 => ⟨S15, .i32⟩
  | 64 => ⟨S15, .i32⟩
  | 65 => ⟨S15, .i32⟩
  | 66 => ⟨S15x1, .i32⟩
  | 67 => ⟨S16x2048x15x3, .f32⟩
  | 68 => ⟨S16x2048x45, .f32⟩
  | 69 => ⟨S_, .i32⟩
  | 70 => ⟨S16, .i32⟩
  | 71 => ⟨S16, .i1⟩
  | 72 => ⟨S_, .i32⟩
  | 73 => ⟨S16, .i32⟩
  | 74 => ⟨S16, .i32⟩
  | 75 => ⟨S16, .i32⟩
  | 76 => ⟨S16x1, .i32⟩
  | 77 => ⟨S16x2048x16x6, .f32⟩
  | 78 => ⟨S16x2048x96, .f32⟩
  | 79 => ⟨S_, .i32⟩
  | 80 => ⟨S9, .i32⟩
  | 81 => ⟨S9, .i1⟩
  | 82 => ⟨S_, .i32⟩
  | 83 => ⟨S9, .i32⟩
  | 84 => ⟨S9, .i32⟩
  | 85 => ⟨S9, .i32⟩
  | 86 => ⟨S9x1, .i32⟩
  | 87 => ⟨S16x2048x9x6, .f32⟩
  | 88 => ⟨S16x2048x54, .f32⟩
  | 89 => ⟨S_, .i32⟩
  | 90 => ⟨S15, .i32⟩
  | 91 => ⟨S15, .i1⟩
  | 92 => ⟨S_, .i32⟩
  | 93 => ⟨S15, .i32⟩
  | 94 => ⟨S15, .i32⟩
  | 95 => ⟨S15, .i32⟩
  | 96 => ⟨S15x1, .i32⟩
  | 97 => ⟨S16x2048x15x6, .f32⟩
  | 98 => ⟨S16x2048x90, .f32⟩
  | 99 => ⟨S_, .i32⟩
  | 100 => ⟨S15, .i32⟩
  | 101 => ⟨S15, .i1⟩
  | 102 => ⟨S_, .i32⟩
  | 103 => ⟨S15, .i32⟩
  | 104 => ⟨S15, .i32⟩
  | 105 => ⟨S15, .i32⟩
  | 106 => ⟨S15x1, .i32⟩
  | 107 => ⟨S16x2048x15x6, .f32⟩
  | 108 => ⟨S16x2048x90, .f32⟩
  | 109 => ⟨S16x2048x144, .f32⟩
  | 110 => ⟨S32768x144, .f32⟩
  | 111 => ⟨S32768x64, .f32⟩
  | 112 => ⟨S1x64, .f32⟩
  | 113 => ⟨S32768x64, .f32⟩
  | 114 => ⟨S32768x64, .f32⟩
  | 115 => ⟨S32768x64, .f32⟩
  | 116 => ⟨S_, .f32⟩
  | 117 => ⟨S32768, .f32⟩
  | 118 => ⟨S32768x1, .f32⟩
  | 119 => ⟨S64x512, .f32⟩
  | 120 => ⟨S32768x512, .f32⟩
  | 121 => ⟨S_, .f32⟩
  | 122 => ⟨S32768x512, .f32⟩
  | 123 => ⟨S32768x512, .f32⟩
  | 124 => ⟨S32768x512, .f32⟩
  | 125 => ⟨S32768x512, .f32⟩
  | 126 => ⟨S512x64, .f32⟩
  | 127 => ⟨S_, .f32⟩
  | _ => ⟨S16x2048x165, .f32⟩

abbrev hbmTy0_1 (i : Nat) : BufTy := match i % 128 with
  | 0 => ⟨S512, .f32⟩
  | 1 => ⟨S1x512, .f32⟩
  | 2 => ⟨S32768x512, .f32⟩
  | 3 => ⟨S32768x512, .f32⟩
  | 4 => ⟨S32768x512, .i32⟩
  | 5 => ⟨S_, .f32⟩
  | 6 => ⟨S_, .i32⟩
  | 7 => ⟨S32768, .f32⟩
  | 8 => ⟨S32768, .i32⟩
  | 9 => ⟨S_, .i32⟩
  | 10 => ⟨S32768, .i32⟩
  | 11 => ⟨S32768, .i1⟩
  | 12 => ⟨S_, .i32⟩
  | 13 => ⟨S32768, .i32⟩
  | 14 => ⟨S32768, .i32⟩
  | 15 => ⟨S32768, .i32⟩
  | 16 => ⟨S32768x1, .i32⟩
  | 17 => ⟨S1, .i32⟩
  | 18 => ⟨S_, .i32⟩
  | 19 => ⟨S32768x1, .i32⟩
  | 20 => ⟨S32768x1, .i1⟩
  | 21 => ⟨S1x1, .i32⟩
  | 22 => ⟨S32768x1, .i32⟩
  | 23 => ⟨S32768x1, .i1⟩
  | 24 => ⟨S32768x1, .i1⟩
  | 25 => ⟨S_, .i1⟩
  | 26 => ⟨S32768, .i1⟩
  | 27 => ⟨S32768x64, .f32⟩
  | 28 => ⟨S32768x64, .i1⟩
  | 29 => ⟨S_, .f32⟩
  | 30 => ⟨S32768x64, .f32⟩
  | 31 => ⟨S32768x64, .f32⟩
  | 32 => ⟨S32768x64, .f32⟩
  | 33 => ⟨S32768x64, .f32⟩
  | 34 => ⟨S_, .f32⟩
  | 35 => ⟨S_, .f32⟩
  | 36 => ⟨S_, .f32⟩
  | 37 => ⟨S_, .f32⟩
  | 38 => ⟨S32768x64, .f32⟩
  | 39 => ⟨S32768x64, .f32⟩
  | 40 => ⟨S_, .f32⟩
  | 41 => ⟨S_, .f32⟩
  | 42 => ⟨S_, .f32⟩
  | 43 => ⟨S_, .f32⟩
  | 44 => ⟨S_, .f32⟩
  | 45 => ⟨S_, .f32⟩
  | 46 => ⟨S_, .f32⟩
  | 47 => ⟨S32768x64, .f32⟩
  | 48 => ⟨S32768x64, .f32⟩
  | 49 => ⟨S32768x144, .f32⟩
  | 50 => ⟨S1x144, .f32⟩
  | 51 => ⟨S32768x144, .f32⟩
  | 52 => ⟨S32768x144, .f32⟩
  | 53 => ⟨S16x2048x144, .f32⟩
  | 54 => ⟨S16x2048x48, .f32⟩
  | 55 => ⟨S16x2048x96, .f32⟩
  | 56 => ⟨S16x2048x135, .f32⟩
  | 57 => ⟨S32768x135, .f32⟩
  | 58 => ⟨S32768x64, .f32⟩
  | 59 => ⟨S1x64, .f32⟩
  | 60 => ⟨S32768x64, .f32⟩
  | 61 => ⟨S32768x64, .f32⟩
  | 62 => ⟨S32768x64, .f32⟩
  | 63 => ⟨S_, .f32⟩
  | 64 => ⟨S32768, .f32⟩
  | 65 => ⟨S32768x1, .f32⟩
  | 66 => ⟨S64x512, .f32⟩
  | 67 => ⟨S32768x512, .f32⟩
  | 68 => ⟨S_, .f32⟩
  | 69 => ⟨S32768x512, .f32⟩
  | 70 => ⟨S32768x512, .f32⟩
  | 71 => ⟨S32768x512, .f32⟩
  | 72 => ⟨S32768x512, .f32⟩
  | 73 => ⟨S512x64, .f32⟩
  | 74 => ⟨S_, .f32⟩
  | 75 => ⟨S512, .f32⟩
  | 76 => ⟨S1x512, .f32⟩
  | 77 => ⟨S32768x512, .f32⟩
  | 78 => ⟨S32768x512, .f32⟩
  | 79 => ⟨S32768x512, .i32⟩
  | 80 => ⟨S_, .f32⟩
  | 81 => ⟨S_, .i32⟩
  | 82 => ⟨S32768, .f32⟩
  | 83 => ⟨S32768, .i32⟩
  | 84 => ⟨S_, .i32⟩
  | 85 => ⟨S32768, .i32⟩
  | 86 => ⟨S32768, .i1⟩
  | 87 => ⟨S_, .i32⟩
  | 88 => ⟨S32768, .i32⟩
  | 89 => ⟨S32768, .i32⟩
  | 90 => ⟨S32768, .i32⟩
  | 91 => ⟨S32768x1, .i32⟩
  | 92 => ⟨S1, .i32⟩
  | 93 => ⟨S_, .i32⟩
  | 94 => ⟨S32768x1, .i32⟩
  | 95 => ⟨S32768x1, .i1⟩
  | 96 => ⟨S1x1, .i32⟩
  | 97 => ⟨S32768x1, .i32⟩
  | 98 => ⟨S32768x1, .i1⟩
  | 99 => ⟨S32768x1, .i1⟩
  | 100 => ⟨S_, .i1⟩
  | 101 => ⟨S32768, .i1⟩
  | 102 => ⟨S32768x64, .f32⟩
  | 103 => ⟨S32768x64, .i1⟩
  | 104 => ⟨S_, .f32⟩
  | 105 => ⟨S32768x64, .f32⟩
  | 106 => ⟨S32768x64, .f32⟩
  | 107 => ⟨S32768x64, .f32⟩
  | 108 => ⟨S32768x64, .f32⟩
  | 109 => ⟨S_, .f32⟩
  | 110 => ⟨S_, .f32⟩
  | 111 => ⟨S_, .f32⟩
  | 112 => ⟨S_, .f32⟩
  | 113 => ⟨S32768x64, .f32⟩
  | 114 => ⟨S32768x64, .f32⟩
  | 115 => ⟨S_, .f32⟩
  | 116 => ⟨S_, .f32⟩
  | 117 => ⟨S_, .f32⟩
  | 118 => ⟨S_, .f32⟩
  | 119 => ⟨S_, .f32⟩
  | 120 => ⟨S_, .f32⟩
  | 121 => ⟨S_, .f32⟩
  | 122 => ⟨S32768x64, .f32⟩
  | 123 => ⟨S32768x64, .f32⟩
  | 124 => ⟨S32768x135, .f32⟩
  | 125 => ⟨S1x135, .f32⟩
  | 126 => ⟨S32768x135, .f32⟩
  | 127 => ⟨S32768x135, .f32⟩
  | _ => ⟨S16x2048x165, .f32⟩

abbrev hbmTy0_2 (i : Nat) : BufTy := match i % 128 with
  | 0 => ⟨S16x2048x135, .f32⟩
  | 1 => ⟨S16x2048x45, .f32⟩
  | 2 => ⟨S16x2048x90, .f32⟩
  | 3 => ⟨S16x2048x135, .f32⟩
  | 4 => ⟨S32768x135, .f32⟩
  | 5 => ⟨S32768x64, .f32⟩
  | 6 => ⟨S1x64, .f32⟩
  | 7 => ⟨S32768x64, .f32⟩
  | 8 => ⟨S32768x64, .f32⟩
  | 9 => ⟨S32768x64, .f32⟩
  | 10 => ⟨S_, .f32⟩
  | 11 => ⟨S32768, .f32⟩
  | 12 => ⟨S32768x1, .f32⟩
  | 13 => ⟨S64x512, .f32⟩
  | 14 => ⟨S32768x512, .f32⟩
  | 15 => ⟨S_, .f32⟩
  | 16 => ⟨S32768x512, .f32⟩
  | 17 => ⟨S32768x512, .f32⟩
  | 18 => ⟨S32768x512, .f32⟩
  | 19 => ⟨S32768x512, .f32⟩
  | 20 => ⟨S512x64, .f32⟩
  | 21 => ⟨S_, .f32⟩
  | 22 => ⟨S512, .f32⟩
  | 23 => ⟨S1x512, .f32⟩
  | 24 => ⟨S32768x512, .f32⟩
  | 25 => ⟨S32768x512, .f32⟩
  | 26 => ⟨S32768x512, .i32⟩
  | 27 => ⟨S_, .f32⟩
  | 28 => ⟨S_, .i32⟩
  | 29 => ⟨S32768, .f32⟩
  | 30 => ⟨S32768, .i32⟩
  | 31 => ⟨S_, .i32⟩
  | 32 => ⟨S32768, .i32⟩
  | 33 => ⟨S32768, .i1⟩
  | 34 => ⟨S_, .i32⟩
  | 35 => ⟨S32768, .i32⟩
  | 36 => ⟨S32768, .i32⟩
  | 37 => ⟨S32768, .i32⟩
  | 38 => ⟨S32768x1, .i32⟩
  | 39 => ⟨S1, .i32⟩
  | 40 => ⟨S_, .i32⟩
  | 41 => ⟨S32768x1, .i32⟩
  | 42 => ⟨S32768x1, .i1⟩
  | 43 => ⟨S1x1, .i32⟩
  | 44 => ⟨S32768x1, .i32⟩
  | 45 => ⟨S32768x1, .i1⟩
  | 46 => ⟨S32768x1, .i1⟩
  | 47 => ⟨S_, .i1⟩
  | 48 => ⟨S32768, .i1⟩
  | 49 => ⟨S32768x64, .f32⟩
  | 50 => ⟨S32768x64, .i1⟩
  | 51 => ⟨S_, .f32⟩
  | 52 => ⟨S32768x64, .f32⟩
  | 53 => ⟨S32768x64, .f32⟩
  | 54 => ⟨S32768x64, .f32⟩
  | 55 => ⟨S32768x64, .f32⟩
  | 56 => ⟨S_, .f32⟩
  | 57 => ⟨S_, .f32⟩
  | 58 => ⟨S_, .f32⟩
  | 59 => ⟨S_, .f32⟩
  | 60 => ⟨S32768x64, .f32⟩
  | 61 => ⟨S32768x64, .f32⟩
  | 62 => ⟨S_, .f32⟩
  | 63 => ⟨S_, .f32⟩
  | 64 => ⟨S_, .f32⟩
  | 65 => ⟨S_, .f32⟩
  | 66 => ⟨S_, .f32⟩
  | 67 => ⟨S_, .f32⟩
  | 68 => ⟨S_, .f32⟩
  | 69 => ⟨S32768x64, .f32⟩
  | 70 => ⟨S32768x64, .f32⟩
  | 71 => ⟨S32768x135, .f32⟩
  | 72 => ⟨S1x135, .f32⟩
  | 73 => ⟨S32768x135, .f32⟩
  | 74 => ⟨S32768x135, .f32⟩
  | 75 => ⟨S16x2048x135, .f32⟩
  | 76 => ⟨S16x2048x45, .f32⟩
  | 77 => ⟨S16x2048x90, .f32⟩
  | 78 => ⟨S16x2048x84, .f32⟩
  | 79 => ⟨S32768x84, .f32⟩
  | 80 => ⟨S32768x64, .f32⟩
  | 81 => ⟨S1x64, .f32⟩
  | 82 => ⟨S32768x64, .f32⟩
  | 83 => ⟨S32768x64, .f32⟩
  | 84 => ⟨S32768x64, .f32⟩
  | 85 => ⟨S_, .f32⟩
  | 86 => ⟨S32768, .f32⟩
  | 87 => ⟨S32768x1, .f32⟩
  | 88 => ⟨S64x512, .f32⟩
  | 89 => ⟨S32768x512, .f32⟩
  | 90 => ⟨S_, .f32⟩
  | 91 => ⟨S32768x512, .f32⟩
  | 92 => ⟨S32768x512, .f32⟩
  | 93 => ⟨S32768x512, .f32⟩
  | 94 => ⟨S32768x512, .f32⟩
  | 95 => ⟨S512x64, .f32⟩
  | 96 => ⟨S_, .f32⟩
  | 97 => ⟨S512, .f32⟩
  | 98 => ⟨S1x512, .f32⟩
  | 99 => ⟨S32768x512, .f32⟩
  | 100 => ⟨S32768x512, .f32⟩
  | 101 => ⟨S32768x512, .i32⟩
  | 102 => ⟨S_, .f32⟩
  | 103 => ⟨S_, .i32⟩
  | 104 => ⟨S32768, .f32⟩
  | 105 => ⟨S32768, .i32⟩
  | 106 => ⟨S_, .i32⟩
  | 107 => ⟨S32768, .i32⟩
  | 108 => ⟨S32768, .i1⟩
  | 109 => ⟨S_, .i32⟩
  | 110 => ⟨S32768, .i32⟩
  | 111 => ⟨S32768, .i32⟩
  | 112 => ⟨S32768, .i32⟩
  | 113 => ⟨S32768x1, .i32⟩
  | 114 => ⟨S1, .i32⟩
  | 115 => ⟨S_, .i32⟩
  | 116 => ⟨S32768x1, .i32⟩
  | 117 => ⟨S32768x1, .i1⟩
  | 118 => ⟨S1x1, .i32⟩
  | 119 => ⟨S32768x1, .i32⟩
  | 120 => ⟨S32768x1, .i1⟩
  | 121 => ⟨S32768x1, .i1⟩
  | 122 => ⟨S_, .i1⟩
  | 123 => ⟨S32768, .i1⟩
  | 124 => ⟨S32768x64, .f32⟩
  | 125 => ⟨S32768x64, .i1⟩
  | 126 => ⟨S_, .f32⟩
  | 127 => ⟨S32768x64, .f32⟩
  | _ => ⟨S16x2048x165, .f32⟩

abbrev hbmTy0_3 (i : Nat) : BufTy := match i % 128 with
  | 0 => ⟨S32768x64, .f32⟩
  | 1 => ⟨S32768x64, .f32⟩
  | 2 => ⟨S32768x64, .f32⟩
  | 3 => ⟨S_, .f32⟩
  | 4 => ⟨S_, .f32⟩
  | 5 => ⟨S_, .f32⟩
  | 6 => ⟨S_, .f32⟩
  | 7 => ⟨S32768x64, .f32⟩
  | 8 => ⟨S32768x64, .f32⟩
  | 9 => ⟨S_, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S32768x64, .f32⟩
  | 17 => ⟨S32768x64, .f32⟩
  | 18 => ⟨S32768x84, .f32⟩
  | 19 => ⟨S1x84, .f32⟩
  | 20 => ⟨S32768x84, .f32⟩
  | 21 => ⟨S32768x84, .f32⟩
  | 22 => ⟨S16x2048x84, .f32⟩
  | 23 => ⟨S16x2048x27, .f32⟩
  | 24 => ⟨S16x2048x54, .f32⟩
  | 25 => ⟨S16x2048x3, .f32⟩
  | 26 => ⟨S_, .f32⟩
  | 27 => ⟨S16x2048x55x3, .f32⟩
  | 28 => ⟨S16x2048x16x3, .f32⟩
  | 29 => ⟨S_, .i32⟩
  | 30 => ⟨S16, .i32⟩
  | 31 => ⟨S16, .i1⟩
  | 32 => ⟨S_, .i32⟩
  | 33 => ⟨S16, .i32⟩
  | 34 => ⟨S16, .i32⟩
  | 35 => ⟨S16, .i32⟩
  | 36 => ⟨S16x1, .i32⟩
  | 37 => ⟨S16x2048x55x3, .f32⟩
  | 38 => ⟨S16x2048x9x3, .f32⟩
  | 39 => ⟨S_, .i32⟩
  | 40 => ⟨S9, .i32⟩
  | 41 => ⟨S9, .i1⟩
  | 42 => ⟨S_, .i32⟩
  | 43 => ⟨S9, .i32⟩
  | 44 => ⟨S9, .i32⟩
  | 45 => ⟨S9, .i32⟩
  | 46 => ⟨S9x1, .i32⟩
  | 47 => ⟨S16x2048x55x3, .f32⟩
  | 48 => ⟨S16x2048x15x3, .f32⟩
  | 49 => ⟨S_, .i32⟩
  | 50 => ⟨S15, .i32⟩
  | 51 => ⟨S15, .i1⟩
  | 52 => ⟨S_, .i32⟩
  | 53 => ⟨S15, .i32⟩
  | 54 => ⟨S15, .i32⟩
  | 55 => ⟨S15, .i32⟩
  | 56 => ⟨S15x1, .i32⟩
  | 57 => ⟨S16x2048x55x3, .f32⟩
  | 58 => ⟨S16x2048x15x3, .f32⟩
  | 59 => ⟨S_, .i32⟩
  | 60 => ⟨S15, .i32⟩
  | 61 => ⟨S15, .i1⟩
  | 62 => ⟨S_, .i32⟩
  | 63 => ⟨S15, .i32⟩
  | 64 => ⟨S15, .i32⟩
  | 65 => ⟨S15, .i32⟩
  | 66 => ⟨S15x1, .i32⟩
  | 67 => ⟨S16x2048x55x3, .f32⟩
  | 68 => ⟨S_, .f32⟩
  | 69 => ⟨S16x2048x55x6, .f32⟩
  | 70 => ⟨S16x2048x16x6, .f32⟩
  | 71 => ⟨S_, .i32⟩
  | 72 => ⟨S16, .i32⟩
  | 73 => ⟨S16, .i1⟩
  | 74 => ⟨S_, .i32⟩
  | 75 => ⟨S16, .i32⟩
  | 76 => ⟨S16, .i32⟩
  | 77 => ⟨S16, .i32⟩
  | 78 => ⟨S16x1, .i32⟩
  | 79 => ⟨S16x2048x55x6, .f32⟩
  | 80 => ⟨S16x2048x9x6, .f32⟩
  | 81 => ⟨S_, .i32⟩
  | 82 => ⟨S9, .i32⟩
  | 83 => ⟨S9, .i1⟩
  | 84 => ⟨S_, .i32⟩
  | 85 => ⟨S9, .i32⟩
  | 86 => ⟨S9, .i32⟩
  | 87 => ⟨S9, .i32⟩
  | 88 => ⟨S9x1, .i32⟩
  | 89 => ⟨S16x2048x55x6, .f32⟩
  | 90 => ⟨S16x2048x15x6, .f32⟩
  | 91 => ⟨S_, .i32⟩
  | 92 => ⟨S15, .i32⟩
  | 93 => ⟨S15, .i1⟩
  | 94 => ⟨S_, .i32⟩
  | 95 => ⟨S15, .i32⟩
  | 96 => ⟨S15, .i32⟩
  | 97 => ⟨S15, .i32⟩
  | 98 => ⟨S15x1, .i32⟩
  | 99 => ⟨S16x2048x55x6, .f32⟩
  | 100 => ⟨S16x2048x15x6, .f32⟩
  | 101 => ⟨S_, .i32⟩
  | 102 => ⟨S15, .i32⟩
  | 103 => ⟨S15, .i1⟩
  | 104 => ⟨S_, .i32⟩
  | 105 => ⟨S15, .i32⟩
  | 106 => ⟨S15, .i32⟩
  | 107 => ⟨S15, .i32⟩
  | 108 => ⟨S15x1, .i32⟩
  | 109 => ⟨S16x2048x55x6, .f32⟩
  | 110 => ⟨S_, .f32⟩
  | 111 => ⟨S_, .f32⟩
  | 112 => ⟨S_, .f32⟩
  | 113 => ⟨S16x2048x165, .f32⟩
  | 114 => ⟨S16x2048x330, .f32⟩
  | _ => ⟨S16x2048x165, .f32⟩

abbrev hbmTy (i : Nat) : BufTy := match i / 128 with
  | 0 => hbmTy0_0 i
  | 1 => hbmTy0_1 i
  | 2 => hbmTy0_2 i
  | 3 => hbmTy0_3 i
  | _ => ⟨S16x2048x165, .f32⟩

abbrev bufTy : (tb : Table) → Fin (tcTables nBuf tb) → BufTy
  | .hbm, ⟨i, _⟩ => hbmTy i
  | _, _ => ⟨S16x2048x165, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_arg15 : Ref sig .tc := ⟨.hbm, 15, rfl⟩
abbrev main_arg16 : Ref sig .tc := ⟨.hbm, 16, rfl⟩
abbrev main_arg17 : Ref sig .tc := ⟨.hbm, 17, rfl⟩
abbrev main_arg18 : Ref sig .tc := ⟨.hbm, 18, rfl⟩
abbrev main_arg19 : Ref sig .tc := ⟨.hbm, 19, rfl⟩
abbrev main_arg20 : Ref sig .tc := ⟨.hbm, 20, rfl⟩
abbrev main_arg21 : Ref sig .tc := ⟨.hbm, 21, rfl⟩
abbrev main_arg22 : Ref sig .tc := ⟨.hbm, 22, rfl⟩
abbrev main_c : Ref sig .tc := ⟨.hbm, 23, rfl⟩
abbrev main_c_0 : Ref sig .tc := ⟨.hbm, 24, rfl⟩
abbrev main_c_1 : Ref sig .tc := ⟨.hbm, 25, rfl⟩
abbrev main_c_2 : Ref sig .tc := ⟨.hbm, 26, rfl⟩
abbrev main_v0 : Ref sig .tc := ⟨.hbm, 27, rfl⟩
abbrev main_v1 : Ref sig .tc := ⟨.hbm, 28, rfl⟩
abbrev main_c_3 : Ref sig .tc := ⟨.hbm, 29, rfl⟩
abbrev main_v2 : Ref sig .tc := ⟨.hbm, 30, rfl⟩
abbrev main_v3 : Ref sig .tc := ⟨.hbm, 31, rfl⟩
abbrev main_c_4 : Ref sig .tc := ⟨.hbm, 32, rfl⟩
abbrev main_v4 : Ref sig .tc := ⟨.hbm, 33, rfl⟩
abbrev main_v5 : Ref sig .tc := ⟨.hbm, 34, rfl⟩
abbrev main_v6 : Ref sig .tc := ⟨.hbm, 35, rfl⟩
abbrev main_v7 : Ref sig .tc := ⟨.hbm, 36, rfl⟩
abbrev main_v8 : Ref sig .tc := ⟨.hbm, 37, rfl⟩
abbrev main_v9 : Ref sig .tc := ⟨.hbm, 38, rfl⟩
abbrev main_c_5 : Ref sig .tc := ⟨.hbm, 39, rfl⟩
abbrev main_v10 : Ref sig .tc := ⟨.hbm, 40, rfl⟩
abbrev main_v11 : Ref sig .tc := ⟨.hbm, 41, rfl⟩
abbrev main_c_6 : Ref sig .tc := ⟨.hbm, 42, rfl⟩
abbrev main_v12 : Ref sig .tc := ⟨.hbm, 43, rfl⟩
abbrev main_v13 : Ref sig .tc := ⟨.hbm, 44, rfl⟩
abbrev main_v14 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_c_7 : Ref sig .tc := ⟨.hbm, 49, rfl⟩
abbrev main_v18 : Ref sig .tc := ⟨.hbm, 50, rfl⟩
abbrev main_v19 : Ref sig .tc := ⟨.hbm, 51, rfl⟩
abbrev main_c_8 : Ref sig .tc := ⟨.hbm, 52, rfl⟩
abbrev main_v20 : Ref sig .tc := ⟨.hbm, 53, rfl⟩
abbrev main_v21 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_c_9 : Ref sig .tc := ⟨.hbm, 59, rfl⟩
abbrev main_v26 : Ref sig .tc := ⟨.hbm, 60, rfl⟩
abbrev main_v27 : Ref sig .tc := ⟨.hbm, 61, rfl⟩
abbrev main_c_10 : Ref sig .tc := ⟨.hbm, 62, rfl⟩
abbrev main_v28 : Ref sig .tc := ⟨.hbm, 63, rfl⟩
abbrev main_v29 : Ref sig .tc := ⟨.hbm, 64, rfl⟩
abbrev main_v30 : Ref sig .tc := ⟨.hbm, 65, rfl⟩
abbrev main_v31 : Ref sig .tc := ⟨.hbm, 66, rfl⟩
abbrev main_v32 : Ref sig .tc := ⟨.hbm, 67, rfl⟩
abbrev main_v33 : Ref sig .tc := ⟨.hbm, 68, rfl⟩
abbrev main_c_11 : Ref sig .tc := ⟨.hbm, 69, rfl⟩
abbrev main_v34 : Ref sig .tc := ⟨.hbm, 70, rfl⟩
abbrev main_v35 : Ref sig .tc := ⟨.hbm, 71, rfl⟩
abbrev main_c_12 : Ref sig .tc := ⟨.hbm, 72, rfl⟩
abbrev main_v36 : Ref sig .tc := ⟨.hbm, 73, rfl⟩
abbrev main_v37 : Ref sig .tc := ⟨.hbm, 74, rfl⟩
abbrev main_v38 : Ref sig .tc := ⟨.hbm, 75, rfl⟩
abbrev main_v39 : Ref sig .tc := ⟨.hbm, 76, rfl⟩
abbrev main_v40 : Ref sig .tc := ⟨.hbm, 77, rfl⟩
abbrev main_v41 : Ref sig .tc := ⟨.hbm, 78, rfl⟩
abbrev main_c_13 : Ref sig .tc := ⟨.hbm, 79, rfl⟩
abbrev main_v42 : Ref sig .tc := ⟨.hbm, 80, rfl⟩
abbrev main_v43 : Ref sig .tc := ⟨.hbm, 81, rfl⟩
abbrev main_c_14 : Ref sig .tc := ⟨.hbm, 82, rfl⟩
abbrev main_v44 : Ref sig .tc := ⟨.hbm, 83, rfl⟩
abbrev main_v45 : Ref sig .tc := ⟨.hbm, 84, rfl⟩
abbrev main_v46 : Ref sig .tc := ⟨.hbm, 85, rfl⟩
abbrev main_v47 : Ref sig .tc := ⟨.hbm, 86, rfl⟩
abbrev main_v48 : Ref sig .tc := ⟨.hbm, 87, rfl⟩
abbrev main_v49 : Ref sig .tc := ⟨.hbm, 88, rfl⟩
abbrev main_c_15 : Ref sig .tc := ⟨.hbm, 89, rfl⟩
abbrev main_v50 : Ref sig .tc := ⟨.hbm, 90, rfl⟩
abbrev main_v51 : Ref sig .tc := ⟨.hbm, 91, rfl⟩
abbrev main_c_16 : Ref sig .tc := ⟨.hbm, 92, rfl⟩
abbrev main_v52 : Ref sig .tc := ⟨.hbm, 93, rfl⟩
abbrev main_v53 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57 : Ref sig .tc := ⟨.hbm, 98, rfl⟩
abbrev main_c_17 : Ref sig .tc := ⟨.hbm, 99, rfl⟩
abbrev main_v58 : Ref sig .tc := ⟨.hbm, 100, rfl⟩
abbrev main_v59 : Ref sig .tc := ⟨.hbm, 101, rfl⟩
abbrev main_c_18 : Ref sig .tc := ⟨.hbm, 102, rfl⟩
abbrev main_v60 : Ref sig .tc := ⟨.hbm, 103, rfl⟩
abbrev main_v61 : Ref sig .tc := ⟨.hbm, 104, rfl⟩
abbrev main_v62 : Ref sig .tc := ⟨.hbm, 105, rfl⟩
abbrev main_v63 : Ref sig .tc := ⟨.hbm, 106, rfl⟩
abbrev main_v64 : Ref sig .tc := ⟨.hbm, 107, rfl⟩
abbrev main_v65 : Ref sig .tc := ⟨.hbm, 108, rfl⟩
abbrev main_v66 : Ref sig .tc := ⟨.hbm, 109, rfl⟩
abbrev main_v67 : Ref sig .tc := ⟨.hbm, 110, rfl⟩
abbrev main_v68 : Ref sig .tc := ⟨.hbm, 111, rfl⟩
abbrev main_v69 : Ref sig .tc := ⟨.hbm, 112, rfl⟩
abbrev main_v70 : Ref sig .tc := ⟨.hbm, 113, rfl⟩
abbrev main_v71 : Ref sig .tc := ⟨.hbm, 114, rfl⟩
abbrev main_v72 : Ref sig .tc := ⟨.hbm, 115, rfl⟩
abbrev main_cst : Ref sig .tc := ⟨.hbm, 116, rfl⟩
abbrev main_v73 : Ref sig .tc := ⟨.hbm, 117, rfl⟩
abbrev main_v74 : Ref sig .tc := ⟨.hbm, 118, rfl⟩
abbrev main_v75 : Ref sig .tc := ⟨.hbm, 119, rfl⟩
abbrev main_v76 : Ref sig .tc := ⟨.hbm, 120, rfl⟩
abbrev main_cst_19 : Ref sig .tc := ⟨.hbm, 121, rfl⟩
abbrev main_v77 : Ref sig .tc := ⟨.hbm, 122, rfl⟩
abbrev main_v78 : Ref sig .tc := ⟨.hbm, 123, rfl⟩
abbrev main_v79 : Ref sig .tc := ⟨.hbm, 124, rfl⟩
abbrev main_v80 : Ref sig .tc := ⟨.hbm, 125, rfl⟩
abbrev main_v81 : Ref sig .tc := ⟨.hbm, 126, rfl⟩
abbrev main_cst_20 : Ref sig .tc := ⟨.hbm, 127, rfl⟩
abbrev main_v82 : Ref sig .tc := ⟨.hbm, 128, rfl⟩
abbrev main_v83 : Ref sig .tc := ⟨.hbm, 129, rfl⟩
abbrev main_v84 : Ref sig .tc := ⟨.hbm, 130, rfl⟩
abbrev main_v85 : Ref sig .tc := ⟨.hbm, 131, rfl⟩
abbrev main_call0_v0 : Ref sig .tc := ⟨.hbm, 132, rfl⟩
abbrev main_call0_cst : Ref sig .tc := ⟨.hbm, 133, rfl⟩
abbrev main_call0_c : Ref sig .tc := ⟨.hbm, 134, rfl⟩
abbrev main_call0_v1_0 : Ref sig .tc := ⟨.hbm, 135, rfl⟩
abbrev main_v86 : Ref sig .tc := ⟨.hbm, 136, rfl⟩
abbrev main_call1_c : Ref sig .tc := ⟨.hbm, 137, rfl⟩
abbrev main_call1_v0 : Ref sig .tc := ⟨.hbm, 138, rfl⟩
abbrev main_call1_v1 : Ref sig .tc := ⟨.hbm, 139, rfl⟩
abbrev main_call1_c_0 : Ref sig .tc := ⟨.hbm, 140, rfl⟩
abbrev main_call1_v2 : Ref sig .tc := ⟨.hbm, 141, rfl⟩
abbrev main_call1_v3 : Ref sig .tc := ⟨.hbm, 142, rfl⟩
abbrev main_call1_v4 : Ref sig .tc := ⟨.hbm, 143, rfl⟩
abbrev main_call1_v5 : Ref sig .tc := ⟨.hbm, 144, rfl⟩
abbrev main_call1_c_1 : Ref sig .tc := ⟨.hbm, 145, rfl⟩
abbrev main_call1_c_2 : Ref sig .tc := ⟨.hbm, 146, rfl⟩
abbrev main_call1_v6 : Ref sig .tc := ⟨.hbm, 147, rfl⟩
abbrev main_call1_v7 : Ref sig .tc := ⟨.hbm, 148, rfl⟩
abbrev main_call1_v8 : Ref sig .tc := ⟨.hbm, 149, rfl⟩
abbrev main_call1_v9 : Ref sig .tc := ⟨.hbm, 150, rfl⟩
abbrev main_call1_v10 : Ref sig .tc := ⟨.hbm, 151, rfl⟩
abbrev main_call1_v11 : Ref sig .tc := ⟨.hbm, 152, rfl⟩
abbrev main_call1_c_3 : Ref sig .tc := ⟨.hbm, 153, rfl⟩
abbrev main_call1_v12 : Ref sig .tc := ⟨.hbm, 154, rfl⟩
abbrev main_call1_v13 : Ref sig .tc := ⟨.hbm, 155, rfl⟩
abbrev main_call1_v14 : Ref sig .tc := ⟨.hbm, 156, rfl⟩
abbrev main_call1_cst : Ref sig .tc := ⟨.hbm, 157, rfl⟩
abbrev main_call1_v15 : Ref sig .tc := ⟨.hbm, 158, rfl⟩
abbrev main_v87 : Ref sig .tc := ⟨.hbm, 159, rfl⟩
abbrev main_v88 : Ref sig .tc := ⟨.hbm, 160, rfl⟩
abbrev main_v89 : Ref sig .tc := ⟨.hbm, 161, rfl⟩
abbrev main_cst_21 : Ref sig .tc := ⟨.hbm, 162, rfl⟩
abbrev main_v90 : Ref sig .tc := ⟨.hbm, 163, rfl⟩
abbrev main_cst_22 : Ref sig .tc := ⟨.hbm, 164, rfl⟩
abbrev main_v91 : Ref sig .tc := ⟨.hbm, 165, rfl⟩
abbrev main_v92 : Ref sig .tc := ⟨.hbm, 166, rfl⟩
abbrev main_v93 : Ref sig .tc := ⟨.hbm, 167, rfl⟩
abbrev main_cst_23 : Ref sig .tc := ⟨.hbm, 168, rfl⟩
abbrev main_v94 : Ref sig .tc := ⟨.hbm, 169, rfl⟩
abbrev main_cst_24 : Ref sig .tc := ⟨.hbm, 170, rfl⟩
abbrev main_v95 : Ref sig .tc := ⟨.hbm, 171, rfl⟩
abbrev main_cst_25 : Ref sig .tc := ⟨.hbm, 172, rfl⟩
abbrev main_v96 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_v104 : Ref sig .tc := ⟨.hbm, 181, rfl⟩
abbrev main_v105 : Ref sig .tc := ⟨.hbm, 182, rfl⟩
abbrev main_v106 : Ref sig .tc := ⟨.hbm, 183, rfl⟩
abbrev main_v107 : Ref sig .tc := ⟨.hbm, 184, rfl⟩
abbrev main_v108 : Ref sig .tc := ⟨.hbm, 185, rfl⟩
abbrev main_v109 : Ref sig .tc := ⟨.hbm, 186, rfl⟩
abbrev main_v110 : Ref sig .tc := ⟨.hbm, 187, rfl⟩
abbrev main_v111 : Ref sig .tc := ⟨.hbm, 188, rfl⟩
abbrev main_v112 : Ref sig .tc := ⟨.hbm, 189, rfl⟩
abbrev main_v113 : Ref sig .tc := ⟨.hbm, 190, rfl⟩
abbrev main_cst_26 : Ref sig .tc := ⟨.hbm, 191, rfl⟩
abbrev main_v114 : Ref sig .tc := ⟨.hbm, 192, rfl⟩
abbrev main_v115 : Ref sig .tc := ⟨.hbm, 193, rfl⟩
abbrev main_v116 : Ref sig .tc := ⟨.hbm, 194, rfl⟩
abbrev main_v117 : Ref sig .tc := ⟨.hbm, 195, rfl⟩
abbrev main_cst_27 : Ref sig .tc := ⟨.hbm, 196, rfl⟩
abbrev main_v118 : Ref sig .tc := ⟨.hbm, 197, rfl⟩
abbrev main_v119 : Ref sig .tc := ⟨.hbm, 198, rfl⟩
abbrev main_v120 : Ref sig .tc := ⟨.hbm, 199, rfl⟩
abbrev main_v121 : Ref sig .tc := ⟨.hbm, 200, rfl⟩
abbrev main_v122 : Ref sig .tc := ⟨.hbm, 201, rfl⟩
abbrev main_cst_28 : Ref sig .tc := ⟨.hbm, 202, rfl⟩
abbrev main_v123 : Ref sig .tc := ⟨.hbm, 203, rfl⟩
abbrev main_v124 : Ref sig .tc := ⟨.hbm, 204, rfl⟩
abbrev main_v125 : Ref sig .tc := ⟨.hbm, 205, rfl⟩
abbrev main_v126 : Ref sig .tc := ⟨.hbm, 206, rfl⟩
abbrev main_call2_v0 : Ref sig .tc := ⟨.hbm, 207, rfl⟩
abbrev main_call2_cst : Ref sig .tc := ⟨.hbm, 208, rfl⟩
abbrev main_call2_c : Ref sig .tc := ⟨.hbm, 209, rfl⟩
abbrev main_call2_v1_0 : Ref sig .tc := ⟨.hbm, 210, rfl⟩
abbrev main_v127 : Ref sig .tc := ⟨.hbm, 211, rfl⟩
abbrev main_call3_c : Ref sig .tc := ⟨.hbm, 212, rfl⟩
abbrev main_call3_v0 : Ref sig .tc := ⟨.hbm, 213, rfl⟩
abbrev main_call3_v1 : Ref sig .tc := ⟨.hbm, 214, rfl⟩
abbrev main_call3_c_0 : Ref sig .tc := ⟨.hbm, 215, rfl⟩
abbrev main_call3_v2 : Ref sig .tc := ⟨.hbm, 216, rfl⟩
abbrev main_call3_v3 : Ref sig .tc := ⟨.hbm, 217, rfl⟩
abbrev main_call3_v4 : Ref sig .tc := ⟨.hbm, 218, rfl⟩
abbrev main_call3_v5 : Ref sig .tc := ⟨.hbm, 219, rfl⟩
abbrev main_call3_c_1 : Ref sig .tc := ⟨.hbm, 220, rfl⟩
abbrev main_call3_c_2 : Ref sig .tc := ⟨.hbm, 221, rfl⟩
abbrev main_call3_v6 : Ref sig .tc := ⟨.hbm, 222, rfl⟩
abbrev main_call3_v7 : Ref sig .tc := ⟨.hbm, 223, rfl⟩
abbrev main_call3_v8 : Ref sig .tc := ⟨.hbm, 224, rfl⟩
abbrev main_call3_v9 : Ref sig .tc := ⟨.hbm, 225, rfl⟩
abbrev main_call3_v10 : Ref sig .tc := ⟨.hbm, 226, rfl⟩
abbrev main_call3_v11 : Ref sig .tc := ⟨.hbm, 227, rfl⟩
abbrev main_call3_c_3 : Ref sig .tc := ⟨.hbm, 228, rfl⟩
abbrev main_call3_v12 : Ref sig .tc := ⟨.hbm, 229, rfl⟩
abbrev main_call3_v13 : Ref sig .tc := ⟨.hbm, 230, rfl⟩
abbrev main_call3_v14 : Ref sig .tc := ⟨.hbm, 231, rfl⟩
abbrev main_call3_cst : Ref sig .tc := ⟨.hbm, 232, rfl⟩
abbrev main_call3_v15 : Ref sig .tc := ⟨.hbm, 233, rfl⟩
abbrev main_v128 : Ref sig .tc := ⟨.hbm, 234, rfl⟩
abbrev main_v129 : Ref sig .tc := ⟨.hbm, 235, rfl⟩
abbrev main_v130 : Ref sig .tc := ⟨.hbm, 236, rfl⟩
abbrev main_cst_29 : Ref sig .tc := ⟨.hbm, 237, rfl⟩
abbrev main_v131 : Ref sig .tc := ⟨.hbm, 238, rfl⟩
abbrev main_cst_30 : Ref sig .tc := ⟨.hbm, 239, rfl⟩
abbrev main_v132 : Ref sig .tc := ⟨.hbm, 240, rfl⟩
abbrev main_v133 : Ref sig .tc := ⟨.hbm, 241, rfl⟩
abbrev main_v134 : Ref sig .tc := ⟨.hbm, 242, rfl⟩
abbrev main_cst_31 : Ref sig .tc := ⟨.hbm, 243, rfl⟩
abbrev main_v135 : Ref sig .tc := ⟨.hbm, 244, rfl⟩
abbrev main_cst_32 : Ref sig .tc := ⟨.hbm, 245, rfl⟩
abbrev main_v136 : Ref sig .tc := ⟨.hbm, 246, rfl⟩
abbrev main_cst_33 : Ref sig .tc := ⟨.hbm, 247, rfl⟩
abbrev main_v137 : Ref sig .tc := ⟨.hbm, 248, rfl⟩
abbrev main_v138 : Ref sig .tc := ⟨.hbm, 249, rfl⟩
abbrev main_v139 : Ref sig .tc := ⟨.hbm, 250, rfl⟩
abbrev main_v140 : Ref sig .tc := ⟨.hbm, 251, rfl⟩
abbrev main_v141 : Ref sig .tc := ⟨.hbm, 252, rfl⟩
abbrev main_v142 : Ref sig .tc := ⟨.hbm, 253, rfl⟩
abbrev main_v143 : Ref sig .tc := ⟨.hbm, 254, rfl⟩
abbrev main_v144 : Ref sig .tc := ⟨.hbm, 255, rfl⟩
abbrev main_v145 : Ref sig .tc := ⟨.hbm, 256, rfl⟩
abbrev main_v146 : Ref sig .tc := ⟨.hbm, 257, rfl⟩
abbrev main_v147 : Ref sig .tc := ⟨.hbm, 258, rfl⟩
abbrev main_v148 : Ref sig .tc := ⟨.hbm, 259, rfl⟩
abbrev main_v149 : Ref sig .tc := ⟨.hbm, 260, rfl⟩
abbrev main_v150 : Ref sig .tc := ⟨.hbm, 261, rfl⟩
abbrev main_v151 : Ref sig .tc := ⟨.hbm, 262, rfl⟩
abbrev main_v152 : Ref sig .tc := ⟨.hbm, 263, rfl⟩
abbrev main_v153 : Ref sig .tc := ⟨.hbm, 264, rfl⟩
abbrev main_v154 : Ref sig .tc := ⟨.hbm, 265, rfl⟩
abbrev main_cst_34 : Ref sig .tc := ⟨.hbm, 266, rfl⟩
abbrev main_v155 : Ref sig .tc := ⟨.hbm, 267, rfl⟩
abbrev main_v156 : Ref sig .tc := ⟨.hbm, 268, rfl⟩
abbrev main_v157 : Ref sig .tc := ⟨.hbm, 269, rfl⟩
abbrev main_v158 : Ref sig .tc := ⟨.hbm, 270, rfl⟩
abbrev main_cst_35 : Ref sig .tc := ⟨.hbm, 271, rfl⟩
abbrev main_v159 : Ref sig .tc := ⟨.hbm, 272, rfl⟩
abbrev main_v160 : Ref sig .tc := ⟨.hbm, 273, rfl⟩
abbrev main_v161 : Ref sig .tc := ⟨.hbm, 274, rfl⟩
abbrev main_v162 : Ref sig .tc := ⟨.hbm, 275, rfl⟩
abbrev main_v163 : Ref sig .tc := ⟨.hbm, 276, rfl⟩
abbrev main_cst_36 : Ref sig .tc := ⟨.hbm, 277, rfl⟩
abbrev main_v164 : Ref sig .tc := ⟨.hbm, 278, rfl⟩
abbrev main_v165 : Ref sig .tc := ⟨.hbm, 279, rfl⟩
abbrev main_v166 : Ref sig .tc := ⟨.hbm, 280, rfl⟩
abbrev main_v167 : Ref sig .tc := ⟨.hbm, 281, rfl⟩
abbrev main_call4_v0 : Ref sig .tc := ⟨.hbm, 282, rfl⟩
abbrev main_call4_cst : Ref sig .tc := ⟨.hbm, 283, rfl⟩
abbrev main_call4_c : Ref sig .tc := ⟨.hbm, 284, rfl⟩
abbrev main_call4_v1_0 : Ref sig .tc := ⟨.hbm, 285, rfl⟩
abbrev main_v168 : Ref sig .tc := ⟨.hbm, 286, rfl⟩
abbrev main_call5_c : Ref sig .tc := ⟨.hbm, 287, rfl⟩
abbrev main_call5_v0 : Ref sig .tc := ⟨.hbm, 288, rfl⟩
abbrev main_call5_v1 : Ref sig .tc := ⟨.hbm, 289, rfl⟩
abbrev main_call5_c_0 : Ref sig .tc := ⟨.hbm, 290, rfl⟩
abbrev main_call5_v2 : Ref sig .tc := ⟨.hbm, 291, rfl⟩
abbrev main_call5_v3 : Ref sig .tc := ⟨.hbm, 292, rfl⟩
abbrev main_call5_v4 : Ref sig .tc := ⟨.hbm, 293, rfl⟩
abbrev main_call5_v5 : Ref sig .tc := ⟨.hbm, 294, rfl⟩
abbrev main_call5_c_1 : Ref sig .tc := ⟨.hbm, 295, rfl⟩
abbrev main_call5_c_2 : Ref sig .tc := ⟨.hbm, 296, rfl⟩
abbrev main_call5_v6 : Ref sig .tc := ⟨.hbm, 297, rfl⟩
abbrev main_call5_v7 : Ref sig .tc := ⟨.hbm, 298, rfl⟩
abbrev main_call5_v8 : Ref sig .tc := ⟨.hbm, 299, rfl⟩
abbrev main_call5_v9 : Ref sig .tc := ⟨.hbm, 300, rfl⟩
abbrev main_call5_v10 : Ref sig .tc := ⟨.hbm, 301, rfl⟩
abbrev main_call5_v11 : Ref sig .tc := ⟨.hbm, 302, rfl⟩
abbrev main_call5_c_3 : Ref sig .tc := ⟨.hbm, 303, rfl⟩
abbrev main_call5_v12 : Ref sig .tc := ⟨.hbm, 304, rfl⟩
abbrev main_call5_v13 : Ref sig .tc := ⟨.hbm, 305, rfl⟩
abbrev main_call5_v14 : Ref sig .tc := ⟨.hbm, 306, rfl⟩
abbrev main_call5_cst : Ref sig .tc := ⟨.hbm, 307, rfl⟩
abbrev main_call5_v15 : Ref sig .tc := ⟨.hbm, 308, rfl⟩
abbrev main_v169 : Ref sig .tc := ⟨.hbm, 309, rfl⟩
abbrev main_v170 : Ref sig .tc := ⟨.hbm, 310, rfl⟩
abbrev main_v171 : Ref sig .tc := ⟨.hbm, 311, rfl⟩
abbrev main_cst_37 : Ref sig .tc := ⟨.hbm, 312, rfl⟩
abbrev main_v172 : Ref sig .tc := ⟨.hbm, 313, rfl⟩
abbrev main_cst_38 : Ref sig .tc := ⟨.hbm, 314, rfl⟩
abbrev main_v173 : Ref sig .tc := ⟨.hbm, 315, rfl⟩
abbrev main_v174 : Ref sig .tc := ⟨.hbm, 316, rfl⟩
abbrev main_v175 : Ref sig .tc := ⟨.hbm, 317, rfl⟩
abbrev main_cst_39 : Ref sig .tc := ⟨.hbm, 318, rfl⟩
abbrev main_v176 : Ref sig .tc := ⟨.hbm, 319, rfl⟩
abbrev main_cst_40 : Ref sig .tc := ⟨.hbm, 320, rfl⟩
abbrev main_v177 : Ref sig .tc := ⟨.hbm, 321, rfl⟩
abbrev main_cst_41 : Ref sig .tc := ⟨.hbm, 322, rfl⟩
abbrev main_v178 : Ref sig .tc := ⟨.hbm, 323, rfl⟩
abbrev main_v179 : Ref sig .tc := ⟨.hbm, 324, rfl⟩
abbrev main_v180 : Ref sig .tc := ⟨.hbm, 325, rfl⟩
abbrev main_v181 : Ref sig .tc := ⟨.hbm, 326, rfl⟩
abbrev main_v182 : Ref sig .tc := ⟨.hbm, 327, rfl⟩
abbrev main_v183 : Ref sig .tc := ⟨.hbm, 328, rfl⟩
abbrev main_v184 : Ref sig .tc := ⟨.hbm, 329, rfl⟩
abbrev main_v185 : Ref sig .tc := ⟨.hbm, 330, rfl⟩
abbrev main_v186 : Ref sig .tc := ⟨.hbm, 331, rfl⟩
abbrev main_v187 : Ref sig .tc := ⟨.hbm, 332, rfl⟩
abbrev main_v188 : Ref sig .tc := ⟨.hbm, 333, rfl⟩
abbrev main_v189 : Ref sig .tc := ⟨.hbm, 334, rfl⟩
abbrev main_v190 : Ref sig .tc := ⟨.hbm, 335, rfl⟩
abbrev main_v191 : Ref sig .tc := ⟨.hbm, 336, rfl⟩
abbrev main_v192 : Ref sig .tc := ⟨.hbm, 337, rfl⟩
abbrev main_v193 : Ref sig .tc := ⟨.hbm, 338, rfl⟩
abbrev main_v194 : Ref sig .tc := ⟨.hbm, 339, rfl⟩
abbrev main_v195 : Ref sig .tc := ⟨.hbm, 340, rfl⟩
abbrev main_cst_42 : Ref sig .tc := ⟨.hbm, 341, rfl⟩
abbrev main_v196 : Ref sig .tc := ⟨.hbm, 342, rfl⟩
abbrev main_v197 : Ref sig .tc := ⟨.hbm, 343, rfl⟩
abbrev main_v198 : Ref sig .tc := ⟨.hbm, 344, rfl⟩
abbrev main_v199 : Ref sig .tc := ⟨.hbm, 345, rfl⟩
abbrev main_cst_43 : Ref sig .tc := ⟨.hbm, 346, rfl⟩
abbrev main_v200 : Ref sig .tc := ⟨.hbm, 347, rfl⟩
abbrev main_v201 : Ref sig .tc := ⟨.hbm, 348, rfl⟩
abbrev main_v202 : Ref sig .tc := ⟨.hbm, 349, rfl⟩
abbrev main_v203 : Ref sig .tc := ⟨.hbm, 350, rfl⟩
abbrev main_v204 : Ref sig .tc := ⟨.hbm, 351, rfl⟩
abbrev main_cst_44 : Ref sig .tc := ⟨.hbm, 352, rfl⟩
abbrev main_v205 : Ref sig .tc := ⟨.hbm, 353, rfl⟩
abbrev main_v206 : Ref sig .tc := ⟨.hbm, 354, rfl⟩
abbrev main_v207 : Ref sig .tc := ⟨.hbm, 355, rfl⟩
abbrev main_v208 : Ref sig .tc := ⟨.hbm, 356, rfl⟩
abbrev main_call6_v0 : Ref sig .tc := ⟨.hbm, 357, rfl⟩
abbrev main_call6_cst : Ref sig .tc := ⟨.hbm, 358, rfl⟩
abbrev main_call6_c : Ref sig .tc := ⟨.hbm, 359, rfl⟩
abbrev main_call6_v1_0 : Ref sig .tc := ⟨.hbm, 360, rfl⟩
abbrev main_v209 : Ref sig .tc := ⟨.hbm, 361, rfl⟩
abbrev main_call7_c : Ref sig .tc := ⟨.hbm, 362, rfl⟩
abbrev main_call7_v0 : Ref sig .tc := ⟨.hbm, 363, rfl⟩
abbrev main_call7_v1 : Ref sig .tc := ⟨.hbm, 364, rfl⟩
abbrev main_call7_c_0 : Ref sig .tc := ⟨.hbm, 365, rfl⟩
abbrev main_call7_v2 : Ref sig .tc := ⟨.hbm, 366, rfl⟩
abbrev main_call7_v3 : Ref sig .tc := ⟨.hbm, 367, rfl⟩
abbrev main_call7_v4 : Ref sig .tc := ⟨.hbm, 368, rfl⟩
abbrev main_call7_v5 : Ref sig .tc := ⟨.hbm, 369, rfl⟩
abbrev main_call7_c_1 : Ref sig .tc := ⟨.hbm, 370, rfl⟩
abbrev main_call7_c_2 : Ref sig .tc := ⟨.hbm, 371, rfl⟩
abbrev main_call7_v6 : Ref sig .tc := ⟨.hbm, 372, rfl⟩
abbrev main_call7_v7 : Ref sig .tc := ⟨.hbm, 373, rfl⟩
abbrev main_call7_v8 : Ref sig .tc := ⟨.hbm, 374, rfl⟩
abbrev main_call7_v9 : Ref sig .tc := ⟨.hbm, 375, rfl⟩
abbrev main_call7_v10 : Ref sig .tc := ⟨.hbm, 376, rfl⟩
abbrev main_call7_v11 : Ref sig .tc := ⟨.hbm, 377, rfl⟩
abbrev main_call7_c_3 : Ref sig .tc := ⟨.hbm, 378, rfl⟩
abbrev main_call7_v12 : Ref sig .tc := ⟨.hbm, 379, rfl⟩
abbrev main_call7_v13 : Ref sig .tc := ⟨.hbm, 380, rfl⟩
abbrev main_call7_v14 : Ref sig .tc := ⟨.hbm, 381, rfl⟩
abbrev main_call7_cst : Ref sig .tc := ⟨.hbm, 382, rfl⟩
abbrev main_call7_v15 : Ref sig .tc := ⟨.hbm, 383, rfl⟩
abbrev main_v210 : Ref sig .tc := ⟨.hbm, 384, rfl⟩
abbrev main_v211 : Ref sig .tc := ⟨.hbm, 385, rfl⟩
abbrev main_v212 : Ref sig .tc := ⟨.hbm, 386, rfl⟩
abbrev main_cst_45 : Ref sig .tc := ⟨.hbm, 387, rfl⟩
abbrev main_v213 : Ref sig .tc := ⟨.hbm, 388, rfl⟩
abbrev main_cst_46 : Ref sig .tc := ⟨.hbm, 389, rfl⟩
abbrev main_v214 : Ref sig .tc := ⟨.hbm, 390, rfl⟩
abbrev main_v215 : Ref sig .tc := ⟨.hbm, 391, rfl⟩
abbrev main_v216 : Ref sig .tc := ⟨.hbm, 392, rfl⟩
abbrev main_cst_47 : Ref sig .tc := ⟨.hbm, 393, rfl⟩
abbrev main_v217 : Ref sig .tc := ⟨.hbm, 394, rfl⟩
abbrev main_cst_48 : Ref sig .tc := ⟨.hbm, 395, rfl⟩
abbrev main_v218 : Ref sig .tc := ⟨.hbm, 396, rfl⟩
abbrev main_cst_49 : Ref sig .tc := ⟨.hbm, 397, rfl⟩
abbrev main_v219 : Ref sig .tc := ⟨.hbm, 398, rfl⟩
abbrev main_v220 : Ref sig .tc := ⟨.hbm, 399, rfl⟩
abbrev main_v221 : Ref sig .tc := ⟨.hbm, 400, rfl⟩
abbrev main_v222 : Ref sig .tc := ⟨.hbm, 401, rfl⟩
abbrev main_v223 : Ref sig .tc := ⟨.hbm, 402, rfl⟩
abbrev main_v224 : Ref sig .tc := ⟨.hbm, 403, rfl⟩
abbrev main_v225 : Ref sig .tc := ⟨.hbm, 404, rfl⟩
abbrev main_v226 : Ref sig .tc := ⟨.hbm, 405, rfl⟩
abbrev main_v227 : Ref sig .tc := ⟨.hbm, 406, rfl⟩
abbrev main_v228 : Ref sig .tc := ⟨.hbm, 407, rfl⟩
abbrev main_v229 : Ref sig .tc := ⟨.hbm, 408, rfl⟩
abbrev main_v230 : Ref sig .tc := ⟨.hbm, 409, rfl⟩
abbrev main_cst_50 : Ref sig .tc := ⟨.hbm, 410, rfl⟩
abbrev main_v231 : Ref sig .tc := ⟨.hbm, 411, rfl⟩
abbrev main_v232 : Ref sig .tc := ⟨.hbm, 412, rfl⟩
abbrev main_c_51 : Ref sig .tc := ⟨.hbm, 413, rfl⟩
abbrev main_v233 : Ref sig .tc := ⟨.hbm, 414, rfl⟩
abbrev main_v234 : Ref sig .tc := ⟨.hbm, 415, rfl⟩
abbrev main_c_52 : Ref sig .tc := ⟨.hbm, 416, rfl⟩
abbrev main_v235 : Ref sig .tc := ⟨.hbm, 417, rfl⟩
abbrev main_v236 : Ref sig .tc := ⟨.hbm, 418, rfl⟩
abbrev main_v237 : Ref sig .tc := ⟨.hbm, 419, rfl⟩
abbrev main_v238 : Ref sig .tc := ⟨.hbm, 420, rfl⟩
abbrev main_v239 : Ref sig .tc := ⟨.hbm, 421, rfl⟩
abbrev main_v240 : Ref sig .tc := ⟨.hbm, 422, rfl⟩
abbrev main_c_53 : Ref sig .tc := ⟨.hbm, 423, rfl⟩
abbrev main_v241 : Ref sig .tc := ⟨.hbm, 424, rfl⟩
abbrev main_v242 : Ref sig .tc := ⟨.hbm, 425, rfl⟩
abbrev main_c_54 : Ref sig .tc := ⟨.hbm, 426, rfl⟩
abbrev main_v243 : Ref sig .tc := ⟨.hbm, 427, rfl⟩
abbrev main_v244 : Ref sig .tc := ⟨.hbm, 428, rfl⟩
abbrev main_v245 : Ref sig .tc := ⟨.hbm, 429, rfl⟩
abbrev main_v246 : Ref sig .tc := ⟨.hbm, 430, rfl⟩
abbrev main_v247 : Ref sig .tc := ⟨.hbm, 431, rfl⟩
abbrev main_v248 : Ref sig .tc := ⟨.hbm, 432, rfl⟩
abbrev main_c_55 : Ref sig .tc := ⟨.hbm, 433, rfl⟩
abbrev main_v249 : Ref sig .tc := ⟨.hbm, 434, rfl⟩
abbrev main_v250 : Ref sig .tc := ⟨.hbm, 435, rfl⟩
abbrev main_c_56 : Ref sig .tc := ⟨.hbm, 436, rfl⟩
abbrev main_v251 : Ref sig .tc := ⟨.hbm, 437, rfl⟩
abbrev main_v252 : Ref sig .tc := ⟨.hbm, 438, rfl⟩
abbrev main_v253 : Ref sig .tc := ⟨.hbm, 439, rfl⟩
abbrev main_v254 : Ref sig .tc := ⟨.hbm, 440, rfl⟩
abbrev main_v255 : Ref sig .tc := ⟨.hbm, 441, rfl⟩
abbrev main_v256 : Ref sig .tc := ⟨.hbm, 442, rfl⟩
abbrev main_c_57 : Ref sig .tc := ⟨.hbm, 443, rfl⟩
abbrev main_v257 : Ref sig .tc := ⟨.hbm, 444, rfl⟩
abbrev main_v258 : Ref sig .tc := ⟨.hbm, 445, rfl⟩
abbrev main_c_58 : Ref sig .tc := ⟨.hbm, 446, rfl⟩
abbrev main_v259 : Ref sig .tc := ⟨.hbm, 447, rfl⟩
abbrev main_v260 : Ref sig .tc := ⟨.hbm, 448, rfl⟩
abbrev main_v261 : Ref sig .tc := ⟨.hbm, 449, rfl⟩
abbrev main_v262 : Ref sig .tc := ⟨.hbm, 450, rfl⟩
abbrev main_v263 : Ref sig .tc := ⟨.hbm, 451, rfl⟩
abbrev main_cst_59 : Ref sig .tc := ⟨.hbm, 452, rfl⟩
abbrev main_v264 : Ref sig .tc := ⟨.hbm, 453, rfl⟩
abbrev main_v265 : Ref sig .tc := ⟨.hbm, 454, rfl⟩
abbrev main_c_60 : Ref sig .tc := ⟨.hbm, 455, rfl⟩
abbrev main_v266 : Ref sig .tc := ⟨.hbm, 456, rfl⟩
abbrev main_v267 : Ref sig .tc := ⟨.hbm, 457, rfl⟩
abbrev main_c_61 : Ref sig .tc := ⟨.hbm, 458, rfl⟩
abbrev main_v268 : Ref sig .tc := ⟨.hbm, 459, rfl⟩
abbrev main_v269 : Ref sig .tc := ⟨.hbm, 460, rfl⟩
abbrev main_v270 : Ref sig .tc := ⟨.hbm, 461, rfl⟩
abbrev main_v271 : Ref sig .tc := ⟨.hbm, 462, rfl⟩
abbrev main_v272 : Ref sig .tc := ⟨.hbm, 463, rfl⟩
abbrev main_v273 : Ref sig .tc := ⟨.hbm, 464, rfl⟩
abbrev main_c_62 : Ref sig .tc := ⟨.hbm, 465, rfl⟩
abbrev main_v274 : Ref sig .tc := ⟨.hbm, 466, rfl⟩
abbrev main_v275 : Ref sig .tc := ⟨.hbm, 467, rfl⟩
abbrev main_c_63 : Ref sig .tc := ⟨.hbm, 468, rfl⟩
abbrev main_v276 : Ref sig .tc := ⟨.hbm, 469, rfl⟩
abbrev main_v277 : Ref sig .tc := ⟨.hbm, 470, rfl⟩
abbrev main_v278 : Ref sig .tc := ⟨.hbm, 471, rfl⟩
abbrev main_v279 : Ref sig .tc := ⟨.hbm, 472, rfl⟩
abbrev main_v280 : Ref sig .tc := ⟨.hbm, 473, rfl⟩
abbrev main_v281 : Ref sig .tc := ⟨.hbm, 474, rfl⟩
abbrev main_c_64 : Ref sig .tc := ⟨.hbm, 475, rfl⟩
abbrev main_v282 : Ref sig .tc := ⟨.hbm, 476, rfl⟩
abbrev main_v283 : Ref sig .tc := ⟨.hbm, 477, rfl⟩
abbrev main_c_65 : Ref sig .tc := ⟨.hbm, 478, rfl⟩
abbrev main_v284 : Ref sig .tc := ⟨.hbm, 479, rfl⟩
abbrev main_v285 : Ref sig .tc := ⟨.hbm, 480, rfl⟩
abbrev main_v286 : Ref sig .tc := ⟨.hbm, 481, rfl⟩
abbrev main_v287 : Ref sig .tc := ⟨.hbm, 482, rfl⟩
abbrev main_v288 : Ref sig .tc := ⟨.hbm, 483, rfl⟩
abbrev main_v289 : Ref sig .tc := ⟨.hbm, 484, rfl⟩
abbrev main_c_66 : Ref sig .tc := ⟨.hbm, 485, rfl⟩
abbrev main_v290 : Ref sig .tc := ⟨.hbm, 486, rfl⟩
abbrev main_v291 : Ref sig .tc := ⟨.hbm, 487, rfl⟩
abbrev main_c_67 : Ref sig .tc := ⟨.hbm, 488, rfl⟩
abbrev main_v292 : Ref sig .tc := ⟨.hbm, 489, rfl⟩
abbrev main_v293 : Ref sig .tc := ⟨.hbm, 490, rfl⟩
abbrev main_v294 : Ref sig .tc := ⟨.hbm, 491, rfl⟩
abbrev main_v295 : Ref sig .tc := ⟨.hbm, 492, rfl⟩
abbrev main_v296 : Ref sig .tc := ⟨.hbm, 493, rfl⟩
abbrev main_v297 : Ref sig .tc := ⟨.hbm, 494, rfl⟩
abbrev main_v298 : Ref sig .tc := ⟨.hbm, 495, rfl⟩
abbrev main_v299 : Ref sig .tc := ⟨.hbm, 496, rfl⟩
abbrev main_v300 : Ref sig .tc := ⟨.hbm, 497, rfl⟩
abbrev main_v301 : Ref sig .tc := ⟨.hbm, 498, rfl⟩

abbrev nD : Nat := 1
abbrev τ : Topo := Topo.v7x

variable {F : FTy → Type} [FloatOps F]
-- ==== Proof.Frame.Region0.lean ====
/-
The first call: its blocks, what its body leaves in each output, and its obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-- The block of an input window at a point. -/
noncomputable def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input block at a point is what was stored there. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
/-- An input block at a point is what was stored there. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)
/-- An input block at a point is what was stored there. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)
/-- An input block at a point is what was stored there. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)
/-- An input block at a point is what was stored there. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)
/-- An input block at a point is what was stored there. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)
/-- An input block at a point is what was stored there. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)
/-- An input block at a point is what was stored there. -/
theorem before0_7_of {c : Dev nD} (dat : Dat τ (Elt F) Unit ℕ (UR sig nD τ) ℕ cfg0 c) (hA : dat.A 7 = V c (Pipeline.arrRef spec0 7))
    (hafter : ∀ t, dat.after 7 t = iblk0 V c 7 t) (t : Fin cfg0.N) (d) : dat.before 7 t d = iblk0 V c 7 t :=
  (dat.before_in_eq_fetched 7 rfl (fun _ => rfl) (fun _ _ _ => rfl) (fun t => by rw [hafter]; unfold Dat.blockOf iblk0; rw [hA]; try rfl) t d).trans
    (by unfold Dat.fetched Dat.blockOf iblk0; rw [hA]; try rfl)
/-- An input block at a point is what was stored there. -/
theorem before0_8_of {c : Dev nD} (dat : Dat τ (Elt F) Unit ℕ (UR sig nD τ) ℕ cfg0 c) (hA : dat.A 8 = V c (Pipeline.arrRef spec0 8))
    (hafter : ∀ t, dat.after 8 t = iblk0 V c 8 t) (t : Fin cfg0.N) (d) : dat.before 8 t d = iblk0 V c 8 t :=
  (dat.before_in_eq_fetched 8 rfl (fun _ => rfl) (fun _ _ _ => rfl) (fun t => by rw [hafter]; unfold Dat.blockOf iblk0; rw [hA]; try rfl) t d).trans
    (by unfold Dat.fetched Dat.blockOf iblk0; rw [hA]; try rfl)
/-- An input block at a point is what was stored there. -/
theorem before0_9_of {c : Dev nD} (dat : Dat τ (Elt F) Unit ℕ (UR sig nD τ) ℕ cfg0 c) (hA : dat.A 9 = V c (Pipeline.arrRef spec0 9))
    (hafter : ∀ t, dat.after 9 t = iblk0 V c 9 t) (t : Fin cfg0.N) (d) : dat.before 9 t d = iblk0 V c 9 t :=
  (dat.before_in_eq_fetched 9 rfl (fun _ => rfl) (fun _ _ _ => rfl) (fun t => by rw [hafter]; unfold Dat.blockOf iblk0; rw [hA]; try rfl) t d).trans
    (by unfold Dat.fetched Dat.blockOf iblk0; rw [hA]; try rfl)
/-- An input block at a point is what was stored there. -/
theorem before0_10_of {c : Dev nD} (dat : Dat τ (Elt F) Unit ℕ (UR sig nD τ) ℕ cfg0 c) (hA : dat.A 10 = V c (Pipeline.arrRef spec0 10))
    (hafter : ∀ t, dat.after 10 t = iblk0 V c 10 t) (t : Fin cfg0.N) (d) : dat.before 10 t d = iblk0 V c 10 t :=
  (dat.before_in_eq_fetched 10 rfl (fun _ => rfl) (fun _ _ _ => rfl) (fun t => by rw [hafter]; unfold Dat.blockOf iblk0; rw [hA]; try rfl) t d).trans
    (by unfold Dat.fetched Dat.blockOf iblk0; rw [hA]; try rfl)
/-- An input block at a point is what was stored there. -/
theorem before0_11_of {c : Dev nD} (dat : Dat τ (Elt F) Unit ℕ (UR sig nD τ) ℕ cfg0 c) (hA : dat.A 11 = V c (Pipeline.arrRef spec0 11))
    (hafter : ∀ t, dat.after 11 t = iblk0 V c 11 t) (t : Fin cfg0.N) (d) : dat.before 11 t d = iblk0 V c 11 t :=
  (dat.before_in_eq_fetched 11 rfl (fun _ => rfl) (fun _ _ _ => rfl) (fun t => by rw [hafter]; unfold Dat.blockOf iblk0; rw [hA]; try rfl) t d).trans
    (by unfold Dat.fetched Dat.blockOf iblk0; rw [hA]; try rfl)

abbrev r0_0 : Rect S512x64 := Rect.unit (s := S512x64) ![0, 0] S512x64.size inb_S512x64_S512x64_0_0
abbrev r0_1 : Rect S64x225 := Rect.unit (s := S64x225) ![0, 0] S64x225.size inb_S64x225_S64x225_0_0
abbrev r0_2 : Rect S1x225 := Rect.unit (s := S1x225) ![0, 0] S1x225.size inb_S1x225_S1x225_0_0
abbrev r0_3 : Rect S512x225 := Rect.unit (s := S512x225) ![0, 0] S512x225.size inb_S512x225_S512x225_0_0
abbrev r0_4 : Rect S64x111 := Rect.unit (s := S64x111) ![0, 0] S64x111.size inb_S64x111_S64x111_0_0
abbrev r0_5 : Rect S1x111 := Rect.unit (s := S1x111) ![0, 0] S1x111.size inb_S1x111_S1x111_0_0
abbrev r0_6 : Rect S512x111 := Rect.unit (s := S512x111) ![0, 0] S512x111.size inb_S512x111_S512x111_0_0
abbrev r0_7 : Rect S64x90 := Rect.unit (s := S64x90) ![0, 0] S64x90.size inb_S64x90_S64x90_0_0
abbrev r0_8 : Rect S1x90 := Rect.unit (s := S1x90) ![0, 0] S1x90.size inb_S1x90_S1x90_0_0
abbrev r0_9 : Rect S512x90 := Rect.unit (s := S512x90) ![0, 0] S512x90.size inb_S512x90_S512x90_0_0
abbrev r0_10 : Rect S4x512 := Rect.unit (s := S4x512) ![0, 0] S1x512.size inb_S4x512_S1x512_0_0
abbrev r0_11 : Rect S4x512 := Rect.unit (s := S4x512) ![1, 0] S1x512.size inb_S4x512_S1x512_1_0
abbrev r0_12 : Rect S4x512 := Rect.unit (s := S4x512) ![2, 0] S1x512.size inb_S4x512_S1x512_2_0
abbrev r0_13 : Rect S4x512 := Rect.unit (s := S4x512) ![3, 0] S1x512.size inb_S4x512_S1x512_3_0

/-- What the body leaves in an output block. -/
def out0_12 (x0 : Vec F S512x64 .f32) (x1 : Vec F S512x64 .f32) (x2 : Vec F S512x64 .f32) (x3 : Vec F S512x64 .f32) (x4 : Vec F S64x225 .f32) (x5 : Vec F S64x111 .f32) (x6 : Vec F S64x90 .f32) (x7 : Vec F S64x90 .f32) (x8 : Vec F S1x225 .f32) (x9 : Vec F S1x111 .f32) (x10 : Vec F S1x90 .f32) (x11 : Vec F S1x90 .f32) : Vec F S512x225 .f32 :=
  View.canon [⟨r0_3, k0_pay4 (View.ld x0 r0_0) (View.ld x4 r0_1) (View.ld x8 r0_2)⟩]

/-- The stored pieces cover the block. -/
theorem cover0_12 (p0 : Vec F S512x225 .f32) (y : S512x225.Idx) :
    ∃ pc ∈ ([⟨r0_3, p0⟩] : List (View.Piece (Elt F) S512x225 .f32)), y ∈ pc.1.set :=
  View.cover_of_tiled [⟨r0_3, p0⟩] S512x225.size (by rfl) y

/-- What the body leaves in an output block. -/
def out0_13 (x0 : Vec F S512x64 .f32) (x1 : Vec F S512x64 .f32) (x2 : Vec F S512x64 .f32) (x3 : Vec F S512x64 .f32) (x4 : Vec F S64x225 .f32) (x5 : Vec F S64x111 .f32) (x6 : Vec F S64x90 .f32) (x7 : Vec F S64x90 .f32) (x8 : Vec F S1x225 .f32) (x9 : Vec F S1x111 .f32) (x10 : Vec F S1x90 .f32) (x11 : Vec F S1x90 .f32) : Vec F S512x111 .f32 :=
  View.canon [⟨r0_6, k0_pay5 (View.ld x1 r0_0) (View.ld x5 r0_4) (View.ld x9 r0_5)⟩]

/-- The stored pieces cover the block. -/
theorem cover0_13 (p0 : Vec F S512x111 .f32) (y : S512x111.Idx) :
    ∃ pc ∈ ([⟨r0_6, p0⟩] : List (View.Piece (Elt F) S512x111 .f32)), y ∈ pc.1.set :=
  View.cover_of_tiled [⟨r0_6, p0⟩] S512x111.size (by rfl) y

/-- What the body leaves in an output block. -/
def out0_14 (x0 : Vec F S512x64 .f32) (x1 : Vec F S512x64 .f32) (x2 : Vec F S512x64 .f32) (x3 : Vec F S512x64 .f32) (x4 : Vec F S64x225 .f32) (x5 : Vec F S64x111 .f32) (x6 : Vec F S64x90 .f32) (x7 : Vec F S64x90 .f32) (x8 : Vec F S1x225 .f32) (x9 : Vec F S1x111 .f32) (x10 : Vec F S1x90 .f32) (x11 : Vec F S1x90 .f32) : Vec F S512x90 .f32 :=
  View.canon [⟨r0_9, k0_pay6 (View.ld x2 r0_0) (View.ld x6 r0_7) (View.ld x10 r0_8)⟩]

/-- The stored pieces cover the block. -/
theorem cover0_14 (p0 : Vec F S512x90 .f32) (y : S512x90.Idx) :
    ∃ pc ∈ ([⟨r0_9, p0⟩] : List (View.Piece (Elt F) S512x90 .f32)), y ∈ pc.1.set :=
  View.cover_of_tiled [⟨r0_9, p0⟩] S512x90.size (by rfl) y

/-- What the body leaves in an output block. -/
def out0_15 (x0 : Vec F S512x64 .f32) (x1 : Vec F S512x64 .f32) (x2 : Vec F S512x64 .f32) (x3 : Vec F S512x64 .f32) (x4 : Vec F S64x225 .f32) (x5 : Vec F S64x111 .f32) (x6 : Vec F S64x90 .f32) (x7 : Vec F S64x90 .f32) (x8 : Vec F S1x225 .f32) (x9 : Vec F S1x111 .f32) (x10 : Vec F S1x90 .f32) (x11 : Vec F S1x90 .f32) : Vec F S512x90 .f32 :=
  View.canon [⟨r0_9, k0_pay7 (View.ld x3 r0_0) (View.ld x7 r0_7) (View.ld x11 r0_8)⟩]

/-- The stored pieces cover the block. -/
theorem cover0_15 (p0 : Vec F S512x90 .f32) (y : S512x90.Idx) :
    ∃ pc ∈ ([⟨r0_9, p0⟩] : List (View.Piece (Elt F) S512x90 .f32)), y ∈ pc.1.set :=
  View.cover_of_tiled [⟨r0_9, p0⟩] S512x90.size (by rfl) y

/-- What the body leaves in an output block. -/
def out0_16 (x0 : Vec F S512x64 .f32) (x1 : Vec F S512x64 .f32) (x2 : Vec F S512x64 .f32) (x3 : Vec F S512x64 .f32) (x4 : Vec F S64x225 .f32) (x5 : Vec F S64x111 .f32) (x6 : Vec F S64x90 .f32) (x7 : Vec F S64x90 .f32) (x8 : Vec F S1x225 .f32) (x9 : Vec F S1x111 .f32) (x10 : Vec F S1x90 .f32) (x11 : Vec F S1x90 .f32) : Vec F S512x64 .f32 :=
  View.canon [⟨r0_0, k0_pay8 (View.ld x0 r0_0)⟩]

/-- The stored pieces cover the block. -/
theorem cover0_16 (p0 : Vec F S512x64 .f32) (y : S512x64.Idx) :
    ∃ pc ∈ ([⟨r0_0, p0⟩] : List (View.Piece (Elt F) S512x64 .f32)), y ∈ pc.1.set :=
  View.cover_of_tiled [⟨r0_0, p0⟩] S512x64.size (by rfl) y

/-- What the body leaves in an output block. -/
def out0_17 (x0 : Vec F S512x64 .f32) (x1 : Vec F S512x64 .f32) (x2 : Vec F S512x64 .f32) (x3 : Vec F S512x64 .f32) (x4 : Vec F S64x225 .f32) (x5 : Vec F S64x111 .f32) (x6 : Vec F S64x90 .f32) (x7 : Vec F S64x90 .f32) (x8 : Vec F S1x225 .f32) (x9 : Vec F S1x111 .f32) (x10 : Vec F S1x90 .f32) (x11 : Vec F S1x90 .f32) : Vec F S512x64 .f32 :=
  View.canon [⟨r0_0, k0_pay10 (View.ld x1 r0_0)⟩]

/-- The stored pieces cover the block. -/
theorem cover0_17 (p0 : Vec F S512x64 .f32) (y : S512x64.Idx) :
    ∃ pc ∈ ([⟨r0_0, p0⟩] : List (View.Piece (Elt F) S512x64 .f32)), y ∈ pc.1.set :=
  View.cover_of_tiled [⟨r0_0, p0⟩] S512x64.size (by rfl) y

/-- What the body leaves in an output block. -/
def out0_18 (x0 : Vec F S512x64 .f32) (x1 : Vec F S512x64 .f32) (x2 : Vec F S512x64 .f32) (x3 : Vec F S512x64 .f32) (x4 : Vec F S64x225 .f32) (x5 : Vec F S64x111 .f32) (x6 : Vec F S64x90 .f32) (x7 : Vec F S64x90 .f32) (x8 : Vec F S1x225 .f32) (x9 : Vec F S1x111 .f32) (x10 : Vec F S1x90 .f32) (x11 : Vec F S1x90 .f32) : Vec F S512x64 .f32 :=
  View.canon [⟨r0_0, k0_pay12 (View.ld x2 r0_0)⟩]

/-- The stored pieces cover the block. -/
theorem cover0_18 (p0 : Vec F S512x64 .f32) (y : S512x64.Idx) :
    ∃ pc ∈ ([⟨r0_0, p0⟩] : List (View.Piece (Elt F) S512x64 .f32)), y ∈ pc.1.set :=
  View.cover_of_tiled [⟨r0_0, p0⟩] S512x64.size (by rfl) y

/-- What the body leaves in an output block. -/
def out0_19 (x0 : Vec F S512x64 .f32) (x1 : Vec F S512x64 .f32) (x2 : Vec F S512x64 .f32) (x3 : Vec F S512x64 .f32) (x4 : Vec F S64x225 .f32) (x5 : Vec F S64x111 .f32) (x6 : Vec F S64x90 .f32) (x7 : Vec F S64x90 .f32) (x8 : Vec F S1x225 .f32) (x9 : Vec F S1x111 .f32) (x10 : Vec F S1x90 .f32) (x11 : Vec F S1x90 .f32) : Vec F S512x64 .f32 :=
  View.canon [⟨r0_0, k0_pay2 (View.ld x3 r0_0)⟩]

/-- The stored pieces cover the block. -/
theorem cover0_19 (p0 : Vec F S512x64 .f32) (y : S512x64.Idx) :
    ∃ pc ∈ ([⟨r0_0, p0⟩] : List (View.Piece (Elt F) S512x64 .f32)), y ∈ pc.1.set :=
  View.cover_of_tiled [⟨r0_0, p0⟩] S512x64.size (by rfl) y

/-- What the body leaves in an output block. -/
def out0_20 (x0 : Vec F S512x64 .f32) (x1 : Vec F S512x64 .f32) (x2 : Vec F S512x64 .f32) (x3 : Vec F S512x64 .f32) (x4 : Vec F S64x225 .f32) (x5 : Vec F S64x111 .f32) (x6 : Vec F S64x90 .f32) (x7 : Vec F S64x90 .f32) (x8 : Vec F S1x225 .f32) (x9 : Vec F S1x111 .f32) (x10 : Vec F S1x90 .f32) (x11 : Vec F S1x90 .f32) : Vec F S4x512 .f32 :=
  View.canon [⟨r0_13, k0_pay3 (View.ld x3 r0_0)⟩,
    ⟨r0_12, k0_pay1 (k0_pay13 (View.ld x2 r0_0))⟩,
    ⟨r0_11, k0_pay11 (View.ld x1 r0_0)⟩,
    ⟨r0_10, k0_pay9 (View.ld x0 r0_0)⟩]

/-- The stored pieces cover the block. -/
theorem cover0_20 (p0 : Vec F S1x512 .f32) (p1 : Vec F S1x512 .f32) (p2 : Vec F S1x512 .f32) (p3 : Vec F S1x512 .f32) (y : S4x512.Idx) :
    ∃ pc ∈ ([⟨r0_13, p0⟩, ⟨r0_12, p1⟩, ⟨r0_11, p2⟩, ⟨r0_10, p3⟩] : List (View.Piece (Elt F) S4x512 .f32)), y ∈ pc.1.set :=
  View.cover_of_tiled [⟨r0_13, p0⟩, ⟨r0_12, p1⟩, ⟨r0_11, p2⟩, ⟨r0_10, p3⟩] S1x512.size (by rfl) y

set_option maxHeartbeats 1000000 in
/-- The body meets its contract. -/
theorem sound_kernel0 (c : Dev nD) (E : Set ℕ) (arg0 : Memref sig .tc .vmem S512x64 .f32) (harg0 : arg0.IsWhole) (arg1 : Memref sig .tc .vmem S512x64 .f32) (harg1 : arg1.IsWhole) (arg2 : Memref sig .tc .vmem S512x64 .f32) (harg2 : arg2.IsWhole) (arg3 : Memref sig .tc .vmem S512x64 .f32) (harg3 : arg3.IsWhole) (arg4 : Memref sig .tc .vmem S64x225 .f32) (harg4 : arg4.IsWhole) (arg5 : Memref sig .tc .vmem S64x111 .f32) (harg5 : arg5.IsWhole) (arg6 : Memref sig .tc .vmem S64x90 .f32) (harg6 : arg6.IsWhole) (arg7 : Memref sig .tc .vmem S64x90 .f32) (harg7 : arg7.IsWhole) (arg8 : Memref sig .tc .vmem S1x225 .f32) (harg8 : arg8.IsWhole) (arg9 : Memref sig .tc .vmem S1x111 .f32) (harg9 : arg9.IsWhole) (arg10 : Memref sig .tc .vmem S1x90 .f32) (harg10 : arg10.IsWhole) (arg11 : Memref sig .tc .vmem S1x90 .f32) (harg11 : arg11.IsWhole) (arg12 : Memref sig .tc .vmem S512x225 .f32) (harg12 : arg12.IsWhole) (arg13 : Memref sig .tc .vmem S512x111 .f32) (harg13 : arg13.IsWhole) (arg14 : Memref sig .tc .vmem S512x90 .f32) (harg14 : arg14.IsWhole) (arg15 : Memref sig .tc .vmem S512x90 .f32) (harg15 : arg15.IsWhole) (arg16 : Memref sig .tc .vmem S512x64 .f32) (harg16 : arg16.IsWhole) (arg17 : Memref sig .tc .vmem S512x64 .f32) (harg17 : arg17.IsWhole) (arg18 : Memref sig .tc .vmem S512x64 .f32) (harg18 : arg18.IsWhole) (arg19 : Memref sig .tc .vmem S512x64 .f32) (harg19 : arg19.IsWhole) (arg20 : Memref sig .tc .vmem S4x512 .f32) (harg20 : arg20.IsWhole)
    (x0 : Vec F S512x64 .f32) (x1 : Vec F S512x64 .f32) (x2 : Vec F S512x64 .f32) (x3 : Vec F S512x64 .f32) (x4 : Vec F S64x225 .f32) (x5 : Vec F S64x111 .f32) (x6 : Vec F S64x90 .f32) (x7 : Vec F S64x90 .f32) (x8 : Vec F S1x225 .f32) (x9 : Vec F S1x111 .f32) (x10 : Vec F S1x90 .f32) (x11 : Vec F S1x90 .f32) (K : PUnit → sProp 𝕄) :
    iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ (∃ d, owns (c : Thread nD τ) arg12 fullShare d) ∗ (∃ d, owns (c : Thread nD τ) arg13 fullShare d) ∗ (∃ d, owns (c : Thread nD τ) arg14 fullShare d) ∗ (∃ d, owns (c : Thread nD τ) arg15 fullShare d) ∗ (∃ d, owns (c : Thread nD τ) arg16 fullShare d) ∗ (∃ d, owns (c : Thread nD τ) arg17 fullShare d) ∗ (∃ d, owns (c : Thread nD τ) arg18 fullShare d) ∗ (∃ d, owns (c : Thread nD τ) arg19 fullShare d) ∗ (∃ d, owns (c : Thread nD τ) arg20 fullShare d)
        ∗ (iprop(owns (c : Thread nD τ) arg0 fullShare x0 ∗ owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare x9 ∗ owns (c : Thread nD τ) arg10 fullShare x10 ∗ owns (c : Thread nD τ) arg11 fullShare x11 ∗ owns (c : Thread nD τ) arg12 fullShare (out0_12 x0 x1 x2 x3 x4 x5 x6 x7 x8 x9 x10 x11) ∗ owns (c : Thread nD τ) arg13 fullShare (out0_13 x0 x1 x2 x3 x4 x5 x6 x7 x8 x9 x10 x11) ∗ owns (c : Thread nD τ) arg14 fullShare (out0_14 x0 x1 x2 x3 x4 x5 x6 x7 x8 x9 x10 x11) ∗ owns (c : Thread nD τ) arg15 fullShare (out0_15 x0 x1 x2 x3 x4 x5 x6 x7 x8 x9 x10 x11) ∗ owns (c : Thread nD τ) arg16 fullShare (out0_16 x0 x1 x2 x3 x4 x5 x6 x7 x8 x9 x10 x11) ∗ owns (c : Thread nD τ) arg17 fullShare (out0_17 x0 x1 x2 x3 x4 x5 x6 x7 x8 x9 x10 x11) ∗ owns (c : Thread nD τ) arg18 fullShare (out0_18 x0 x1 x2 x3 x4 x5 x6 x7 x8 x9 x10 x11) ∗ owns (c : Thread nD τ) arg19 fullShare (out0_19 x0 x1 x2 x3 x4 x5 x6 x7 x8 x9 x10 x11) ∗ owns (c : Thread nD τ) arg20 fullShare (out0_20 x0 x1 x2 x3 x4 x5 x6 x7 x8 x9 x10 x11)) -∗ K ⟨⟩))
      ⊢ wp frame (wpE (defs₀ (F := F)) Variants.none c none) E (cc0__prep_body arg0 harg0 arg1 harg1 arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20) K := by
  simp only [cc0__prep_body_eq_skeleton]; unfold cc0__prep_body_skel
  simp only [k0_part1_eq_skeleton, k0_part2_eq_skeleton]
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%d12, %f12, -, H12⟩, ⟨%d13, %f13, -, H13⟩, ⟨%d14, %f14, -, H14⟩, ⟨%d15, %f15, -, H15⟩, ⟨%d16, %f16, -, H16⟩, ⟨%d17, %f17, -, H17⟩, ⟨%d18, %f18, -, H18⟩, ⟨%d19, %f19, -, H19⟩, ⟨%d20, %f20, -, H20⟩, Hk⟩
  subst hf0 hf1 hf2 hf3 hf4 hf5 hf6 hf7 hf8 hf9 hf10 hf11
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists f7; isplitr; · ipureintro; rfl
    iexact H7
  isplitl [H8]
  · iexists f8; isplitr; · ipureintro; rfl
    iexact H8
  isplitl [H9]
  · iexists f9; isplitr; · ipureintro; rfl
    iexact H9
  isplitl [H10]
  · iexists f10; isplitr; · ipureintro; rfl
    iexact H10
  isplitl [H11]
  · iexists f11; isplitr; · ipureintro; rfl
    iexact H11
  isplitl [H12]
  · iexists _; isplitr
    swap; · iexact H12
    ipureintro
    exact View.read_writes_eq_canon _ _ _ (cover0_12 _)
  isplitl [H13]
  · iexists _; isplitr
    swap; · iexact H13
    ipureintro
    exact View.read_writes_eq_canon _ _ _ (cover0_13 _)
  isplitl [H14]
  · iexists _; isplitr
    swap; · iexact H14
    ipureintro
    exact View.read_writes_eq_canon _ _ _ (cover0_14 _)
  isplitl [H15]
  · iexists _; isplitr
    swap; · iexact H15
    ipureintro
    exact View.read_writes_eq_canon _ _ _ (cover0_15 _)
  isplitl [H16]
  · iexists _; isplitr
    swap; · iexact H16
    ipureintro
    exact View.read_writes_eq_canon _ _ _ (cover0_16 _)
  isplitl [H17]
  · iexists _; isplitr
    swap; · iexact H17
    ipureintro
    exact View.read_writes_eq_canon _ _ _ (cover0_17 _)
  isplitl [H18]
  · iexists _; isplitr
    swap; · iexact H18
    ipureintro
    exact View.read_writes_eq_canon _ _ _ (cover0_18 _)
  isplitl [H19]
  · iexists _; isplitr
    swap; · iexact H19
    ipureintro
    exact View.read_writes_eq_canon _ _ _ (cover0_19 _)
  iexists _; isplitr
  swap; · iexact H20
  ipureintro
  exact View.read_writes_eq_canon _ _ _ (cover0_20 _ _ _ _)

/-- The call's proof data. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => iblk0 V c 7 t
    | ⟨8, _⟩ => iblk0 V c 8 t
    | ⟨9, _⟩ => iblk0 V c 9 t
    | ⟨10, _⟩ => iblk0 V c 10 t
    | ⟨11, _⟩ => iblk0 V c 11 t
    | ⟨12, _⟩ => out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨13, _⟩ => out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨14, _⟩ => out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨15, _⟩ => out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨16, _⟩ => out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨17, _⟩ => out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨18, _⟩ => out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨19, _⟩ => out0_19 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨20, _⟩ => out0_20 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t)
    | ⟨_ + 21, h⟩ => absurd h (Nat.not_lt.2 (Nat.le_add_left _ _))
  Φ _ := Pipeline.ΦA spec0 c
  q _ := fullShare
  owed _ := 0

/-- A window's array at the start. -/
theorem A_eq0 (c : Dev nD) (w : Fin cfg0.W) : (dat0 V c).A w = V c (Pipeline.arrRef spec0 w) := by
  dsimp only [dat0]

/-- What a window holds after a point. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = iblk0 V c 7 t := by dsimp only [dat0]
theorem after0_8 (c : Dev nD) (t : Fin cfg0.N) : (dat0 V c).after 8 t = iblk0 V c 8 t := by dsimp only [dat0]
theorem after0_9 (c : Dev nD) (t : Fin cfg0.N) : (dat0 V c).after 9 t = iblk0 V c 9 t := by dsimp only [dat0]
theorem after0_10 (c : Dev nD) (t : Fin cfg0.N) : (dat0 V c).after 10 t = iblk0 V c 10 t := by dsimp only [dat0]
theorem after0_11 (c : Dev nD) (t : Fin cfg0.N) : (dat0 V c).after 11 t = iblk0 V c 11 t := by dsimp only [dat0]
theorem after0_12 (c : Dev nD) (t : Fin cfg0.N) : (dat0 V c).after 12 t = out0_12 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_13 (c : Dev nD) (t : Fin cfg0.N) : (dat0 V c).after 13 t = out0_13 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_14 (c : Dev nD) (t : Fin cfg0.N) : (dat0 V c).after 14 t = out0_14 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_15 (c : Dev nD) (t : Fin cfg0.N) : (dat0 V c).after 15 t = out0_15 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_16 (c : Dev nD) (t : Fin cfg0.N) : (dat0 V c).after 16 t = out0_16 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_17 (c : Dev nD) (t : Fin cfg0.N) : (dat0 V c).after 17 t = out0_17 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_18 (c : Dev nD) (t : Fin cfg0.N) : (dat0 V c).after 18 t = out0_18 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_19 (c : Dev nD) (t : Fin cfg0.N) : (dat0 V c).after 19 t = out0_19 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]
theorem after0_20 (c : Dev nD) (t : Fin cfg0.N) : (dat0 V c).after 20 t = out0_20 (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) := by dsimp only [dat0]

/-- Each input's current staging buffer holds its block at every point, fetched there or not (`beforeK_W_of`). -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d
theorem before0_7 (c : Dev nD) (t : Fin cfg0.N) (d) : (dat0 V c).before 7 t d = iblk0 V c 7 t :=
  before0_7_of V (dat0 V c) (A_eq0 V c 7) (after0_7 V c) t d
theorem before0_8 (c : Dev nD) (t : Fin cfg0.N) (d) : (dat0 V c).before 8 t d = iblk0 V c 8 t :=
  before0_8_of V (dat0 V c) (A_eq0 V c 8) (after0_8 V c) t d
theorem before0_9 (c : Dev nD) (t : Fin cfg0.N) (d) : (dat0 V c).before 9 t d = iblk0 V c 9 t :=
  before0_9_of V (dat0 V c) (A_eq0 V c 9) (after0_9 V c) t d
theorem before0_10 (c : Dev nD) (t : Fin cfg0.N) (d) : (dat0 V c).before 10 t d = iblk0 V c 10 t :=
  before0_10_of V (dat0 V c) (A_eq0 V c 10) (after0_10 V c) t d
theorem before0_11 (c : Dev nD) (t : Fin cfg0.N) (d) : (dat0 V c).before 11 t d = iblk0 V c 11 t :=
  before0_11_of V (dat0 V c) (A_eq0 V c 11) (after0_11 V c) t d

/-- What the body is called with at point `t` (Lib/Pipeline.lean `BodyObligation`'s precondition, the windows one by one), -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d))
    ∗ (∃ d, owns (c : Thread nD τ) (st0_10 t) fullShare ((dat0 V c).before 10 t d))
    ∗ (∃ d, owns (c : Thread nD τ) (st0_11 t) fullShare ((dat0 V c).before 11 t d))
    ∗ (∃ d, owns (c : Thread nD τ) (st0_12 t) fullShare ((dat0 V c).before 12 t d))
    ∗ (∃ d, owns (c : Thread nD τ) (st0_13 t) fullShare ((dat0 V c).before 13 t d))
    ∗ (∃ d, owns (c : Thread nD τ) (st0_14 t) fullShare ((dat0 V c).before 14 t d))
    ∗ (∃ d, owns (c : Thread nD τ) (st0_15 t) fullShare ((dat0 V c).before 15 t d))
    ∗ (∃ d, owns (c : Thread nD τ) (st0_16 t) fullShare ((dat0 V c).before 16 t d))
    ∗ (∃ d, owns (c : Thread nD τ) (st0_17 t) fullShare ((dat0 V c).before 17 t d))
    ∗ (∃ d, owns (c : Thread nD τ) (st0_18 t) fullShare ((dat0 V c).before 18 t d))
    ∗ (∃ d, owns (c : Thread nD τ) (st0_19 t) fullShare ((dat0 V c).before 19 t d))
    ∗ (∃ d, owns (c : Thread nD τ) (st0_20 t) fullShare ((dat0 V c).before 20 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t)
    ∗ owns (c : Thread nD τ) (st0_10 t) fullShare ((dat0 V c).after 10 t)
    ∗ owns (c : Thread nD τ) (st0_11 t) fullShare ((dat0 V c).after 11 t)
    ∗ owns (c : Thread nD τ) (st0_12 t) fullShare ((dat0 V c).after 12 t)
    ∗ owns (c : Thread nD τ) (st0_13 t) fullShare ((dat0 V c).after 13 t)
    ∗ owns (c : Thread nD τ) (st0_14 t) fullShare ((dat0 V c).after 14 t)
    ∗ owns (c : Thread nD τ) (st0_15 t) fullShare ((dat0 V c).after 15 t)
    ∗ owns (c : Thread nD τ) (st0_16 t) fullShare ((dat0 V c).after 16 t)
    ∗ owns (c : Thread nD τ) (st0_17 t) fullShare ((dat0 V c).after 17 t)
    ∗ owns (c : Thread nD τ) (st0_18 t) fullShare ((dat0 V c).after 18 t)
    ∗ owns (c : Thread nD τ) (st0_19 t) fullShare ((dat0 V c).after 19 t)
    ∗ owns (c : Thread nD τ) (st0_20 t) fullShare ((dat0 V c).after 20 t))

/-- The body at any point. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6, before0_7, before0_8, before0_9, before0_10, before0_11]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9, after0_10, after0_11, after0_12, after0_13, after0_14, after0_15, after0_16, after0_17, after0_18, after0_19, after0_20]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩, ⟨%d20, H20⟩⟩
  iapply (sound_kernel0 c Set.univ _ _ _ _ _ _ _ _ _ _ _ _ _ _ _ _ _ _ _ _ _ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) (iblk0 V c 7 t) (iblk0 V c 8 t) (iblk0 V c 9 t) (iblk0 V c 10 t) (iblk0 V c 11 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexists _; iexact H12
  isplitl [H13]; · iexists _; iexact H13
  isplitl [H14]; · iexists _; iexact H14
  isplitl [H15]; · iexists _; iexact H15
  isplitl [H16]; · iexists _; iexact H16
  isplitl [H17]; · iexists _; iexact H17
  isplitl [H18]; · iexists _; iexact H18
  isplitl [H19]; · iexists _; iexact H19
  isplitl [H20]; · iexists _; iexact H20
  iintro ⟨H0, H1, H2, H3, H4, H5, H6, H7, H8, H9, H10, H11, H12, H13, H14, H15, H16, H17, H18, H19, H20⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  isplitl [H12]; · iexact H12
  isplitl [H13]; · iexact H13
  isplitl [H14]; · iexact H14
  isplitl [H15]; · iexact H15
  isplitl [H16]; · iexact H16
  isplitl [H17]; · iexact H17
  isplitl [H18]; · iexact H18
  isplitl [H19]; · iexact H19
  iexact H20

/-- The body table's row at point `t`'s slots is the body as `bodyAt0` spells it. -/
theorem defs₀_row0 (t : Fin cfg0.N) :
    defs₀ (F := F) .tc cfg0.body (cfg0.bodyArgs t (cfg0.slots t)) = bodyAt0 t := by
  unfold defs₀; rw [Defs.onTc_tc]

set_option maxHeartbeats 2000000 in
/-- The body's obligation. -/
theorem body_obligation0 (c : Dev nD) : BodyObligation (dat0 (F := F) V c) (defs₀ (F := F)) Variants.none () Set.univ := fun t => by
  rw [bigSep_W0, bigSep_W0, defs₀_row0]
  exact triple_restated (sound_body0 V c t) rfl .rfl fun _ => .rfl

end Regions

end Cert.KernelIdeal.Gen

end
-- ==== Proof.Frame.Region1.lean ====
/-
The second call: its blocks, what its body leaves in each output at the first point and at the later ones, and its obligation.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

section Regions
variable (V : (c : Dev nD) → (b : Ref sig .tc) → Buf (Elt F) ((c : Thread nD τ).loc b))

/-- The block of an input window at a point. -/
noncomputable def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input block at a point is what was stored there. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
/-- An input block at a point is what was stored there. -/
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
/-- An input block at a point is what was stored there. -/
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
/-- An input block at a point is what was stored there. -/
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
/-- An input block at a point is what was stored there. -/
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)
/-- An input block at a point is what was stored there. -/
theorem before1_5_of {c : Dev nD} (dat : Dat τ (Elt F) Unit ℕ (UR sig nD τ) ℕ cfg1 c) (hA : dat.A 5 = V c (Pipeline.arrRef spec1 5))
    (hafter : ∀ t, dat.after 5 t = iblk1 V c 5 t) (t : Fin cfg1.N) (d) : dat.before 5 t d = iblk1 V c 5 t :=
  (dat.before_in_eq_fetched 5 rfl (fun _ => rfl) (fun _ _ _ => rfl) (fun t => by rw [hafter]; unfold Dat.blockOf iblk1; rw [hA]; try rfl) t d).trans
    (by unfold Dat.fetched Dat.blockOf iblk1; rw [hA]; try rfl)
/-- An input block at a point is what was stored there. -/
theorem before1_6_of {c : Dev nD} (dat : Dat τ (Elt F) Unit ℕ (UR sig nD τ) ℕ cfg1 c) (hA : dat.A 6 = V c (Pipeline.arrRef spec1 6))
    (hafter : ∀ t, dat.after 6 t = iblk1 V c 6 t) (t : Fin cfg1.N) (d) : dat.before 6 t d = iblk1 V c 6 t :=
  (dat.before_in_eq_fetched 6 rfl (fun _ => rfl) (fun _ _ _ => rfl) (fun t => by rw [hafter]; unfold Dat.blockOf iblk1; rw [hA]; try rfl) t d).trans
    (by unfold Dat.fetched Dat.blockOf iblk1; rw [hA]; try rfl)
/-- An input block at a point is what was stored there. -/
theorem before1_7_of {c : Dev nD} (dat : Dat τ (Elt F) Unit ℕ (UR sig nD τ) ℕ cfg1 c) (hA : dat.A 7 = V c (Pipeline.arrRef spec1 7))
    (hafter : ∀ t, dat.after 7 t = iblk1 V c 7 t) (t : Fin cfg1.N) (d) : dat.before 7 t d = iblk1 V c 7 t :=
  (dat.before_in_eq_fetched 7 rfl (fun _ => rfl) (fun _ _ _ => rfl) (fun t => by rw [hafter]; unfold Dat.blockOf iblk1; rw [hA]; try rfl) t d).trans
    (by unfold Dat.fetched Dat.blockOf iblk1; rw [hA]; try rfl)
/-- An input block at a point is what was stored there. -/
theorem before1_8_of {c : Dev nD} (dat : Dat τ (Elt F) Unit ℕ (UR sig nD τ) ℕ cfg1 c) (hA : dat.A 8 = V c (Pipeline.arrRef spec1 8))
    (hafter : ∀ t, dat.after 8 t = iblk1 V c 8 t) (t : Fin cfg1.N) (d) : dat.before 8 t d = iblk1 V c 8 t :=
  (dat.before_in_eq_fetched 8 rfl (fun _ => rfl) (fun _ _ _ => rfl) (fun t => by rw [hafter]; unfold Dat.blockOf iblk1; rw [hA]; try rfl) t d).trans
    (by unfold Dat.fetched Dat.blockOf iblk1; rw [hA]; try rfl)
/-- An input block at a point is what was stored there. -/
theorem before1_9_of {c : Dev nD} (dat : Dat τ (Elt F) Unit ℕ (UR sig nD τ) ℕ cfg1 c) (hA : dat.A 9 = V c (Pipeline.arrRef spec1 9))
    (hafter : ∀ t, dat.after 9 t = iblk1 V c 9 t) (t : Fin cfg1.N) (d) : dat.before 9 t d = iblk1 V c 9 t :=
  (dat.before_in_eq_fetched 9 rfl (fun _ => rfl) (fun _ _ _ => rfl) (fun t => by rw [hafter]; unfold Dat.blockOf iblk1; rw [hA]; try rfl) t d).trans
    (by unfold Dat.fetched Dat.blockOf iblk1; rw [hA]; try rfl)
/-- An input block at a point is what was stored there. -/
theorem before1_10_of {c : Dev nD} (dat : Dat τ (Elt F) Unit ℕ (UR sig nD τ) ℕ cfg1 c) (hA : dat.A 10 = V c (Pipeline.arrRef spec1 10))
    (hafter : ∀ t, dat.after 10 t = iblk1 V c 10 t) (t : Fin cfg1.N) (d) : dat.before 10 t d = iblk1 V c 10 t :=
  (dat.before_in_eq_fetched 10 rfl (fun _ => rfl) (fun _ _ _ => rfl) (fun t => by rw [hafter]; unfold Dat.blockOf iblk1; rw [hA]; try rfl) t d).trans
    (by unfold Dat.fetched Dat.blockOf iblk1; rw [hA]; try rfl)
/-- An input block at a point is what was stored there. -/
theorem before1_11_of {c : Dev nD} (dat : Dat τ (Elt F) Unit ℕ (UR sig nD τ) ℕ cfg1 c) (hA : dat.A 11 = V c (Pipeline.arrRef spec1 11))
    (hafter : ∀ t, dat.after 11 t = iblk1 V c 11 t) (t : Fin cfg1.N) (d) : dat.before 11 t d = iblk1 V c 11 t :=
  (dat.before_in_eq_fetched 11 rfl (fun _ => rfl) (fun _ _ _ => rfl) (fun t => by rw [hafter]; unfold Dat.blockOf iblk1; rw [hA]; try rfl) t d).trans
    (by unfold Dat.fetched Dat.blockOf iblk1; rw [hA]; try rfl)
/-- An input block at a point is what was stored there. -/
theorem before1_12_of {c : Dev nD} (dat : Dat τ (Elt F) Unit ℕ (UR sig nD τ) ℕ cfg1 c) (hA : dat.A 12 = V c (Pipeline.arrRef spec1 12))
    (hafter : ∀ t, dat.after 12 t = iblk1 V c 12 t) (t : Fin cfg1.N) (d) : dat.before 12 t d = iblk1 V c 12 t :=
  (dat.before_in_eq_fetched 12 rfl (fun _ => rfl) (fun _ _ _ => rfl) (fun t => by rw [hafter]; unfold Dat.blockOf iblk1; rw [hA]; try rfl) t d).trans
    (by unfold Dat.fetched Dat.blockOf iblk1; rw [hA]; try rfl)
/-- An input block at a point is what was stored there. -/
theorem before1_13_of {c : Dev nD} (dat : Dat τ (Elt F) Unit ℕ (UR sig nD τ) ℕ cfg1 c) (hA : dat.A 13 = V c (Pipeline.arrRef spec1 13))
    (hafter : ∀ t, dat.after 13 t = iblk1 V c 13 t) (t : Fin cfg1.N) (d) : dat.before 13 t d = iblk1 V c 13 t :=
  (dat.before_in_eq_fetched 13 rfl (fun _ => rfl) (fun _ _ _ => rfl) (fun t => by rw [hafter]; unfold Dat.blockOf iblk1; rw [hA]; try rfl) t d).trans
    (by unfold Dat.fetched Dat.blockOf iblk1; rw [hA]; try rfl)
/-- An input block at a point is what was stored there. -/
theorem before1_14_of {c : Dev nD} (dat : Dat τ (Elt F) Unit ℕ (UR sig nD τ) ℕ cfg1 c) (hA : dat.A 14 = V c (Pipeline.arrRef spec1 14))
    (hafter : ∀ t, dat.after 14 t = iblk1 V c 14 t) (t : Fin cfg1.N) (d) : dat.before 14 t d = iblk1 V c 14 t :=
  (dat.before_in_eq_fetched 14 rfl (fun _ => rfl) (fun _ _ _ => rfl) (fun t => by rw [hafter]; unfold Dat.blockOf iblk1; rw [hA]; try rfl) t d).trans
    (by unfold Dat.fetched Dat.blockOf iblk1; rw [hA]; try rfl)
/-- An input block at a point is what was stored there. -/
theorem before1_15_of {c : Dev nD} (dat : Dat τ (Elt F) Unit ℕ (UR sig nD τ) ℕ cfg1 c) (hA : dat.A 15 = V c (Pipeline.arrRef spec1 15))
    (hafter : ∀ t, dat.after 15 t = iblk1 V c 15 t) (t : Fin cfg1.N) (d) : dat.before 15 t d = iblk1 V c 15 t :=
  (dat.before_in_eq_fetched 15 rfl (fun _ => rfl) (fun _ _ _ => rfl) (fun t => by rw [hafter]; unfold Dat.blockOf iblk1; rw [hA]; try rfl) t d).trans
    (by unfold Dat.fetched Dat.blockOf iblk1; rw [hA]; try rfl)

/-- The body's condition. -/
abbrev cond1_0 (i : grid1.Coords) : Prop := (Scalar.cmpi .ne (Scalar.extui (Scalar.andi (Scalar.cmpi .eq (BitVec.ofNat 32 (i 0).val) 0#32) (Scalar.cmpi .eq (BitVec.ofNat 32 (i 1).val) 0#32))) 0#32) = 1#1
/-- The conditional is taken at the first point only. -/
theorem hcond1_0 : ∀ t : Fin cfg1.N, cond1_0 (grid1.coords t) ↔ t.val % 32 = 0 :=
  (fun t => by
    have ht : t.val < 32 := Nat.lt_of_lt_of_eq t.isLt N_1
    have e0 : (grid1.coords t 0).val = t.val / 2 % 16 := Pipeline.Grid.coords_val t 0 (by decide) rfl
    have e1 : (grid1.coords t 1).val = t.val / 1 % 2 := Pipeline.Grid.coords_val t 1 (by decide) rfl
    simp only [cond1_0, e0, e1]
    word_cmp
   : ∀ t : Fin grid1.N, cond1_0 (grid1.coords t) ↔ t.val % 32 = 0)

/-- An output's staging buffer. -/
abbrev VO1_16 : View sig .tc .vmem S1x1024x165 .f32 := (Memref.whole cc1_stg16_0 : Memref sig .tc .vmem S1x1024x165 .f32).view
/-- An output's staging buffer. -/
abbrev VO1_17 : View sig .tc .vmem S1x1024x330 .f32 := (Memref.whole cc1_stg17_0 : Memref sig .tc .vmem S1x1024x330 .f32).view
/-- An output's staging buffer. -/
abbrev VO1_18 : View sig .tc .vmem S1x1024x3 .f32 := (Memref.whole cc1_stg18_0 : Memref sig .tc .vmem S1x1024x3 .f32).view
/-- An output's staging buffer. -/
abbrev VO1_19 : View sig .tc .vmem S1x1 .f32 := (Memref.whole cc1_stg19_0 : Memref sig .tc .vmem S1x1 .f32).view
/-- A window's staging buffer at a point. -/
abbrev ms1_0 (t : Fin cfg1.N) : Memref sig .tc .vmem S1x1024x165 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x330 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x3 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S165x256 .f32 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S330x256 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S3x256 .f32 := win1_5.stage (cfg1.slots t 5)
abbrev hs1_5 (t : Fin cfg1.N) : (ms1_5 t).IsWhole := hstage1_5 ((cfg1.slots t 5).cast nbuf1_5)
abbrev ms1_6 (t : Fin cfg1.N) : Memref sig .tc .vmem S1x256 .f32 := win1_6.stage (cfg1.slots t 6)
abbrev hs1_6 (t : Fin cfg1.N) : (ms1_6 t).IsWhole := hstage1_6 ((cfg1.slots t 6).cast nbuf1_6)
abbrev ms1_7 (t : Fin cfg1.N) : Memref sig .tc .vmem S512x64 .f32 := win1_7.stage (cfg1.slots t 7)
abbrev hs1_7 (t : Fin cfg1.N) : (ms1_7 t).IsWhole := hstage1_7 ((cfg1.slots t 7).cast nbuf1_7)
abbrev ms1_8 (t : Fin cfg1.N) : Memref sig .tc .vmem S512x64 .f32 := win1_8.stage (cfg1.slots t 8)
abbrev hs1_8 (t : Fin cfg1.N) : (ms1_8 t).IsWhole := hstage1_8 ((cfg1.slots t 8).cast nbuf1_8)
abbrev ms1_9 (t : Fin cfg1.N) : Memref sig .tc .vmem S512x64 .f32 := win1_9.stage (cfg1.slots t 9)
abbrev hs1_9 (t : Fin cfg1.N) : (ms1_9 t).IsWhole := hstage1_9 ((cfg1.slots t 9).cast nbuf1_9)
abbrev ms1_10 (t : Fin cfg1.N) : Memref sig .tc .vmem S512x64 .f32 := win1_10.stage (cfg1.slots t 10)
abbrev hs1_10 (t : Fin cfg1.N) : (ms1_10 t).IsWhole := hstage1_10 ((cfg1.slots t 10).cast nbuf1_10)
abbrev ms1_11 (t : Fin cfg1.N) : Memref sig .tc .vmem S4x512 .f32 := win1_11.stage (cfg1.slots t 11)
abbrev hs1_11 (t : Fin cfg1.N) : (ms1_11 t).IsWhole := hstage1_11 ((cfg1.slots t 11).cast nbuf1_11)
abbrev ms1_12 (t : Fin cfg1.N) : Memref sig .tc .vmem S512x225 .f32 := win1_12.stage (cfg1.slots t 12)
abbrev hs1_12 (t : Fin cfg1.N) : (ms1_12 t).IsWhole := hstage1_12 ((cfg1.slots t 12).cast nbuf1_12)
abbrev ms1_13 (t : Fin cfg1.N) : Memref sig .tc .vmem S512x111 .f32 := win1_13.stage (cfg1.slots t 13)
abbrev hs1_13 (t : Fin cfg1.N) : (ms1_13 t).IsWhole := hstage1_13 ((cfg1.slots t 13).cast nbuf1_13)
abbrev ms1_14 (t : Fin cfg1.N) : Memref sig .tc .vmem S512x90 .f32 := win1_14.stage (cfg1.slots t 14)
abbrev hs1_14 (t : Fin cfg1.N) : (ms1_14 t).IsWhole := hstage1_14 ((cfg1.slots t 14).cast nbuf1_14)
abbrev ms1_15 (t : Fin cfg1.N) : Memref sig .tc .vmem S512x90 .f32 := win1_15.stage (cfg1.slots t 15)
abbrev hs1_15 (t : Fin cfg1.N) : (ms1_15 t).IsWhole := hstage1_15 ((cfg1.slots t 15).cast nbuf1_15)
abbrev ms1_16 (t : Fin cfg1.N) : Memref sig .tc .vmem S1x1024x165 .f32 := win1_16.stage (cfg1.slots t 16)
abbrev hs1_16 (t : Fin cfg1.N) : (ms1_16 t).IsWhole := hstage1_16 ((cfg1.slots t 16).cast nbuf1_16)
abbrev ms1_17 (t : Fin cfg1.N) : Memref sig .tc .vmem S1x1024x330 .f32 := win1_17.stage (cfg1.slots t 17)
abbrev hs1_17 (t : Fin cfg1.N) : (ms1_17 t).IsWhole := hstage1_17 ((cfg1.slots t 17).cast nbuf1_17)
abbrev ms1_18 (t : Fin cfg1.N) : Memref sig .tc .vmem S1x1024x3 .f32 := win1_18.stage (cfg1.slots t 18)
abbrev hs1_18 (t : Fin cfg1.N) : (ms1_18 t).IsWhole := hstage1_18 ((cfg1.slots t 18).cast nbuf1_18)
abbrev ms1_19 (t : Fin cfg1.N) : Memref sig .tc .vmem S1x1 .f32 := win1_19.stage (cfg1.slots t 19)
abbrev hs1_19 (t : Fin cfg1.N) : (ms1_19 t).IsWhole := hstage1_19 ((cfg1.slots t 19).cast nbuf1_19)

set_option maxHeartbeats 16000000 in
/-- The body at the first point: the pieces it stores, with the proof that it runs to the end. -/
noncomputable def kernelRun1_A (c : Dev nD) (i : grid1.Coords) (arg2 : Memref sig .tc .vmem S1x1024x165 .f32) (harg2 : arg2.IsWhole) (arg3 : Memref sig .tc .vmem S1x1024x330 .f32) (harg3 : arg3.IsWhole) (arg4 : Memref sig .tc .vmem S1x1024x3 .f32) (harg4 : arg4.IsWhole) (arg5 : Memref sig .tc .vmem S165x256 .f32) (harg5 : arg5.IsWhole) (arg6 : Memref sig .tc .vmem S330x256 .f32) (harg6 : arg6.IsWhole) (arg7 : Memref sig .tc .vmem S3x256 .f32) (harg7 : arg7.IsWhole) (arg8 : Memref sig .tc .vmem S1x256 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S4x512 .f32) (harg13 : arg13.IsWhole) (arg14 : Memref sig .tc .vmem S512x225 .f32) (harg14 : arg14.IsWhole) (arg15 : Memref sig .tc .vmem S512x111 .f32) (harg15 : arg15.IsWhole) (arg16 : Memref sig .tc .vmem S512x90 .f32) (harg16 : arg16.IsWhole) (arg17 : Memref sig .tc .vmem S512x90 .f32) (harg17 : arg17.IsWhole) (arg18 : Memref sig .tc .vmem S1x1024x165 .f32) (harg18 : arg18.IsWhole) (arg19 : Memref sig .tc .vmem S1x1024x330 .f32) (harg19 : arg19.IsWhole) (arg20 : Memref sig .tc .vmem S1x1024x3 .f32) (harg20 : arg20.IsWhole) (arg21 : Memref sig .tc .vmem S1x1 .f32) (harg21 : arg21.IsWhole) (hc0 : cond1_0 i)
    (x0 : Vec F S1x1024x165 .f32) (x1 : Vec F S1x1024x330 .f32) (x2 : Vec F S1x1024x3 .f32) (x3 : Vec F S165x256 .f32) (x4 : Vec F S330x256 .f32) (x5 : Vec F S3x256 .f32) (x6 : Vec F S1x256 .f32) (x7 : Vec F S512x64 .f32) (x8 : Vec F S512x64 .f32) (x9 : Vec F S512x64 .f32) (x10 : Vec F S512x64 .f32) (x11 : Vec F S4x512 .f32) (x12 : Vec F S512x225 .f32) (x13 : Vec F S512x111 .f32) (x14 : Vec F S512x90 .f32) (x15 : Vec F S512x90 .f32) :
    Σ' (L16 : List (View.Piece (Elt F) S1x1024x165 .f32)), Σ' (L17 : List (View.Piece (Elt F) S1x1024x330 .f32)), Σ' (L18 : List (View.Piece (Elt F) S1x1024x3 .f32)), { L19 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ (∃ d, owns (c : Thread nD τ) arg21 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19)) -∗ K ⟨⟩))
          ⊢ wp frame (wpE (defs₀ (F := F)) Variants.none c none) E (cc1__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, fun E K => ?run⟩
  case run =>
    simp only [cc1__main_body_eq_skeleton]; unfold cc1__main_body_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%d19, %f19, -, H19⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    iexists _; iexact H19

/-- The stored pieces cover the block. -/
theorem cover1_A_16 (c : Dev nD) (i : grid1.Coords) (arg2 : Memref sig .tc .vmem S1x1024x165 .f32) (harg2 : arg2.IsWhole) (arg3 : Memref sig .tc .vmem S1x1024x330 .f32) (harg3 : arg3.IsWhole) (arg4 : Memref sig .tc .vmem S1x1024x3 .f32) (harg4 : arg4.IsWhole) (arg5 : Memref sig .tc .vmem S165x256 .f32) (harg5 : arg5.IsWhole) (arg6 : Memref sig .tc .vmem S330x256 .f32) (harg6 : arg6.IsWhole) (arg7 : Memref sig .tc .vmem S3x256 .f32) (harg7 : arg7.IsWhole) (arg8 : Memref sig .tc .vmem S1x256 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S4x512 .f32) (harg13 : arg13.IsWhole) (arg14 : Memref sig .tc .vmem S512x225 .f32) (harg14 : arg14.IsWhole) (arg15 : Memref sig .tc .vmem S512x111 .f32) (harg15 : arg15.IsWhole) (arg16 : Memref sig .tc .vmem S512x90 .f32) (harg16 : arg16.IsWhole) (arg17 : Memref sig .tc .vmem S512x90 .f32) (harg17 : arg17.IsWhole) (arg18 : Memref sig .tc .vmem S1x1024x165 .f32) (harg18 : arg18.IsWhole) (arg19 : Memref sig .tc .vmem S1x1024x330 .f32) (harg19 : arg19.IsWhole) (arg20 : Memref sig .tc .vmem S1x1024x3 .f32) (harg20 : arg20.IsWhole) (arg21 : Memref sig .tc .vmem S1x1 .f32) (harg21 : arg21.IsWhole) (hc0 : cond1_0 i)
    (x0 : Vec F S1x1024x165 .f32) (x1 : Vec F S1x1024x330 .f32) (x2 : Vec F S1x1024x3 .f32) (x3 : Vec F S165x256 .f32) (x4 : Vec F S330x256 .f32) (x5 : Vec F S3x256 .f32) (x6 : Vec F S1x256 .f32) (x7 : Vec F S512x64 .f32) (x8 : Vec F S512x64 .f32) (x9 : Vec F S512x64 .f32) (x10 : Vec F S512x64 .f32) (x11 : Vec F S4x512 .f32) (x12 : Vec F S512x225 .f32) (x13 : Vec F S512x111 .f32) (x14 : Vec F S512x90 .f32) (x15 : Vec F S512x90 .f32) (y : S1x1024x165.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15).1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15).1 S1x1024x165.size (by sl_kernel_rfl) y

/-- What the body leaves in an output block. -/
def out1_A_16 (c : Dev nD) (i : grid1.Coords) (arg2 : Memref sig .tc .vmem S1x1024x165 .f32) (harg2 : arg2.IsWhole) (arg3 : Memref sig .tc .vmem S1x1024x330 .f32) (harg3 : arg3.IsWhole) (arg4 : Memref sig .tc .vmem S1x1024x3 .f32) (harg4 : arg4.IsWhole) (arg5 : Memref sig .tc .vmem S165x256 .f32) (harg5 : arg5.IsWhole) (arg6 : Memref sig .tc .vmem S330x256 .f32) (harg6 : arg6.IsWhole) (arg7 : Memref sig .tc .vmem S3x256 .f32) (harg7 : arg7.IsWhole) (arg8 : Memref sig .tc .vmem S1x256 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S4x512 .f32) (harg13 : arg13.IsWhole) (arg14 : Memref sig .tc .vmem S512x225 .f32) (harg14 : arg14.IsWhole) (arg15 : Memref sig .tc .vmem S512x111 .f32) (harg15 : arg15.IsWhole) (arg16 : Memref sig .tc .vmem S512x90 .f32) (harg16 : arg16.IsWhole) (arg17 : Memref sig .tc .vmem S512x90 .f32) (harg17 : arg17.IsWhole) (arg18 : Memref sig .tc .vmem S1x1024x165 .f32) (harg18 : arg18.IsWhole) (arg19 : Memref sig .tc .vmem S1x1024x330 .f32) (harg19 : arg19.IsWhole) (arg20 : Memref sig .tc .vmem S1x1024x3 .f32) (harg20 : arg20.IsWhole) (arg21 : Memref sig .tc .vmem S1x1 .f32) (harg21 : arg21.IsWhole) (hc0 : cond1_0 i)
    (x0 : Vec F S1x1024x165 .f32) (x1 : Vec F S1x1024x330 .f32) (x2 : Vec F S1x1024x3 .f32) (x3 : Vec F S165x256 .f32) (x4 : Vec F S330x256 .f32) (x5 : Vec F S3x256 .f32) (x6 : Vec F S1x256 .f32) (x7 : Vec F S512x64 .f32) (x8 : Vec F S512x64 .f32) (x9 : Vec F S512x64 .f32) (x10 : Vec F S512x64 .f32) (x11 : Vec F S4x512 .f32) (x12 : Vec F S512x225 .f32) (x13 : Vec F S512x111 .f32) (x14 : Vec F S512x90 .f32) (x15 : Vec F S512x90 .f32) : Vec F S1x1024x165 .f32 :=
  VO1_16.read (Elt F) (VO1_16.writes (Elt F) VO1_16.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15).1)

/-- The stored pieces cover the block. -/
theorem cover1_A_17 (c : Dev nD) (i : grid1.Coords) (arg2 : Memref sig .tc .vmem S1x1024x165 .f32) (harg2 : arg2.IsWhole) (arg3 : Memref sig .tc .vmem S1x1024x330 .f32) (harg3 : arg3.IsWhole) (arg4 : Memref sig .tc .vmem S1x1024x3 .f32) (harg4 : arg4.IsWhole) (arg5 : Memref sig .tc .vmem S165x256 .f32) (harg5 : arg5.IsWhole) (arg6 : Memref sig .tc .vmem S330x256 .f32) (harg6 : arg6.IsWhole) (arg7 : Memref sig .tc .vmem S3x256 .f32) (harg7 : arg7.IsWhole) (arg8 : Memref sig .tc .vmem S1x256 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S4x512 .f32) (harg13 : arg13.IsWhole) (arg14 : Memref sig .tc .vmem S512x225 .f32) (harg14 : arg14.IsWhole) (arg15 : Memref sig .tc .vmem S512x111 .f32) (harg15 : arg15.IsWhole) (arg16 : Memref sig .tc .vmem S512x90 .f32) (harg16 : arg16.IsWhole) (arg17 : Memref sig .tc .vmem S512x90 .f32) (harg17 : arg17.IsWhole) (arg18 : Memref sig .tc .vmem S1x1024x165 .f32) (harg18 : arg18.IsWhole) (arg19 : Memref sig .tc .vmem S1x1024x330 .f32) (harg19 : arg19.IsWhole) (arg20 : Memref sig .tc .vmem S1x1024x3 .f32) (harg20 : arg20.IsWhole) (arg21 : Memref sig .tc .vmem S1x1 .f32) (harg21 : arg21.IsWhole) (hc0 : cond1_0 i)
    (x0 : Vec F S1x1024x165 .f32) (x1 : Vec F S1x1024x330 .f32) (x2 : Vec F S1x1024x3 .f32) (x3 : Vec F S165x256 .f32) (x4 : Vec F S330x256 .f32) (x5 : Vec F S3x256 .f32) (x6 : Vec F S1x256 .f32) (x7 : Vec F S512x64 .f32) (x8 : Vec F S512x64 .f32) (x9 : Vec F S512x64 .f32) (x10 : Vec F S512x64 .f32) (x11 : Vec F S4x512 .f32) (x12 : Vec F S512x225 .f32) (x13 : Vec F S512x111 .f32) (x14 : Vec F S512x90 .f32) (x15 : Vec F S512x90 .f32) (y : S1x1024x330.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15).2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15).2.1 S1x1024x330.size (by sl_kernel_rfl) y

/-- What the body leaves in an output block. -/
def out1_A_17 (c : Dev nD) (i : grid1.Coords) (arg2 : Memref sig .tc .vmem S1x1024x165 .f32) (harg2 : arg2.IsWhole) (arg3 : Memref sig .tc .vmem S1x1024x330 .f32) (harg3 : arg3.IsWhole) (arg4 : Memref sig .tc .vmem S1x1024x3 .f32) (harg4 : arg4.IsWhole) (arg5 : Memref sig .tc .vmem S165x256 .f32) (harg5 : arg5.IsWhole) (arg6 : Memref sig .tc .vmem S330x256 .f32) (harg6 : arg6.IsWhole) (arg7 : Memref sig .tc .vmem S3x256 .f32) (harg7 : arg7.IsWhole) (arg8 : Memref sig .tc .vmem S1x256 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S4x512 .f32) (harg13 : arg13.IsWhole) (arg14 : Memref sig .tc .vmem S512x225 .f32) (harg14 : arg14.IsWhole) (arg15 : Memref sig .tc .vmem S512x111 .f32) (harg15 : arg15.IsWhole) (arg16 : Memref sig .tc .vmem S512x90 .f32) (harg16 : arg16.IsWhole) (arg17 : Memref sig .tc .vmem S512x90 .f32) (harg17 : arg17.IsWhole) (arg18 : Memref sig .tc .vmem S1x1024x165 .f32) (harg18 : arg18.IsWhole) (arg19 : Memref sig .tc .vmem S1x1024x330 .f32) (harg19 : arg19.IsWhole) (arg20 : Memref sig .tc .vmem S1x1024x3 .f32) (harg20 : arg20.IsWhole) (arg21 : Memref sig .tc .vmem S1x1 .f32) (harg21 : arg21.IsWhole) (hc0 : cond1_0 i)
    (x0 : Vec F S1x1024x165 .f32) (x1 : Vec F S1x1024x330 .f32) (x2 : Vec F S1x1024x3 .f32) (x3 : Vec F S165x256 .f32) (x4 : Vec F S330x256 .f32) (x5 : Vec F S3x256 .f32) (x6 : Vec F S1x256 .f32) (x7 : Vec F S512x64 .f32) (x8 : Vec F S512x64 .f32) (x9 : Vec F S512x64 .f32) (x10 : Vec F S512x64 .f32) (x11 : Vec F S4x512 .f32) (x12 : Vec F S512x225 .f32) (x13 : Vec F S512x111 .f32) (x14 : Vec F S512x90 .f32) (x15 : Vec F S512x90 .f32) : Vec F S1x1024x330 .f32 :=
  VO1_17.read (Elt F) (VO1_17.writes (Elt F) VO1_17.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15).2.1)

/-- The stored pieces cover the block. -/
theorem cover1_A_18 (c : Dev nD) (i : grid1.Coords) (arg2 : Memref sig .tc .vmem S1x1024x165 .f32) (harg2 : arg2.IsWhole) (arg3 : Memref sig .tc .vmem S1x1024x330 .f32) (harg3 : arg3.IsWhole) (arg4 : Memref sig .tc .vmem S1x1024x3 .f32) (harg4 : arg4.IsWhole) (arg5 : Memref sig .tc .vmem S165x256 .f32) (harg5 : arg5.IsWhole) (arg6 : Memref sig .tc .vmem S330x256 .f32) (harg6 : arg6.IsWhole) (arg7 : Memref sig .tc .vmem S3x256 .f32) (harg7 : arg7.IsWhole) (arg8 : Memref sig .tc .vmem S1x256 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S4x512 .f32) (harg13 : arg13.IsWhole) (arg14 : Memref sig .tc .vmem S512x225 .f32) (harg14 : arg14.IsWhole) (arg15 : Memref sig .tc .vmem S512x111 .f32) (harg15 : arg15.IsWhole) (arg16 : Memref sig .tc .vmem S512x90 .f32) (harg16 : arg16.IsWhole) (arg17 : Memref sig .tc .vmem S512x90 .f32) (harg17 : arg17.IsWhole) (arg18 : Memref sig .tc .vmem S1x1024x165 .f32) (harg18 : arg18.IsWhole) (arg19 : Memref sig .tc .vmem S1x1024x330 .f32) (harg19 : arg19.IsWhole) (arg20 : Memref sig .tc .vmem S1x1024x3 .f32) (harg20 : arg20.IsWhole) (arg21 : Memref sig .tc .vmem S1x1 .f32) (harg21 : arg21.IsWhole) (hc0 : cond1_0 i)
    (x0 : Vec F S1x1024x165 .f32) (x1 : Vec F S1x1024x330 .f32) (x2 : Vec F S1x1024x3 .f32) (x3 : Vec F S165x256 .f32) (x4 : Vec F S330x256 .f32) (x5 : Vec F S3x256 .f32) (x6 : Vec F S1x256 .f32) (x7 : Vec F S512x64 .f32) (x8 : Vec F S512x64 .f32) (x9 : Vec F S512x64 .f32) (x10 : Vec F S512x64 .f32) (x11 : Vec F S4x512 .f32) (x12 : Vec F S512x225 .f32) (x13 : Vec F S512x111 .f32) (x14 : Vec F S512x90 .f32) (x15 : Vec F S512x90 .f32) (y : S1x1024x3.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15).2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15).2.2.1 S1x1024x3.size (by sl_kernel_rfl) y

/-- What the body leaves in an output block. -/
def out1_A_18 (c : Dev nD) (i : grid1.Coords) (arg2 : Memref sig .tc .vmem S1x1024x165 .f32) (harg2 : arg2.IsWhole) (arg3 : Memref sig .tc .vmem S1x1024x330 .f32) (harg3 : arg3.IsWhole) (arg4 : Memref sig .tc .vmem S1x1024x3 .f32) (harg4 : arg4.IsWhole) (arg5 : Memref sig .tc .vmem S165x256 .f32) (harg5 : arg5.IsWhole) (arg6 : Memref sig .tc .vmem S330x256 .f32) (harg6 : arg6.IsWhole) (arg7 : Memref sig .tc .vmem S3x256 .f32) (harg7 : arg7.IsWhole) (arg8 : Memref sig .tc .vmem S1x256 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S4x512 .f32) (harg13 : arg13.IsWhole) (arg14 : Memref sig .tc .vmem S512x225 .f32) (harg14 : arg14.IsWhole) (arg15 : Memref sig .tc .vmem S512x111 .f32) (harg15 : arg15.IsWhole) (arg16 : Memref sig .tc .vmem S512x90 .f32) (harg16 : arg16.IsWhole) (arg17 : Memref sig .tc .vmem S512x90 .f32) (harg17 : arg17.IsWhole) (arg18 : Memref sig .tc .vmem S1x1024x165 .f32) (harg18 : arg18.IsWhole) (arg19 : Memref sig .tc .vmem S1x1024x330 .f32) (harg19 : arg19.IsWhole) (arg20 : Memref sig .tc .vmem S1x1024x3 .f32) (harg20 : arg20.IsWhole) (arg21 : Memref sig .tc .vmem S1x1 .f32) (harg21 : arg21.IsWhole) (hc0 : cond1_0 i)
    (x0 : Vec F S1x1024x165 .f32) (x1 : Vec F S1x1024x330 .f32) (x2 : Vec F S1x1024x3 .f32) (x3 : Vec F S165x256 .f32) (x4 : Vec F S330x256 .f32) (x5 : Vec F S3x256 .f32) (x6 : Vec F S1x256 .f32) (x7 : Vec F S512x64 .f32) (x8 : Vec F S512x64 .f32) (x9 : Vec F S512x64 .f32) (x10 : Vec F S512x64 .f32) (x11 : Vec F S4x512 .f32) (x12 : Vec F S512x225 .f32) (x13 : Vec F S512x111 .f32) (x14 : Vec F S512x90 .f32) (x15 : Vec F S512x90 .f32) : Vec F S1x1024x3 .f32 :=
  VO1_18.read (Elt F) (VO1_18.writes (Elt F) VO1_18.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15).2.2.1)

/-- The stored pieces cover the block. -/
theorem cover1_A_19 (c : Dev nD) (i : grid1.Coords) (arg2 : Memref sig .tc .vmem S1x1024x165 .f32) (harg2 : arg2.IsWhole) (arg3 : Memref sig .tc .vmem S1x1024x330 .f32) (harg3 : arg3.IsWhole) (arg4 : Memref sig .tc .vmem S1x1024x3 .f32) (harg4 : arg4.IsWhole) (arg5 : Memref sig .tc .vmem S165x256 .f32) (harg5 : arg5.IsWhole) (arg6 : Memref sig .tc .vmem S330x256 .f32) (harg6 : arg6.IsWhole) (arg7 : Memref sig .tc .vmem S3x256 .f32) (harg7 : arg7.IsWhole) (arg8 : Memref sig .tc .vmem S1x256 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S4x512 .f32) (harg13 : arg13.IsWhole) (arg14 : Memref sig .tc .vmem S512x225 .f32) (harg14 : arg14.IsWhole) (arg15 : Memref sig .tc .vmem S512x111 .f32) (harg15 : arg15.IsWhole) (arg16 : Memref sig .tc .vmem S512x90 .f32) (harg16 : arg16.IsWhole) (arg17 : Memref sig .tc .vmem S512x90 .f32) (harg17 : arg17.IsWhole) (arg18 : Memref sig .tc .vmem S1x1024x165 .f32) (harg18 : arg18.IsWhole) (arg19 : Memref sig .tc .vmem S1x1024x330 .f32) (harg19 : arg19.IsWhole) (arg20 : Memref sig .tc .vmem S1x1024x3 .f32) (harg20 : arg20.IsWhole) (arg21 : Memref sig .tc .vmem S1x1 .f32) (harg21 : arg21.IsWhole) (hc0 : cond1_0 i)
    (x0 : Vec F S1x1024x165 .f32) (x1 : Vec F S1x1024x330 .f32) (x2 : Vec F S1x1024x3 .f32) (x3 : Vec F S165x256 .f32) (x4 : Vec F S330x256 .f32) (x5 : Vec F S3x256 .f32) (x6 : Vec F S1x256 .f32) (x7 : Vec F S512x64 .f32) (x8 : Vec F S512x64 .f32) (x9 : Vec F S512x64 .f32) (x10 : Vec F S512x64 .f32) (x11 : Vec F S4x512 .f32) (x12 : Vec F S512x225 .f32) (x13 : Vec F S512x111 .f32) (x14 : Vec F S512x90 .f32) (x15 : Vec F S512x90 .f32) (y : S1x1.Idx) :
    ∃ pc ∈ (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15).2.2.2.1, y ∈ pc.1.set :=
  View.cover_of_tiledL (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15).2.2.2.1 S1x1.size (by sl_kernel_rfl) y

/-- What the body leaves in an output block. -/
def out1_A_19 (c : Dev nD) (i : grid1.Coords) (arg2 : Memref sig .tc .vmem S1x1024x165 .f32) (harg2 : arg2.IsWhole) (arg3 : Memref sig .tc .vmem S1x1024x330 .f32) (harg3 : arg3.IsWhole) (arg4 : Memref sig .tc .vmem S1x1024x3 .f32) (harg4 : arg4.IsWhole) (arg5 : Memref sig .tc .vmem S165x256 .f32) (harg5 : arg5.IsWhole) (arg6 : Memref sig .tc .vmem S330x256 .f32) (harg6 : arg6.IsWhole) (arg7 : Memref sig .tc .vmem S3x256 .f32) (harg7 : arg7.IsWhole) (arg8 : Memref sig .tc .vmem S1x256 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S4x512 .f32) (harg13 : arg13.IsWhole) (arg14 : Memref sig .tc .vmem S512x225 .f32) (harg14 : arg14.IsWhole) (arg15 : Memref sig .tc .vmem S512x111 .f32) (harg15 : arg15.IsWhole) (arg16 : Memref sig .tc .vmem S512x90 .f32) (harg16 : arg16.IsWhole) (arg17 : Memref sig .tc .vmem S512x90 .f32) (harg17 : arg17.IsWhole) (arg18 : Memref sig .tc .vmem S1x1024x165 .f32) (harg18 : arg18.IsWhole) (arg19 : Memref sig .tc .vmem S1x1024x330 .f32) (harg19 : arg19.IsWhole) (arg20 : Memref sig .tc .vmem S1x1024x3 .f32) (harg20 : arg20.IsWhole) (arg21 : Memref sig .tc .vmem S1x1 .f32) (harg21 : arg21.IsWhole) (hc0 : cond1_0 i)
    (x0 : Vec F S1x1024x165 .f32) (x1 : Vec F S1x1024x330 .f32) (x2 : Vec F S1x1024x3 .f32) (x3 : Vec F S165x256 .f32) (x4 : Vec F S330x256 .f32) (x5 : Vec F S3x256 .f32) (x6 : Vec F S1x256 .f32) (x7 : Vec F S512x64 .f32) (x8 : Vec F S512x64 .f32) (x9 : Vec F S512x64 .f32) (x10 : Vec F S512x64 .f32) (x11 : Vec F S4x512 .f32) (x12 : Vec F S512x225 .f32) (x13 : Vec F S512x111 .f32) (x14 : Vec F S512x90 .f32) (x15 : Vec F S512x90 .f32) : Vec F S1x1 .f32 :=
  VO1_19.read (Elt F) (VO1_19.writes (Elt F) VO1_19.junk (kernelRun1_A c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15).2.2.2.1)

set_option maxHeartbeats 16000000 in
/-- The body at a later point: the pieces it stores, with the proof that it runs to the end. -/
noncomputable def kernelRun1_B (c : Dev nD) (i : grid1.Coords) (arg2 : Memref sig .tc .vmem S1x1024x165 .f32) (harg2 : arg2.IsWhole) (arg3 : Memref sig .tc .vmem S1x1024x330 .f32) (harg3 : arg3.IsWhole) (arg4 : Memref sig .tc .vmem S1x1024x3 .f32) (harg4 : arg4.IsWhole) (arg5 : Memref sig .tc .vmem S165x256 .f32) (harg5 : arg5.IsWhole) (arg6 : Memref sig .tc .vmem S330x256 .f32) (harg6 : arg6.IsWhole) (arg7 : Memref sig .tc .vmem S3x256 .f32) (harg7 : arg7.IsWhole) (arg8 : Memref sig .tc .vmem S1x256 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S4x512 .f32) (harg13 : arg13.IsWhole) (arg14 : Memref sig .tc .vmem S512x225 .f32) (harg14 : arg14.IsWhole) (arg15 : Memref sig .tc .vmem S512x111 .f32) (harg15 : arg15.IsWhole) (arg16 : Memref sig .tc .vmem S512x90 .f32) (harg16 : arg16.IsWhole) (arg17 : Memref sig .tc .vmem S512x90 .f32) (harg17 : arg17.IsWhole) (arg18 : Memref sig .tc .vmem S1x1024x165 .f32) (harg18 : arg18.IsWhole) (arg19 : Memref sig .tc .vmem S1x1024x330 .f32) (harg19 : arg19.IsWhole) (arg20 : Memref sig .tc .vmem S1x1024x3 .f32) (harg20 : arg20.IsWhole) (arg21 : Memref sig .tc .vmem S1x1 .f32) (harg21 : arg21.IsWhole) (hc0 : ¬cond1_0 i)
    (x0 : Vec F S1x1024x165 .f32) (x1 : Vec F S1x1024x330 .f32) (x2 : Vec F S1x1024x3 .f32) (x3 : Vec F S165x256 .f32) (x4 : Vec F S330x256 .f32) (x5 : Vec F S3x256 .f32) (x6 : Vec F S1x256 .f32) (x7 : Vec F S512x64 .f32) (x8 : Vec F S512x64 .f32) (x9 : Vec F S512x64 .f32) (x10 : Vec F S512x64 .f32) (x11 : Vec F S4x512 .f32) (x12 : Vec F S512x225 .f32) (x13 : Vec F S512x111 .f32) (x14 : Vec F S512x90 .f32) (x15 : Vec F S512x90 .f32) (xo19 : Vec F S1x1 .f32) :
    Σ' (L16 : List (View.Piece (Elt F) S1x1024x165 .f32)), Σ' (L17 : List (View.Piece (Elt F) S1x1024x330 .f32)), Σ' (L18 : List (View.Piece (Elt F) S1x1024x3 .f32)), { L19 : List (View.Piece (Elt F) S1x1 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ d, owns (c : Thread nD τ) arg18 fullShare d) ∗ (∃ d, owns (c : Thread nD τ) arg19 fullShare d) ∗ (∃ d, owns (c : Thread nD τ) arg20 fullShare d) ∗ owns (c : Thread nD τ) arg21 fullShare xo19
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare x5 ∗ owns (c : Thread nD τ) arg8 fullShare x6 ∗ owns (c : Thread nD τ) arg9 fullShare x7 ∗ owns (c : Thread nD τ) arg10 fullShare x8 ∗ owns (c : Thread nD τ) arg11 fullShare x9 ∗ owns (c : Thread nD τ) arg12 fullShare x10 ∗ owns (c : Thread nD τ) arg13 fullShare x11 ∗ owns (c : Thread nD τ) arg14 fullShare x12 ∗ owns (c : Thread nD τ) arg15 fullShare x13 ∗ owns (c : Thread nD τ) arg16 fullShare x14 ∗ owns (c : Thread nD τ) arg17 fullShare x15 ∗ (∃ f, arg18.view.loc (c : Thread nD τ) ↦[arg18.view.set]{fullShare} arg18.view.writes (Elt F) f L16) ∗ (∃ f, arg19.view.loc (c : Thread nD τ) ↦[arg19.view.set]{fullShare} arg19.view.writes (Elt F) f L17) ∗ (∃ f, arg20.view.loc (c : Thread nD τ) ↦[arg20.view.set]{fullShare} arg20.view.writes (Elt F) f L18) ∗ (∃ f, arg21.view.loc (c : Thread nD τ) ↦[arg21.view.set]{fullShare} arg21.view.writes (Elt F) f L19)) -∗ K ⟨⟩))
          ⊢ wp frame (wpE (defs₀ (F := F)) Variants.none c none) E (cc1__main_body i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21) K } := by
  refine ⟨?_, ?_, ?_, ?_, fun E K => ?run⟩
  case run =>
    simp only [cc1__main_body_eq_skeleton]; unfold cc1__main_body_skel
    simp only [k1_part1_eq_skeleton, k1_part2_eq_skeleton, k1_part3_eq_skeleton, k1_part4_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, ⟨%f13, %hf13, H13⟩, ⟨%f14, %hf14, H14⟩, ⟨%f15, %hf15, H15⟩, ⟨%d16, %f16, -, H16⟩, ⟨%d17, %f17, -, H17⟩, ⟨%d18, %f18, -, H18⟩, ⟨%f19, %hf19, H19⟩, Hk⟩
    obtain rfl := harg2.eq_unread hf0; obtain rfl := harg3.eq_unread hf1; obtain rfl := harg4.eq_unread hf2; obtain rfl := harg5.eq_unread hf3; obtain rfl := harg6.eq_unread hf4; obtain rfl := harg7.eq_unread hf5; obtain rfl := harg8.eq_unread hf6; obtain rfl := harg9.eq_unread hf7; obtain rfl := harg10.eq_unread hf8; obtain rfl := harg11.eq_unread hf9; obtain rfl := harg12.eq_unread hf10; obtain rfl := harg13.eq_unread hf11; obtain rfl := harg14.eq_unread hf12; obtain rfl := harg15.eq_unread hf13; obtain rfl := harg16.eq_unread hf14; obtain rfl := harg17.eq_unread hf15; obtain rfl := harg21.eq_unread hf19
    sl_exec (disch := first | sl_exact hc0)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    isplitl [H6]
    · iexists _; isplitr; · ipureintro; exact harg8.read_unread _
      iexact H6
    isplitl [H7]
    · iexists _; isplitr; · ipureintro; exact harg9.read_unread _
      iexact H7
    isplitl [H8]
    · iexists _; isplitr; · ipureintro; exact harg10.read_unread _
      iexact H8
    isplitl [H9]
    · iexists _; isplitr; · ipureintro; exact harg11.read_unread _
      iexact H9
    isplitl [H10]
    · iexists _; isplitr; · ipureintro; exact harg12.read_unread _
      iexact H10
    isplitl [H11]
    · iexists _; isplitr; · ipureintro; exact harg13.read_unread _
      iexact H11
    isplitl [H12]
    · iexists _; isplitr; · ipureintro; exact harg14.read_unread _
      iexact H12
    isplitl [H13]
    · iexists _; isplitr; · ipureintro; exact harg15.read_unread _
      iexact H13
    isplitl [H14]
    · iexists _; isplitr; · ipureintro; exact harg16.read_unread _
      iexact H14
    isplitl [H15]
    · iexists _; isplitr; · ipureintro; exact harg17.read_unread _
      iexact H15
    isplitl [H16]; · iexists _; iexact H16
    isplitl [H17]; · iexists _; iexact H17
    isplitl [H18]; · iexists _; iexact H18
    iexists _; iexact H19

/-- The stored pieces cover the block. -/
theorem cover1_B_16 (c : Dev nD) (i : grid1.Coords) (arg2 : Memref sig .tc .vmem S1x1024x165 .f32) (harg2 : arg2.IsWhole) (arg3 : Memref sig .tc .vmem S1x1024x330 .f32) (harg3 : arg3.IsWhole) (arg4 : Memref sig .tc .vmem S1x1024x3 .f32) (harg4 : arg4.IsWhole) (arg5 : Memref sig .tc .vmem S165x256 .f32) (harg5 : arg5.IsWhole) (arg6 : Memref sig .tc .vmem S330x256 .f32) (harg6 : arg6.IsWhole) (arg7 : Memref sig .tc .vmem S3x256 .f32) (harg7 : arg7.IsWhole) (arg8 : Memref sig .tc .vmem S1x256 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S4x512 .f32) (harg13 : arg13.IsWhole) (arg14 : Memref sig .tc .vmem S512x225 .f32) (harg14 : arg14.IsWhole) (arg15 : Memref sig .tc .vmem S512x111 .f32) (harg15 : arg15.IsWhole) (arg16 : Memref sig .tc .vmem S512x90 .f32) (harg16 : arg16.IsWhole) (arg17 : Memref sig .tc .vmem S512x90 .f32) (harg17 : arg17.IsWhole) (arg18 : Memref sig .tc .vmem S1x1024x165 .f32) (harg18 : arg18.IsWhole) (arg19 : Memref sig .tc .vmem S1x1024x330 .f32) (harg19 : arg19.IsWhole) (arg20 : Memref sig .tc .vmem S1x1024x3 .f32) (harg20 : arg20.IsWhole) (arg21 : Memref sig .tc .vmem S1x1 .f32) (harg21 : arg21.IsWhole) (hc0 : ¬cond1_0 i)
    (x0 : Vec F S1x1024x165 .f32) (x1 : Vec F S1x1024x330 .f32) (x2 : Vec F S1x1024x3 .f32) (x3 : Vec F S165x256 .f32) (x4 : Vec F S330x256 .f32) (x5 : Vec F S3x256 .f32) (x6 : Vec F S1x256 .f32) (x7 : Vec F S512x64 .f32) (x8 : Vec F S512x64 .f32) (x9 : Vec F S512x64 .f32) (x10 : Vec F S512x64 .f32) (x11 : Vec F S4x512 .f32) (x12 : Vec F S512x225 .f32) (x13 : Vec F S512x111 .f32) (x14 : Vec F S512x90 .f32) (x15 : Vec F S512x90 .f32) (xo19 : Vec F S1x1 .f32) (y : S1x1024x165.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo19).1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo19).1 S1x1024x165.size (by sl_kernel_rfl) y

/-- What the body leaves in an output block. -/
def out1_B_16 (c : Dev nD) (i : grid1.Coords) (arg2 : Memref sig .tc .vmem S1x1024x165 .f32) (harg2 : arg2.IsWhole) (arg3 : Memref sig .tc .vmem S1x1024x330 .f32) (harg3 : arg3.IsWhole) (arg4 : Memref sig .tc .vmem S1x1024x3 .f32) (harg4 : arg4.IsWhole) (arg5 : Memref sig .tc .vmem S165x256 .f32) (harg5 : arg5.IsWhole) (arg6 : Memref sig .tc .vmem S330x256 .f32) (harg6 : arg6.IsWhole) (arg7 : Memref sig .tc .vmem S3x256 .f32) (harg7 : arg7.IsWhole) (arg8 : Memref sig .tc .vmem S1x256 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S4x512 .f32) (harg13 : arg13.IsWhole) (arg14 : Memref sig .tc .vmem S512x225 .f32) (harg14 : arg14.IsWhole) (arg15 : Memref sig .tc .vmem S512x111 .f32) (harg15 : arg15.IsWhole) (arg16 : Memref sig .tc .vmem S512x90 .f32) (harg16 : arg16.IsWhole) (arg17 : Memref sig .tc .vmem S512x90 .f32) (harg17 : arg17.IsWhole) (arg18 : Memref sig .tc .vmem S1x1024x165 .f32) (harg18 : arg18.IsWhole) (arg19 : Memref sig .tc .vmem S1x1024x330 .f32) (harg19 : arg19.IsWhole) (arg20 : Memref sig .tc .vmem S1x1024x3 .f32) (harg20 : arg20.IsWhole) (arg21 : Memref sig .tc .vmem S1x1 .f32) (harg21 : arg21.IsWhole) (hc0 : ¬cond1_0 i)
    (x0 : Vec F S1x1024x165 .f32) (x1 : Vec F S1x1024x330 .f32) (x2 : Vec F S1x1024x3 .f32) (x3 : Vec F S165x256 .f32) (x4 : Vec F S330x256 .f32) (x5 : Vec F S3x256 .f32) (x6 : Vec F S1x256 .f32) (x7 : Vec F S512x64 .f32) (x8 : Vec F S512x64 .f32) (x9 : Vec F S512x64 .f32) (x10 : Vec F S512x64 .f32) (x11 : Vec F S4x512 .f32) (x12 : Vec F S512x225 .f32) (x13 : Vec F S512x111 .f32) (x14 : Vec F S512x90 .f32) (x15 : Vec F S512x90 .f32) (xo19 : Vec F S1x1 .f32) : Vec F S1x1024x165 .f32 :=
  VO1_16.read (Elt F) (VO1_16.writes (Elt F) VO1_16.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo19).1)

/-- The stored pieces cover the block. -/
theorem cover1_B_17 (c : Dev nD) (i : grid1.Coords) (arg2 : Memref sig .tc .vmem S1x1024x165 .f32) (harg2 : arg2.IsWhole) (arg3 : Memref sig .tc .vmem S1x1024x330 .f32) (harg3 : arg3.IsWhole) (arg4 : Memref sig .tc .vmem S1x1024x3 .f32) (harg4 : arg4.IsWhole) (arg5 : Memref sig .tc .vmem S165x256 .f32) (harg5 : arg5.IsWhole) (arg6 : Memref sig .tc .vmem S330x256 .f32) (harg6 : arg6.IsWhole) (arg7 : Memref sig .tc .vmem S3x256 .f32) (harg7 : arg7.IsWhole) (arg8 : Memref sig .tc .vmem S1x256 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S4x512 .f32) (harg13 : arg13.IsWhole) (arg14 : Memref sig .tc .vmem S512x225 .f32) (harg14 : arg14.IsWhole) (arg15 : Memref sig .tc .vmem S512x111 .f32) (harg15 : arg15.IsWhole) (arg16 : Memref sig .tc .vmem S512x90 .f32) (harg16 : arg16.IsWhole) (arg17 : Memref sig .tc .vmem S512x90 .f32) (harg17 : arg17.IsWhole) (arg18 : Memref sig .tc .vmem S1x1024x165 .f32) (harg18 : arg18.IsWhole) (arg19 : Memref sig .tc .vmem S1x1024x330 .f32) (harg19 : arg19.IsWhole) (arg20 : Memref sig .tc .vmem S1x1024x3 .f32) (harg20 : arg20.IsWhole) (arg21 : Memref sig .tc .vmem S1x1 .f32) (harg21 : arg21.IsWhole) (hc0 : ¬cond1_0 i)
    (x0 : Vec F S1x1024x165 .f32) (x1 : Vec F S1x1024x330 .f32) (x2 : Vec F S1x1024x3 .f32) (x3 : Vec F S165x256 .f32) (x4 : Vec F S330x256 .f32) (x5 : Vec F S3x256 .f32) (x6 : Vec F S1x256 .f32) (x7 : Vec F S512x64 .f32) (x8 : Vec F S512x64 .f32) (x9 : Vec F S512x64 .f32) (x10 : Vec F S512x64 .f32) (x11 : Vec F S4x512 .f32) (x12 : Vec F S512x225 .f32) (x13 : Vec F S512x111 .f32) (x14 : Vec F S512x90 .f32) (x15 : Vec F S512x90 .f32) (xo19 : Vec F S1x1 .f32) (y : S1x1024x330.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo19).2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo19).2.1 S1x1024x330.size (by sl_kernel_rfl) y

/-- What the body leaves in an output block. -/
def out1_B_17 (c : Dev nD) (i : grid1.Coords) (arg2 : Memref sig .tc .vmem S1x1024x165 .f32) (harg2 : arg2.IsWhole) (arg3 : Memref sig .tc .vmem S1x1024x330 .f32) (harg3 : arg3.IsWhole) (arg4 : Memref sig .tc .vmem S1x1024x3 .f32) (harg4 : arg4.IsWhole) (arg5 : Memref sig .tc .vmem S165x256 .f32) (harg5 : arg5.IsWhole) (arg6 : Memref sig .tc .vmem S330x256 .f32) (harg6 : arg6.IsWhole) (arg7 : Memref sig .tc .vmem S3x256 .f32) (harg7 : arg7.IsWhole) (arg8 : Memref sig .tc .vmem S1x256 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S4x512 .f32) (harg13 : arg13.IsWhole) (arg14 : Memref sig .tc .vmem S512x225 .f32) (harg14 : arg14.IsWhole) (arg15 : Memref sig .tc .vmem S512x111 .f32) (harg15 : arg15.IsWhole) (arg16 : Memref sig .tc .vmem S512x90 .f32) (harg16 : arg16.IsWhole) (arg17 : Memref sig .tc .vmem S512x90 .f32) (harg17 : arg17.IsWhole) (arg18 : Memref sig .tc .vmem S1x1024x165 .f32) (harg18 : arg18.IsWhole) (arg19 : Memref sig .tc .vmem S1x1024x330 .f32) (harg19 : arg19.IsWhole) (arg20 : Memref sig .tc .vmem S1x1024x3 .f32) (harg20 : arg20.IsWhole) (arg21 : Memref sig .tc .vmem S1x1 .f32) (harg21 : arg21.IsWhole) (hc0 : ¬cond1_0 i)
    (x0 : Vec F S1x1024x165 .f32) (x1 : Vec F S1x1024x330 .f32) (x2 : Vec F S1x1024x3 .f32) (x3 : Vec F S165x256 .f32) (x4 : Vec F S330x256 .f32) (x5 : Vec F S3x256 .f32) (x6 : Vec F S1x256 .f32) (x7 : Vec F S512x64 .f32) (x8 : Vec F S512x64 .f32) (x9 : Vec F S512x64 .f32) (x10 : Vec F S512x64 .f32) (x11 : Vec F S4x512 .f32) (x12 : Vec F S512x225 .f32) (x13 : Vec F S512x111 .f32) (x14 : Vec F S512x90 .f32) (x15 : Vec F S512x90 .f32) (xo19 : Vec F S1x1 .f32) : Vec F S1x1024x330 .f32 :=
  VO1_17.read (Elt F) (VO1_17.writes (Elt F) VO1_17.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo19).2.1)

/-- The stored pieces cover the block. -/
theorem cover1_B_18 (c : Dev nD) (i : grid1.Coords) (arg2 : Memref sig .tc .vmem S1x1024x165 .f32) (harg2 : arg2.IsWhole) (arg3 : Memref sig .tc .vmem S1x1024x330 .f32) (harg3 : arg3.IsWhole) (arg4 : Memref sig .tc .vmem S1x1024x3 .f32) (harg4 : arg4.IsWhole) (arg5 : Memref sig .tc .vmem S165x256 .f32) (harg5 : arg5.IsWhole) (arg6 : Memref sig .tc .vmem S330x256 .f32) (harg6 : arg6.IsWhole) (arg7 : Memref sig .tc .vmem S3x256 .f32) (harg7 : arg7.IsWhole) (arg8 : Memref sig .tc .vmem S1x256 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S4x512 .f32) (harg13 : arg13.IsWhole) (arg14 : Memref sig .tc .vmem S512x225 .f32) (harg14 : arg14.IsWhole) (arg15 : Memref sig .tc .vmem S512x111 .f32) (harg15 : arg15.IsWhole) (arg16 : Memref sig .tc .vmem S512x90 .f32) (harg16 : arg16.IsWhole) (arg17 : Memref sig .tc .vmem S512x90 .f32) (harg17 : arg17.IsWhole) (arg18 : Memref sig .tc .vmem S1x1024x165 .f32) (harg18 : arg18.IsWhole) (arg19 : Memref sig .tc .vmem S1x1024x330 .f32) (harg19 : arg19.IsWhole) (arg20 : Memref sig .tc .vmem S1x1024x3 .f32) (harg20 : arg20.IsWhole) (arg21 : Memref sig .tc .vmem S1x1 .f32) (harg21 : arg21.IsWhole) (hc0 : ¬cond1_0 i)
    (x0 : Vec F S1x1024x165 .f32) (x1 : Vec F S1x1024x330 .f32) (x2 : Vec F S1x1024x3 .f32) (x3 : Vec F S165x256 .f32) (x4 : Vec F S330x256 .f32) (x5 : Vec F S3x256 .f32) (x6 : Vec F S1x256 .f32) (x7 : Vec F S512x64 .f32) (x8 : Vec F S512x64 .f32) (x9 : Vec F S512x64 .f32) (x10 : Vec F S512x64 .f32) (x11 : Vec F S4x512 .f32) (x12 : Vec F S512x225 .f32) (x13 : Vec F S512x111 .f32) (x14 : Vec F S512x90 .f32) (x15 : Vec F S512x90 .f32) (xo19 : Vec F S1x1 .f32) (y : S1x1024x3.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo19).2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo19).2.2.1 S1x1024x3.size (by sl_kernel_rfl) y

/-- What the body leaves in an output block. -/
def out1_B_18 (c : Dev nD) (i : grid1.Coords) (arg2 : Memref sig .tc .vmem S1x1024x165 .f32) (harg2 : arg2.IsWhole) (arg3 : Memref sig .tc .vmem S1x1024x330 .f32) (harg3 : arg3.IsWhole) (arg4 : Memref sig .tc .vmem S1x1024x3 .f32) (harg4 : arg4.IsWhole) (arg5 : Memref sig .tc .vmem S165x256 .f32) (harg5 : arg5.IsWhole) (arg6 : Memref sig .tc .vmem S330x256 .f32) (harg6 : arg6.IsWhole) (arg7 : Memref sig .tc .vmem S3x256 .f32) (harg7 : arg7.IsWhole) (arg8 : Memref sig .tc .vmem S1x256 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S4x512 .f32) (harg13 : arg13.IsWhole) (arg14 : Memref sig .tc .vmem S512x225 .f32) (harg14 : arg14.IsWhole) (arg15 : Memref sig .tc .vmem S512x111 .f32) (harg15 : arg15.IsWhole) (arg16 : Memref sig .tc .vmem S512x90 .f32) (harg16 : arg16.IsWhole) (arg17 : Memref sig .tc .vmem S512x90 .f32) (harg17 : arg17.IsWhole) (arg18 : Memref sig .tc .vmem S1x1024x165 .f32) (harg18 : arg18.IsWhole) (arg19 : Memref sig .tc .vmem S1x1024x330 .f32) (harg19 : arg19.IsWhole) (arg20 : Memref sig .tc .vmem S1x1024x3 .f32) (harg20 : arg20.IsWhole) (arg21 : Memref sig .tc .vmem S1x1 .f32) (harg21 : arg21.IsWhole) (hc0 : ¬cond1_0 i)
    (x0 : Vec F S1x1024x165 .f32) (x1 : Vec F S1x1024x330 .f32) (x2 : Vec F S1x1024x3 .f32) (x3 : Vec F S165x256 .f32) (x4 : Vec F S330x256 .f32) (x5 : Vec F S3x256 .f32) (x6 : Vec F S1x256 .f32) (x7 : Vec F S512x64 .f32) (x8 : Vec F S512x64 .f32) (x9 : Vec F S512x64 .f32) (x10 : Vec F S512x64 .f32) (x11 : Vec F S4x512 .f32) (x12 : Vec F S512x225 .f32) (x13 : Vec F S512x111 .f32) (x14 : Vec F S512x90 .f32) (x15 : Vec F S512x90 .f32) (xo19 : Vec F S1x1 .f32) : Vec F S1x1024x3 .f32 :=
  VO1_18.read (Elt F) (VO1_18.writes (Elt F) VO1_18.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo19).2.2.1)

/-- The stored pieces cover the block. -/
theorem cover1_B_19 (c : Dev nD) (i : grid1.Coords) (arg2 : Memref sig .tc .vmem S1x1024x165 .f32) (harg2 : arg2.IsWhole) (arg3 : Memref sig .tc .vmem S1x1024x330 .f32) (harg3 : arg3.IsWhole) (arg4 : Memref sig .tc .vmem S1x1024x3 .f32) (harg4 : arg4.IsWhole) (arg5 : Memref sig .tc .vmem S165x256 .f32) (harg5 : arg5.IsWhole) (arg6 : Memref sig .tc .vmem S330x256 .f32) (harg6 : arg6.IsWhole) (arg7 : Memref sig .tc .vmem S3x256 .f32) (harg7 : arg7.IsWhole) (arg8 : Memref sig .tc .vmem S1x256 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S4x512 .f32) (harg13 : arg13.IsWhole) (arg14 : Memref sig .tc .vmem S512x225 .f32) (harg14 : arg14.IsWhole) (arg15 : Memref sig .tc .vmem S512x111 .f32) (harg15 : arg15.IsWhole) (arg16 : Memref sig .tc .vmem S512x90 .f32) (harg16 : arg16.IsWhole) (arg17 : Memref sig .tc .vmem S512x90 .f32) (harg17 : arg17.IsWhole) (arg18 : Memref sig .tc .vmem S1x1024x165 .f32) (harg18 : arg18.IsWhole) (arg19 : Memref sig .tc .vmem S1x1024x330 .f32) (harg19 : arg19.IsWhole) (arg20 : Memref sig .tc .vmem S1x1024x3 .f32) (harg20 : arg20.IsWhole) (arg21 : Memref sig .tc .vmem S1x1 .f32) (harg21 : arg21.IsWhole) (hc0 : ¬cond1_0 i)
    (x0 : Vec F S1x1024x165 .f32) (x1 : Vec F S1x1024x330 .f32) (x2 : Vec F S1x1024x3 .f32) (x3 : Vec F S165x256 .f32) (x4 : Vec F S330x256 .f32) (x5 : Vec F S3x256 .f32) (x6 : Vec F S1x256 .f32) (x7 : Vec F S512x64 .f32) (x8 : Vec F S512x64 .f32) (x9 : Vec F S512x64 .f32) (x10 : Vec F S512x64 .f32) (x11 : Vec F S4x512 .f32) (x12 : Vec F S512x225 .f32) (x13 : Vec F S512x111 .f32) (x14 : Vec F S512x90 .f32) (x15 : Vec F S512x90 .f32) (xo19 : Vec F S1x1 .f32) (y : S1x1.Idx) :
    ∃ pc ∈ (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo19).2.2.2.1, y ∈ pc.1.set :=
  View.cover_of_tiledL (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo19).2.2.2.1 S1x1.size (by sl_kernel_rfl) y

/-- What the body leaves in an output block. -/
def out1_B_19 (c : Dev nD) (i : grid1.Coords) (arg2 : Memref sig .tc .vmem S1x1024x165 .f32) (harg2 : arg2.IsWhole) (arg3 : Memref sig .tc .vmem S1x1024x330 .f32) (harg3 : arg3.IsWhole) (arg4 : Memref sig .tc .vmem S1x1024x3 .f32) (harg4 : arg4.IsWhole) (arg5 : Memref sig .tc .vmem S165x256 .f32) (harg5 : arg5.IsWhole) (arg6 : Memref sig .tc .vmem S330x256 .f32) (harg6 : arg6.IsWhole) (arg7 : Memref sig .tc .vmem S3x256 .f32) (harg7 : arg7.IsWhole) (arg8 : Memref sig .tc .vmem S1x256 .f32) (harg8 : arg8.IsWhole) (arg9 : Memref sig .tc .vmem S512x64 .f32) (harg9 : arg9.IsWhole) (arg10 : Memref sig .tc .vmem S512x64 .f32) (harg10 : arg10.IsWhole) (arg11 : Memref sig .tc .vmem S512x64 .f32) (harg11 : arg11.IsWhole) (arg12 : Memref sig .tc .vmem S512x64 .f32) (harg12 : arg12.IsWhole) (arg13 : Memref sig .tc .vmem S4x512 .f32) (harg13 : arg13.IsWhole) (arg14 : Memref sig .tc .vmem S512x225 .f32) (harg14 : arg14.IsWhole) (arg15 : Memref sig .tc .vmem S512x111 .f32) (harg15 : arg15.IsWhole) (arg16 : Memref sig .tc .vmem S512x90 .f32) (harg16 : arg16.IsWhole) (arg17 : Memref sig .tc .vmem S512x90 .f32) (harg17 : arg17.IsWhole) (arg18 : Memref sig .tc .vmem S1x1024x165 .f32) (harg18 : arg18.IsWhole) (arg19 : Memref sig .tc .vmem S1x1024x330 .f32) (harg19 : arg19.IsWhole) (arg20 : Memref sig .tc .vmem S1x1024x3 .f32) (harg20 : arg20.IsWhole) (arg21 : Memref sig .tc .vmem S1x1 .f32) (harg21 : arg21.IsWhole) (hc0 : ¬cond1_0 i)
    (x0 : Vec F S1x1024x165 .f32) (x1 : Vec F S1x1024x330 .f32) (x2 : Vec F S1x1024x3 .f32) (x3 : Vec F S165x256 .f32) (x4 : Vec F S330x256 .f32) (x5 : Vec F S3x256 .f32) (x6 : Vec F S1x256 .f32) (x7 : Vec F S512x64 .f32) (x8 : Vec F S512x64 .f32) (x9 : Vec F S512x64 .f32) (x10 : Vec F S512x64 .f32) (x11 : Vec F S4x512 .f32) (x12 : Vec F S512x225 .f32) (x13 : Vec F S512x111 .f32) (x14 : Vec F S512x90 .f32) (x15 : Vec F S512x90 .f32) (xo19 : Vec F S1x1 .f32) : Vec F S1x1 .f32 :=
  VO1_19.read (Elt F) (VO1_19.writes (Elt F) VO1_19.junk (kernelRun1_B c i arg2 harg2 arg3 harg3 arg4 harg4 arg5 harg5 arg6 harg6 arg7 harg7 arg8 harg8 arg9 harg9 arg10 harg10 arg11 harg11 arg12 harg12 arg13 harg13 arg14 harg14 arg15 harg15 arg16 harg16 arg17 harg17 arg18 harg18 arg19 harg19 arg20 harg20 arg21 harg21 hc0 x0 x1 x2 x3 x4 x5 x6 x7 x8 x9 x10 x11 x12 x13 x14 x15 xo19).2.2.2.1)

/-- The output blocks, point by point. -/
def outsAt1 (c : Dev nD) : (n : ℕ) → n < cfg1.N → Vec F S1x1024x165 .f32 × Vec F S1x1024x330 .f32 × Vec F S1x1024x3 .f32 × Vec F S1x1 .f32
  | 0, hn => (out1_A_16 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) (ms1_15 ⟨0, hn⟩) (hs1_15 ⟨0, hn⟩) (ms1_16 ⟨0, hn⟩) (hs1_16 ⟨0, hn⟩) (ms1_17 ⟨0, hn⟩) (hs1_17 ⟨0, hn⟩) (ms1_18 ⟨0, hn⟩) (hs1_18 ⟨0, hn⟩) (ms1_19 ⟨0, hn⟩) (hs1_19 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩) (iblk1 V c 12 ⟨0, hn⟩) (iblk1 V c 13 ⟨0, hn⟩) (iblk1 V c 14 ⟨0, hn⟩) (iblk1 V c 15 ⟨0, hn⟩), out1_A_17 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) (ms1_15 ⟨0, hn⟩) (hs1_15 ⟨0, hn⟩) (ms1_16 ⟨0, hn⟩) (hs1_16 ⟨0, hn⟩) (ms1_17 ⟨0, hn⟩) (hs1_17 ⟨0, hn⟩) (ms1_18 ⟨0, hn⟩) (hs1_18 ⟨0, hn⟩) (ms1_19 ⟨0, hn⟩) (hs1_19 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩) (iblk1 V c 12 ⟨0, hn⟩) (iblk1 V c 13 ⟨0, hn⟩) (iblk1 V c 14 ⟨0, hn⟩) (iblk1 V c 15 ⟨0, hn⟩), out1_A_18 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) (ms1_15 ⟨0, hn⟩) (hs1_15 ⟨0, hn⟩) (ms1_16 ⟨0, hn⟩) (hs1_16 ⟨0, hn⟩) (ms1_17 ⟨0, hn⟩) (hs1_17 ⟨0, hn⟩) (ms1_18 ⟨0, hn⟩) (hs1_18 ⟨0, hn⟩) (ms1_19 ⟨0, hn⟩) (hs1_19 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩) (iblk1 V c 12 ⟨0, hn⟩) (iblk1 V c 13 ⟨0, hn⟩) (iblk1 V c 14 ⟨0, hn⟩) (iblk1 V c 15 ⟨0, hn⟩), out1_A_19 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) (ms1_3 ⟨0, hn⟩) (hs1_3 ⟨0, hn⟩) (ms1_4 ⟨0, hn⟩) (hs1_4 ⟨0, hn⟩) (ms1_5 ⟨0, hn⟩) (hs1_5 ⟨0, hn⟩) (ms1_6 ⟨0, hn⟩) (hs1_6 ⟨0, hn⟩) (ms1_7 ⟨0, hn⟩) (hs1_7 ⟨0, hn⟩) (ms1_8 ⟨0, hn⟩) (hs1_8 ⟨0, hn⟩) (ms1_9 ⟨0, hn⟩) (hs1_9 ⟨0, hn⟩) (ms1_10 ⟨0, hn⟩) (hs1_10 ⟨0, hn⟩) (ms1_11 ⟨0, hn⟩) (hs1_11 ⟨0, hn⟩) (ms1_12 ⟨0, hn⟩) (hs1_12 ⟨0, hn⟩) (ms1_13 ⟨0, hn⟩) (hs1_13 ⟨0, hn⟩) (ms1_14 ⟨0, hn⟩) (hs1_14 ⟨0, hn⟩) (ms1_15 ⟨0, hn⟩) (hs1_15 ⟨0, hn⟩) (ms1_16 ⟨0, hn⟩) (hs1_16 ⟨0, hn⟩) (ms1_17 ⟨0, hn⟩) (hs1_17 ⟨0, hn⟩) (ms1_18 ⟨0, hn⟩) (hs1_18 ⟨0, hn⟩) (ms1_19 ⟨0, hn⟩) (hs1_19 ⟨0, hn⟩) ((hcond1_0 ⟨0, hn⟩).mpr (Nat.zero_mod _)) (iblk1 V c 0 ⟨0, hn⟩) (iblk1 V c 1 ⟨0, hn⟩) (iblk1 V c 2 ⟨0, hn⟩) (iblk1 V c 3 ⟨0, hn⟩) (iblk1 V c 4 ⟨0, hn⟩) (iblk1 V c 5 ⟨0, hn⟩) (iblk1 V c 6 ⟨0, hn⟩) (iblk1 V c 7 ⟨0, hn⟩) (iblk1 V c 8 ⟨0, hn⟩) (iblk1 V c 9 ⟨0, hn⟩) (iblk1 V c 10 ⟨0, hn⟩) (iblk1 V c 11 ⟨0, hn⟩) (iblk1 V c 12 ⟨0, hn⟩) (iblk1 V c 13 ⟨0, hn⟩) (iblk1 V c 14 ⟨0, hn⟩) (iblk1 V c 15 ⟨0, hn⟩))
  | n + 1, hn =>
    if h0 : (n + 1) % 32 = 0 then
      (out1_A_16 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) (ms1_17 ⟨n + 1, hn⟩) (hs1_17 ⟨n + 1, hn⟩) (ms1_18 ⟨n + 1, hn⟩) (hs1_18 ⟨n + 1, hn⟩) (ms1_19 ⟨n + 1, hn⟩) (hs1_19 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (iblk1 V c 15 ⟨n + 1, hn⟩), out1_A_17 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) (ms1_17 ⟨n + 1, hn⟩) (hs1_17 ⟨n + 1, hn⟩) (ms1_18 ⟨n + 1, hn⟩) (hs1_18 ⟨n + 1, hn⟩) (ms1_19 ⟨n + 1, hn⟩) (hs1_19 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (iblk1 V c 15 ⟨n + 1, hn⟩), out1_A_18 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) (ms1_17 ⟨n + 1, hn⟩) (hs1_17 ⟨n + 1, hn⟩) (ms1_18 ⟨n + 1, hn⟩) (hs1_18 ⟨n + 1, hn⟩) (ms1_19 ⟨n + 1, hn⟩) (hs1_19 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (iblk1 V c 15 ⟨n + 1, hn⟩), out1_A_19 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) (ms1_17 ⟨n + 1, hn⟩) (hs1_17 ⟨n + 1, hn⟩) (ms1_18 ⟨n + 1, hn⟩) (hs1_18 ⟨n + 1, hn⟩) (ms1_19 ⟨n + 1, hn⟩) (hs1_19 ⟨n + 1, hn⟩) ((hcond1_0 ⟨n + 1, hn⟩).mpr h0) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (iblk1 V c 15 ⟨n + 1, hn⟩))
    else
      (out1_B_16 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) (ms1_17 ⟨n + 1, hn⟩) (hs1_17 ⟨n + 1, hn⟩) (ms1_18 ⟨n + 1, hn⟩) (hs1_18 ⟨n + 1, hn⟩) (ms1_19 ⟨n + 1, hn⟩) (hs1_19 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (iblk1 V c 15 ⟨n + 1, hn⟩) (outsAt1 c n (Nat.lt_of_succ_lt hn)).2.2.2, out1_B_17 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) (ms1_17 ⟨n + 1, hn⟩) (hs1_17 ⟨n + 1, hn⟩) (ms1_18 ⟨n + 1, hn⟩) (hs1_18 ⟨n + 1, hn⟩) (ms1_19 ⟨n + 1, hn⟩) (hs1_19 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (iblk1 V c 15 ⟨n + 1, hn⟩) (outsAt1 c n (Nat.lt_of_succ_lt hn)).2.2.2, out1_B_18 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) (ms1_17 ⟨n + 1, hn⟩) (hs1_17 ⟨n + 1, hn⟩) (ms1_18 ⟨n + 1, hn⟩) (hs1_18 ⟨n + 1, hn⟩) (ms1_19 ⟨n + 1, hn⟩) (hs1_19 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (iblk1 V c 15 ⟨n + 1, hn⟩) (outsAt1 c n (Nat.lt_of_succ_lt hn)).2.2.2, out1_B_19 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) (ms1_3 ⟨n + 1, hn⟩) (hs1_3 ⟨n + 1, hn⟩) (ms1_4 ⟨n + 1, hn⟩) (hs1_4 ⟨n + 1, hn⟩) (ms1_5 ⟨n + 1, hn⟩) (hs1_5 ⟨n + 1, hn⟩) (ms1_6 ⟨n + 1, hn⟩) (hs1_6 ⟨n + 1, hn⟩) (ms1_7 ⟨n + 1, hn⟩) (hs1_7 ⟨n + 1, hn⟩) (ms1_8 ⟨n + 1, hn⟩) (hs1_8 ⟨n + 1, hn⟩) (ms1_9 ⟨n + 1, hn⟩) (hs1_9 ⟨n + 1, hn⟩) (ms1_10 ⟨n + 1, hn⟩) (hs1_10 ⟨n + 1, hn⟩) (ms1_11 ⟨n + 1, hn⟩) (hs1_11 ⟨n + 1, hn⟩) (ms1_12 ⟨n + 1, hn⟩) (hs1_12 ⟨n + 1, hn⟩) (ms1_13 ⟨n + 1, hn⟩) (hs1_13 ⟨n + 1, hn⟩) (ms1_14 ⟨n + 1, hn⟩) (hs1_14 ⟨n + 1, hn⟩) (ms1_15 ⟨n + 1, hn⟩) (hs1_15 ⟨n + 1, hn⟩) (ms1_16 ⟨n + 1, hn⟩) (hs1_16 ⟨n + 1, hn⟩) (ms1_17 ⟨n + 1, hn⟩) (hs1_17 ⟨n + 1, hn⟩) (ms1_18 ⟨n + 1, hn⟩) (hs1_18 ⟨n + 1, hn⟩) (ms1_19 ⟨n + 1, hn⟩) (hs1_19 ⟨n + 1, hn⟩) (fun h => h0 ((hcond1_0 ⟨n + 1, hn⟩).mp h)) (iblk1 V c 0 ⟨n + 1, hn⟩) (iblk1 V c 1 ⟨n + 1, hn⟩) (iblk1 V c 2 ⟨n + 1, hn⟩) (iblk1 V c 3 ⟨n + 1, hn⟩) (iblk1 V c 4 ⟨n + 1, hn⟩) (iblk1 V c 5 ⟨n + 1, hn⟩) (iblk1 V c 6 ⟨n + 1, hn⟩) (iblk1 V c 7 ⟨n + 1, hn⟩) (iblk1 V c 8 ⟨n + 1, hn⟩) (iblk1 V c 9 ⟨n + 1, hn⟩) (iblk1 V c 10 ⟨n + 1, hn⟩) (iblk1 V c 11 ⟨n + 1, hn⟩) (iblk1 V c 12 ⟨n + 1, hn⟩) (iblk1 V c 13 ⟨n + 1, hn⟩) (iblk1 V c 14 ⟨n + 1, hn⟩) (iblk1 V c 15 ⟨n + 1, hn⟩) (outsAt1 c n (Nat.lt_of_succ_lt hn)).2.2.2)

/-- At the first point. -/
theorem outsAt1_A (c : Dev nD) (t : Fin cfg1.N) (h0 : t.val % 32 = 0) :
    outsAt1 V c t.val t.isLt = (out1_A_16 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t), out1_A_17 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t), out1_A_18 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t), out1_A_19 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t)) := by
  obtain ⟨n, hn⟩ := t
  cases n with
  | zero => exact rfl
  | succ n => exact (dif_pos h0).trans rfl

/-- At a later point. -/
theorem outsAt1_B (c : Dev nD) (t : Fin cfg1.N) (h0 : ¬t.val % 32 = 0) :
    outsAt1 V c t.val t.isLt = (out1_B_16 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (outsAt1 V c (t.val - 1) (Nat.lt_of_le_of_lt (Nat.sub_le _ _) t.isLt)).2.2.2, out1_B_17 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (outsAt1 V c (t.val - 1) (Nat.lt_of_le_of_lt (Nat.sub_le _ _) t.isLt)).2.2.2, out1_B_18 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (outsAt1 V c (t.val - 1) (Nat.lt_of_le_of_lt (Nat.sub_le _ _) t.isLt)).2.2.2, out1_B_19 c (grid1.coords t) (ms1_0 t) (hs1_0 t) (ms1_1 t) (hs1_1 t) (ms1_2 t) (hs1_2 t) (ms1_3 t) (hs1_3 t) (ms1_4 t) (hs1_4 t) (ms1_5 t) (hs1_5 t) (ms1_6 t) (hs1_6 t) (ms1_7 t) (hs1_7 t) (ms1_8 t) (hs1_8 t) (ms1_9 t) (hs1_9 t) (ms1_10 t) (hs1_10 t) (ms1_11 t) (hs1_11 t) (ms1_12 t) (hs1_12 t) (ms1_13 t) (hs1_13 t) (ms1_14 t) (hs1_14 t) (ms1_15 t) (hs1_15 t) (ms1_16 t) (hs1_16 t) (ms1_17 t) (hs1_17 t) (ms1_18 t) (hs1_18 t) (ms1_19 t) (hs1_19 t) (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) (outsAt1 V c (t.val - 1) (Nat.lt_of_le_of_lt (Nat.sub_le _ _) t.isLt)).2.2.2) := by
  obtain ⟨n, hn⟩ := t
  cases n with
  | zero => exact (by exfalso; (try dsimp only at h0); exact absurd (Nat.zero_mod _) h0)
  | succ n => exact (dif_neg h0).trans rfl

/-- The call's proof data. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => iblk1 V c 6 t
    | ⟨7, _⟩ => iblk1 V c 7 t
    | ⟨8, _⟩ => iblk1 V c 8 t
    | ⟨9, _⟩ => iblk1 V c 9 t
    | ⟨10, _⟩ => iblk1 V c 10 t
    | ⟨11, _⟩ => iblk1 V c 11 t
    | ⟨12, _⟩ => iblk1 V c 12 t
    | ⟨13, _⟩ => iblk1 V c 13 t
    | ⟨14, _⟩ => iblk1 V c 14 t
    | ⟨15, _⟩ => iblk1 V c 15 t
    | ⟨16, _⟩ => (outsAt1 V c t.val t.isLt).1
    | ⟨17, _⟩ => (outsAt1 V c t.val t.isLt).2.1
    | ⟨18, _⟩ => (outsAt1 V c t.val t.isLt).2.2.1
    | ⟨19, _⟩ => (outsAt1 V c t.val t.isLt).2.2.2
    | ⟨_ + 20, h⟩ => absurd h (Nat.not_lt.2 (Nat.le_add_left _ _))
  Φ _ := Pipeline.ΦA spec1 c
  q _ := fullShare
  owed _ := 0

/-- A window's array at the start. -/
theorem A_eq1 (c : Dev nD) (w : Fin cfg1.W) : (dat1 V c).A w = V c (Pipeline.arrRef spec1 w) := by
  dsimp only [dat1]

/-- What a window holds after a point. -/
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = iblk1 V c 5 t := by dsimp only [dat1]
theorem after1_6 (c : Dev nD) (t : Fin cfg1.N) : (dat1 V c).after 6 t = iblk1 V c 6 t := by dsimp only [dat1]
theorem after1_7 (c : Dev nD) (t : Fin cfg1.N) : (dat1 V c).after 7 t = iblk1 V c 7 t := by dsimp only [dat1]
theorem after1_8 (c : Dev nD) (t : Fin cfg1.N) : (dat1 V c).after 8 t = iblk1 V c 8 t := by dsimp only [dat1]
theorem after1_9 (c : Dev nD) (t : Fin cfg1.N) : (dat1 V c).after 9 t = iblk1 V c 9 t := by dsimp only [dat1]
theorem after1_10 (c : Dev nD) (t : Fin cfg1.N) : (dat1 V c).after 10 t = iblk1 V c 10 t := by dsimp only [dat1]
theorem after1_11 (c : Dev nD) (t : Fin cfg1.N) : (dat1 V c).after 11 t = iblk1 V c 11 t := by dsimp only [dat1]
theorem after1_12 (c : Dev nD) (t : Fin cfg1.N) : (dat1 V c).after 12 t = iblk1 V c 12 t := by dsimp only [dat1]
theorem after1_13 (c : Dev nD) (t : Fin cfg1.N) : (dat1 V c).after 13 t = iblk1 V c 13 t := by dsimp only [dat1]
theorem after1_14 (c : Dev nD) (t : Fin cfg1.N) : (dat1 V c).after 14 t = iblk1 V c 14 t := by dsimp only [dat1]
theorem after1_15 (c : Dev nD) (t : Fin cfg1.N) : (dat1 V c).after 15 t = iblk1 V c 15 t := by dsimp only [dat1]
theorem after1_16 (c : Dev nD) (t : Fin cfg1.N) : (dat1 V c).after 16 t = (outsAt1 V c t.val t.isLt).1 := by dsimp only [dat1]
theorem after1_17 (c : Dev nD) (t : Fin cfg1.N) : (dat1 V c).after 17 t = (outsAt1 V c t.val t.isLt).2.1 := by dsimp only [dat1]
theorem after1_18 (c : Dev nD) (t : Fin cfg1.N) : (dat1 V c).after 18 t = (outsAt1 V c t.val t.isLt).2.2.1 := by dsimp only [dat1]
theorem after1_19 (c : Dev nD) (t : Fin cfg1.N) : (dat1 V c).after 19 t = (outsAt1 V c t.val t.isLt).2.2.2 := by dsimp only [dat1]

/-- Each input's current staging buffer holds its block at every point, fetched there or not (`beforeK_W_of`). -/
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d
theorem before1_5 (c : Dev nD) (t : Fin cfg1.N) (d) : (dat1 V c).before 5 t d = iblk1 V c 5 t :=
  before1_5_of V (dat1 V c) (A_eq1 V c 5) (after1_5 V c) t d
theorem before1_6 (c : Dev nD) (t : Fin cfg1.N) (d) : (dat1 V c).before 6 t d = iblk1 V c 6 t :=
  before1_6_of V (dat1 V c) (A_eq1 V c 6) (after1_6 V c) t d
theorem before1_7 (c : Dev nD) (t : Fin cfg1.N) (d) : (dat1 V c).before 7 t d = iblk1 V c 7 t :=
  before1_7_of V (dat1 V c) (A_eq1 V c 7) (after1_7 V c) t d
theorem before1_8 (c : Dev nD) (t : Fin cfg1.N) (d) : (dat1 V c).before 8 t d = iblk1 V c 8 t :=
  before1_8_of V (dat1 V c) (A_eq1 V c 8) (after1_8 V c) t d
theorem before1_9 (c : Dev nD) (t : Fin cfg1.N) (d) : (dat1 V c).before 9 t d = iblk1 V c 9 t :=
  before1_9_of V (dat1 V c) (A_eq1 V c 9) (after1_9 V c) t d
theorem before1_10 (c : Dev nD) (t : Fin cfg1.N) (d) : (dat1 V c).before 10 t d = iblk1 V c 10 t :=
  before1_10_of V (dat1 V c) (A_eq1 V c 10) (after1_10 V c) t d
theorem before1_11 (c : Dev nD) (t : Fin cfg1.N) (d) : (dat1 V c).before 11 t d = iblk1 V c 11 t :=
  before1_11_of V (dat1 V c) (A_eq1 V c 11) (after1_11 V c) t d
theorem before1_12 (c : Dev nD) (t : Fin cfg1.N) (d) : (dat1 V c).before 12 t d = iblk1 V c 12 t :=
  before1_12_of V (dat1 V c) (A_eq1 V c 12) (after1_12 V c) t d
theorem before1_13 (c : Dev nD) (t : Fin cfg1.N) (d) : (dat1 V c).before 13 t d = iblk1 V c 13 t :=
  before1_13_of V (dat1 V c) (A_eq1 V c 13) (after1_13 V c) t d
theorem before1_14 (c : Dev nD) (t : Fin cfg1.N) (d) : (dat1 V c).before 14 t d = iblk1 V c 14 t :=
  before1_14_of V (dat1 V c) (A_eq1 V c 14) (after1_14 V c) t d
theorem before1_15 (c : Dev nD) (t : Fin cfg1.N) (d) : (dat1 V c).before 15 t d = iblk1 V c 15 t :=
  before1_15_of V (dat1 V c) (A_eq1 V c 15) (after1_15 V c) t d
/-- At a later point the sum so far is still in its buffer. -/
theorem before1_19_B (c : Dev nD) (t : Fin cfg1.N) (h0 : ¬t.val % 32 = 0) (d) :
    (dat1 V c).before 19 t d = (outsAt1 V c (t.val - 1) (Nat.lt_of_le_of_lt (Nat.sub_le _ _) t.isLt)).2.2.2 := by
  have hN : t.val < 32 := lt_of_lt_of_eq t.isLt (show cfg1.N = 32 from N_1)
  rw [Dat.before_out_kept _ 19 rfl t (by omega) (Bool.eq_false_iff.mpr fun h => by have := (flush1_19 _).mp h; dsimp only at this; omega)
    (fun _ => rfl) (fun _ _ => rfl)]
  dsimp only [dat1]

/-- What the body is called with at point `t` (Lib/Pipeline.lean `BodyObligation`'s precondition, the windows one by one), -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d))
    ∗ (∃ d, owns (c : Thread nD τ) (ms1_6 t) fullShare ((dat1 V c).before 6 t d))
    ∗ (∃ d, owns (c : Thread nD τ) (ms1_7 t) fullShare ((dat1 V c).before 7 t d))
    ∗ (∃ d, owns (c : Thread nD τ) (ms1_8 t) fullShare ((dat1 V c).before 8 t d))
    ∗ (∃ d, owns (c : Thread nD τ) (ms1_9 t) fullShare ((dat1 V c).before 9 t d))
    ∗ (∃ d, owns (c : Thread nD τ) (ms1_10 t) fullShare ((dat1 V c).before 10 t d))
    ∗ (∃ d, owns (c : Thread nD τ) (ms1_11 t) fullShare ((dat1 V c).before 11 t d))
    ∗ (∃ d, owns (c : Thread nD τ) (ms1_12 t) fullShare ((dat1 V c).before 12 t d))
    ∗ (∃ d, owns (c : Thread nD τ) (ms1_13 t) fullShare ((dat1 V c).before 13 t d))
    ∗ (∃ d, owns (c : Thread nD τ) (ms1_14 t) fullShare ((dat1 V c).before 14 t d))
    ∗ (∃ d, owns (c : Thread nD τ) (ms1_15 t) fullShare ((dat1 V c).before 15 t d))
    ∗ (∃ d, owns (c : Thread nD τ) (ms1_16 t) fullShare ((dat1 V c).before 16 t d))
    ∗ (∃ d, owns (c : Thread nD τ) (ms1_17 t) fullShare ((dat1 V c).before 17 t d))
    ∗ (∃ d, owns (c : Thread nD τ) (ms1_18 t) fullShare ((dat1 V c).before 18 t d))
    ∗ (∃ d, owns (c : Thread nD τ) (ms1_19 t) fullShare ((dat1 V c).before 19 t d)))

/-- and what it returns. -/
def bodyPost1 (c : Dev nD) (t : Fin cfg1.N) : sProp 𝕄 :=
  iprop((dat1 V c).Φ t.succ ∗ (dat1 V c).owesAt () t.succ
    ∗ owns (c : Thread nD τ) (ms1_0 t) fullShare ((dat1 V c).after 0 t)
    ∗ owns (c : Thread nD τ) (ms1_1 t) fullShare ((dat1 V c).after 1 t)
    ∗ owns (c : Thread nD τ) (ms1_2 t) fullShare ((dat1 V c).after 2 t)
    ∗ owns (c : Thread nD τ) (ms1_3 t) fullShare ((dat1 V c).after 3 t)
    ∗ owns (c : Thread nD τ) (ms1_4 t) fullShare ((dat1 V c).after 4 t)
    ∗ owns (c : Thread nD τ) (ms1_5 t) fullShare ((dat1 V c).after 5 t)
    ∗ owns (c : Thread nD τ) (ms1_6 t) fullShare ((dat1 V c).after 6 t)
    ∗ owns (c : Thread nD τ) (ms1_7 t) fullShare ((dat1 V c).after 7 t)
    ∗ owns (c : Thread nD τ) (ms1_8 t) fullShare ((dat1 V c).after 8 t)
    ∗ owns (c : Thread nD τ) (ms1_9 t) fullShare ((dat1 V c).after 9 t)
    ∗ owns (c : Thread nD τ) (ms1_10 t) fullShare ((dat1 V c).after 10 t)
    ∗ owns (c : Thread nD τ) (ms1_11 t) fullShare ((dat1 V c).after 11 t)
    ∗ owns (c : Thread nD τ) (ms1_12 t) fullShare ((dat1 V c).after 12 t)
    ∗ owns (c : Thread nD τ) (ms1_13 t) fullShare ((dat1 V c).after 13 t)
    ∗ owns (c : Thread nD τ) (ms1_14 t) fullShare ((dat1 V c).after 14 t)
    ∗ owns (c : Thread nD τ) (ms1_15 t) fullShare ((dat1 V c).after 15 t)
    ∗ owns (c : Thread nD τ) (ms1_16 t) fullShare ((dat1 V c).after 16 t)
    ∗ owns (c : Thread nD τ) (ms1_17 t) fullShare ((dat1 V c).after 17 t)
    ∗ owns (c : Thread nD τ) (ms1_18 t) fullShare ((dat1 V c).after 18 t)
    ∗ owns (c : Thread nD τ) (ms1_19 t) fullShare ((dat1 V c).after 19 t))

set_option maxHeartbeats 4000000 in
/-- The body at any point, by the two cases. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4, before1_5, before1_6, before1_7, before1_8, before1_9, before1_10, before1_11, before1_12, before1_13, before1_14, before1_15]
  rw [show (dat1 V c).Φ t.succ = (dat1 V c).Φ t.castSucc from rfl,
    show (dat1 V c).owesAt () t.succ = (dat1 V c).owesAt () t.castSucc from rfl,
    after1_0, after1_1, after1_2, after1_3, after1_4, after1_5, after1_6, after1_7, after1_8, after1_9, after1_10, after1_11, after1_12, after1_13, after1_14, after1_15, after1_16, after1_17, after1_18, after1_19]
  have hN : t.val < 32 := lt_of_lt_of_eq t.isLt (show cfg1.N = 32 from N_1)
  by_cases h0 : t.val % 32 = 0
  · rw [outsAt1_A V c t h0]
    unfold out1_A_16 out1_A_17 out1_A_18 out1_A_19; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((kernelRun1_A c (grid1.coords t) _ _ _ _ _ _ _ _ _ _ _ _ _ _ _ _ _ _ _ _ _ _ _ _ _ _ _ _ _ _ _ _ _ _ _ _ _ _ _ _ ((hcond1_0 t).mpr h0) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t)).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexists _; iexact H19
    iintro ⟨H0, H1, H2, H3, H4, H5, H6, H7, H8, H9, H10, H11, H12, H13, H14, H15, ⟨%e16, H16⟩, ⟨%e17, H17⟩, ⟨%e18, H18⟩, ⟨%e19, H19⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]
    · unfold owns; iexists _; isplitr
      swap; · iexact H16
      ipureintro; exact View.read_writes_of_cover _ _ _ _ _ (cover1_A_16 c _ _ _ _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover1_A_17 c _ _ _ _ _ _ _ _ _ _ _ _ _ _ _ _ _ _ _ _ _ _ _ _ _ _ _ _ _ _ _ _ _ _ _ _ _ _ _ _ _ _ _ _ _ _ _ _ _ _ _ _ _ _ _ _ _ _)
    isplitl [H18]
    · unfold owns; iexists _; isplitr
      swap; · iexact H18
      ipureintro; exact View.read_writes_of_cover _ _ _ _ _ (cover1_A_18 c _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H19
    ipureintro; exact View.read_writes_of_cover _ _ _ _ _ (cover1_A_19 c _ _ _ _ _ _ _ _ _ _ _ _ _ _ _ _ _ _ _ _ _ _ _ _ _ _ _ _ _ _ _ _ _ _ _ _ _ _ _ _ _ _ _ _ _ _ _ _ _ _ _ _ _ _ _ _ _ _)
  · rw [outsAt1_B V c t h0]
    simp only [before1_19_B V c t h0]
    unfold out1_B_16 out1_B_17 out1_B_18 out1_B_19; (try dsimp only)
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩, ⟨%d13, H13⟩, ⟨%d14, H14⟩, ⟨%d15, H15⟩, ⟨%d16, H16⟩, ⟨%d17, H17⟩, ⟨%d18, H18⟩, ⟨%d19, H19⟩⟩
    iapply ((kernelRun1_B c (grid1.coords t) _ _ _ _ _ _ _ _ _ _ _ _ _ _ _ _ _ _ _ _ _ _ _ _ _ _ _ _ _ _ _ _ _ _ _ _ _ _ _ _ (fun h => h0 ((hcond1_0 t).mp h)) (iblk1 V c 0 t) (iblk1 V c 1 t) (iblk1 V c 2 t) (iblk1 V c 3 t) (iblk1 V c 4 t) (iblk1 V c 5 t) (iblk1 V c 6 t) (iblk1 V c 7 t) (iblk1 V c 8 t) (iblk1 V c 9 t) (iblk1 V c 10 t) (iblk1 V c 11 t) (iblk1 V c 12 t) (iblk1 V c 13 t) (iblk1 V c 14 t) (iblk1 V c 15 t) _).2.2.2.2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexists _; iexact H16
    isplitl [H17]; · iexists _; iexact H17
    isplitl [H18]; · iexists _; iexact H18
    isplitl [H19]; · iexact H19
    iintro ⟨H0, H1, H2, H3, H4, H5, H6, H7, H8, H9, H10, H11, H12, H13, H14, H15, ⟨%e16, H16⟩, ⟨%e17, H17⟩, ⟨%e18, H18⟩, ⟨%e19, H19⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]
    · unfold owns; iexists _; isplitr
      swap; · iexact H16
      ipureintro; exact View.read_writes_of_cover _ _ _ _ _ (cover1_B_16 c _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H17]
    · unfold owns; iexists _; isplitr
      swap; · iexact H17
      ipureintro; exact View.read_writes_of_cover _ _ _ _ _ (cover1_B_17 c _ _ _ _ _ _ _ _ _ _ _ _ _ _ _ _ _ _ _ _ _ _ _ _ _ _ _ _ _ _ _ _ _ _ _ _ _ _ _ _ _ _ _ _ _ _ _ _ _ _ _ _ _ _ _ _ _ _ _)
    isplitl [H18]
    · unfold owns; iexists _; isplitr
      swap; · iexact H18
      ipureintro; exact View.read_writes_of_cover _ _ _ _ _ (cover1_B_18 c _ _ _ _ _ _ _ _ _ _ _ _ _ _ _ _ _ _ _ _ _ _ _ _ _ _ _ _ _ _ _ _ _ _ _ _ _ _ _ _ _ _ _ _ _ _ _ _ _ _ _ _ _ _ _ _ _ _ _)
    unfold owns; iexists _; isplitr
    swap; · iexact H19
    ipureintro; exact View.read_writes_of_cover _ _ _ _ _ (cover1_B_19 c _ _ _ _ _ _ _ _ _ _ _ _ _ _ _ _ _ _ _ _ _ _ _ _ _ _ _ _ _ _ _ _ _ _ _ _ _ _ _ _ _ _ _ _ _ _ _ _ _ _ _ _ _ _ _ _ _ _ _)

/-- The body table's row at point `t`'s slots is the body as `bodyAt1` spells it. -/
theorem defs₀_row1 (t : Fin cfg1.N) :
    defs₀ (F := F) .tc cfg1.body (cfg1.bodyArgs t (cfg1.slots t)) = bodyAt1 t := by
  unfold defs₀; rw [Defs.onTc_tc]

set_option maxHeartbeats 2000000 in
/-- The body's obligation. -/
theorem body_obligation1 (c : Dev nD) : BodyObligation (dat1 (F := F) V c) (defs₀ (F := F)) Variants.none () Set.univ := fun t => by
  rw [bigSep_W1, bigSep_W1, defs₀_row1]
  exact triple_restated (sound_body1 V c t) rfl .rfl fun _ => .rfl

end Regions

end Cert.KernelIdeal.Gen

end
-- ==== Proof.Frame.Hosts0.lean ====
/-
The host stretches: what each writes, and that none writes an argument.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.RegionsLoop
public import Idealize.ShloMosaic.Lib.Pipeline.FrameSuffix
public import Idealize.ShloMosaic.Lib.Ring
public import Idealize.ShloMosaic.Lib.Tactic
public import Idealize.ShloMosaic.Lib.WordCmp

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The argument buffers. -/
abbrev argRefs : List (Ref sig .tc) := [main_arg0, main_arg1, main_arg2, main_arg3, main_arg4, main_arg5, main_arg6, main_arg7, main_arg8, main_arg9, main_arg10, main_arg11, main_arg12, main_arg13, main_arg14, main_arg15, main_arg16, main_arg17, main_arg18, main_arg19, main_arg20, main_arg21, main_arg22]

/-- Every operation determines its results. -/
theorem hostOps0_fresh : (hostOps0 : List (HloOp τ sig (Elt F))).Forall fun op => op.fresh = ∅ := by
  simp only [List.Forall]; repeat' constructor
/-- The buffers the stretch writes. -/
abbrev hostOps0_W : List (Ref sig .tc) := [main_c, main_c_0, main_c_1, main_c_2, main_c_3, main_c_4, main_c_5, main_c_6, main_cst, main_v0, main_c_7, main_cst_8, main_c_9, main_c_10, main_cst_11, main_v1, main_c_12, main_cst_13]
theorem hostOps0_writes : (hostOps0 : List (HloOp τ sig (Elt F))).Forall fun op => op.writes ⊆ (hostOps0_W.map (Proc.devRef (τ := τ) .tc)).toFinset :=
  StableHlo.forall_writes_sub_of_map rfl
/-- No argument is written. -/
theorem hostOps0_args : ∀ a ∈ argRefs, a ∉ hostOps0_W := ListAll.forall_mem_of_all_decide (by decide +kernel)

/-- Every operation determines its results. -/
theorem hostOps0_1_fresh : (hostOps0_1 : List (HloOp τ sig (Elt F))).Forall fun op => op.fresh = ∅ := by
  simp only [List.Forall]; repeat' constructor
/-- The buffers the stretch writes. -/
abbrev hostOps0_1_W : List (Ref sig .tc) := [main_call0_cst, main_call0_v4, main_call0_cst_0, main_call0_v5, main_call0_cst_1, main_call0_v6, main_call0_cst_2, main_call0_v7, main_v2]
theorem hostOps0_1_writes : (hostOps0_1 : List (HloOp τ sig (Elt F))).Forall fun op => op.writes ⊆ (hostOps0_1_W.map (Proc.devRef (τ := τ) .tc)).toFinset :=
  StableHlo.forall_writes_sub_of_map rfl
/-- No argument is written. -/
theorem hostOps0_1_args : ∀ a ∈ argRefs, a ∉ hostOps0_1_W := ListAll.forall_mem_of_all_decide (by decide +kernel)

/-- Every operation determines its results. -/
theorem hostOps0_2_fresh : (hostOps0_2 : List (HloOp τ sig (Elt F))).Forall fun op => op.fresh = ∅ := by
  simp only [List.Forall]; repeat' constructor
/-- The buffers the stretch writes. -/
abbrev hostOps0_2_W : List (Ref sig .tc) := [main_c_14, main_v3, main_v4, main_v5, main_v6, main_v7, main_c_15, main_v8, main_v9, main_v10, main_v11, main_v12, main_c_16, main_v13, main_v14, main_v15, main_v16, main_v17, main_v18, main_v19, main_c_17, main_v20, main_v21, main_v22, main_v23, main_v24, main_v25, main_v26, main_c_18, main_v27, main_v28, main_v29, main_v30, main_v31, main_v32, main_v33, main_c_19, main_v34, main_v35, main_v36, main_v37, main_v38, main_v39, main_v40, main_c_20, main_v41, main_v42, main_v43, main_v44, main_v45, main_v46, main_v47, main_v48, main_v49, main_v50, main_v51, main_v52, main_v53]
theorem hostOps0_2_writes : (hostOps0_2 : List (HloOp τ sig (Elt F))).Forall fun op => op.writes ⊆ (hostOps0_2_W.map (Proc.devRef (τ := τ) .tc)).toFinset :=
  StableHlo.forall_writes_sub_of_map rfl
/-- No argument is written. -/
theorem hostOps0_2_args : ∀ a ∈ argRefs, a ∉ hostOps0_2_W := ListAll.forall_mem_of_all_decide (by decide +kernel)

/-- Every operation determines its results. -/
theorem hostOps2_fresh : (hostOps2 : List (HloOp τ sig (Elt F))).Forall fun op => op.fresh = ∅ := by
  simp only [List.Forall]; repeat' constructor
/-- The buffers the stretch writes. -/
abbrev hostOps2_W : List (Ref sig .tc) := [main_v56]
theorem hostOps2_writes : (hostOps2 : List (HloOp τ sig (Elt F))).Forall fun op => op.writes ⊆ (hostOps2_W.map (Proc.devRef (τ := τ) .tc)).toFinset :=
  StableHlo.forall_writes_sub_of_map rfl
/-- No argument is written. -/
theorem hostOps2_args : ∀ a ∈ argRefs, a ∉ hostOps2_W := ListAll.forall_mem_of_all_decide (by decide +kernel)

end Cert.KernelIdeal.Gen

end
-- ==== Proof.Frame.Fold0.lean ====
/-
The buffer contents at every boundary of the run, and the arguments read back through them.
-/
module

public import proofs.«01_k».proof.Proof.Frame.Region0
public import proofs.«01_k».proof.Proof.Frame.Region1
public import proofs.«01_k».proof.Proof.Frame.Hosts0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The buffer contents at this boundary. -/
abbrev W0 : Dev nD → Valuation τ sig (Elt F) := fun c b => (s₀ m ρ).mem ((c : Dev nD), b)
theorem W0_args (c : Dev nD) : ∀ a ∈ argRefs, W0 m ρ c (Proc.devRef .tc a) = m ((c : Thread nD τ).loc a) := fun _ _ => rfl
/-- The buffer contents at this boundary. -/
abbrev W1 : Dev nD → Valuation τ sig (Elt F) := fun c => StableHlo.after hostOps0 (W0 m ρ c)
/-- A buffer not written here keeps its contents. -/
theorem W1_of (c : Dev nD) (r : Ref sig .tc) (h : r ∉ hostOps0_W) : W1 m ρ c (Proc.devRef .tc r) = W0 m ρ c (Proc.devRef .tc r) :=
  StableHlo.after_of_writes_sub hostOps0 _ hostOps0_writes h
theorem W1_args (c : Dev nD) : ∀ a ∈ argRefs, W1 m ρ c (Proc.devRef .tc a) = m ((c : Thread nD τ).loc a) :=
  fun a ha => (W1_of m ρ c a (hostOps0_args a ha)).trans (W0_args m ρ c a ha)
/-- The buffer contents at this boundary. -/
abbrev W2 : Dev nD → Valuation τ sig (Elt F) := fun c => StableHlo.after hostOps0_1 (W1 m ρ c)
/-- A buffer not written here keeps its contents. -/
theorem W2_of (c : Dev nD) (r : Ref sig .tc) (h : r ∉ hostOps0_1_W) : W2 m ρ c (Proc.devRef .tc r) = W1 m ρ c (Proc.devRef .tc r) :=
  StableHlo.after_of_writes_sub hostOps0_1 _ hostOps0_1_writes h
theorem W2_args (c : Dev nD) : ∀ a ∈ argRefs, W2 m ρ c (Proc.devRef .tc a) = m ((c : Thread nD τ).loc a) :=
  fun a ha => (W2_of m ρ c a (hostOps0_1_args a ha)).trans (W1_args m ρ c a ha)
/-- The buffer contents at this boundary. -/
abbrev W3 : Dev nD → Valuation τ sig (Elt F) := fun c => StableHlo.after hostOps0_2 (W2 m ρ c)
/-- A buffer not written here keeps its contents. -/
theorem W3_of (c : Dev nD) (r : Ref sig .tc) (h : r ∉ hostOps0_2_W) : W3 m ρ c (Proc.devRef .tc r) = W2 m ρ c (Proc.devRef .tc r) :=
  StableHlo.after_of_writes_sub hostOps0_2 _ hostOps0_2_writes h
theorem W3_args (c : Dev nD) : ∀ a ∈ argRefs, W3 m ρ c (Proc.devRef .tc a) = m ((c : Thread nD τ).loc a) :=
  fun a ha => (W3_of m ρ c a (hostOps0_2_args a ha)).trans (W2_args m ρ c a ha)
/-- The same, by reference. -/
abbrev V3 : (c : Dev nD) → (b : Ref sig .tc) → Buf (Elt F) ((c : Thread nD τ).loc b) := fun c b => W3 m ρ c b
/-- The buffer contents at this boundary. -/
def W4 (c : Dev nD) : Valuation τ sig (Elt F) :=
  Pipeline.withArrays spec0 c (W3 m ρ c) fun w => (dat0 (V3 m ρ) c).arrAt w cfg0.N
theorem W4_arr (c : Dev nD) (w : Fin cfg0.W) :
    W4 m ρ c (Proc.devRef .tc (Pipeline.arrRef spec0 w)) = (dat0 (V3 m ρ) c).arrAt w cfg0.N := by
  unfold W4; exact Pipeline.withArrays_arr spec0 launch0.win.arr_inj c _ _ w
theorem W4_of_ne (c : Dev nD) (b : Ref sig .tc) (hb : ∀ w, Pipeline.arrRef spec0 w ≠ b) :
    W4 m ρ c (Proc.devRef .tc b) = W3 m ρ c (Proc.devRef .tc b) := by
  unfold W4; exact Pipeline.withArrays_of_ne spec0 c _ _ b hb
/-- A buffer not written here keeps its contents. -/
theorem W4_of (c : Dev nD) (r : Ref sig .tc) (h : ∀ w : Fin cfg0.W, Pipeline.arrRef spec0 w = r → (cfg0.win w).isOut = false) :
    W4 m ρ c (Proc.devRef .tc r) = W3 m ρ c (Proc.devRef .tc r) := by
  by_cases hw : ∃ w : Fin cfg0.W, Pipeline.arrRef spec0 w = r
  · obtain ⟨w, rfl⟩ := hw
    exact (W4_arr m ρ c w).trans (((dat0 (V3 m ρ) c).arrAt_in w (h w rfl) _).trans (A_eq0 (V3 m ρ) c w))
  · exact W4_of_ne m ρ c r fun w e => hw ⟨w, e⟩
/-- No argument is an output of the call. -/
theorem argsIn0 : ∀ a ∈ argRefs, ∀ w : Fin cfg0.W, Pipeline.arrRef spec0 w = a → (cfg0.win w).isOut = false :=
  ListAll.forall_mem_of_all_decide (by decide +kernel)
theorem W4_args (c : Dev nD) : ∀ a ∈ argRefs, W4 m ρ c (Proc.devRef .tc a) = m ((c : Thread nD τ).loc a) :=
  fun a ha => (W4_of m ρ c a (argsIn0 a ha)).trans (W3_args m ρ c a ha)
/-- The same, by reference. -/
abbrev V4 : (c : Dev nD) → (b : Ref sig .tc) → Buf (Elt F) ((c : Thread nD τ).loc b) := fun c b => W4 m ρ c b
/-- The arrays the call leaves. -/
theorem hF0 (c : Dev nD) (w : Fin cfg0.W) : (dat0 (V3 m ρ) c).arrAt w cfg0.N = V4 m ρ c (Pipeline.arrRef spec0 w) :=
  (W4_arr m ρ c w).symm
theorem hrest0 (c : Dev nD) : ∀ b, b ∉ Finset.univ.image (Pipeline.arrRef spec0) → V4 m ρ c b = V3 m ρ c b :=
  fun b hb => W4_of_ne m ρ c b fun w e => hb (Finset.mem_image.mpr ⟨w, Finset.mem_univ _, e⟩)

/-- The buffer contents at this boundary. -/
def W5 (c : Dev nD) : Valuation τ sig (Elt F) :=
  Pipeline.withArrays spec1 c (W4 m ρ c) fun w => (dat1 (V4 m ρ) c).arrAt w cfg1.N
theorem W5_arr (c : Dev nD) (w : Fin cfg1.W) :
    W5 m ρ c (Proc.devRef .tc (Pipeline.arrRef spec1 w)) = (dat1 (V4 m ρ) c).arrAt w cfg1.N := by
  unfold W5; exact Pipeline.withArrays_arr spec1 launch1.win.arr_inj c _ _ w
theorem W5_of_ne (c : Dev nD) (b : Ref sig .tc) (hb : ∀ w, Pipeline.arrRef spec1 w ≠ b) :
    W5 m ρ c (Proc.devRef .tc b) = W4 m ρ c (Proc.devRef .tc b) := by
  unfold W5; exact Pipeline.withArrays_of_ne spec1 c _ _ b hb
/-- A buffer not written here keeps its contents. -/
theorem W5_of (c : Dev nD) (r : Ref sig .tc) (h : ∀ w : Fin cfg1.W, Pipeline.arrRef spec1 w = r → (cfg1.win w).isOut = false) :
    W5 m ρ c (Proc.devRef .tc r) = W4 m ρ c (Proc.devRef .tc r) := by
  by_cases hw : ∃ w : Fin cfg1.W, Pipeline.arrRef spec1 w = r
  · obtain ⟨w, rfl⟩ := hw
    exact (W5_arr m ρ c w).trans (((dat1 (V4 m ρ) c).arrAt_in w (h w rfl) _).trans (A_eq1 (V4 m ρ) c w))
  · exact W5_of_ne m ρ c r fun w e => hw ⟨w, e⟩
/-- No argument is an output of the call. -/
theorem argsIn1 : ∀ a ∈ argRefs, ∀ w : Fin cfg1.W, Pipeline.arrRef spec1 w = a → (cfg1.win w).isOut = false :=
  ListAll.forall_mem_of_all_decide (by decide +kernel)
theorem W5_args (c : Dev nD) : ∀ a ∈ argRefs, W5 m ρ c (Proc.devRef .tc a) = m ((c : Thread nD τ).loc a) :=
  fun a ha => (W5_of m ρ c a (argsIn1 a ha)).trans (W4_args m ρ c a ha)
/-- The same, by reference. -/
abbrev V5 : (c : Dev nD) → (b : Ref sig .tc) → Buf (Elt F) ((c : Thread nD τ).loc b) := fun c b => W5 m ρ c b
/-- The arrays the call leaves. -/
theorem hF1 (c : Dev nD) (w : Fin cfg1.W) : (dat1 (V4 m ρ) c).arrAt w cfg1.N = V5 m ρ c (Pipeline.arrRef spec1 w) :=
  (W5_arr m ρ c w).symm
theorem hrest1 (c : Dev nD) : ∀ b, b ∉ Finset.univ.image (Pipeline.arrRef spec1) → V5 m ρ c b = V4 m ρ c b :=
  fun b hb => W5_of_ne m ρ c b fun w e => hb (Finset.mem_image.mpr ⟨w, Finset.mem_univ _, e⟩)

/-- The buffer contents at this boundary. -/
abbrev W6 : Dev nD → Valuation τ sig (Elt F) := fun c => StableHlo.after hostOps2 (W5 m ρ c)
/-- A buffer not written here keeps its contents. -/
theorem W6_of (c : Dev nD) (r : Ref sig .tc) (h : r ∉ hostOps2_W) : W6 m ρ c (Proc.devRef .tc r) = W5 m ρ c (Proc.devRef .tc r) :=
  StableHlo.after_of_writes_sub hostOps2 _ hostOps2_writes h
theorem W6_args (c : Dev nD) : ∀ a ∈ argRefs, W6 m ρ c (Proc.devRef .tc a) = m ((c : Thread nD τ).loc a) :=
  fun a ha => (W6_of m ρ c a (hostOps2_args a ha)).trans (W5_args m ρ c a ha)

theorem W6_main_arg0 (c : Dev nD) : W6 m ρ c (Proc.devRef .tc main_arg0) = m ((c : Thread nD τ).loc main_arg0) :=
  W6_args m ρ c main_arg0 (by decide)
theorem W6_main_arg1 (c : Dev nD) : W6 m ρ c (Proc.devRef .tc main_arg1) = m ((c : Thread nD τ).loc main_arg1) :=
  W6_args m ρ c main_arg1 (by decide)
theorem W6_main_arg2 (c : Dev nD) : W6 m ρ c (Proc.devRef .tc main_arg2) = m ((c : Thread nD τ).loc main_arg2) :=
  W6_args m ρ c main_arg2 (by decide)
theorem W6_main_arg3 (c : Dev nD) : W6 m ρ c (Proc.devRef .tc main_arg3) = m ((c : Thread nD τ).loc main_arg3) :=
  W6_args m ρ c main_arg3 (by decide)
theorem W6_main_arg4 (c : Dev nD) : W6 m ρ c (Proc.devRef .tc main_arg4) = m ((c : Thread nD τ).loc main_arg4) :=
  W6_args m ρ c main_arg4 (by decide)
theorem W6_main_arg5 (c : Dev nD) : W6 m ρ c (Proc.devRef .tc main_arg5) = m ((c : Thread nD τ).loc main_arg5) :=
  W6_args m ρ c main_arg5 (by decide)
theorem W6_main_arg6 (c : Dev nD) : W6 m ρ c (Proc.devRef .tc main_arg6) = m ((c : Thread nD τ).loc main_arg6) :=
  W6_args m ρ c main_arg6 (by decide)
theorem W6_main_arg7 (c : Dev nD) : W6 m ρ c (Proc.devRef .tc main_arg7) = m ((c : Thread nD τ).loc main_arg7) :=
  W6_args m ρ c main_arg7 (by decide)
theorem W6_main_arg8 (c : Dev nD) : W6 m ρ c (Proc.devRef .tc main_arg8) = m ((c : Thread nD τ).loc main_arg8) :=
  W6_args m ρ c main_arg8 (by decide)
theorem W6_main_arg9 (c : Dev nD) : W6 m ρ c (Proc.devRef .tc main_arg9) = m ((c : Thread nD τ).loc main_arg9) :=
  W6_args m ρ c main_arg9 (by decide)
theorem W6_main_arg10 (c : Dev nD) : W6 m ρ c (Proc.devRef .tc main_arg10) = m ((c : Thread nD τ).loc main_arg10) :=
  W6_args m ρ c main_arg10 (by decide)
theorem W6_main_arg11 (c : Dev nD) : W6 m ρ c (Proc.devRef .tc main_arg11) = m ((c : Thread nD τ).loc main_arg11) :=
  W6_args m ρ c main_arg11 (by decide)
theorem W6_main_arg12 (c : Dev nD) : W6 m ρ c (Proc.devRef .tc main_arg12) = m ((c : Thread nD τ).loc main_arg12) :=
  W6_args m ρ c main_arg12 (by decide)
theorem W6_main_arg13 (c : Dev nD) : W6 m ρ c (Proc.devRef .tc main_arg13) = m ((c : Thread nD τ).loc main_arg13) :=
  W6_args m ρ c main_arg13 (by decide)
theorem W6_main_arg14 (c : Dev nD) : W6 m ρ c (Proc.devRef .tc main_arg14) = m ((c : Thread nD τ).loc main_arg14) :=
  W6_args m ρ c main_arg14 (by decide)
theorem W6_main_arg15 (c : Dev nD) : W6 m ρ c (Proc.devRef .tc main_arg15) = m ((c : Thread nD τ).loc main_arg15) :=
  W6_args m ρ c main_arg15 (by decide)
theorem W6_main_arg16 (c : Dev nD) : W6 m ρ c (Proc.devRef .tc main_arg16) = m ((c : Thread nD τ).loc main_arg16) :=
  W6_args m ρ c main_arg16 (by decide)
theorem W6_main_arg17 (c : Dev nD) : W6 m ρ c (Proc.devRef .tc main_arg17) = m ((c : Thread nD τ).loc main_arg17) :=
  W6_args m ρ c main_arg17 (by decide)
theorem W6_main_arg18 (c : Dev nD) : W6 m ρ c (Proc.devRef .tc main_arg18) = m ((c : Thread nD τ).loc main_arg18) :=
  W6_args m ρ c main_arg18 (by decide)
theorem W6_main_arg19 (c : Dev nD) : W6 m ρ c (Proc.devRef .tc main_arg19) = m ((c : Thread nD τ).loc main_arg19) :=
  W6_args m ρ c main_arg19 (by decide)
theorem W6_main_arg20 (c : Dev nD) : W6 m ρ c (Proc.devRef .tc main_arg20) = m ((c : Thread nD τ).loc main_arg20) :=
  W6_args m ρ c main_arg20 (by decide)
theorem W6_main_arg21 (c : Dev nD) : W6 m ρ c (Proc.devRef .tc main_arg21) = m ((c : Thread nD τ).loc main_arg21) :=
  W6_args m ρ c main_arg21 (by decide)
theorem W6_main_arg22 (c : Dev nD) : W6 m ρ c (Proc.devRef .tc main_arg22) = m ((c : Thread nD τ).loc main_arg22) :=
  W6_args m ρ c main_arg22 (by decide)
end Cert.KernelIdeal.Gen

end
-- ==== Proof.Frame.State.lean ====
/-
The calls' proof data and the state the core carries from segment to segment.
-/
module

public import proofs.«01_k».proof.Proof.Frame.Fold0

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The prefetched tables' admissible contents: no pipeline has a table. -/
abbrev adm : (p : Fin 2) → (pcfgs (F := F) p).Adm := fun p => (cfgs p).toPCfg_adm
/-- Every call's proof data, at the contents it is entered with. -/
def pdats : (p : Fin 2) → (c : Dev nD) → Dat τ (Elt F) Unit ℕ (UR sig nD τ) ℕ (Pipeline.pin (pcfgs (F := F)) adm p) c
  | ⟨0, _⟩ => fun c => dat0 (V3 m ρ) c
  | ⟨1, _⟩ => fun c => dat1 (V4 m ρ) c
abbrev 𝒱₀ : Variants := Variants.none
/-- No core owes another anything: no level is assigned. -/
abbrev L : GSem nD τ sig → Finset Unit := fun _ => ∅
abbrev lv : GSem nD τ sig → Unit → ℕ := fun _ _ => 0
/-- What the core carries beside the buffers. -/
abbrev R (c : Dev nD) : sProp 𝕄 := iprop((∃ r, prngReg c r) ∗ ∃ W, owes (c : Thread nD τ) (0 : CellTallies nD τ sig Unit) W)
/-- A host stretch as a segment. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- An unscoped TensorCore reference is among those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
/-- The last state of the core. -/
abbrev Tₙ (c : Dev nD) : sProp 𝕄 := iprop(StableHlo.held (c : Thread nD τ) (Pipeline.ucRefs τ sig) (W6 m ρ c) ∗ ∃ r, prngReg c r)

end Cert.KernelIdeal.Gen

end
-- ==== Proof.Frame.Record0.lean ====
/-
The first call as a segment of the run.
-/
module

public import proofs.«01_k».proof.Proof.Frame.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The first call as a segment. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V3 m ρ) c).loose
  hwaits := Pipeline.hwaits_of_owed_zero _ _ _ _ L lv 0 fun _ _ => rfl
  pre c := iprop(StableHlo.held (c : Thread nD τ) (Pipeline.ucRefs τ sig) (W3 m ρ c) ∗ R c)
  post c := iprop(StableHlo.held (c : Thread nD τ) (Pipeline.ucRefs τ sig) (W4 m ρ c) ∗ R c)
  X c := iprop(∃ r, prngReg c r)
  Y c := iprop(∃ r, prngReg c r)
  Z c := Pipeline.unscopedRest (Ix := Unit) (Name := ℕ) (U := UR sig nD τ) (Lvl := ℕ) spec0 c (V3 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V3 m ρ c) (A_eq0 (V3 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V3 m ρ c) (V4 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.Record1.lean ====
/-
The second call as a segment of the run.
-/
module

public import proofs.«01_k».proof.Proof.Frame.State

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- The second call as a segment. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V4 m ρ) c).loose
  hwaits := Pipeline.hwaits_of_owed_zero _ _ _ _ L lv 1 fun _ _ => rfl
  pre c := iprop(StableHlo.held (c : Thread nD τ) (Pipeline.ucRefs τ sig) (W4 m ρ c) ∗ R c)
  post c := iprop(StableHlo.held (c : Thread nD τ) (Pipeline.ucRefs τ sig) (W5 m ρ c) ∗ R c)
  X c := iprop(∃ r, prngReg c r)
  Y c := iprop(∃ r, prngReg c r)
  Z c := Pipeline.unscopedRest (Ix := Unit) (Name := ℕ) (U := UR sig nD τ) (Lvl := ℕ) spec1 c (V4 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V4 m ρ c) (A_eq1 (V4 m ρ) c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none, show (pdats m ρ 1 c).Φ (Fin.last _) = Pipeline.ΦA spec1 c from rfl]; unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V4 m ρ c) (V5 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

end Cert.KernelIdeal.Gen

end
-- ==== Proof.Frame.lean ====
/-
The run of the whole program: two kernel calls among host operations, the arguments kept and the counters at zero.
-/
module

public import proofs.«01_k».proof.Proof.Frame.Record0
public import proofs.«01_k».proof.Proof.Frame.Record1

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- @main's 6 segments in order: a host segment per stretch from its boundary's contents, a region per pallas_call. -/
abbrev segs : List (Pipeline.Seg (pcfgs (F := F)) adm (pdats m ρ) () defs₀ 𝒱₀ L lv) :=
  [ .host (hseg hostOps0 hostOps0_sub hostOps0_fresh (W0 m ρ)),
    .host (hseg hostOps0_1 hostOps0_1_sub hostOps0_1_fresh (W1 m ρ)),
    .host (hseg hostOps0_2 hostOps0_2_sub hostOps0_2_fresh (W2 m ρ)),
    .region (reg0 m ρ),
    .region (reg1 m ρ),
    .host (hseg hostOps2 hostOps2_sub hostOps2_fresh (W5 m ρ)) ]
/-- The host program is the run of the segments. -/
theorem main_run (c : Dev nD) : main (F := F) c = Pipeline.Seg.run (segs m ρ) := (main_chain c).trans (by chain_rfl)

/-- The TensorCore has no unscoped semaphore. -/
theorem no_unscoped : ∀ sm : SemLoc sig, sm.isScoped .tc = true := by decide

set_option backward.isDefEq.respectTransparency.types false in
/-- The run ends, every unscoped buffer at what the last segment leaves and every counter at zero. -/
theorem run : θ_run defs (onTc (τ := τ) (main (F := F))) ⟨m, fun _ => 0, ρ⟩ (fun r =>
    (∀ c : Dev nD, ∀ b ∈ Pipeline.ucRefs τ sig, r.2.mem ((c : Thread nD τ).1, b) = W6 m ρ c b) ∧ r.2.sem = fun _ => 0) :=
  Pipeline.θ_run_regions_kit_sems (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h hz => ⟨h, funext fun g => hz g (.inr (no_unscoped g.2))⟩)

/-- The run ends, the arguments kept and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22))
      ∧ r.2.sem = fun _ => 0) :=
  (θ_run defs _ _).mono (fun r h => ⟨(fun c =>
      ⟨(h.1 c _ (mem_uc main_arg0 (by decide))).trans (W6_main_arg0 m ρ c),
       (h.1 c _ (mem_uc main_arg1 (by decide))).trans (W6_main_arg1 m ρ c),
       (h.1 c _ (mem_uc main_arg2 (by decide))).trans (W6_main_arg2 m ρ c),
       (h.1 c _ (mem_uc main_arg3 (by decide))).trans (W6_main_arg3 m ρ c),
       (h.1 c _ (mem_uc main_arg4 (by decide))).trans (W6_main_arg4 m ρ c),
       (h.1 c _ (mem_uc main_arg5 (by decide))).trans (W6_main_arg5 m ρ c),
       (h.1 c _ (mem_uc main_arg6 (by decide))).trans (W6_main_arg6 m ρ c),
       (h.1 c _ (mem_uc main_arg7 (by decide))).trans (W6_main_arg7 m ρ c),
       (h.1 c _ (mem_uc main_arg8 (by decide))).trans (W6_main_arg8 m ρ c),
       (h.1 c _ (mem_uc main_arg9 (by decide))).trans (W6_main_arg9 m ρ c),
       (h.1 c _ (mem_uc main_arg10 (by decide))).trans (W6_main_arg10 m ρ c),
       (h.1 c _ (mem_uc main_arg11 (by decide))).trans (W6_main_arg11 m ρ c),
       (h.1 c _ (mem_uc main_arg12 (by decide))).trans (W6_main_arg12 m ρ c),
       (h.1 c _ (mem_uc main_arg13 (by decide))).trans (W6_main_arg13 m ρ c),
       (h.1 c _ (mem_uc main_arg14 (by decide))).trans (W6_main_arg14 m ρ c),
       (h.1 c _ (mem_uc main_arg15 (by decide))).trans (W6_main_arg15 m ρ c),
       (h.1 c _ (mem_uc main_arg16 (by decide))).trans (W6_main_arg16 m ρ c),
       (h.1 c _ (mem_uc main_arg17 (by decide))).trans (W6_main_arg17 m ρ c),
       (h.1 c _ (mem_uc main_arg18 (by decide))).trans (W6_main_arg18 m ρ c),
       (h.1 c _ (mem_uc main_arg19 (by decide))).trans (W6_main_arg19 m ρ c),
       (h.1 c _ (mem_uc main_arg20 (by decide))).trans (W6_main_arg20 m ρ c),
       (h.1 c _ (mem_uc main_arg21 (by decide))).trans (W6_main_arg21 m ρ c),
       (h.1 c _ (mem_uc main_arg22 (by decide))).trans (W6_main_arg22 m ρ c)⟩), h.2⟩) (run m ρ)

/-- `frame` without the counters: the argument arrays end unchanged. -/
theorem unchanged : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)
      ∧ r.2.mem ((c.tc : Thread nD τ).loc main_arg15) = m ((c.tc : Thread nD τ).loc main_arg15)
      ∧ r.2.mem ((c.tc : Thread nD τ).loc main_arg16) = m ((c.tc : Thread nD τ).loc main_arg16)
      ∧ r.2.mem ((c.tc : Thread nD τ).loc main_arg17) = m ((c.tc : Thread nD τ).loc main_arg17)
      ∧ r.2.mem ((c.tc : Thread nD τ).loc main_arg18) = m ((c.tc : Thread nD τ).loc main_arg18)
      ∧ r.2.mem ((c.tc : Thread nD τ).loc main_arg19) = m ((c.tc : Thread nD τ).loc main_arg19)
      ∧ r.2.mem ((c.tc : Thread nD τ).loc main_arg20) = m ((c.tc : Thread nD τ).loc main_arg20)
      ∧ r.2.mem ((c.tc : Thread nD τ).loc main_arg21) = m ((c.tc : Thread nD τ).loc main_arg21)
      ∧ r.2.mem ((c.tc : Thread nD τ).loc main_arg22) = m ((c.tc : Thread nD τ).loc main_arg22)) :=
  (θ_run defs _ _).mono (fun _ h => h.1) (frame m ρ)

end Cert.KernelIdeal.Gen

end
-- ==== Proof.Transfer.lean ====
/-
The kernel as printed and the ideal kernel are the same program, so the ideal kernel's frame is the kernel's.
-/
module

public import proofs.«01_k».proof.Defs
public import proofs.«01_k».proof.Proof.Gen.Kernel
public import proofs.«01_k».proof.Proof.Frame

@[expose] public section

set_option maxRecDepth 16384

noncomputable section

namespace Cert.Proof

open Idealize.ShloMosaic Idealize.SL.Sem

set_option maxHeartbeats 4000000 in
/-- The two kernels' bodies agree. -/
theorem bodies_eq : Cert.Kernel.defs₀ (F := Bits) = Cert.KernelIdeal.defs₀ (F := Bits) := by
  unfold Cert.Kernel.defs₀ Cert.KernelIdeal.defs₀
  refine congrArg Defs.onTc (funext fun l => ?_)
  match l with
  | 0 => exact funext fun ⟨t, s⟩ => rfl
  | 1 => exact funext fun ⟨t, s⟩ => rfl

set_option maxHeartbeats 4000000 in
/-- So do the body tables. -/
theorem defs_eq : Cert.Kernel.defs (F := Bits) = Cert.KernelIdeal.defs (F := Bits) :=
  congrArg (Pipeline.defs Cert.Kernel.pcfgs) bodies_eq

set_option maxHeartbeats 20000000 in
/-- So does the first stretch of the host program. -/
theorem main0_eq : Cert.Kernel.main_part0 (F := Bits) = Cert.KernelIdeal.main_part0 (F := Bits) := by
  unfold Cert.Kernel.main_part0 Cert.KernelIdeal.main_part0
  rfl

set_option maxHeartbeats 20000000 in
/-- So does the second. -/
theorem main1_eq : Cert.Kernel.main_part1 (F := Bits) = Cert.KernelIdeal.main_part1 (F := Bits) := by
  unfold Cert.Kernel.main_part1 Cert.KernelIdeal.main_part1
  rfl

set_option maxHeartbeats 4000000 in
/-- So does the host program. -/
theorem main_eq : Cert.Kernel.main (F := Bits) = Cert.KernelIdeal.main (F := Bits) := by
  unfold Cert.Kernel.main Cert.KernelIdeal.main
  rw [main0_eq, main1_eq]
  rfl

set_option maxHeartbeats 4000000 in
/-- The kernel as printed runs to the end, its arguments and every semaphore counter as at the start. -/
theorem kernel_frame : Cert.quiescent_Kernel := fun m ρ _ => by
  rw [defs_eq, main_eq]
  exact Cert.KernelIdeal.Gen.frame (F := Bits) m ρ

/-- So does the ideal kernel. -/
theorem ideal_frame : Cert.quiescent_KernelIdeal := fun m ρ _ => Cert.KernelIdeal.Gen.frame m ρ

end Cert.Proof

end
-- ==== Proof.RefRun.lean ====
/-
The reference program as one straight line of host operations, and reads of single buffers of its run.
-/
module

public import proofs.«01_k».proof.Proof.Gen.ReferenceIdeal
public import Idealize.ShloMosaic.Lib.StableHlo.Run
public import Idealize.ShloMosaic.Lib.StableHlo.RunHlo
public import Idealize.ShloMosaic.Lib.StableHlo.RunRead
public import Idealize.ShloMosaic.Lib.Pipeline.Frame

@[expose] public section

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

variable {F : FTy → Type} [FloatOps F]

/-- Two straight lines, one after the other. -/
theorem IsSeq.append {p q : Prog (TpuEff nD τ sig (Elt F) (Pipeline.Sig Λ₀ (Fin 0) fun p => (pcfgs (F := F) p).Adm) .tc) PUnit}
    {k l : List (HloOp τ sig (Elt F))} (hp : IsSeq p k) (hq : IsSeq q l) : IsSeq (p >>= fun _ => q) (k ++ l) := by
  unfold IsSeq at hp hq ⊢
  rw [hp, hq, seq_append]

/-- A program packed with the list of its operations. -/
def lineOf {p : Prog (TpuEff nD τ sig (Elt F) (Pipeline.Sig Λ₀ (Fin 0) fun p => (pcfgs (F := F) p).Adm) .tc) PUnit}
    {l : List (HloOp τ sig (Elt F))} (h : IsSeq p l) : {l : List (HloOp τ sig (Elt F)) // IsSeq p l} := ⟨l, h⟩

set_option maxHeartbeats 2000000 in
/-- Window 0 of the line, with its operations read off the program. -/
def win0 : {l : List (HloOp τ sig (Elt F)) // IsSeq (main_part0 (F := F) 0) l} := by
  apply lineOf; unfold main_part0; hlo_seq

set_option maxHeartbeats 2000000 in
/-- Window 1 of the line, with its operations read off the program. -/
def win1 : {l : List (HloOp τ sig (Elt F)) // IsSeq (main_part1 (F := F) 0) l} := by
  apply lineOf; unfold main_part1; hlo_seq

set_option maxHeartbeats 2000000 in
/-- Window 2 of the line, with its operations read off the program. -/
def win2 : {l : List (HloOp τ sig (Elt F)) // IsSeq (main_part2 (F := F) 0) l} := by
  apply lineOf; unfold main_part2; hlo_seq

set_option maxHeartbeats 2000000 in
/-- Window 3 of the line, with its operations read off the program. -/
def win3 : {l : List (HloOp τ sig (Elt F)) // IsSeq (main_part3 (F := F) 0) l} := by
  apply lineOf; unfold main_part3; hlo_seq

set_option maxHeartbeats 2000000 in
/-- Window 4 of the line, with its operations read off the program. -/
def win4 : {l : List (HloOp τ sig (Elt F)) // IsSeq (main_part4 (F := F) 0) l} := by
  apply lineOf; unfold main_part4; hlo_seq

set_option maxHeartbeats 2000000 in
/-- Window 5 of the line, with its operations read off the program. -/
def win5 : {l : List (HloOp τ sig (Elt F)) // IsSeq (main_part5 (F := F) 0) l} := by
  apply lineOf; unfold main_part5; hlo_seq

set_option maxHeartbeats 2000000 in
/-- Window 6 of the line, with its operations read off the program. -/
def win6 : {l : List (HloOp τ sig (Elt F)) // IsSeq (main_part6 (F := F) 0) l} := by
  apply lineOf; unfold main_part6; hlo_seq

/-- The whole line. -/
def ops : List (HloOp τ sig (Elt F)) :=
  win0.1 ++ (win1.1 ++ (win2.1 ++ (win3.1 ++ (win4.1 ++ (win5.1 ++ win6.1)))))

theorem ops_line (d : Dev nD) : IsSeq (main (F := F) d) ops := by
  obtain rfl : d = 0 := Subsingleton.elim _ _
  exact IsSeq.append win0.2 (IsSeq.append win1.2 (IsSeq.append win2.2 (IsSeq.append win3.2 (IsSeq.append win4.2
    (IsSeq.append win5.2 win6.2)))))

/-- The buffers the line writes, in order: each of them once. -/
def written : List (Ref sig .tc) :=
  [main_c, main_c_0, main_c_1, main_c_2, main_v0, main_v1, main_c_3, main_v2, main_v3, main_c_4, main_v4, main_v5, main_v6,
   main_v7, main_v8, main_v9, main_c_5, main_v10, main_v11, main_c_6, main_v12, main_v13, main_v14, main_v15, main_v16,
   main_v17, main_c_7, main_v18, main_v19, main_c_8, main_v20, main_v21, main_v22, main_v23, main_v24, main_v25, main_c_9,
   main_v26, main_v27, main_c_10, main_v28, main_v29, main_v30, main_v31, main_v32, main_v33, main_c_11, main_v34, main_v35,
   main_c_12, main_v36, main_v37, main_v38, main_v39, main_v40, main_v41, main_c_13, main_v42, main_v43, main_c_14, main_v44,
   main_v45, main_v46, main_v47, main_v48, main_v49, main_c_15, main_v50, main_v51, main_c_16, main_v52, main_v53, main_v54,
   main_v55, main_v56, main_v57, main_c_17, main_v58, main_v59, main_c_18, main_v60, main_v61, main_v62, main_v63, main_v64,
   main_v65, main_v66, main_v67, main_v68, main_v69, main_v70, main_v71, main_v72, main_cst, main_v73, main_v74, main_v75,
   main_v76, main_cst_19, main_v77, main_v78, main_v79, main_v80, main_v81, main_cst_20, main_v82, main_v83, main_v84,
   main_v85, main_call0_v0, main_call0_cst, main_call0_c, main_call0_v1_0, main_v86, main_call1_c, main_call1_v0,
   main_call1_v1, main_call1_c_0, main_call1_v2, main_call1_v3, main_call1_v4, main_call1_v5, main_call1_c_1, main_call1_c_2,
   main_call1_v6, main_call1_v7, main_call1_v8, main_call1_v9, main_call1_v10, main_call1_v11, main_call1_c_3, main_call1_v12,
   main_call1_v13, main_call1_v14, main_call1_cst, main_call1_v15, main_v87, main_v88, main_v89, main_cst_21, main_v90,
   main_cst_22, main_v91, main_v92, main_v93, main_cst_23, main_v94, main_cst_24, main_v95, main_cst_25, main_v96, main_v97,
   main_v98, main_v99, main_v100, main_v101, main_v102, main_v103, main_v104, main_v105, main_v106, main_v107, main_v108,
   main_v109, main_v110, main_v111, main_v112, main_v113, main_cst_26, main_v114, main_v115, main_v116, main_v117, main_cst_27,
   main_v118, main_v119, main_v120, main_v121, main_v122, main_cst_28, main_v123, main_v124, main_v125, main_v126,
   main_call2_v0, main_call2_cst, main_call2_c, main_call2_v1_0, main_v127, main_call3_c, main_call3_v0, main_call3_v1,
   main_call3_c_0, main_call3_v2, main_call3_v3, main_call3_v4, main_call3_v5, main_call3_c_1, main_call3_c_2, main_call3_v6,
   main_call3_v7, main_call3_v8, main_call3_v9, main_call3_v10, main_call3_v11, main_call3_c_3, main_call3_v12, main_call3_v13,
   main_call3_v14, main_call3_cst, main_call3_v15, main_v128, main_v129, main_v130, main_cst_29, main_v131, main_cst_30,
   main_v132, main_v133, main_v134, main_cst_31, main_v135, main_cst_32, main_v136, main_cst_33, main_v137, main_v138,
   main_v139, main_v140, main_v141, main_v142, main_v143, main_v144, main_v145, main_v146, main_v147, main_v148, main_v149,
   main_v150, main_v151, main_v152, main_v153, main_v154, main_cst_34, main_v155, main_v156, main_v157, main_v158, main_cst_35,
   main_v159, main_v160, main_v161, main_v162, main_v163, main_cst_36, main_v164, main_v165, main_v166, main_v167,
   main_call4_v0, main_call4_cst, main_call4_c, main_call4_v1_0, main_v168, main_call5_c, main_call5_v0, main_call5_v1,
   main_call5_c_0, main_call5_v2, main_call5_v3, main_call5_v4, main_call5_v5, main_call5_c_1, main_call5_c_2, main_call5_v6,
   main_call5_v7, main_call5_v8, main_call5_v9, main_call5_v10, main_call5_v11, main_call5_c_3, main_call5_v12, main_call5_v13,
   main_call5_v14, main_call5_cst, main_call5_v15, main_v169, main_v170, main_v171, main_cst_37, main_v172, main_cst_38,
   main_v173, main_v174, main_v175, main_cst_39, main_v176, main_cst_40, main_v177, main_cst_41, main_v178, main_v179,
   main_v180, main_v181, main_v182, main_v183, main_v184, main_v185, main_v186, main_v187, main_v188, main_v189, main_v190,
   main_v191, main_v192, main_v193, main_v194, main_v195, main_cst_42, main_v196, main_v197, main_v198, main_v199, main_cst_43,
   main_v200, main_v201, main_v202, main_v203, main_v204, main_cst_44, main_v205, main_v206, main_v207, main_v208,
   main_call6_v0, main_call6_cst, main_call6_c, main_call6_v1_0, main_v209, main_call7_c, main_call7_v0, main_call7_v1,
   main_call7_c_0, main_call7_v2, main_call7_v3, main_call7_v4, main_call7_v5, main_call7_c_1, main_call7_c_2, main_call7_v6,
   main_call7_v7, main_call7_v8, main_call7_v9, main_call7_v10, main_call7_v11, main_call7_c_3, main_call7_v12, main_call7_v13,
   main_call7_v14, main_call7_cst, main_call7_v15, main_v210, main_v211, main_v212, main_cst_45, main_v213, main_cst_46,
   main_v214, main_v215, main_v216, main_cst_47, main_v217, main_cst_48, main_v218, main_cst_49, main_v219, main_v220,
   main_v221, main_v222, main_v223, main_v224, main_v225, main_v226, main_v227, main_v228, main_v229, main_v230, main_cst_50,
   main_v231, main_v232, main_c_51, main_v233, main_v234, main_c_52, main_v235, main_v236, main_v237, main_v238, main_v239,
   main_v240, main_c_53, main_v241, main_v242, main_c_54, main_v243, main_v244, main_v245, main_v246, main_v247, main_v248,
   main_c_55, main_v249, main_v250, main_c_56, main_v251, main_v252, main_v253, main_v254, main_v255, main_v256, main_c_57,
   main_v257, main_v258, main_c_58, main_v259, main_v260, main_v261, main_v262, main_v263, main_cst_59, main_v264, main_v265,
   main_c_60, main_v266, main_v267, main_c_61, main_v268, main_v269, main_v270, main_v271, main_v272, main_v273, main_c_62,
   main_v274, main_v275, main_c_63, main_v276, main_v277, main_v278, main_v279, main_v280, main_v281, main_c_64, main_v282,
   main_v283, main_c_65, main_v284, main_v285, main_v286, main_v287, main_v288, main_v289, main_c_66, main_v290, main_v291,
   main_c_67, main_v292, main_v293, main_v294, main_v295, main_v296, main_v297, main_v298, main_v299, main_v300, main_v301]

set_option maxHeartbeats 2000000 in
theorem ops_writes : (ops (F := F)).map HloOp.writes = written.map fun w => {Proc.devRef (τ := τ) .tc w} := rfl

set_option maxHeartbeats 2000000 in
theorem ops_fresh : ∀ op ∈ ops (F := F), op.fresh = ∅ :=
  List.forall_iff_forall_mem.mp (forall_fresh_of_map (by rfl))

set_option maxHeartbeats 2000000 in
theorem ops_bufs : (ops (F := F)).Forall fun op => op.bufs ⊆ tcRefs τ sig := by
  simp [ops, win0, win1, win2, win3, win4, win5, win6, lineOf]

/-- What the finished line leaves in a buffer. -/
def rd (V : Valuation τ sig (Elt F)) (r : Ref sig .tc) : r.ty.Contents (Elt F) := after ops V (Proc.devRef .tc r)

/-- A buffer the line does not write keeps its contents. -/
theorem rd_arg (V : Valuation τ sig (Elt F)) {r : Ref sig .tc} (h : r ∉ written) : rd V r = V (Proc.devRef .tc r) :=
  after_unwritten written ops_writes h V

/-- The line, cut at a position. -/
theorem rd_cut (V : Valuation τ sig (Elt F)) (i : ℕ) (r : Ref sig .tc) :
    rd V r = after (ops.drop i) (upto ops V i) (Proc.devRef .tc r) := by
  unfold rd upto
  rw [← StableHlo.after_append, List.take_append_drop]

/-- A buffer that nothing from a position on writes is final there. -/
theorem upto_rd (V : Valuation τ sig (Elt F)) (i : ℕ) {r : Ref sig .tc} (h : r ∉ written.drop i) :
    upto ops V i (Proc.devRef .tc r) = rd V r := by
  rw [rd_cut V i r]
  refine (after_unwritten (written.drop i) ?_ h _).symm
  rw [List.map_drop, ops_writes, List.map_drop]

/-- A buffer that nothing after a stretch of the line writes is what the stretch leaves there. -/
theorem rd_seg (V : Valuation τ sig (Elt F)) (i k : ℕ) {r : Ref sig .tc} (h : r ∉ written.drop (i + k)) :
    rd V r = after ((ops.drop i).take k) (upto ops V i) (Proc.devRef .tc r) := by
  rw [← upto_rd V (i + k) h, upto, upto, ← StableHlo.after_append, List.take_add]

/-- The reference runs to the end, every buffer at what the line leaves there. -/
theorem run (m : (ℓ : Loc nD τ sig) → Buf (Elt F) ℓ) (ρ : Dev nD → PrngReg) :
    θ_run (defs (F := F)) (onTc (τ := τ) main) ⟨m, fun _ => 0, ρ⟩ fun r =>
      ∀ (d : Dev nD) (b : Ref sig .tc), r.2.mem ((d.tc : Thread nD τ).loc b) = rd (launchContents m d) b :=
  run_hlo _ _ ops_line (by decide) (by decide) ops_bufs ops_fresh m ρ

end Cert.ReferenceIdeal.Line

end
-- ==== Proof.RefFrame.lean ====
/- The reference's run, its arguments and counters. -/
module

public import proofs.«01_k».proof.Defs
public import proofs.«01_k».proof.Proof.RefRun

@[expose] public section

set_option maxRecDepth 16384

noncomputable section

namespace Cert.Proof

open Idealize.ShloMosaic Idealize.SL.Sem Idealize.ShloMosaic.StableHlo

/-- An argument of the reference ends as it began. -/
theorem kept {F : FTy → Type} [FloatOps F] (m : (ℓ : Loc ReferenceIdeal.nD ReferenceIdeal.τ ReferenceIdeal.sig) → Buf (Elt F) ℓ)
    (d : Dev ReferenceIdeal.nD) {b : Ref ReferenceIdeal.sig .tc} (h : b ∉ ReferenceIdeal.Line.written) :
    ReferenceIdeal.Line.rd (launchContents m d) b = m ((d.tc : Thread ReferenceIdeal.nD ReferenceIdeal.τ).loc b) :=
  ReferenceIdeal.Line.rd_arg _ h

set_option maxHeartbeats 4000000 in
/-- The reference runs to the end, its arguments and every semaphore counter as at the start. -/
theorem reference_frame : Cert.quiescent_ReferenceIdeal := fun m ρ _ =>
  (θ_run ReferenceIdeal.defs _ _).mono (fun r h => ⟨fun c => by
    refine ⟨?_, ?_, ?_, ?_, ?_, ?_, ?_, ?_, ?_, ?_, ?_, ?_, ?_, ?_, ?_, ?_, ?_, ?_, ?_, ?_, ?_, ?_, ?_⟩ <;>
      exact (h c _).trans (kept m c (by decide +kernel)), sem_eq_zero_of_no_sems (by decide) r.2⟩)
    (ReferenceIdeal.Line.run m ρ)

end Cert.Proof

end
-- ==== Proof.Least.lean ====
/-
The position of a row's least entry: the first of the positions where the least value is taken.
-/
module

public import proofs.«01_k».proof.Proof.Gen.ReferenceIdeal
public import Idealize.ShloMosaic.PureOps.Ideal
public import Idealize.ShloMosaic.Lib.Pointwise

@[expose] public section

set_option maxRecDepth 16384

noncomputable section

namespace Cert.Vq

open Cert.ReferenceIdeal.Gen Idealize.ShloMosaic Idealize.ShloMosaic.Ideal

/-- The first position of the least entry. -/
def firstMin (f : Fin 512 → EReal) : Fin 512 :=
  (Finset.univ.filter fun k => ∀ j, f k ≤ f j).min' (by
    obtain ⟨k, -, h⟩ := Finset.exists_min_image Finset.univ f ⟨0, Finset.mem_univ 0⟩
    exact ⟨k, Finset.mem_filter.2 ⟨Finset.mem_univ k, fun j => h j (Finset.mem_univ j)⟩⟩)

/-- The entry there is least. -/
theorem firstMin_le (f : Fin 512 → EReal) (j : Fin 512) : f (firstMin f) ≤ f j :=
  (Finset.mem_filter.1 (Finset.min'_mem (Finset.univ.filter fun k => ∀ j, f k ≤ f j) _)).2 j

/-- A position of a least entry is not before it. -/
theorem firstMin_min (f : Fin 512 → EReal) (k : Fin 512) (h : ∀ j, f k ≤ f j) : firstMin f ≤ k :=
  Finset.min'_le _ _ (Finset.mem_filter.2 ⟨Finset.mem_univ k, h⟩)

/-- The entries before it are larger. -/
theorem firstMin_lt (f : Fin 512 → EReal) (j : Fin 512) (hj : j < firstMin f) : f (firstMin f) < f j := by
  refine lt_of_not_ge fun h => absurd (firstMin_min f j fun i => h.trans (firstMin_le f i)) (not_le.2 hj)

/-- Least, and no later than any other least: that position. -/
theorem eq_firstMin (f : Fin 512 → EReal) (k : Fin 512) (h : ∀ j, f k < f j ∨ f k = f j ∧ k ≤ j) : k = firstMin f := by
  have hle : ∀ j, f k ≤ f j := fun j => (h j).elim le_of_lt fun e => e.1.le
  refine le_antisymm ?_ (firstMin_min f k hle)
  rcases h (firstMin f) with h' | h'
  · exact absurd h' (not_lt.2 (firstMin_le f k))
  · exact h'.2

/-- Rows ordered alike have their least entries at one position. -/
theorem firstMin_congr (f g : Fin 512 → EReal) (h : ∀ i j, f i ≤ f j ↔ g i ≤ g j) : firstMin f = firstMin g := by
  refine eq_firstMin g _ fun j => ?_
  have hj := (h (firstMin f) j).1 (firstMin_le f j)
  rcases lt_or_eq_of_le hj with h' | h'
  · exact .inl h'
  · exact .inr ⟨h', firstMin_min f j fun i => ((h j _).2 h'.ge).trans (firstMin_le f i)⟩

/-- The least value. -/
theorem fold_min (f : Fin 512 → EReal) : Finset.univ.fold min ⊤ f = f (firstMin f) := by
  refine le_antisymm ?_ ?_
  · exact ((Finset.le_fold_min _).1 le_rfl).2 _ (Finset.mem_univ _)
  · exact (Finset.le_fold_min _).2 ⟨le_top, fun j _ => firstMin_le f j⟩

/-- The infinite constant. -/
theorem ofBits_top : Ideal.ofBits .f32 0x7F800000#32 = ⊤ := by
  simp [Ideal.ofBits, Ideal.ieee]

/-- Minimising the positions of the least entries, 512 elsewhere, gives that position. -/
theorem fold_min_pos (f : Fin 512 → EReal) :
    Finset.univ.fold min ⊤ (fun k => if f k = f (firstMin f) then ((k.val : ℝ) : EReal) else ((512 : ℝ) : EReal))
      = (((firstMin f).val : ℝ) : EReal) := by
  have hp : ∀ j : Fin 512, (((firstMin f).val : ℝ) : EReal) ≤ if f j = f (firstMin f) then ((j.val : ℝ) : EReal) else ((512 : ℝ) : EReal) := by
    intro j
    split
    · rename_i hj
      exact EReal.coe_le_coe_iff.2 (Nat.cast_le.2 (firstMin_min f j fun i => hj.le.trans (firstMin_le f i)))
    · exact EReal.coe_le_coe_iff.2 (by exact_mod_cast (firstMin f).isLt.le)
  refine le_antisymm ?_ ?_
  · exact (((Finset.le_fold_min _).1 le_rfl).2 (firstMin f) (Finset.mem_univ _)).trans (by simp)
  · exact (Finset.le_fold_min _).2 ⟨le_top, fun j _ => hp j⟩

/-! ## The host's arg-min -/

/-- One pair is no later than another: a smaller value, or an equal one at no larger position. -/
def before (a b : EReal × BitVec 32) : Prop := a.1 < b.1 ∨ a.1 = b.1 ∧ a.2.toInt ≤ b.2.toInt

theorem before_trans {a b c : EReal × BitVec 32} (h : before a b) (h' : before b c) : before a c := by
  rcases h with h | ⟨h, e⟩ <;> rcases h' with h' | ⟨h', e'⟩
  · exact .inl (h.trans h')
  · exact .inl (h' ▸ h)
  · exact .inl (h ▸ h')
  · exact .inr ⟨h.trans h', e.trans e'⟩

/-- One step keeps one of the two pairs, the earlier. -/
theorem step_spec (a b : EReal × BitVec 32) :
    (ReferenceIdeal.reducer_argmin_f32_i32 (F := Ideal) a b = a ∨ ReferenceIdeal.reducer_argmin_f32_i32 (F := Ideal) a b = b)
      ∧ before (ReferenceIdeal.reducer_argmin_f32_i32 (F := Ideal) a b) a
      ∧ before (ReferenceIdeal.reducer_argmin_f32_i32 (F := Ideal) a b) b := by
  obtain ⟨x, i⟩ := a
  obtain ⟨y, j⟩ := b
  rcases lt_trichotomy x y with h | h | h
  · have e : ReferenceIdeal.reducer_argmin_f32_i32 (F := Ideal) (x, i) (y, j) = (x, i) := by
      simp [ReferenceIdeal.reducer_argmin_f32_i32, cmpf_def, Ideal.cmp, IntOp.ori, IntOp.andi, h, h.ne, Scalar.select]
    rw [e]
    exact ⟨.inl rfl, .inr ⟨rfl, le_rfl⟩, .inl h⟩
  · subst h
    by_cases hij : i.slt j
    · have e : ReferenceIdeal.reducer_argmin_f32_i32 (F := Ideal) (x, i) (x, j) = (x, i) := by
        simp [ReferenceIdeal.reducer_argmin_f32_i32, cmpf_def, Ideal.cmp, IntOp.ori, IntOp.andi, IntOp.cmpi, hij, Scalar.select]
      rw [e]
      exact ⟨.inl rfl, .inr ⟨rfl, le_rfl⟩, .inr ⟨rfl, (BitVec.slt_iff_toInt_lt.1 hij).le⟩⟩
    · have e : ReferenceIdeal.reducer_argmin_f32_i32 (F := Ideal) (x, i) (x, j) = (x, j) := by
        simp [ReferenceIdeal.reducer_argmin_f32_i32, cmpf_def, Ideal.cmp, IntOp.ori, IntOp.andi, IntOp.cmpi, hij, Scalar.select]
      rw [e]
      exact ⟨.inr rfl, .inr ⟨rfl, not_lt.1 fun h => hij (BitVec.slt_iff_toInt_lt.2 h)⟩, .inr ⟨rfl, le_rfl⟩⟩
  · have e : ReferenceIdeal.reducer_argmin_f32_i32 (F := Ideal) (x, i) (y, j) = (y, j) := by
      simp [ReferenceIdeal.reducer_argmin_f32_i32, cmpf_def, Ideal.cmp, IntOp.ori, IntOp.andi, not_lt.2 h.le, h.ne', Scalar.select]
    rw [e]
    exact ⟨.inr rfl, .inl h, .inr ⟨rfl, le_rfl⟩⟩

/-- Folding steps keeps one of the pairs, no later than any. -/
theorem fold_spec (l : List (EReal × BitVec 32)) : ∀ a : EReal × BitVec 32,
    (l.foldl (ReferenceIdeal.reducer_argmin_f32_i32 (F := Ideal)) a = a
        ∨ l.foldl (ReferenceIdeal.reducer_argmin_f32_i32 (F := Ideal)) a ∈ l)
      ∧ before (l.foldl (ReferenceIdeal.reducer_argmin_f32_i32 (F := Ideal)) a) a
      ∧ ∀ p ∈ l, before (l.foldl (ReferenceIdeal.reducer_argmin_f32_i32 (F := Ideal)) a) p := by
  induction l with
  | nil => exact fun a => ⟨.inl rfl, .inr ⟨rfl, le_rfl⟩, fun p hp => absurd hp (List.not_mem_nil)⟩
  | cons b l ih =>
    intro a
    obtain ⟨hs, ha, hb⟩ := step_spec a b
    obtain ⟨hm, h0, hl⟩ := ih (ReferenceIdeal.reducer_argmin_f32_i32 (F := Ideal) a b)
    rw [List.foldl_cons]
    refine ⟨?_, before_trans h0 ha, fun p hp => ?_⟩
    · rcases hm with hm | hm
      · rcases hs with hs | hs
        · exact .inl (hm.trans hs)
        · exact .inr (List.mem_cons.2 (.inl (hm.trans hs)))
      · exact .inr (List.mem_cons.2 (.inr hm))
    · rcases List.mem_cons.1 hp with rfl | hp
      · exact before_trans h0 hb
      · exact hl p hp

/-- A position's number. -/
theorem toInt_ofNat (k : Fin 512) : (BitVec.ofNat 32 k.val).toInt = k.val := by
  have := k.isLt
  rw [BitVec.toInt_eq_toNat_of_lt] <;> simp [BitVec.toNat_ofNat] <;> omega

/-- A position of the table lies in its row. -/
theorem drop_row (n : Fin 32768) (k : Fin 512) :
    reducesTo_S32768x512_S32768_d1.drop (ix2 n k) = ix1 n := by
  ext i
  fin_cases i
  rfl

/-- The host's arg-min of a row of finite entries: the number of the first position of the least. -/
theorem argmin_row (d : FVec Ideal ReferenceIdeal.S32768x512 .f32) (n : Fin 32768)
    (hd : ∀ k : Fin 512, (d (ix2 n k) : EReal) < ⊤) :
    (Host.argReduce (ReferenceIdeal.reducer_argmin_f32_i32 (F := Ideal)) d (iotaInDim ReferenceIdeal.S32768x512 32 1)
      (constant ReferenceIdeal.S_ .f32 0x7F800000#32) (constantI ReferenceIdeal.S_ 32 0#32)
      reducesTo_S32768x512_S32768_d1 h_S_ (ix1 n)).2
      = BitVec.ofNat 32 (firstMin fun k => d (ix2 n k)).val := by
  rw [argReduce_eq_reduce2, Host.reduce2_eq_foldl_fiber]
  set L := Host.argReduceFiber d (iotaInDim ReferenceIdeal.S32768x512 32 1) reducesTo_S32768x512_S32768_d1 (ix1 n) with hL
  have hmem : ∀ k : Fin 512, ((d (ix2 n k) : EReal), BitVec.ofNat 32 k.val) ∈ L := by
    intro k
    rw [hL, Host.argReduceFiber]
    refine List.mem_map.2 ⟨ReferenceIdeal.S32768x512.rowMajor (ix2 n k), List.mem_filter.2 ⟨List.mem_finRange _, ?_⟩, ?_⟩
    · rw [Equiv.symm_apply_apply, drop_row]
      exact decide_eq_true rfl
    · rw [Equiv.symm_apply_apply]
      rfl
  have hof : ∀ p ∈ L, ∃ k : Fin 512, p = ((d (ix2 n k) : EReal), BitVec.ofNat 32 k.val) := by
    intro p hp
    rw [hL, Host.argReduceFiber] at hp
    obtain ⟨i, hi, rfl⟩ := List.mem_map.1 hp
    have hi := of_decide_eq_true (List.mem_filter.1 hi).2
    generalize ReferenceIdeal.S32768x512.rowMajor.symm i = i at hi
    obtain ⟨a, b, rfl⟩ : ∃ (a : Fin 32768) (b : Fin 512), i = ix2 a b := ⟨i 0, i 1, by ext k; fin_cases k <;> rfl⟩
    rw [drop_row] at hi
    obtain rfl : a = n := congrFun hi 0
    exact ⟨b, rfl⟩
  obtain ⟨hm, h0, hl⟩ := fold_spec L (constant (F := Ideal) ReferenceIdeal.S_ .f32 0x7F800000#32 (Shape.Idx.first h_S_), constantI ReferenceIdeal.S_ 32 0#32 (Shape.Idx.first h_S_))
  generalize L.foldl _ _ = p at hm h0 hl ⊢
  obtain ⟨k, rfl⟩ : ∃ k : Fin 512, p = ((d (ix2 n k) : EReal), BitVec.ofNat 32 k.val) := by
    rcases hm with rfl | hm
    · have := hl _ (hmem 0)
      have ht : (constant (F := Ideal) ReferenceIdeal.S_ .f32 0x7F800000#32 (Shape.Idx.first h_S_) : EReal) = ⊤ := ofBits_top
      have h1 : (⊤ : EReal) ≤ d (ix2 n 0) := by
        rw [← ht]
        exact this.elim le_of_lt fun e => e.1.le
      exact absurd (hd 0) (not_lt.2 h1)
    · exact hof p hm
  refine congrArg (fun q : Fin 512 => BitVec.ofNat 32 q.val) ?_
  refine eq_firstMin (fun k => (d (ix2 n k) : EReal)) k fun j => ?_
  rcases hl _ (hmem j) with h | ⟨h, h'⟩
  · exact .inl h
  · refine .inr ⟨h, ?_⟩
    simp only [toInt_ofNat] at h'
    exact_mod_cast h'

end Cert.Vq

end
-- ==== Proof.Codes.lean ====
/-
Nearest codebook rows over the extended reals: the two ways the nearest row is scored, the row a one-hot picks, the
squared error.
-/
module

public import proofs.«01_k».proof.Proof.Least

@[expose] public section

set_option maxRecDepth 16384

noncomputable section

namespace Cert.Vq

open Idealize.ShloMosaic

/-! ## Finite values -/

/-- A finite value. -/
def Real' (a : EReal) : Prop := ∃ r : ℝ, a = (r : EReal)

theorem Real'.add {a b : EReal} (ha : Real' a) (hb : Real' b) : Real' (a + b) := by
  obtain ⟨r, rfl⟩ := ha
  obtain ⟨s, rfl⟩ := hb
  exact ⟨r + s, (EReal.coe_add r s).symm⟩

theorem Real'.mul {a b : EReal} (ha : Real' a) (hb : Real' b) : Real' (a * b) := by
  obtain ⟨r, rfl⟩ := ha
  obtain ⟨s, rfl⟩ := hb
  exact ⟨r * s, (EReal.coe_mul r s).symm⟩

/-- A sum of real numbers. -/
theorem coe_sum {n : ℕ} (f : Fin n → ℝ) : ∑ i, (f i : EReal) = ((∑ i, f i : ℝ) : EReal) := by
  induction n with
  | zero => simp
  | succ n ih => rw [Fin.sum_univ_succ, Fin.sum_univ_succ, ih, EReal.coe_add]

theorem Real'.sum {n : ℕ} {f : Fin n → EReal} (h : ∀ i, Real' (f i)) : Real' (∑ i, f i) := by
  choose g hg using h
  exact ⟨∑ i, g i, by rw [← coe_sum]; exact Finset.sum_congr rfl fun i _ => hg i⟩

/-- A value under infinity in magnitude. -/
theorem real_of_abs {a : EReal} (h : max a (-a) < ⊤) : Real' a := by
  induction a using EReal.rec with
  | bot => simp at h
  | top => simp at h
  | coe r => exact ⟨r, rfl⟩

/-! ## Constants -/

theorem lit_neg_two : Ideal.ofBits .f32 0xC0000000#32 = ((-2 : ℝ) : EReal) := by
  simp [Ideal.ofBits, Ideal.ieee, -EReal.coe_mul, -EReal.coe_neg]
  norm_num

theorem lit_two : Ideal.ofBits .f32 0x40000000#32 = ((2 : ℝ) : EReal) := by
  simp [Ideal.ofBits, Ideal.ieee, -EReal.coe_mul, -EReal.coe_neg]
  norm_num

theorem lit_512 : Ideal.ofBits .f32 0x44000000#32 = ((512 : ℝ) : EReal) := by
  simp [Ideal.ofBits, Ideal.ieee, -EReal.coe_mul, -EReal.coe_neg]
  norm_num

theorem lit_quarter : Ideal.ofBits .f32 0x3E800000#32 = ((1 / 4 : ℝ) : EReal) := by
  simp [Ideal.ofBits, Ideal.ieee, -EReal.coe_mul, -EReal.coe_neg]
  norm_num

theorem lit_count : Ideal.ofBits .f32 0x4A000000#32 = ((2097152 : ℝ) : EReal) := by
  simp [Ideal.ofBits, Ideal.ieee, -EReal.coe_mul, -EReal.coe_neg]
  norm_num

theorem lit_weight : Ideal.ofBits .f32 0x35200000#32 = ((5 / 8388608 : ℝ) : EReal) := by
  simp [Ideal.ofBits, Ideal.ieee, -EReal.coe_mul, -EReal.coe_neg]
  norm_num

theorem lit_one : Ideal.ofBits .f32 0x3F800000#32 = 1 := by
  have : Ideal.ofBits .f32 0x3F800000#32 = ((1 : ℝ) : EReal) := by
    simp [Ideal.ofBits, Ideal.ieee, -EReal.coe_mul, -EReal.coe_neg]
    norm_num
  rw [this, EReal.coe_one]

theorem lit_zero : Ideal.ofBits .f32 0x00000000#32 = 0 := by
  simp [Ideal.ofBits, Ideal.ieee]

/-! ## Scores -/

/-- The score of a codebook row against an encoding: the squared distance without the encoding's own square. -/
def score (z : Fin 64 → EReal) (cb : Fin 512 → Fin 64 → EReal) (k : Fin 512) : EReal :=
  ∑ x, z x * (Ideal.ofBits .f32 0xC0000000#32 * cb k x) + ∑ x, cb k x * cb k x

/-- The squared distance of an encoding to a codebook row, its square multiplied out. -/
def dist (z : Fin 64 → EReal) (cb : Fin 512 → Fin 64 → EReal) (k : Fin 512) : EReal :=
  ∑ x, z x * z x - Ideal.ofBits .f32 0x40000000#32 * ∑ x, z x * cb k x + ∑ x, cb k x * cb k x

/-- The codebook row of an encoding: the first of least score. -/
def code (z : Fin 64 → EReal) (cb : Fin 512 → Fin 64 → EReal) : Fin 512 := firstMin (score z cb)

section
variable {z : Fin 64 → EReal} {cb : Fin 512 → Fin 64 → EReal} (hz : ∀ x, Real' (z x)) (hcb : ∀ k x, Real' (cb k x))
include hz hcb

/-- Score, distance and square as real numbers. -/
theorem score_dist : ∃ (a : ℝ) (s : Fin 512 → ℝ), ∑ x, z x * z x = (a : EReal) ∧ (∀ k, score z cb k = (s k : EReal))
    ∧ (∀ k, dist z cb k = ((a + s k : ℝ) : EReal)) ∧ ∀ k, ∑ x, (z x - cb k x) * (z x - cb k x) = ((a + s k : ℝ) : EReal) := by
  choose g hg using hz
  choose c hc using hcb
  obtain rfl : z = fun x => (g x : EReal) := funext hg
  obtain rfl : cb = fun k x => (c k x : EReal) := funext fun k => funext (hc k)
  refine ⟨∑ x, g x * g x, fun k => ∑ x, g x * (-2 * c k x) + ∑ x, c k x * c k x, ?_, fun k => ?_, fun k => ?_, fun k => ?_⟩
  · simp only [← EReal.coe_mul, coe_sum]
  · simp only [score, lit_neg_two, ← EReal.coe_mul, coe_sum, ← EReal.coe_add]
  · simp only [dist, lit_two, ← EReal.coe_mul, coe_sum, ← EReal.coe_add, ← EReal.coe_sub]
    refine congrArg _ ?_
    rw [Finset.mul_sum, sub_eq_add_neg, ← Finset.sum_neg_distrib, add_assoc]
    refine congrArg₂ _ rfl (congrArg₂ _ (Finset.sum_congr rfl fun x _ => by ring) rfl)
  · simp only [← EReal.coe_mul, coe_sum, ← EReal.coe_add, ← EReal.coe_sub]
    refine congrArg _ ?_
    rw [← Finset.sum_add_distrib, ← Finset.sum_add_distrib]
    exact Finset.sum_congr rfl fun x _ => by ring

/-- The least distance is where the least score is. -/
theorem firstMin_dist : firstMin (dist z cb) = code z cb := by
  obtain ⟨a, s, -, hs, hd, -⟩ := score_dist hz hcb
  refine firstMin_congr _ _ fun i j => ?_
  rw [hs, hs, hd, hd, EReal.coe_le_coe_iff, EReal.coe_le_coe_iff]
  exact add_le_add_iff_left a

/-- Distances are finite. -/
theorem dist_lt_top (k : Fin 512) : dist z cb k < ⊤ := by
  obtain ⟨a, s, -, -, hd, -⟩ := score_dist hz hcb
  rw [hd]
  exact EReal.coe_lt_top _

/-- The squared error of a row is the encoding's square and the row's score. -/
theorem error_eq (k : Fin 512) : ∑ x, (z x - cb k x) * (z x - cb k x) = ∑ x, z x * z x + score z cb k := by
  obtain ⟨a, s, ha, hs, -, he⟩ := score_dist hz hcb
  rw [ha, hs, he, EReal.coe_add]

/-- A score is finite. -/
theorem score_real (k : Fin 512) : Real' (score z cb k) := by
  obtain ⟨a, s, -, hs, -, -⟩ := score_dist hz hcb
  exact ⟨s k, hs k⟩

/-- The encoding plus the step to the row is the row. -/
theorem straight (k : Fin 512) (x : Fin 64) : z x + (cb k x - z x) = cb k x := by
  obtain ⟨g, hg⟩ := hz x
  obtain ⟨c, hc⟩ := hcb k x
  rw [hg, hc, ← EReal.coe_sub, ← EReal.coe_add]
  exact congrArg _ (by ring)

end

/-! ## The one-hot pick -/

/-- A position as a number. -/
theorem number (k : Fin 512) : FloatOps.sitofp (F := Ideal) .f32 (BitVec.ofNat 32 k.val) = ((k.val : ℝ) : EReal) := by
  show (((BitVec.ofNat 32 k.val).toInt : ℝ) : EReal) = _
  rw [toInt_ofNat]
  norm_cast

/-- A bit as a number. -/
theorem bit_number (p : Prop) [Decidable p] :
    FloatOps.sitofp (F := Ideal) .f32 (BitVec.setWidth 32 (BitVec.ofBool (decide p))) = if p then (1 : EReal) else 0 := by
  show (((BitVec.setWidth 32 (BitVec.ofBool (decide p))).toInt : ℝ) : EReal) = _
  by_cases h : p <;> simp [h] <;> norm_num

/-- Weighting a table's rows by the one-hot of the first position of the least entry picks that row. -/
theorem hot_pick (f T : Fin 512 → EReal) :
    ∑ x : Fin 512, FloatOps.sitofp (F := Ideal) .f32 (BitVec.setWidth 32 (BitVec.ofBool (decide
        (FloatOps.sitofp (F := Ideal) .f32 (BitVec.ofNat 32 x.val) = Finset.fold min (Ideal.ofBits .f32 0x7F800000#32)
          (fun x : Fin 512 => if f x = Finset.fold min (Ideal.ofBits .f32 0x7F800000#32) f Finset.univ
            then FloatOps.sitofp (F := Ideal) .f32 (BitVec.ofNat 32 x.val) else Ideal.ofBits .f32 0x44000000#32) Finset.univ)))) * T x
      = T (firstMin f) := by
  simp only [bit_number, number, ofBits_top, lit_512, fold_min f, fold_min_pos f]
  rw [Finset.sum_eq_single (firstMin f)]
  · rw [if_pos rfl, one_mul]
  · intro k _ hk
    rw [if_neg, zero_mul]
    intro h
    exact hk (Fin.ext (by exact_mod_cast EReal.coe_eq_coe_iff.1 h))
  · exact fun h => absurd (Finset.mem_univ _) h

end Cert.Vq

end
-- ==== Proof.Model.lean ====
/-
The autoencoder in plain functions: the joints of its four parts, the encodings, the codes, the decoded channels.
-/
module

public import proofs.«01_k».proof.Proof.Codes

@[expose] public section

set_option maxRecDepth 16384

noncomputable section

namespace Cert.Vq

open Idealize.ShloMosaic

/-! ## Joints and their channels -/

/-- The joints of the upper body. -/
def upJ : Fin 16 → Fin 55 := ![3, 6, 9, 12, 13, 14, 15, 16, 17, 18, 19, 20, 21, 22, 23, 24]

/-- The joints of the lower body. -/
def dnJ : Fin 9 → Fin 55 := ![0, 1, 2, 4, 5, 7, 8, 10, 11]

/-- The joints of the left hand. -/
def lhJ (i : Fin 15) : Fin 55 := ⟨25 + i.val, by omega⟩

/-- The joints of the right hand. -/
def rhJ (i : Fin 15) : Fin 55 := ⟨40 + i.val, by omega⟩

/-- The position channel of a part's feature. -/
def pos {R n : ℕ} (J : Fin R → Fin 55) (h : n = R * 3) (i : Fin n) : Fin 165 :=
  ⟨(J ⟨i.val / 3, by omega⟩).val * 3 + i.val % 3, by have := (J ⟨i.val / 3, by omega⟩).isLt; omega⟩

/-- The rotation channel of a part's feature. -/
def rot {R n : ℕ} (J : Fin R → Fin 55) (h : n = R * 6) (i : Fin n) : Fin 330 :=
  ⟨(J ⟨i.val / 6, by omega⟩).val * 6 + i.val % 6, by have := (J ⟨i.val / 6, by omega⟩).isLt; omega⟩

/-! ## A part -/

/-- A part's weights: encoder, codebook, decoder. -/
structure Weights (n : ℕ) where
  enc : Fin n → Fin 64 → EReal
  encB : Fin 64 → EReal
  book : Fin 512 → Fin 64 → EReal
  dec : Fin 64 → Fin n → EReal
  decB : Fin n → EReal

/-- A part's encoding of positions and rotations. -/
def enc2 {R a b n : ℕ} (J : Fin R → Fin 55) (ha : a = R * 3) (hb : b = R * 6) (hn : n = a + b) (W : Weights n)
    (x : Fin 165 → EReal) (r : Fin 330 → EReal) (k : Fin 64) : EReal :=
  ∑ i : Fin a, x (pos J ha i) * W.enc ⟨i.val, by omega⟩ k + ∑ i : Fin b, r (rot J hb i) * W.enc ⟨a + i.val, by omega⟩ k + W.encB k

/-- A part's encoding of positions, rotations and shifts. -/
def enc3 {R a b n : ℕ} (J : Fin R → Fin 55) (ha : a = R * 3) (hb : b = R * 6) (hn : n = a + b + 3) (W : Weights n)
    (x : Fin 165 → EReal) (r : Fin 330 → EReal) (s : Fin 3 → EReal) (k : Fin 64) : EReal :=
  ∑ i : Fin a, x (pos J ha i) * W.enc ⟨i.val, by omega⟩ k + ∑ i : Fin b, r (rot J hb i) * W.enc ⟨a + i.val, by omega⟩ k
    + ∑ i : Fin 3, s i * W.enc ⟨a + b + i.val, by omega⟩ k + W.encB k

/-- A part's decoded channel of a codebook row. -/
def decoded {n : ℕ} (W : Weights n) (k : Fin 512) (c : Fin n) : EReal := ∑ x : Fin 64, W.book k x * W.dec x c + W.decB c

/-! ## The whole -/

/-- The arguments. -/
structure Args where
  x : Fin 16 → Fin 2048 → Fin 165 → EReal
  r : Fin 16 → Fin 2048 → Fin 330 → EReal
  s : Fin 16 → Fin 2048 → Fin 3 → EReal
  up : Weights 144
  dn : Weights 84
  lh : Weights 135
  rh : Weights 135

/-- A part's weights out of arrays. -/
def weightsOf {n : ℕ} (e : (⟨2, ![n, 64]⟩ : Shape).Idx → EReal) (eb : (⟨1, ![64]⟩ : Shape).Idx → EReal)
    (bk : (⟨2, ![512, 64]⟩ : Shape).Idx → EReal) (d : (⟨2, ![64, n]⟩ : Shape).Idx → EReal) (db : (⟨1, ![n]⟩ : Shape).Idx → EReal) :
    Weights n :=
  ⟨fun i k => e (ix2 i k), fun k => eb (ix1 k), fun i k => bk (ix2 i k), fun i k => d (ix2 i k), fun k => db (ix1 k)⟩

/-- The arguments out of arrays. -/
def argsOf (x : (⟨3, ![16, 2048, 165]⟩ : Shape).Idx → EReal) (r : (⟨3, ![16, 2048, 330]⟩ : Shape).Idx → EReal)
    (s : (⟨3, ![16, 2048, 3]⟩ : Shape).Idx → EReal) (up : Weights 144) (dn : Weights 84) (lh rh : Weights 135) : Args :=
  ⟨fun b t i => x (ix3 b t i), fun b t i => r (ix3 b t i), fun b t i => s (ix3 b t i), up, dn, lh, rh⟩

/-- The batch entry of a row. -/
def rb (n : Fin 32768) : Fin 16 := ⟨n.val / 2048, by omega⟩

/-- The step of a row in its batch entry. -/
def rt (n : Fin 32768) : Fin 2048 := ⟨n.val % 2048, by omega⟩

/-- The row of a batch entry's step. -/
def rn (b : Fin 16) (t : Fin 2048) : Fin 32768 := ⟨b.val * 2048 + t.val, by omega⟩

theorem rb_rn (b : Fin 16) (t : Fin 2048) : rb (rn b t) = b := Fin.ext (by simp only [rb, rn]; omega)

theorem rt_rn (b : Fin 16) (t : Fin 2048) : rt (rn b t) = t := Fin.ext (by simp only [rt, rn]; omega)

namespace Args
variable (A : Args) (b : Fin 16) (t : Fin 2048)

def zUp : Fin 64 → EReal := enc2 (a := 48) (b := 96) upJ rfl rfl rfl A.up (A.x b t) (A.r b t)
def zDn : Fin 64 → EReal := enc3 (a := 27) (b := 54) dnJ rfl rfl rfl A.dn (A.x b t) (A.r b t) (A.s b t)
def zLh : Fin 64 → EReal := enc2 (a := 45) (b := 90) lhJ rfl rfl rfl A.lh (A.x b t) (A.r b t)
def zRh : Fin 64 → EReal := enc2 (a := 45) (b := 90) rhJ rfl rfl rfl A.rh (A.x b t) (A.r b t)

def kUp : Fin 512 := code (A.zUp b t) A.up.book
def kDn : Fin 512 := code (A.zDn b t) A.dn.book
def kLh : Fin 512 := code (A.zLh b t) A.lh.book
def kRh : Fin 512 := code (A.zRh b t) A.rh.book

/-- A part's encoder and codebook are finite. -/
structure _root_.Cert.Vq.Weights.Finite {n : ℕ} (W : Weights n) : Prop where
  enc : ∀ i k, Real' (W.enc i k)
  encB : ∀ k, Real' (W.encB k)
  book : ∀ i k, Real' (W.book i k)

/-- The inputs, the encoders and the codebooks are finite. -/
structure Finite : Prop where
  x : ∀ b t i, Real' (A.x b t i)
  r : ∀ b t i, Real' (A.r b t i)
  s : ∀ b t i, Real' (A.s b t i)
  up : A.up.Finite
  dn : A.dn.Finite
  lh : A.lh.Finite
  rh : A.rh.Finite

variable {A}

theorem Finite.zUp (h : A.Finite) (k : Fin 64) : Real' (A.zUp b t k) :=
  ((Real'.sum fun _ => (h.x _ _ _).mul (h.up.enc _ _)).add (Real'.sum fun _ => (h.r _ _ _).mul (h.up.enc _ _))).add (h.up.encB k)

theorem Finite.zDn (h : A.Finite) (k : Fin 64) : Real' (A.zDn b t k) :=
  (((Real'.sum fun _ => (h.x _ _ _).mul (h.dn.enc _ _)).add (Real'.sum fun _ => (h.r _ _ _).mul (h.dn.enc _ _))).add
    (Real'.sum fun _ => (h.s _ _ _).mul (h.dn.enc _ _))).add (h.dn.encB k)

theorem Finite.zLh (h : A.Finite) (k : Fin 64) : Real' (A.zLh b t k) :=
  ((Real'.sum fun _ => (h.x _ _ _).mul (h.lh.enc _ _)).add (Real'.sum fun _ => (h.r _ _ _).mul (h.lh.enc _ _))).add (h.lh.encB k)

theorem Finite.zRh (h : A.Finite) (k : Fin 64) : Real' (A.zRh b t k) :=
  ((Real'.sum fun _ => (h.x _ _ _).mul (h.rh.enc _ _)).add (Real'.sum fun _ => (h.r _ _ _).mul (h.rh.enc _ _))).add (h.rh.encB k)

end Args

/-! ## The loss -/

/-- The loss of a part, of the sum of its squared errors. -/
def lossIn (S : EReal) : EReal :=
  Ideal.div S (Ideal.ofBits .f32 0x4A000000#32) + Ideal.ofBits .f32 0x3E800000#32 * Ideal.div S (Ideal.ofBits .f32 0x4A000000#32)

namespace Args
variable (A : Args) (n : Fin 32768)

/-- A row's squared error in each part. -/
def errUp : EReal := ∑ x, (A.zUp (rb n) (rt n) x - A.up.book (A.kUp (rb n) (rt n)) x) * (A.zUp (rb n) (rt n) x - A.up.book (A.kUp (rb n) (rt n)) x)
def errDn : EReal := ∑ x, (A.zDn (rb n) (rt n) x - A.dn.book (A.kDn (rb n) (rt n)) x) * (A.zDn (rb n) (rt n) x - A.dn.book (A.kDn (rb n) (rt n)) x)
def errLh : EReal := ∑ x, (A.zLh (rb n) (rt n) x - A.lh.book (A.kLh (rb n) (rt n)) x) * (A.zLh (rb n) (rt n) x - A.lh.book (A.kLh (rb n) (rt n)) x)
def errRh : EReal := ∑ x, (A.zRh (rb n) (rt n) x - A.rh.book (A.kRh (rb n) (rt n)) x) * (A.zRh (rb n) (rt n) x - A.rh.book (A.kRh (rb n) (rt n)) x)

/-- The loss. -/
def loss : EReal :=
  lossIn (∑ n, A.errUp n) + lossIn (∑ n, A.errDn n) + lossIn (∑ n, A.errLh n) + lossIn (∑ n, A.errRh n)

end Args

/-! ## Every channel belongs to a part -/

theorem pos_cases : ∀ c : Fin 165, (∃ i : Fin 48, c = pos upJ rfl i) ∨ (∃ i : Fin 27, c = pos dnJ rfl i)
    ∨ (∃ i : Fin 45, c = pos lhJ rfl i) ∨ ∃ i : Fin 45, c = pos rhJ rfl i := by
  decide +kernel

theorem rot_cases : ∀ c : Fin 330, (∃ i : Fin 96, c = rot upJ rfl i) ∨ (∃ i : Fin 54, c = rot dnJ rfl i)
    ∨ (∃ i : Fin 90, c = rot lhJ rfl i) ∨ ∃ i : Fin 90, c = rot rhJ rfl i := by
  decide +kernel

end Cert.Vq

end
-- ==== Proof.Inputs.lean ====
/-
The precondition: every feature, encoder and codebook entry is a real number.
-/
module

public import proofs.«01_k».proof.Defs
public import proofs.«01_k».proof.Proof.Model
public import Idealize.ShloMosaic.Lib.ReduceAll

@[expose] public section

set_option maxRecDepth 16384

noncomputable section

namespace Cert.Proof

open Idealize.ShloMosaic Cert.Vq

/-- The shape facts of the precondition. -/
theorem pre_facts : Cert.Pre_finite_inputs.Facts where
  bcast_S_S16x2048x165 := by decide
  reducesTo_S16x2048x165_S_d0_1_2 := by decide
  h_S_ := by decide
  bcast_S_S16x2048x330 := by decide
  reducesTo_S16x2048x330_S_d0_1_2 := by decide
  bcast_S_S16x2048x3 := by decide
  reducesTo_S16x2048x3_S_d0_1_2 := by decide
  bcast_S_S144x64 := by decide
  reducesTo_S144x64_S_d0_1 := by decide
  bcast_S_S64 := by decide
  reducesTo_S64_S_d0 := by decide
  bcast_S_S512x64 := by decide
  reducesTo_S512x64_S_d0_1 := by decide
  bcast_S_S84x64 := by decide
  reducesTo_S84x64_S_d0_1 := by decide
  bcast_S_S135x64 := by decide
  reducesTo_S135x64_S_d0_1 := by decide

abbrev S0 : Shape := ⟨0, ![]⟩

instance : Subsingleton S0.Idx := ⟨fun a b => funext fun i => i.elim0⟩

/-- A conjunction that holds has both parts. -/
theorem both (a b : IVec S0 1) (h : andi a b = fun _ => 1#1) : (a = fun _ => 1#1) ∧ b = fun _ => 1#1 := by
  have bit : ∀ x y : BitVec 1, x &&& y = 1#1 → x = 1#1 ∧ y = 1#1 := by decide
  exact ⟨funext fun i => (bit _ _ (congrFun h i)).1, funext fun i => (bit _ _ (congrFun h i)).2⟩

/-- An array whose entries all lie under infinity in magnitude has real entries. -/
theorem all_real {S : Shape} {axes : List (Fin S.rank)} {d : Fin 0 → Fin S.rank} (x : FVec Ideal S .f32) (hb : S0.BroadcastsInDim S d)
    (hr : S.ReducesTo axes S0) (hu : 0 < S0.numel)
    (h : Host.reduce IntOp.andi (cmpf .olt (Host.absf x) (broadcastInDim S d hb (constant S0 .f32 0x7F800000#32)))
      (constantI S0 1 1#1) hr hu = fun _ => 1#1) (i : S.Idx) : Real' (x i) := by
  have e := Host.reduce_andi_all _ _ _ _ (fun k => k.elim0) (congrFun h _) i
  have top : Ideal.ofBits .f32 0x7F800000#32 = ⊤ := by simp [Ideal.ofBits, Ideal.ieee]
  have e' : Ideal.cmp .olt (max (x i : EReal) (-(x i : EReal))) (Ideal.ofBits .f32 0x7F800000#32) = 1#1 := e
  rw [top] at e'
  refine real_of_abs ?_
  by_contra hn
  simp [Ideal.cmp, hn] at e'

/-- Under the precondition the arguments are finite. -/
theorem inputs_real [Cert.Pre_finite_inputs.Facts]
    (a0 : FVec Ideal (⟨3, ![16, 2048, 165]⟩ : Shape) .f32) (a1 : FVec Ideal (⟨3, ![16, 2048, 330]⟩ : Shape) .f32) (a2 : FVec Ideal (⟨3, ![16, 2048, 3]⟩ : Shape) .f32) (a3 : FVec Ideal (⟨2, ![144, 64]⟩ : Shape) .f32) (a4 : FVec Ideal (⟨1, ![64]⟩ : Shape) .f32) (a5 : FVec Ideal (⟨2, ![512, 64]⟩ : Shape) .f32) (a6 : FVec Ideal (⟨2, ![64, 144]⟩ : Shape) .f32) (a7 : FVec Ideal (⟨1, ![144]⟩ : Shape) .f32) (a8 : FVec Ideal (⟨2, ![84, 64]⟩ : Shape) .f32) (a9 : FVec Ideal (⟨1, ![64]⟩ : Shape) .f32) (a10 : FVec Ideal (⟨2, ![512, 64]⟩ : Shape) .f32) (a11 : FVec Ideal (⟨2, ![64, 84]⟩ : Shape) .f32) (a12 : FVec Ideal (⟨1, ![84]⟩ : Shape) .f32) (a13 : FVec Ideal (⟨2, ![135, 64]⟩ : Shape) .f32) (a14 : FVec Ideal (⟨1, ![64]⟩ : Shape) .f32) (a15 : FVec Ideal (⟨2, ![512, 64]⟩ : Shape) .f32) (a16 : FVec Ideal (⟨2, ![64, 135]⟩ : Shape) .f32) (a17 : FVec Ideal (⟨1, ![135]⟩ : Shape) .f32) (a18 : FVec Ideal (⟨2, ![135, 64]⟩ : Shape) .f32) (a19 : FVec Ideal (⟨1, ![64]⟩ : Shape) .f32) (a20 : FVec Ideal (⟨2, ![512, 64]⟩ : Shape) .f32) (a21 : FVec Ideal (⟨2, ![64, 135]⟩ : Shape) .f32) (a22 : FVec Ideal (⟨1, ![135]⟩ : Shape) .f32)
    (h : Cert.Pre_finite_inputs.fn (F := Ideal) a0 a1 a2 a3 a4 a5 a6 a7 a8 a9 a10 a11 a12 a13 a14 a15 a16 a17 a18 a19 a20 a21 a22 = fun _ => 1#1) :
    (argsOf a0 a1 a2 (weightsOf a3 a4 a5 a6 a7) (weightsOf a8 a9 a10 a11 a12) (weightsOf a13 a14 a15 a16 a17) (weightsOf a18 a19 a20 a21 a22)).Finite := by
  dsimp only [Cert.Pre_finite_inputs.fn, Cert.Pre_finite_inputs.fn_part1, Cert.Pre_finite_inputs.fn_part2,
    Cert.Pre_finite_inputs.fn_part3, Cert.Pre_finite_inputs.fn_part4] at h
  obtain ⟨h, h20⟩ := both _ _ h
  obtain ⟨h, h19⟩ := both _ _ h
  obtain ⟨h, h18⟩ := both _ _ h
  obtain ⟨h, h15⟩ := both _ _ h
  obtain ⟨h, h14⟩ := both _ _ h
  obtain ⟨h, h13⟩ := both _ _ h
  obtain ⟨h, h10⟩ := both _ _ h
  obtain ⟨h, h9⟩ := both _ _ h
  obtain ⟨h, h8⟩ := both _ _ h
  obtain ⟨h, h5⟩ := both _ _ h
  obtain ⟨h, h4⟩ := both _ _ h
  obtain ⟨h, h3⟩ := both _ _ h
  obtain ⟨h, h2⟩ := both _ _ h
  obtain ⟨h, h1⟩ := both _ _ h
  exact ⟨fun _ _ _ => all_real _ _ _ _ h _, fun _ _ _ => all_real _ _ _ _ h1 _, fun _ _ _ => all_real _ _ _ _ h2 _,
    ⟨fun _ _ => all_real _ _ _ _ h3 _, fun _ => all_real _ _ _ _ h4 _, fun _ _ => all_real _ _ _ _ h5 _⟩,
    ⟨fun _ _ => all_real _ _ _ _ h8 _, fun _ => all_real _ _ _ _ h9 _, fun _ _ => all_real _ _ _ _ h10 _⟩,
    ⟨fun _ _ => all_real _ _ _ _ h13 _, fun _ => all_real _ _ _ _ h14 _, fun _ _ => all_real _ _ _ _ h15 _⟩,
    ⟨fun _ _ => all_real _ _ _ _ h18 _, fun _ => all_real _ _ _ _ h19 _, fun _ _ => all_real _ _ _ _ h20 _⟩⟩

end Cert.Proof

end
-- ==== Proof.RefRead.lean ====
/-
What the reference's buffers hold, each in terms of earlier ones.
-/
module

public import proofs.«01_k».proof.Proof.RefRun
public import Idealize.ShloMosaic.PureOps.Ideal
public import Idealize.ShloMosaic.Lib.Pointwise

@[expose] public section

set_option maxRecDepth 16384

noncomputable section

namespace Cert.ReferenceIdeal.Line

open Cert.ReferenceIdeal Cert.ReferenceIdeal.Gen Idealize.ShloMosaic Idealize.ShloMosaic.TcCoe Idealize.SL.Sem Idealize.ShloMosaic.StableHlo

/-! ## The pieces of the program, as functions -/

/-- Squared distances of the rows to the codebook's rows. -/
def distOf (z : FVec Ideal S32768x64 .f32) (cb : FVec Ideal S512x64 .f32) : FVec Ideal S32768x512 .f32 :=
  addf (subf (broadcastInDim S32768x512 ![0, 1] bcast_S32768x1_S32768x512_0_1
      (broadcastInDim S32768x1 ![0] bcast_S32768_S32768x1_0
        (Host.reduceAdd (mulf z z) (constant S_ .f32 0x00000000#32) reducesTo_S32768x64_S32768_d1 h_S_)))
    (mulf (broadcastInDim S32768x512 ![] bcast_S_S32768x512 (constant S_ .f32 0x40000000#32))
      (Host.dotGeneral dot_S32768x64_S64x512_S32768x512_1_0_0_1_n_n none z
        (transpose S64x512 [1, 0] cb transposes_S512x64_S64x512_1_0))))
    (broadcastInDim S32768x512 ![0, 1] bcast_S1x512_S32768x512_0_1
      (broadcastInDim S1x512 ![1] bcast_S512_S1x512_1
        (Host.reduceAdd (mulf cb cb) (constant S_ .f32 0x00000000#32) reducesTo_S512x64_S512_d1 h_S_)))

/-- The position of each row's least entry. -/
def argOf (d : FVec Ideal S32768x512 .f32) : IVec S32768 32 :=
  fun j => (Host.argReduce (reducer_argmin_f32_i32 (F := Ideal)) d (iotaInDim S32768x512 32 1)
    (constant S_ .f32 0x7F800000#32) (constantI S_ 32 0#32) reducesTo_S32768x512_S32768_d1 h_S_ j).2

/-- Equal distances, equal positions. -/
theorem arg_apply (x y : FVec Ideal S32768x512 .f32) (h : x = y) :
    (fun j => (Host.argReduce (reducer_argmin_f32_i32 (F := Ideal)) x (iotaInDim S32768x512 32 1)
      (constant S_ .f32 0x7F800000#32) (constantI S_ 32 0#32) reducesTo_S32768x512_S32768_d1 h_S_ j).2) = argOf y := by
  subst h
  rfl

/-- Start indices: a negative one counts from the end. -/
def startOf (p : IVec S32768 32) : IVec S32768x1 32 :=
  broadcastInDim S32768x1 ![0] bcast_S32768_S32768x1_0
    (select (cmpi .slt p (broadcastInDim S32768 ![] bcast_S_S32768 (constantI S_ 32 0#32)))
      (addi p (broadcastInDim S32768 ![] bcast_S_S32768 (constantI S_ 32 512#32))) p)

/-- The codebook's rows at the positions, a position outside giving the fill. -/
def takeOf (cb : FVec Ideal S512x64 .f32) (p : IVec S32768 32) : FVec Ideal S32768x64 .f32 :=
  select (broadcastInDim S32768x64 ![0] bcast_S32768_S32768x64_0
      (Host.reduce IntOp.andi
        (andi (cmpi .sge (startOf p) (broadcastInDim S32768x1 ![] bcast_S_S32768x1 (constantI S_ 32 0#32)))
          (cmpi .sle (startOf p) (broadcastInDim S32768x1 ![0, 1] bcast_S1x1_S32768x1_0_1
            (broadcastInDim S1x1 ![1] bcast_S1_S1x1_1 (constantI S1 32 511#32)))))
        (constantI S_ 1 1#1) reducesTo_S32768x1_S32768_d1 h_S_))
    (Host.gather gather_S512x64_S32768x1_S32768x64_1_0_n_n_0_1_164 cb (startOf p))
    (broadcastInDim S32768x64 ![] bcast_S_S32768x64 (constant S_ .f32 0x7FC00000#32))

/-- Equal codebooks and positions, equal rows. -/
theorem take_apply (cb cb' : FVec Ideal S512x64 .f32) (p p' : IVec S32768 32) (h : cb = cb') (h' : p = p') :
    (select (broadcastInDim S32768x64 ![0] bcast_S32768_S32768x64_0
      (Host.reduce IntOp.andi
        (andi (cmpi .sge (broadcastInDim S32768x1 ![0] bcast_S32768_S32768x1_0
    (select (cmpi .slt p (broadcastInDim S32768 ![] bcast_S_S32768 (constantI S_ 32 0#32)))
      (addi p (broadcastInDim S32768 ![] bcast_S_S32768 (constantI S_ 32 512#32))) p)) (broadcastInDim S32768x1 ![] bcast_S_S32768x1 (constantI S_ 32 0#32)))
          (cmpi .sle (broadcastInDim S32768x1 ![0] bcast_S32768_S32768x1_0
    (select (cmpi .slt p (broadcastInDim S32768 ![] bcast_S_S32768 (constantI S_ 32 0#32)))
      (addi p (broadcastInDim S32768 ![] bcast_S_S32768 (constantI S_ 32 512#32))) p)) (broadcastInDim S32768x1 ![0, 1] bcast_S1x1_S32768x1_0_1
            (broadcastInDim S1x1 ![1] bcast_S1_S1x1_1 (constantI S1 32 511#32)))))
        (constantI S_ 1 1#1) reducesTo_S32768x1_S32768_d1 h_S_))
    (Host.gather gather_S512x64_S32768x1_S32768x64_1_0_n_n_0_1_164 cb (broadcastInDim S32768x1 ![0] bcast_S32768_S32768x1_0
    (select (cmpi .slt p (broadcastInDim S32768 ![] bcast_S_S32768 (constantI S_ 32 0#32)))
      (addi p (broadcastInDim S32768 ![] bcast_S_S32768 (constantI S_ 32 512#32))) p)))
    (broadcastInDim S32768x64 ![] bcast_S_S32768x64 (constant S_ .f32 0x7FC00000#32)) : FVec Ideal S32768x64 .f32) = takeOf cb' p' := by
  subst h h'
  rfl

/-- A buffer read at its own type. -/
theorem readOf_eq (r : Ref sig .tc) (h2 h3) (v : r.ty.Contents (Elt Ideal)) : (TRef.of r rfl h2 h3 : TRef sig r.ty).ofBuf v = v := rfl

/-- A buffer written at its own type. -/
theorem wroteOf_eq (r : Ref sig .tc) (h2 h3) (v : r.ty.Contents (Elt Ideal)) : (TRef.of r rfl h2 h3 : TRef sig r.ty).toBuf v = v := rfl

/-- The mean of the squared differences. -/
def meanOf (z q : FVec Ideal S32768x64 .f32) : FVec Ideal S_ .f32 :=
  Host.divf (Host.reduceAdd (mulf (subf z q) (subf z q)) (constant S_ .f32 0x00000000#32) reducesTo_S32768x64_S_d0_1 h_S_)
    (constant S_ .f32 0x4A000000#32)

/-- The commitment loss. -/
def lossOf (z q : FVec Ideal S32768x64 .f32) : FVec Ideal S_ .f32 :=
  addf (meanOf z q) (mulf (constant S_ .f32 0x3E800000#32) (meanOf z q))

/-- Four losses in a row. -/
def sum4 (a b c d : FVec Ideal S_ .f32) : FVec Ideal S_ .f32 := addf (addf (addf a b) c) d

/-- The decoder with 144 columns. -/
def dec144 (z q : FVec Ideal S32768x64 .f32) (w : FVec Ideal S64x144 .f32) (b : FVec Ideal S144 .f32) : FVec Ideal S16x2048x144 .f32 :=
  shapeCast S16x2048x144 (addf (Host.dotGeneral dot_S32768x64_S64x144_S32768x144_1_0_0_1_n_n none (addf z (subf q z)) w)
    (broadcastInDim S32768x144 ![0, 1] bcast_S1x144_S32768x144_0_1 (broadcastInDim S1x144 ![1] bcast_S144_S1x144_1 b)))
    shapeCasts_S32768x144_S16x2048x144

/-- The decoder with 135 columns. -/
def dec135 (z q : FVec Ideal S32768x64 .f32) (w : FVec Ideal S64x135 .f32) (b : FVec Ideal S135 .f32) : FVec Ideal S16x2048x135 .f32 :=
  shapeCast S16x2048x135 (addf (Host.dotGeneral dot_S32768x64_S64x135_S32768x135_1_0_0_1_n_n none (addf z (subf q z)) w)
    (broadcastInDim S32768x135 ![0, 1] bcast_S1x135_S32768x135_0_1 (broadcastInDim S1x135 ![1] bcast_S135_S1x135_1 b)))
    shapeCasts_S32768x135_S16x2048x135

/-- The decoder with 84 columns. -/
def dec84 (z q : FVec Ideal S32768x64 .f32) (w : FVec Ideal S64x84 .f32) (b : FVec Ideal S84 .f32) : FVec Ideal S16x2048x84 .f32 :=
  shapeCast S16x2048x84 (addf (Host.dotGeneral dot_S32768x64_S64x84_S32768x84_1_0_0_1_n_n none (addf z (subf q z)) w)
    (broadcastInDim S32768x84 ![0, 1] bcast_S1x84_S32768x84_0_1 (broadcastInDim S1x84 ![1] bcast_S84_S1x84_1 b)))
    shapeCasts_S32768x84_S16x2048x84

/-- The encoder with 144 features. -/
def enc144 (a : FVec Ideal S16x2048x48 .f32) (r : FVec Ideal S16x2048x96 .f32)
    (w : FVec Ideal S144x64 .f32) (b : FVec Ideal S64 .f32) : FVec Ideal S32768x64 .f32 :=
  addf (Host.dotGeneral dot_S32768x144_S144x64_S32768x64_1_0_0_1_n_n none
      (shapeCast S32768x144 (concatenate S16x2048x144 2 [⟨S16x2048x48, a⟩, ⟨S16x2048x96, r⟩] concatenates_S16x2048x48_S16x2048x96_S16x2048x144_d2) shapeCasts_S16x2048x144_S32768x144) w)
    (broadcastInDim S32768x64 ![0, 1] bcast_S1x64_S32768x64_0_1 (broadcastInDim S1x64 ![1] bcast_S64_S1x64_1 b))

/-- The encoder with 135 features. -/
def enc135 (a : FVec Ideal S16x2048x45 .f32) (r : FVec Ideal S16x2048x90 .f32)
    (w : FVec Ideal S135x64 .f32) (b : FVec Ideal S64 .f32) : FVec Ideal S32768x64 .f32 :=
  addf (Host.dotGeneral dot_S32768x135_S135x64_S32768x64_1_0_0_1_n_n none
      (shapeCast S32768x135 (concatenate S16x2048x135 2 [⟨S16x2048x45, a⟩, ⟨S16x2048x90, r⟩] concatenates_S16x2048x45_S16x2048x90_S16x2048x135_d2) shapeCasts_S16x2048x135_S32768x135) w)
    (broadcastInDim S32768x64 ![0, 1] bcast_S1x64_S32768x64_0_1 (broadcastInDim S1x64 ![1] bcast_S64_S1x64_1 b))

/-- The encoder with 84 features. -/
def enc84 (a : FVec Ideal S16x2048x27 .f32) (r : FVec Ideal S16x2048x54 .f32) (s : FVec Ideal S16x2048x3 .f32)
    (w : FVec Ideal S84x64 .f32) (b : FVec Ideal S64 .f32) : FVec Ideal S32768x64 .f32 :=
  addf (Host.dotGeneral dot_S32768x84_S84x64_S32768x64_1_0_0_1_n_n none
      (shapeCast S32768x84 (concatenate S16x2048x84 2 [⟨S16x2048x27, a⟩, ⟨S16x2048x54, r⟩, ⟨S16x2048x3, s⟩] concatenates_S16x2048x27_S16x2048x54_S16x2048x3_S16x2048x84_d2) shapeCasts_S16x2048x84_S32768x84) w)
    (broadcastInDim S32768x64 ![0, 1] bcast_S1x64_S32768x64_0_1 (broadcastInDim S1x64 ![1] bcast_S64_S1x64_1 b))

/-- Start indices of 16 joints. -/
def col16 (c : IVec S16 32) : IVec S16x1 32 :=
  broadcastInDim S16x1 ![0] bcast_S16_S16x1_0
    (select (cmpi .slt c (broadcastInDim S16 ![] bcast_S_S16 (constantI S_ 32 0#32)))
      (addi c (broadcastInDim S16 ![] bcast_S_S16 (constantI S_ 32 55#32))) c)

/-- Start indices of 9 joints. -/
def col9 (c : IVec S9 32) : IVec S9x1 32 :=
  broadcastInDim S9x1 ![0] bcast_S9_S9x1_0
    (select (cmpi .slt c (broadcastInDim S9 ![] bcast_S_S9 (constantI S_ 32 0#32)))
      (addi c (broadcastInDim S9 ![] bcast_S_S9 (constantI S_ 32 55#32))) c)

/-- Start indices of 15 joints. -/
def col15 (c : IVec S15 32) : IVec S15x1 32 :=
  broadcastInDim S15x1 ![0] bcast_S15_S15x1_0
    (select (cmpi .slt c (broadcastInDim S15 ![] bcast_S_S15 (constantI S_ 32 0#32)))
      (addi c (broadcastInDim S15 ![] bcast_S_S15 (constantI S_ 32 55#32))) c)

/-- 16 joints' 3 channels out of the whole row. -/
def join16x3 (x : FVec Ideal S16x2048x165 .f32) (c : IVec S16 32) : FVec Ideal S16x2048x48 .f32 :=
  shapeCast S16x2048x48 (Host.gather gather_S16x2048x55x3_S16x1_S16x2048x16x3_013_2_n_n_2_1_16204813
    (shapeCast S16x2048x55x3 x shapeCasts_S16x2048x165_S16x2048x55x3) (col16 c)) shapeCasts_S16x2048x16x3_S16x2048x48

/-- 16 joints' 6 channels out of the whole row. -/
def join16x6 (x : FVec Ideal S16x2048x330 .f32) (c : IVec S16 32) : FVec Ideal S16x2048x96 .f32 :=
  shapeCast S16x2048x96 (Host.gather gather_S16x2048x55x6_S16x1_S16x2048x16x6_013_2_n_n_2_1_16204816
    (shapeCast S16x2048x55x6 x shapeCasts_S16x2048x330_S16x2048x55x6) (col16 c)) shapeCasts_S16x2048x16x6_S16x2048x96

/-- 9 joints' 3 channels out of the whole row. -/
def join9x3 (x : FVec Ideal S16x2048x165 .f32) (c : IVec S9 32) : FVec Ideal S16x2048x27 .f32 :=
  shapeCast S16x2048x27 (Host.gather gather_S16x2048x55x3_S9x1_S16x2048x9x3_013_2_n_n_2_1_16204813
    (shapeCast S16x2048x55x3 x shapeCasts_S16x2048x165_S16x2048x55x3) (col9 c)) shapeCasts_S16x2048x9x3_S16x2048x27

/-- 9 joints' 6 channels out of the whole row. -/
def join9x6 (x : FVec Ideal S16x2048x330 .f32) (c : IVec S9 32) : FVec Ideal S16x2048x54 .f32 :=
  shapeCast S16x2048x54 (Host.gather gather_S16x2048x55x6_S9x1_S16x2048x9x6_013_2_n_n_2_1_16204816
    (shapeCast S16x2048x55x6 x shapeCasts_S16x2048x330_S16x2048x55x6) (col9 c)) shapeCasts_S16x2048x9x6_S16x2048x54

/-- 15 joints' 3 channels out of the whole row. -/
def join15x3 (x : FVec Ideal S16x2048x165 .f32) (c : IVec S15 32) : FVec Ideal S16x2048x45 .f32 :=
  shapeCast S16x2048x45 (Host.gather gather_S16x2048x55x3_S15x1_S16x2048x15x3_013_2_n_n_2_1_16204813
    (shapeCast S16x2048x55x3 x shapeCasts_S16x2048x165_S16x2048x55x3) (col15 c)) shapeCasts_S16x2048x15x3_S16x2048x45

/-- 15 joints' 6 channels out of the whole row. -/
def join15x6 (x : FVec Ideal S16x2048x330 .f32) (c : IVec S15 32) : FVec Ideal S16x2048x90 .f32 :=
  shapeCast S16x2048x90 (Host.gather gather_S16x2048x55x6_S15x1_S16x2048x15x6_013_2_n_n_2_1_16204816
    (shapeCast S16x2048x55x6 x shapeCasts_S16x2048x330_S16x2048x55x6) (col15 c)) shapeCasts_S16x2048x15x6_S16x2048x90

/-- The four parts' joints set into a row of zeros. -/
def full3 (a : FVec Ideal S16x2048x48 .f32) (b : FVec Ideal S16x2048x27 .f32) (c d : FVec Ideal S16x2048x45 .f32)
    (ca : IVec S16 32) (cb : IVec S9 32) (cc cd : IVec S15 32) : FVec Ideal S16x2048x55x3 .f32 :=
  let s0 : FVec Ideal S16x2048x55x3 .f32 := broadcastInDim S16x2048x55x3 ![] bcast_S_S16x2048x55x3 (constant S_ .f32 0x00000000#32)
  let s1 := Host.scatter scatter_S16x2048x55x3_S16x1_S16x2048x16x3_013_2_2_1 (fun _ b => b) s0 (col16 ca)
    (shapeCast S16x2048x16x3 a shapeCasts_S16x2048x48_S16x2048x16x3)
  let s2 := Host.scatter scatter_S16x2048x55x3_S9x1_S16x2048x9x3_013_2_2_1 (fun _ b => b) s1 (col9 cb)
    (shapeCast S16x2048x9x3 b shapeCasts_S16x2048x27_S16x2048x9x3)
  let s3 := Host.scatter scatter_S16x2048x55x3_S15x1_S16x2048x15x3_013_2_2_1 (fun _ b => b) s2 (col15 cc)
    (shapeCast S16x2048x15x3 c shapeCasts_S16x2048x45_S16x2048x15x3)
  Host.scatter scatter_S16x2048x55x3_S15x1_S16x2048x15x3_013_2_2_1 (fun _ b => b) s3 (col15 cd)
    (shapeCast S16x2048x15x3 d shapeCasts_S16x2048x45_S16x2048x15x3)

/-- The four parts' joints set into a row of zeros. -/
def full6 (a : FVec Ideal S16x2048x96 .f32) (b : FVec Ideal S16x2048x54 .f32) (c d : FVec Ideal S16x2048x90 .f32)
    (ca : IVec S16 32) (cb : IVec S9 32) (cc cd : IVec S15 32) : FVec Ideal S16x2048x55x6 .f32 :=
  let s0 : FVec Ideal S16x2048x55x6 .f32 := broadcastInDim S16x2048x55x6 ![] bcast_S_S16x2048x55x6 (constant S_ .f32 0x00000000#32)
  let s1 := Host.scatter scatter_S16x2048x55x6_S16x1_S16x2048x16x6_013_2_2_1 (fun _ b => b) s0 (col16 ca)
    (shapeCast S16x2048x16x6 a shapeCasts_S16x2048x96_S16x2048x16x6)
  let s2 := Host.scatter scatter_S16x2048x55x6_S9x1_S16x2048x9x6_013_2_2_1 (fun _ b => b) s1 (col9 cb)
    (shapeCast S16x2048x9x6 b shapeCasts_S16x2048x54_S16x2048x9x6)
  let s3 := Host.scatter scatter_S16x2048x55x6_S15x1_S16x2048x15x6_013_2_2_1 (fun _ b => b) s2 (col15 cc)
    (shapeCast S16x2048x15x6 c shapeCasts_S16x2048x90_S16x2048x15x6)
  Host.scatter scatter_S16x2048x55x6_S15x1_S16x2048x15x6_013_2_2_1 (fun _ b => b) s3 (col15 cd)
    (shapeCast S16x2048x15x6 d shapeCasts_S16x2048x90_S16x2048x15x6)

/-! ## The reads -/

variable (V : Valuation τ sig (Elt Ideal))

set_option maxHeartbeats 4000000 in
theorem rd_tab0 : rd V main_c = (fun i => lit0 (S16.rowMajor i)) := by
  rw [rd_seg V 0 4 (by decide +kernel)]
  generalize upto ops V 0 = U
  after_reads_simp
  rfl

set_option maxHeartbeats 4000000 in
theorem rd_tab1 : rd V main_c_0 = (fun i => lit1 (S9.rowMajor i)) := by
  rw [rd_seg V 0 4 (by decide +kernel)]
  generalize upto ops V 0 = U
  after_reads_simp
  rfl

set_option maxHeartbeats 4000000 in
theorem rd_tab2 : rd V main_c_1 = (fun i => lit2 (S15.rowMajor i)) := by
  rw [rd_seg V 0 4 (by decide +kernel)]
  generalize upto ops V 0 = U
  after_reads_simp
  rfl

set_option maxHeartbeats 4000000 in
theorem rd_tab3 : rd V main_c_2 = (fun i => lit3 (S15.rowMajor i)) := by
  rw [rd_seg V 0 4 (by decide +kernel)]
  generalize upto ops V 0 = U
  after_reads_simp
  rfl

set_option maxHeartbeats 4000000 in
theorem rd_v9 : rd V main_v9 = join16x3 (rd V main_arg0) (rd V main_c) := by
  rw [rd_seg V 4 12 (by decide +kernel),
    ← upto_rd V 4 (r := main_arg0) (by decide +kernel),
    ← upto_rd V 4 (r := main_c) (by decide +kernel)]
  generalize upto ops V 4 = U
  after_reads_simp
  rfl

set_option maxHeartbeats 4000000 in
theorem rd_v17 : rd V main_v17 = join9x3 (rd V main_arg0) (rd V main_c_0) := by
  rw [rd_seg V 4 22 (by decide +kernel),
    ← upto_rd V 4 (r := main_arg0) (by decide +kernel),
    ← upto_rd V 4 (r := main_c_0) (by decide +kernel)]
  generalize upto ops V 4 = U
  after_reads_simp
  rfl

set_option maxHeartbeats 4000000 in
theorem rd_v25 : rd V main_v25 = join15x3 (rd V main_arg0) (rd V main_c_1) := by
  rw [rd_seg V 4 32 (by decide +kernel),
    ← upto_rd V 4 (r := main_arg0) (by decide +kernel),
    ← upto_rd V 4 (r := main_c_1) (by decide +kernel)]
  generalize upto ops V 4 = U
  after_reads_simp
  rfl

set_option maxHeartbeats 4000000 in
theorem rd_v33 : rd V main_v33 = join15x3 (rd V main_arg0) (rd V main_c_2) := by
  rw [rd_seg V 4 42 (by decide +kernel),
    ← upto_rd V 4 (r := main_arg0) (by decide +kernel),
    ← upto_rd V 4 (r := main_c_2) (by decide +kernel)]
  generalize upto ops V 4 = U
  after_reads_simp
  rfl

set_option maxHeartbeats 4000000 in
theorem rd_v41 : rd V main_v41 = join16x6 (rd V main_arg1) (rd V main_c) := by
  rw [rd_seg V 4 52 (by decide +kernel),
    ← upto_rd V 4 (r := main_arg1) (by decide +kernel),
    ← upto_rd V 4 (r := main_c) (by decide +kernel)]
  generalize upto ops V 4 = U
  after_reads_simp
  rfl

set_option maxHeartbeats 4000000 in
theorem rd_v49 : rd V main_v49 = join9x6 (rd V main_arg1) (rd V main_c_0) := by
  rw [rd_seg V 4 62 (by decide +kernel),
    ← upto_rd V 4 (r := main_arg1) (by decide +kernel),
    ← upto_rd V 4 (r := main_c_0) (by decide +kernel)]
  generalize upto ops V 4 = U
  after_reads_simp
  rfl

set_option maxHeartbeats 4000000 in
theorem rd_v57 : rd V main_v57 = join15x6 (rd V main_arg1) (rd V main_c_1) := by
  rw [rd_seg V 4 72 (by decide +kernel),
    ← upto_rd V 4 (r := main_arg1) (by decide +kernel),
    ← upto_rd V 4 (r := main_c_1) (by decide +kernel)]
  generalize upto ops V 4 = U
  after_reads_simp
  rfl

set_option maxHeartbeats 4000000 in
theorem rd_v65 : rd V main_v65 = join15x6 (rd V main_arg1) (rd V main_c_2) := by
  rw [rd_seg V 4 82 (by decide +kernel),
    ← upto_rd V 4 (r := main_arg1) (by decide +kernel),
    ← upto_rd V 4 (r := main_c_2) (by decide +kernel)]
  generalize upto ops V 4 = U
  after_reads_simp
  rfl

set_option maxHeartbeats 4000000 in
theorem rd_z_up : rd V main_v71 = enc144 (rd V main_v9) (rd V main_v41) (rd V main_arg3) (rd V main_arg4) := by
  rw [rd_seg V 86 6 (by decide +kernel),
    ← upto_rd V 86 (r := main_v9) (by decide +kernel),
    ← upto_rd V 86 (r := main_v41) (by decide +kernel),
    ← upto_rd V 86 (r := main_arg3) (by decide +kernel),
    ← upto_rd V 86 (r := main_arg4) (by decide +kernel)]
  generalize upto ops V 86 = U
  after_reads_simp
  rfl

set_option maxHeartbeats 4000000 in
theorem rd_d_up : rd V main_v85 = distOf (rd V main_v71) (rd V main_arg5) := by
  rw [rd_seg V 92 17 (by decide +kernel),
    ← upto_rd V 92 (r := main_v71) (by decide +kernel),
    ← upto_rd V 92 (r := main_arg5) (by decide +kernel)]
  generalize upto ops V 92 = U
  after_reads_simp
  rfl

set_option maxHeartbeats 4000000 in
theorem rd_i_up : rd V main_v86 = argOf (rd V main_v85) := by
  rw [rd_seg V 109 5 (by decide +kernel),
    ← upto_rd V 109 (r := main_v85) (by decide +kernel)]
  generalize upto ops V 109 = U
  after_reads_simp
  simp only [TRef.ofBuf_toBuf]
  exact arg_apply _ _ rfl

set_option maxHeartbeats 4000000 in
theorem rd_q_up : rd V main_v87 = takeOf (rd V main_arg5) (rd V main_v86) := by
  rw [rd_seg V 114 23 (by decide +kernel),
    ← upto_rd V 114 (r := main_v86) (by decide +kernel),
    ← upto_rd V 114 (r := main_arg5) (by decide +kernel)]
  generalize upto ops V 114 = U
  after_reads_simp
  simp only [TRef.ofBuf_toBuf]
  exact (congrArg (TRef.toBuf _) (take_apply _ _ _ _ (readOf_eq main_arg5 _ _ _) (readOf_eq main_v86 _ _ _))).trans (wroteOf_eq main_v87 _ _ _)

set_option maxHeartbeats 4000000 in
theorem rd_l_up : rd V main_v97 = lossOf (rd V main_v71) (rd V main_v87) := by
  rw [rd_seg V 137 15 (by decide +kernel),
    ← upto_rd V 137 (r := main_v71) (by decide +kernel),
    ← upto_rd V 137 (r := main_v87) (by decide +kernel)]
  generalize upto ops V 137 = U
  after_reads_simp
  rfl

set_option maxHeartbeats 4000000 in
theorem rd_o_up : rd V main_v104 = dec144 (rd V main_v71) (rd V main_v87) (rd V main_arg6) (rd V main_arg7) := by
  rw [rd_seg V 152 7 (by decide +kernel),
    ← upto_rd V 152 (r := main_v71) (by decide +kernel),
    ← upto_rd V 152 (r := main_v87) (by decide +kernel),
    ← upto_rd V 152 (r := main_arg6) (by decide +kernel),
    ← upto_rd V 152 (r := main_arg7) (by decide +kernel)]
  generalize upto ops V 152 = U
  after_reads_simp
  rfl

set_option maxHeartbeats 4000000 in
theorem rd_z_lh : rd V main_v112 = enc135 (rd V main_v25) (rd V main_v57) (rd V main_arg13) (rd V main_arg14) := by
  rw [rd_seg V 161 6 (by decide +kernel),
    ← upto_rd V 161 (r := main_v25) (by decide +kernel),
    ← upto_rd V 161 (r := main_v57) (by decide +kernel),
    ← upto_rd V 161 (r := main_arg13) (by decide +kernel),
    ← upto_rd V 161 (r := main_arg14) (by decide +kernel)]
  generalize upto ops V 161 = U
  after_reads_simp
  rfl

set_option maxHeartbeats 4000000 in
theorem rd_d_lh : rd V main_v126 = distOf (rd V main_v112) (rd V main_arg15) := by
  rw [rd_seg V 167 17 (by decide +kernel),
    ← upto_rd V 167 (r := main_v112) (by decide +kernel),
    ← upto_rd V 167 (r := main_arg15) (by decide +kernel)]
  generalize upto ops V 167 = U
  after_reads_simp
  rfl

set_option maxHeartbeats 4000000 in
theorem rd_i_lh : rd V main_v127 = argOf (rd V main_v126) := by
  rw [rd_seg V 184 5 (by decide +kernel),
    ← upto_rd V 184 (r := main_v126) (by decide +kernel)]
  generalize upto ops V 184 = U
  after_reads_simp
  simp only [TRef.ofBuf_toBuf]
  exact arg_apply _ _ rfl

set_option maxHeartbeats 4000000 in
theorem rd_q_lh : rd V main_v128 = takeOf (rd V main_arg15) (rd V main_v127) := by
  rw [rd_seg V 189 23 (by decide +kernel),
    ← upto_rd V 189 (r := main_v127) (by decide +kernel),
    ← upto_rd V 189 (r := main_arg15) (by decide +kernel)]
  generalize upto ops V 189 = U
  after_reads_simp
  simp only [TRef.ofBuf_toBuf]
  exact (congrArg (TRef.toBuf _) (take_apply _ _ _ _ (readOf_eq main_arg15 _ _ _) (readOf_eq main_v127 _ _ _))).trans (wroteOf_eq main_v128 _ _ _)

set_option maxHeartbeats 4000000 in
theorem rd_l_lh : rd V main_v138 = lossOf (rd V main_v112) (rd V main_v128) := by
  rw [rd_seg V 212 15 (by decide +kernel),
    ← upto_rd V 212 (r := main_v112) (by decide +kernel),
    ← upto_rd V 212 (r := main_v128) (by decide +kernel)]
  generalize upto ops V 212 = U
  after_reads_simp
  rfl

set_option maxHeartbeats 4000000 in
theorem rd_o_lh : rd V main_v145 = dec135 (rd V main_v112) (rd V main_v128) (rd V main_arg16) (rd V main_arg17) := by
  rw [rd_seg V 227 7 (by decide +kernel),
    ← upto_rd V 227 (r := main_v112) (by decide +kernel),
    ← upto_rd V 227 (r := main_v128) (by decide +kernel),
    ← upto_rd V 227 (r := main_arg16) (by decide +kernel),
    ← upto_rd V 227 (r := main_arg17) (by decide +kernel)]
  generalize upto ops V 227 = U
  after_reads_simp
  rfl

set_option maxHeartbeats 4000000 in
theorem rd_z_rh : rd V main_v153 = enc135 (rd V main_v33) (rd V main_v65) (rd V main_arg18) (rd V main_arg19) := by
  rw [rd_seg V 236 6 (by decide +kernel),
    ← upto_rd V 236 (r := main_v33) (by decide +kernel),
    ← upto_rd V 236 (r := main_v65) (by decide +kernel),
    ← upto_rd V 236 (r := main_arg18) (by decide +kernel),
    ← upto_rd V 236 (r := main_arg19) (by decide +kernel)]
  generalize upto ops V 236 = U
  after_reads_simp
  rfl

set_option maxHeartbeats 4000000 in
theorem rd_d_rh : rd V main_v167 = distOf (rd V main_v153) (rd V main_arg20) := by
  rw [rd_seg V 242 17 (by decide +kernel),
    ← upto_rd V 242 (r := main_v153) (by decide +kernel),
    ← upto_rd V 242 (r := main_arg20) (by decide +kernel)]
  generalize upto ops V 242 = U
  after_reads_simp
  rfl

set_option maxHeartbeats 4000000 in
theorem rd_i_rh : rd V main_v168 = argOf (rd V main_v167) := by
  rw [rd_seg V 259 5 (by decide +kernel),
    ← upto_rd V 259 (r := main_v167) (by decide +kernel)]
  generalize upto ops V 259 = U
  after_reads_simp
  simp only [TRef.ofBuf_toBuf]
  exact arg_apply _ _ rfl

set_option maxHeartbeats 4000000 in
theorem rd_q_rh : rd V main_v169 = takeOf (rd V main_arg20) (rd V main_v168) := by
  rw [rd_seg V 264 23 (by decide +kernel),
    ← upto_rd V 264 (r := main_v168) (by decide +kernel),
    ← upto_rd V 264 (r := main_arg20) (by decide +kernel)]
  generalize upto ops V 264 = U
  after_reads_simp
  simp only [TRef.ofBuf_toBuf]
  exact (congrArg (TRef.toBuf _) (take_apply _ _ _ _ (readOf_eq main_arg20 _ _ _) (readOf_eq main_v168 _ _ _))).trans (wroteOf_eq main_v169 _ _ _)

set_option maxHeartbeats 4000000 in
theorem rd_l_rh : rd V main_v179 = lossOf (rd V main_v153) (rd V main_v169) := by
  rw [rd_seg V 287 15 (by decide +kernel),
    ← upto_rd V 287 (r := main_v153) (by decide +kernel),
    ← upto_rd V 287 (r := main_v169) (by decide +kernel)]
  generalize upto ops V 287 = U
  after_reads_simp
  rfl

set_option maxHeartbeats 4000000 in
theorem rd_o_rh : rd V main_v186 = dec135 (rd V main_v153) (rd V main_v169) (rd V main_arg21) (rd V main_arg22) := by
  rw [rd_seg V 302 7 (by decide +kernel),
    ← upto_rd V 302 (r := main_v153) (by decide +kernel),
    ← upto_rd V 302 (r := main_v169) (by decide +kernel),
    ← upto_rd V 302 (r := main_arg21) (by decide +kernel),
    ← upto_rd V 302 (r := main_arg22) (by decide +kernel)]
  generalize upto ops V 302 = U
  after_reads_simp
  rfl

set_option maxHeartbeats 4000000 in
theorem rd_z_dn : rd V main_v194 = enc84 (rd V main_v17) (rd V main_v49) (rd V main_arg2) (rd V main_arg8) (rd V main_arg9) := by
  rw [rd_seg V 311 6 (by decide +kernel),
    ← upto_rd V 311 (r := main_v17) (by decide +kernel),
    ← upto_rd V 311 (r := main_v49) (by decide +kernel),
    ← upto_rd V 311 (r := main_arg2) (by decide +kernel),
    ← upto_rd V 311 (r := main_arg8) (by decide +kernel),
    ← upto_rd V 311 (r := main_arg9) (by decide +kernel)]
  generalize upto ops V 311 = U
  after_reads_simp
  rfl

set_option maxHeartbeats 4000000 in
theorem rd_d_dn : rd V main_v208 = distOf (rd V main_v194) (rd V main_arg10) := by
  rw [rd_seg V 317 17 (by decide +kernel),
    ← upto_rd V 317 (r := main_v194) (by decide +kernel),
    ← upto_rd V 317 (r := main_arg10) (by decide +kernel)]
  generalize upto ops V 317 = U
  after_reads_simp
  rfl

set_option maxHeartbeats 4000000 in
theorem rd_i_dn : rd V main_v209 = argOf (rd V main_v208) := by
  rw [rd_seg V 334 5 (by decide +kernel),
    ← upto_rd V 334 (r := main_v208) (by decide +kernel)]
  generalize upto ops V 334 = U
  after_reads_simp
  simp only [TRef.ofBuf_toBuf]
  exact arg_apply _ _ rfl

set_option maxHeartbeats 4000000 in
theorem rd_q_dn : rd V main_v210 = takeOf (rd V main_arg10) (rd V main_v209) := by
  rw [rd_seg V 339 23 (by decide +kernel),
    ← upto_rd V 339 (r := main_v209) (by decide +kernel),
    ← upto_rd V 339 (r := main_arg10) (by decide +kernel)]
  generalize upto ops V 339 = U
  after_reads_simp
  simp only [TRef.ofBuf_toBuf]
  exact (congrArg (TRef.toBuf _) (take_apply _ _ _ _ (readOf_eq main_arg10 _ _ _) (readOf_eq main_v209 _ _ _))).trans (wroteOf_eq main_v210 _ _ _)

set_option maxHeartbeats 4000000 in
theorem rd_l_dn : rd V main_v220 = lossOf (rd V main_v194) (rd V main_v210) := by
  rw [rd_seg V 362 15 (by decide +kernel),
    ← upto_rd V 362 (r := main_v194) (by decide +kernel),
    ← upto_rd V 362 (r := main_v210) (by decide +kernel)]
  generalize upto ops V 362 = U
  after_reads_simp
  rfl

set_option maxHeartbeats 4000000 in
theorem rd_o_dn : rd V main_v227 = dec84 (rd V main_v194) (rd V main_v210) (rd V main_arg11) (rd V main_arg12) := by
  rw [rd_seg V 377 7 (by decide +kernel),
    ← upto_rd V 377 (r := main_v194) (by decide +kernel),
    ← upto_rd V 377 (r := main_v210) (by decide +kernel),
    ← upto_rd V 377 (r := main_arg11) (by decide +kernel),
    ← upto_rd V 377 (r := main_arg12) (by decide +kernel)]
  generalize upto ops V 377 = U
  after_reads_simp
  rfl

set_option maxHeartbeats 4000000 in
theorem rd_v105 : rd V main_v105 = extractStridedSlice S16x2048x48 ![0, 0, 0] (rd V main_v104) slices_S16x2048x144_S16x2048x48_0_0_0 := by
  rw [rd_seg V 159 1 (by decide +kernel),
    ← upto_rd V 159 (r := main_v104) (by decide +kernel)]
  generalize upto ops V 159 = U
  after_reads_simp

set_option maxHeartbeats 4000000 in
theorem rd_v106 : rd V main_v106 = extractStridedSlice S16x2048x96 ![0, 0, 48] (rd V main_v104) slices_S16x2048x144_S16x2048x96_0_0_48 := by
  rw [rd_seg V 160 1 (by decide +kernel),
    ← upto_rd V 160 (r := main_v104) (by decide +kernel)]
  generalize upto ops V 160 = U
  after_reads_simp

set_option maxHeartbeats 4000000 in
theorem rd_v147 : rd V main_v147 = extractStridedSlice S16x2048x90 ![0, 0, 45] (rd V main_v145) slices_S16x2048x135_S16x2048x90_0_0_45 := by
  rw [rd_seg V 235 1 (by decide +kernel),
    ← upto_rd V 235 (r := main_v145) (by decide +kernel)]
  generalize upto ops V 235 = U
  after_reads_simp

set_option maxHeartbeats 4000000 in
theorem rd_v188 : rd V main_v188 = extractStridedSlice S16x2048x90 ![0, 0, 45] (rd V main_v186) slices_S16x2048x135_S16x2048x90_0_0_45 := by
  rw [rd_seg V 310 1 (by decide +kernel),
    ← upto_rd V 310 (r := main_v186) (by decide +kernel)]
  generalize upto ops V 310 = U
  after_reads_simp

set_option maxHeartbeats 4000000 in
theorem rd_v228 : rd V main_v228 = extractStridedSlice S16x2048x27 ![0, 0, 0] (rd V main_v227) slices_S16x2048x84_S16x2048x27_0_0_0 := by
  rw [rd_seg V 384 1 (by decide +kernel),
    ← upto_rd V 384 (r := main_v227) (by decide +kernel)]
  generalize upto ops V 384 = U
  after_reads_simp

set_option maxHeartbeats 4000000 in
theorem rd_v229 : rd V main_v229 = extractStridedSlice S16x2048x54 ![0, 0, 27] (rd V main_v227) slices_S16x2048x84_S16x2048x54_0_0_27 := by
  rw [rd_seg V 385 1 (by decide +kernel),
    ← upto_rd V 385 (r := main_v227) (by decide +kernel)]
  generalize upto ops V 385 = U
  after_reads_simp

set_option maxHeartbeats 4000000 in
theorem rd_v230 : rd V main_v230 = extractStridedSlice S16x2048x3 ![0, 0, 81] (rd V main_v227) slices_S16x2048x84_S16x2048x3_0_0_81 := by
  rw [rd_seg V 386 1 (by decide +kernel),
    ← upto_rd V 386 (r := main_v227) (by decide +kernel)]
  generalize upto ops V 386 = U
  after_reads_simp

set_option maxHeartbeats 4000000 in
theorem rd_v263 : rd V main_v263 = full3 (rd V main_v105) (rd V main_v228) (rd V main_v25) (rd V main_v33) (rd V main_c) (rd V main_c_0) (rd V main_c_1) (rd V main_c_2) := by
  rw [rd_seg V 387 42 (by decide +kernel),
    ← upto_rd V 387 (r := main_v105) (by decide +kernel),
    ← upto_rd V 387 (r := main_v228) (by decide +kernel),
    ← upto_rd V 387 (r := main_v25) (by decide +kernel),
    ← upto_rd V 387 (r := main_v33) (by decide +kernel),
    ← upto_rd V 387 (r := main_c) (by decide +kernel),
    ← upto_rd V 387 (r := main_c_0) (by decide +kernel),
    ← upto_rd V 387 (r := main_c_1) (by decide +kernel),
    ← upto_rd V 387 (r := main_c_2) (by decide +kernel)]
  generalize upto ops V 387 = U
  after_reads_simp
  rfl

set_option maxHeartbeats 4000000 in
theorem rd_v296 : rd V main_v296 = full6 (rd V main_v106) (rd V main_v229) (rd V main_v147) (rd V main_v188) (rd V main_c) (rd V main_c_0) (rd V main_c_1) (rd V main_c_2) := by
  rw [rd_seg V 429 42 (by decide +kernel),
    ← upto_rd V 429 (r := main_v106) (by decide +kernel),
    ← upto_rd V 429 (r := main_v229) (by decide +kernel),
    ← upto_rd V 429 (r := main_v147) (by decide +kernel),
    ← upto_rd V 429 (r := main_v188) (by decide +kernel),
    ← upto_rd V 429 (r := main_c) (by decide +kernel),
    ← upto_rd V 429 (r := main_c_0) (by decide +kernel),
    ← upto_rd V 429 (r := main_c_1) (by decide +kernel),
    ← upto_rd V 429 (r := main_c_2) (by decide +kernel)]
  generalize upto ops V 429 = U
  after_reads_simp
  rfl

set_option maxHeartbeats 4000000 in
theorem rd_v299 : rd V main_v299 = sum4 (rd V main_v97) (rd V main_v220) (rd V main_v138) (rd V main_v179) := by
  rw [rd_seg V 471 3 (by decide +kernel),
    ← upto_rd V 471 (r := main_v97) (by decide +kernel),
    ← upto_rd V 471 (r := main_v220) (by decide +kernel),
    ← upto_rd V 471 (r := main_v138) (by decide +kernel),
    ← upto_rd V 471 (r := main_v179) (by decide +kernel)]
  generalize upto ops V 471 = U
  after_reads_simp
  rfl

set_option maxHeartbeats 4000000 in
theorem rd_v300 : rd V main_v300 = shapeCast S16x2048x165 (rd V main_v263) shapeCasts_S16x2048x55x3_S16x2048x165 := by
  rw [rd_seg V 474 2 (by decide +kernel),
    ← upto_rd V 474 (r := main_v263) (by decide +kernel)]
  generalize upto ops V 474 = U
  after_reads_simp
  rfl

set_option maxHeartbeats 4000000 in
theorem rd_v301 : rd V main_v301 = shapeCast S16x2048x330 (rd V main_v296) shapeCasts_S16x2048x55x6_S16x2048x330 := by
  rw [rd_seg V 474 2 (by decide +kernel),
    ← upto_rd V 474 (r := main_v296) (by decide +kernel)]
  generalize upto ops V 474 = U
  after_reads_simp
  rfl

end Cert.ReferenceIdeal.Line

end
-- ==== Proof.Index.lean ====
/-
Gathers of rows, of columns and of joints, and a scatter of joints, each read at an index.
-/
module

public import Idealize.ShloMosaic.PureOps
public import Idealize.ShloMosaic.Lib.Pointwise
public import Idealize.ShloMosaic.Lib.ValueIdx

@[expose] public section

set_option maxRecDepth 16384

namespace Cert.Index

open Idealize.ShloMosaic

variable {α : Type}

/-- The position that a table of `N` entries is read at by a word. -/
def slot (N : ℕ) (hN : 0 < N) (w : BitVec 32) : Fin N := ⟨min w.toInt.toNat (N - 1), by omega⟩

theorem slot_ofNat {N : ℕ} (hN : 0 < N) (hs : N ≤ 2 ^ 31) (k : Fin N) : slot N hN (BitVec.ofNat 32 k) = k := by
  have hk := k.isLt
  apply Fin.ext
  have h : (BitVec.ofNat 32 k.val).toInt = k.val := by
    rw [BitVec.toInt_eq_toNat_of_lt] <;> simp [BitVec.toNat_ofNat] <;> omega
  simp only [slot, h, Int.toNat_natCast]
  omega

section Gathers

/-- Rows of a table, one start index each. -/
theorem gather_rows {N C R : ℕ} (hN : 0 < N) (d : GatherDims ⟨2, ![N, C]⟩ ⟨2, ![R, 1]⟩ ⟨2, ![R, C]⟩)
    (h1 : d.offsetDims = [1]) (h2 : d.collapsedSliceDims = [0]) (h3 : d.operandBatchingDims = [])
    (h4 : d.startIndicesBatchingDims = []) (h5 : d.startIndexMap = [0]) (h6 : d.indexVectorDim = 1)
    (h7 : d.sliceSizes = ![1, C]) (x : (⟨2, ![N, C]⟩ : Shape).Idx → α) (idx : IVec ⟨2, ![R, 1]⟩ 32) (r : Fin R) (c : Fin C) :
    Host.gather d x idx (ix2 r c) = x (ix2 (slot N hN (idx (ix2 r 0))) c) := by
  obtain ⟨o, cs, ob, sb, sm, iv, ss, wf⟩ := d
  simp only at h1 h2 h3 h4 h5 h6 h7
  subst h1 h2 h3 h4 h5 h6 h7
  unfold Host.gather
  refine congrArg x (funext fun a => ?_)
  match a with
  | ⟨0, _⟩ =>
    refine Fin.ext ?_
    have e : ∀ j : (⟨2, ![R, 1]⟩ : Shape).Idx, j = ix2 r 0 →
        min (idx j).toInt.toNat (N - 1) + 0 + 0 = min (idx (ix2 r 0)).toInt.toNat (N - 1) := by
      rintro _ rfl; rfl
    exact e _ (funext fun b => match b with
      | ⟨0, _⟩ => rfl
      | ⟨1, _⟩ => rfl)
  | ⟨1, _⟩ =>
    refine Fin.ext ?_
    show 0 + 0 + c.val = c.val
    omega

/-- Columns of a table, one start index each. -/
theorem gather_cols {N C R : ℕ} (hC : 0 < C) (d : GatherDims ⟨2, ![N, C]⟩ ⟨2, ![R, 1]⟩ ⟨2, ![N, R]⟩)
    (h1 : d.offsetDims = [0]) (h2 : d.collapsedSliceDims = [1]) (h3 : d.operandBatchingDims = [])
    (h4 : d.startIndicesBatchingDims = []) (h5 : d.startIndexMap = [1]) (h6 : d.indexVectorDim = 1)
    (h7 : d.sliceSizes = ![N, 1]) (x : (⟨2, ![N, C]⟩ : Shape).Idx → α) (idx : IVec ⟨2, ![R, 1]⟩ 32) (n : Fin N) (r : Fin R) :
    Host.gather d x idx (ix2 n r) = x (ix2 n (slot C hC (idx (ix2 r 0)))) := by
  obtain ⟨o, cs, ob, sb, sm, iv, ss, wf⟩ := d
  simp only at h1 h2 h3 h4 h5 h6 h7
  subst h1 h2 h3 h4 h5 h6 h7
  unfold Host.gather
  refine congrArg x (funext fun a => ?_)
  match a with
  | ⟨0, _⟩ =>
    refine Fin.ext ?_
    show 0 + 0 + n.val = n.val
    omega
  | ⟨1, _⟩ =>
    refine Fin.ext ?_
    have e : ∀ j : (⟨2, ![R, 1]⟩ : Shape).Idx, j = ix2 r 0 →
        min (idx j).toInt.toNat (C - 1) + 0 + 0 = min (idx (ix2 r 0)).toInt.toNat (C - 1) := by
      rintro _ rfl; rfl
    exact e _ (funext fun b => match b with
      | ⟨0, _⟩ => rfl
      | ⟨1, _⟩ => rfl)

/-- Entries of a vector, one start index each. -/
theorem gather_entries {C R : ℕ} (hC : 0 < C) (d : GatherDims ⟨1, ![C]⟩ ⟨2, ![R, 1]⟩ ⟨1, ![R]⟩)
    (h1 : d.offsetDims = []) (h2 : d.collapsedSliceDims = [0]) (h3 : d.operandBatchingDims = [])
    (h4 : d.startIndicesBatchingDims = []) (h5 : d.startIndexMap = [0]) (h6 : d.indexVectorDim = 1)
    (h7 : d.sliceSizes = ![1]) (x : (⟨1, ![C]⟩ : Shape).Idx → α) (idx : IVec ⟨2, ![R, 1]⟩ 32) (r : Fin R) :
    Host.gather d x idx (ix1 r) = x (ix1 (slot C hC (idx (ix2 r 0)))) := by
  obtain ⟨o, cs, ob, sb, sm, iv, ss, wf⟩ := d
  simp only at h1 h2 h3 h4 h5 h6 h7
  subst h1 h2 h3 h4 h5 h6 h7
  unfold Host.gather
  refine congrArg x (funext fun a => ?_)
  match a with
  | ⟨0, _⟩ =>
    refine Fin.ext ?_
    have e : ∀ j : (⟨2, ![R, 1]⟩ : Shape).Idx, j = ix2 r 0 →
        min (idx j).toInt.toNat (C - 1) + 0 + 0 = min (idx (ix2 r 0)).toInt.toNat (C - 1) := by
      rintro _ rfl; rfl
    exact e _ (funext fun b => match b with
      | ⟨0, _⟩ => rfl
      | ⟨1, _⟩ => rfl)

/-- Joints (the third axis of four), one start index each. -/
theorem gather_joints {B T N W R : ℕ} (hN : 0 < N) (d : GatherDims ⟨4, ![B, T, N, W]⟩ ⟨2, ![R, 1]⟩ ⟨4, ![B, T, R, W]⟩)
    (h1 : d.offsetDims = [0, 1, 3]) (h2 : d.collapsedSliceDims = [2]) (h3 : d.operandBatchingDims = [])
    (h4 : d.startIndicesBatchingDims = []) (h5 : d.startIndexMap = [2]) (h6 : d.indexVectorDim = 1)
    (h7 : d.sliceSizes = ![B, T, 1, W]) (x : (⟨4, ![B, T, N, W]⟩ : Shape).Idx → α) (idx : IVec ⟨2, ![R, 1]⟩ 32)
    (b : Fin B) (t : Fin T) (r : Fin R) (w : Fin W) :
    Host.gather d x idx (ix4 b t r w) = x (ix4 b t (slot N hN (idx (ix2 r 0))) w) := by
  obtain ⟨o, cs, ob, sb, sm, iv, ss, wf⟩ := d
  simp only at h1 h2 h3 h4 h5 h6 h7
  subst h1 h2 h3 h4 h5 h6 h7
  unfold Host.gather
  refine congrArg x (funext fun a => ?_)
  match a with
  | ⟨0, _⟩ =>
    refine Fin.ext ?_
    show 0 + 0 + b.val = b.val
    omega
  | ⟨1, _⟩ =>
    refine Fin.ext ?_
    show 0 + 0 + t.val = t.val
    omega
  | ⟨2, _⟩ =>
    refine Fin.ext ?_
    have e : ∀ j : (⟨2, ![R, 1]⟩ : Shape).Idx, j = ix2 r 0 →
        min (idx j).toInt.toNat (N - 1) + 0 + 0 = min (idx (ix2 r 0)).toInt.toNat (N - 1) := by
      rintro _ rfl; rfl
    exact e _ (funext fun b => match b with
      | ⟨0, _⟩ => rfl
      | ⟨1, _⟩ => rfl)
  | ⟨3, _⟩ =>
    refine Fin.ext ?_
    show 0 + 0 + w.val = w.val
    omega

end Gathers

section Scatters

/-- A scatter that sets, where exactly one update lands. -/
theorem scatter_hit {s si u : Shape} (d : ScatterDims s si u) (x : s.Idx → α) (idx : IVec si 32) (upd : u.Idx → α) (i : s.Idx)
    (j : u.Idx) (hj : d.resultIdx? j idx = some i) (one : ∀ j', d.resultIdx? j' idx = some i → j' = j) :
    Host.scatter d (fun _ b => b) x idx upd i = upd j := by
  unfold Host.scatter
  have gen : ∀ (l : List (Fin u.numel)) (x : s.Idx → α), (u.rowMajor j ∈ l ∨ x i = upd j) →
      (l.foldl (fun r n =>
        match d.resultIdx? (u.rowMajor.symm n) idx with
        | some i => fun i' => if i' = i then (fun _ b => b) (r i) (upd (u.rowMajor.symm n)) else r i'
        | none => r) x) i = upd j := by
    intro l
    induction l with
    | nil => intro x h; simpa using h
    | cons n l ih =>
      intro x h
      rw [List.foldl_cons]
      apply ih
      by_cases hn : n = u.rowMajor j
      · right
        subst hn
        rw [Equiv.symm_apply_apply, hj]
        simp
      · rcases h with h | h
        · left
          rcases List.mem_cons.1 h with h | h
          · exact absurd h.symm hn
          · exact h
        · right
          cases hr : d.resultIdx? (u.rowMajor.symm n) idx with
          | none => exact h
          | some i₂ =>
            by_cases hi : i = i₂
            · subst hi
              exact absurd (by rw [← one _ hr, Equiv.apply_symm_apply]) hn
            · simpa [hi] using h
  exact gen _ _ (Or.inl (List.mem_finRange _))

/-- A scatter that sets, where no update lands. -/
theorem scatter_miss {s si u : Shape} (d : ScatterDims s si u) (x : s.Idx → α) (idx : IVec si 32) (upd : u.Idx → α) (i : s.Idx)
    (none' : ∀ j', d.resultIdx? j' idx ≠ some i) :
    Host.scatter d (fun _ b => b) x idx upd i = x i := by
  unfold Host.scatter
  have gen : ∀ (l : List (Fin u.numel)) (x' : s.Idx → α), x' i = x i →
      (l.foldl (fun r n =>
        match d.resultIdx? (u.rowMajor.symm n) idx with
        | some i => fun i' => if i' = i then (fun _ b => b) (r i) (upd (u.rowMajor.symm n)) else r i'
        | none => r) x') i = x i := by
    intro l
    induction l with
    | nil => intro x' h; simpa using h
    | cons n l ih =>
      intro x' h
      rw [List.foldl_cons]
      apply ih
      cases hr : d.resultIdx? (u.rowMajor.symm n) idx with
      | none => exact h
      | some i₂ =>
        have hi : i ≠ i₂ := fun e => none' _ (e ▸ hr)
        simpa [hi] using h
  exact gen _ _ rfl

/-- Where an update of joints lands: at the joint that its start index names. -/
theorem lands_joints {B T N W R : ℕ} (d : ScatterDims ⟨4, ![B, T, N, W]⟩ ⟨2, ![R, 1]⟩ ⟨4, ![B, T, R, W]⟩)
    (h1 : d.updateWindowDims = [0, 1, 3]) (h2 : d.insertedWindowDims = [2]) (h3 : d.scatterDimsToOperandDims = [2])
    (h4 : d.indexVectorDim = 1) (idx : IVec ⟨2, ![R, 1]⟩ 32) (J : Fin R → Fin N)
    (hJ : ∀ r, (idx (ix2 r 0)).toInt = (J r).val) (b : Fin B) (t : Fin T) (r : Fin R) (w : Fin W) :
    d.resultIdx? (ix4 b t r w) idx = some (ix4 b t (J r) w) := by
  obtain ⟨uw, iw, sd, iv, wf⟩ := d
  simp only at h1 h2 h3 h4
  subst h1 h2 h3 h4
  have hs : ∀ a, (⟨[0, 1, 3], [2], [2], 1, wf⟩ : ScatterDims ⟨4, ![B, T, N, W]⟩ ⟨2, ![R, 1]⟩ ⟨4, ![B, T, R, W]⟩).start (ix4 b t r w) idx a
      + (⟨[0, 1, 3], [2], [2], 1, wf⟩ : ScatterDims ⟨4, ![B, T, N, W]⟩ ⟨2, ![R, 1]⟩ ⟨4, ![B, T, R, W]⟩).window (ix4 b t r w) a
      = ((ix4 b t (J r) w : (⟨4, ![B, T, N, W]⟩ : Shape).Idx) a).val := by
    intro a
    match a with
    | ⟨0, _⟩ => show (0 : Int) + (b.val : Int) = b.val; omega
    | ⟨1, _⟩ => show (0 : Int) + (t.val : Int) = t.val; omega
    | ⟨2, _⟩ =>
      show (idx _).toInt + ((0 : ℕ) : Int) = (J r).val
      have e : ∀ j : (⟨2, ![R, 1]⟩ : Shape).Idx, j = ix2 r 0 → (idx j).toInt + ((0 : ℕ) : Int) = (J r).val := by
        rintro _ rfl; rw [← hJ r]; simp
      exact e _ (funext fun b => match b with
        | ⟨0, _⟩ => rfl
        | ⟨1, _⟩ => rfl)
    | ⟨3, _⟩ => show (0 : Int) + (w.val : Int) = w.val; omega
  unfold ScatterDims.resultIdx?
  rw [dif_pos fun a => by rw [hs a]; exact ⟨Int.natCast_nonneg _, Int.ofNat_lt.2 (Fin.isLt _)⟩]
  refine congrArg some (funext fun a => Fin.ext ?_)
  simp only [hs a, Int.toNat_natCast]

/-- A scatter of joints, at a joint that is named once. -/
theorem scatter_joints_hit {B T N W R : ℕ} (d : ScatterDims ⟨4, ![B, T, N, W]⟩ ⟨2, ![R, 1]⟩ ⟨4, ![B, T, R, W]⟩)
    (h1 : d.updateWindowDims = [0, 1, 3]) (h2 : d.insertedWindowDims = [2]) (h3 : d.scatterDimsToOperandDims = [2])
    (h4 : d.indexVectorDim = 1) (idx : IVec ⟨2, ![R, 1]⟩ 32) (J : Fin R → Fin N)
    (hJ : ∀ r, (idx (ix2 r 0)).toInt = (J r).val) (inj : Function.Injective J) (x : (⟨4, ![B, T, N, W]⟩ : Shape).Idx → α)
    (upd : (⟨4, ![B, T, R, W]⟩ : Shape).Idx → α) (b : Fin B) (t : Fin T) (r : Fin R) (w : Fin W) :
    Host.scatter d (fun _ b => b) x idx upd (ix4 b t (J r) w) = upd (ix4 b t r w) := by
  refine scatter_hit d x idx upd _ _ (lands_joints d h1 h2 h3 h4 idx J hJ b t r w) fun j' hj' => ?_
  obtain ⟨b', t', r', w', rfl⟩ : ∃ (b' : Fin B) (t' : Fin T) (r' : Fin R) (w' : Fin W), j' = ix4 b' t' r' w' :=
    ⟨_, _, _, _, eq_ix4 j'⟩
  rw [lands_joints d h1 h2 h3 h4 idx J hJ] at hj'
  have h := Option.some.inj hj'
  have e0 : b' = b := congrFun h 0
  have e1 : t' = t := congrFun h 1
  have e2 : J r' = J r := congrFun h 2
  have e3 : w' = w := congrFun h 3
  rw [e0, e1, inj e2, e3]

/-- A scatter of joints, at a joint that is not named. -/
theorem scatter_joints_miss {B T N W R : ℕ} (d : ScatterDims ⟨4, ![B, T, N, W]⟩ ⟨2, ![R, 1]⟩ ⟨4, ![B, T, R, W]⟩)
    (h1 : d.updateWindowDims = [0, 1, 3]) (h2 : d.insertedWindowDims = [2]) (h3 : d.scatterDimsToOperandDims = [2])
    (h4 : d.indexVectorDim = 1) (idx : IVec ⟨2, ![R, 1]⟩ 32) (J : Fin R → Fin N)
    (hJ : ∀ r, (idx (ix2 r 0)).toInt = (J r).val) (x : (⟨4, ![B, T, N, W]⟩ : Shape).Idx → α)
    (upd : (⟨4, ![B, T, R, W]⟩ : Shape).Idx → α) (b : Fin B) (t : Fin T) (n : Fin N) (hn : ∀ r, J r ≠ n) (w : Fin W) :
    Host.scatter d (fun _ b => b) x idx upd (ix4 b t n w) = x (ix4 b t n w) := by
  refine scatter_miss d x idx upd _ fun j' hj' => ?_
  obtain ⟨b', t', r', w', rfl⟩ : ∃ (b' : Fin B) (t' : Fin T) (r' : Fin R) (w' : Fin W), j' = ix4 b' t' r' w' :=
    ⟨_, _, _, _, eq_ix4 j'⟩
  rw [lands_joints d h1 h2 h3 h4 idx J hJ] at hj'
  exact hn r' (congrFun (Option.some.inj hj') 2)

end Scatters

end Cert.Index

end
-- ==== Proof.RefForm.lean ====
/-
The reference's pieces, each at an index.
-/
module

public import proofs.«01_k».proof.Proof.RefRead
public import proofs.«01_k».proof.Proof.Index
public import proofs.«01_k».proof.Proof.Model

@[expose] public section

set_option maxRecDepth 16384

noncomputable section

namespace Cert.ReferenceIdeal.Form

open Cert.ReferenceIdeal Cert.ReferenceIdeal.Gen Cert.ReferenceIdeal.Line Idealize.ShloMosaic Cert.Vq

/-! ## The joints' start indices -/

/-- The tables of joints, as the program holds them. -/
abbrev tabUp : IVec S16 32 := fun i => lit0 (S16.rowMajor i)
abbrev tabDn : IVec S9 32 := fun i => lit1 (S9.rowMajor i)
abbrev tabLh : IVec S15 32 := fun i => lit2 (S15.rowMajor i)
abbrev tabRh : IVec S15 32 := fun i => lit3 (S15.rowMajor i)

theorem tab_up (i : Fin 16) : (col16 tabUp (ix2 i 0)).toInt = (upJ i).val := by
  pointwise [col16]
  revert i
  decide +kernel

theorem tab_dn (i : Fin 9) : (col9 tabDn (ix2 i 0)).toInt = (dnJ i).val := by
  pointwise [col9]
  revert i
  decide +kernel

theorem tab_lh (i : Fin 15) : (col15 tabLh (ix2 i 0)).toInt = (lhJ i).val := by
  pointwise [col15]
  revert i
  decide +kernel

theorem tab_rh (i : Fin 15) : (col15 tabRh (ix2 i 0)).toInt = (rhJ i).val := by
  pointwise [col15]
  revert i
  decide +kernel

/-- A start index that is a position reads that position. -/
theorem slot_eq {N : ℕ} (hN : 0 < N) (w : BitVec 32) (j : Fin N) (h : w.toInt = j.val) : Index.slot N hN w = j := by
  apply Fin.ext
  have := j.isLt
  simp only [Index.slot, h, Int.toNat_natCast]
  omega

theorem inj_up : Function.Injective upJ := by decide +kernel
theorem inj_dn : Function.Injective dnJ := by decide +kernel
theorem inj_lh : Function.Injective lhJ := by decide +kernel
theorem inj_rh : Function.Injective rhJ := by decide +kernel
theorem dn_ne_up : ∀ i r, dnJ r ≠ upJ i := by decide +kernel
theorem lh_ne_up : ∀ i r, lhJ r ≠ upJ i := by decide +kernel
theorem rh_ne_up : ∀ i r, rhJ r ≠ upJ i := by decide +kernel
theorem lh_ne_dn : ∀ i r, lhJ r ≠ dnJ i := by decide +kernel
theorem rh_ne_dn : ∀ i r, rhJ r ≠ dnJ i := by decide +kernel
theorem rh_ne_lh : ∀ i r, rhJ r ≠ lhJ i := by decide +kernel

/-! ## A part's channels out of a row -/

/-- Joint by joint, a row of positions. -/
theorem split3 (x : FVec Ideal S16x2048x165 .f32) (b : Fin 16) (t : Fin 2048) (j : Fin 55) (d : Fin 3) :
    shapeCast S16x2048x55x3 x shapeCasts_S16x2048x165_S16x2048x55x3 (ix4 b t j d) = x (ix3 b t ⟨j.val * 3 + d.val, by omega⟩) := by
  pointwise

/-- Joint by joint, a row of rotations. -/
theorem split6 (x : FVec Ideal S16x2048x330 .f32) (b : Fin 16) (t : Fin 2048) (j : Fin 55) (d : Fin 6) :
    shapeCast S16x2048x55x6 x shapeCasts_S16x2048x330_S16x2048x55x6 (ix4 b t j d) = x (ix3 b t ⟨j.val * 6 + d.val, by omega⟩) := by
  pointwise

theorem join_16_3 (x : FVec Ideal S16x2048x165 .f32) (c : IVec S16 32) (J : Fin 16 → Fin 55)
    (hJ : ∀ i, (col16 c (ix2 i 0)).toInt = (J i).val) (b : Fin 16) (t : Fin 2048) (i : Fin 48) :
    join16x3 x c (ix3 b t i) = x (ix3 b t (pos J rfl i)) := by
  pointwise [join16x3]
  rw [Index.gather_joints (by omega) _ rfl rfl rfl rfl rfl rfl rfl, slot_eq _ _ _ (hJ _), split3]
  rfl

theorem join_16_6 (x : FVec Ideal S16x2048x330 .f32) (c : IVec S16 32) (J : Fin 16 → Fin 55)
    (hJ : ∀ i, (col16 c (ix2 i 0)).toInt = (J i).val) (b : Fin 16) (t : Fin 2048) (i : Fin 96) :
    join16x6 x c (ix3 b t i) = x (ix3 b t (rot J rfl i)) := by
  pointwise [join16x6]
  rw [Index.gather_joints (by omega) _ rfl rfl rfl rfl rfl rfl rfl, slot_eq _ _ _ (hJ _), split6]
  rfl

theorem join_9_3 (x : FVec Ideal S16x2048x165 .f32) (c : IVec S9 32) (J : Fin 9 → Fin 55)
    (hJ : ∀ i, (col9 c (ix2 i 0)).toInt = (J i).val) (b : Fin 16) (t : Fin 2048) (i : Fin 27) :
    join9x3 x c (ix3 b t i) = x (ix3 b t (pos J rfl i)) := by
  pointwise [join9x3]
  rw [Index.gather_joints (by omega) _ rfl rfl rfl rfl rfl rfl rfl, slot_eq _ _ _ (hJ _), split3]
  rfl

theorem join_9_6 (x : FVec Ideal S16x2048x330 .f32) (c : IVec S9 32) (J : Fin 9 → Fin 55)
    (hJ : ∀ i, (col9 c (ix2 i 0)).toInt = (J i).val) (b : Fin 16) (t : Fin 2048) (i : Fin 54) :
    join9x6 x c (ix3 b t i) = x (ix3 b t (rot J rfl i)) := by
  pointwise [join9x6]
  rw [Index.gather_joints (by omega) _ rfl rfl rfl rfl rfl rfl rfl, slot_eq _ _ _ (hJ _), split6]
  rfl

theorem join_15_3 (x : FVec Ideal S16x2048x165 .f32) (c : IVec S15 32) (J : Fin 15 → Fin 55)
    (hJ : ∀ i, (col15 c (ix2 i 0)).toInt = (J i).val) (b : Fin 16) (t : Fin 2048) (i : Fin 45) :
    join15x3 x c (ix3 b t i) = x (ix3 b t (pos J rfl i)) := by
  pointwise [join15x3]
  rw [Index.gather_joints (by omega) _ rfl rfl rfl rfl rfl rfl rfl, slot_eq _ _ _ (hJ _), split3]
  rfl

theorem join_15_6 (x : FVec Ideal S16x2048x330 .f32) (c : IVec S15 32) (J : Fin 15 → Fin 55)
    (hJ : ∀ i, (col15 c (ix2 i 0)).toInt = (J i).val) (b : Fin 16) (t : Fin 2048) (i : Fin 90) :
    join15x6 x c (ix3 b t i) = x (ix3 b t (rot J rfl i)) := by
  pointwise [join15x6]
  rw [Index.gather_joints (by omega) _ rfl rfl rfl rfl rfl rfl rfl, slot_eq _ _ _ (hJ _), split6]
  rfl

/-! ## The four parts set into a row -/

section
variable (a : FVec Ideal S16x2048x48 .f32) (b : FVec Ideal S16x2048x27 .f32) (c d : FVec Ideal S16x2048x45 .f32)
  (a' : FVec Ideal S16x2048x96 .f32) (b' : FVec Ideal S16x2048x54 .f32) (c' d' : FVec Ideal S16x2048x90 .f32)
  (p : Fin 16) (t : Fin 2048)

theorem full3_up (i : Fin 48) :
    shapeCast S16x2048x165 (full3 a b c d tabUp tabDn tabLh tabRh) shapeCasts_S16x2048x55x3_S16x2048x165 (ix3 p t (pos upJ rfl i))
      = a (ix3 p t i) := by
  pointwise
  have e : (ix4 p t ⟨(pos upJ rfl i).val / 3, by omega⟩ ⟨(pos upJ rfl i).val % 3, by omega⟩ : S16x2048x55x3.Idx)
      = ix4 p t (upJ ⟨i.val / 3, by omega⟩) ⟨i.val % 3, by omega⟩ := by
    refine congrArg₂ (ix4 p t) (Fin.ext ?_) (Fin.ext ?_) <;> simp only [pos] <;> omega
  rw [e]
  unfold full3
  dsimp only
  rw [Index.scatter_joints_miss _ rfl rfl rfl rfl _ rhJ tab_rh _ _ _ _ _ fun r => rh_ne_up _ r]
  rw [Index.scatter_joints_miss _ rfl rfl rfl rfl _ lhJ tab_lh _ _ _ _ _ fun r => lh_ne_up _ r]
  rw [Index.scatter_joints_miss _ rfl rfl rfl rfl _ dnJ tab_dn _ _ _ _ _ fun r => dn_ne_up _ r]
  rw [Index.scatter_joints_hit _ rfl rfl rfl rfl _ upJ tab_up inj_up]
  pointwise

theorem full3_dn (i : Fin 27) :
    shapeCast S16x2048x165 (full3 a b c d tabUp tabDn tabLh tabRh) shapeCasts_S16x2048x55x3_S16x2048x165 (ix3 p t (pos dnJ rfl i))
      = b (ix3 p t i) := by
  pointwise
  have e : (ix4 p t ⟨(pos dnJ rfl i).val / 3, by omega⟩ ⟨(pos dnJ rfl i).val % 3, by omega⟩ : S16x2048x55x3.Idx)
      = ix4 p t (dnJ ⟨i.val / 3, by omega⟩) ⟨i.val % 3, by omega⟩ := by
    refine congrArg₂ (ix4 p t) (Fin.ext ?_) (Fin.ext ?_) <;> simp only [pos] <;> omega
  rw [e]
  unfold full3
  dsimp only
  rw [Index.scatter_joints_miss _ rfl rfl rfl rfl _ rhJ tab_rh _ _ _ _ _ fun r => rh_ne_dn _ r]
  rw [Index.scatter_joints_miss _ rfl rfl rfl rfl _ lhJ tab_lh _ _ _ _ _ fun r => lh_ne_dn _ r]
  rw [Index.scatter_joints_hit _ rfl rfl rfl rfl _ dnJ tab_dn inj_dn]
  pointwise

theorem full3_lh (i : Fin 45) :
    shapeCast S16x2048x165 (full3 a b c d tabUp tabDn tabLh tabRh) shapeCasts_S16x2048x55x3_S16x2048x165 (ix3 p t (pos lhJ rfl i))
      = c (ix3 p t i) := by
  pointwise
  have e : (ix4 p t ⟨(pos lhJ rfl i).val / 3, by omega⟩ ⟨(pos lhJ rfl i).val % 3, by omega⟩ : S16x2048x55x3.Idx)
      = ix4 p t (lhJ ⟨i.val / 3, by omega⟩) ⟨i.val % 3, by omega⟩ := by
    refine congrArg₂ (ix4 p t) (Fin.ext ?_) (Fin.ext ?_) <;> simp only [pos] <;> omega
  rw [e]
  unfold full3
  dsimp only
  rw [Index.scatter_joints_miss _ rfl rfl rfl rfl _ rhJ tab_rh _ _ _ _ _ fun r => rh_ne_lh _ r]
  rw [Index.scatter_joints_hit _ rfl rfl rfl rfl _ lhJ tab_lh inj_lh]
  pointwise

theorem full3_rh (i : Fin 45) :
    shapeCast S16x2048x165 (full3 a b c d tabUp tabDn tabLh tabRh) shapeCasts_S16x2048x55x3_S16x2048x165 (ix3 p t (pos rhJ rfl i))
      = d (ix3 p t i) := by
  pointwise
  have e : (ix4 p t ⟨(pos rhJ rfl i).val / 3, by omega⟩ ⟨(pos rhJ rfl i).val % 3, by omega⟩ : S16x2048x55x3.Idx)
      = ix4 p t (rhJ ⟨i.val / 3, by omega⟩) ⟨i.val % 3, by omega⟩ := by
    refine congrArg₂ (ix4 p t) (Fin.ext ?_) (Fin.ext ?_) <;> simp only [pos] <;> omega
  rw [e]
  unfold full3
  dsimp only
  rw [Index.scatter_joints_hit _ rfl rfl rfl rfl _ rhJ tab_rh inj_rh]
  pointwise

theorem full6_up (i : Fin 96) :
    shapeCast S16x2048x330 (full6 a' b' c' d' tabUp tabDn tabLh tabRh) shapeCasts_S16x2048x55x6_S16x2048x330 (ix3 p t (rot upJ rfl i))
      = a' (ix3 p t i) := by
  pointwise
  have e : (ix4 p t ⟨(rot upJ rfl i).val / 6, by omega⟩ ⟨(rot upJ rfl i).val % 6, by omega⟩ : S16x2048x55x6.Idx)
      = ix4 p t (upJ ⟨i.val / 6, by omega⟩) ⟨i.val % 6, by omega⟩ := by
    refine congrArg₂ (ix4 p t) (Fin.ext ?_) (Fin.ext ?_) <;> simp only [rot] <;> omega
  rw [e]
  unfold full6
  dsimp only
  rw [Index.scatter_joints_miss _ rfl rfl rfl rfl _ rhJ tab_rh _ _ _ _ _ fun r => rh_ne_up _ r]
  rw [Index.scatter_joints_miss _ rfl rfl rfl rfl _ lhJ tab_lh _ _ _ _ _ fun r => lh_ne_up _ r]
  rw [Index.scatter_joints_miss _ rfl rfl rfl rfl _ dnJ tab_dn _ _ _ _ _ fun r => dn_ne_up _ r]
  rw [Index.scatter_joints_hit _ rfl rfl rfl rfl _ upJ tab_up inj_up]
  pointwise

theorem full6_dn (i : Fin 54) :
    shapeCast S16x2048x330 (full6 a' b' c' d' tabUp tabDn tabLh tabRh) shapeCasts_S16x2048x55x6_S16x2048x330 (ix3 p t (rot dnJ rfl i))
      = b' (ix3 p t i) := by
  pointwise
  have e : (ix4 p t ⟨(rot dnJ rfl i).val / 6, by omega⟩ ⟨(rot dnJ rfl i).val % 6, by omega⟩ : S16x2048x55x6.Idx)
      = ix4 p t (dnJ ⟨i.val / 6, by omega⟩) ⟨i.val % 6, by omega⟩ := by
    refine congrArg₂ (ix4 p t) (Fin.ext ?_) (Fin.ext ?_) <;> simp only [rot] <;> omega
  rw [e]
  unfold full6
  dsimp only
  rw [Index.scatter_joints_miss _ rfl rfl rfl rfl _ rhJ tab_rh _ _ _ _ _ fun r => rh_ne_dn _ r]
  rw [Index.scatter_joints_miss _ rfl rfl rfl rfl _ lhJ tab_lh _ _ _ _ _ fun r => lh_ne_dn _ r]
  rw [Index.scatter_joints_hit _ rfl rfl rfl rfl _ dnJ tab_dn inj_dn]
  pointwise

theorem full6_lh (i : Fin 90) :
    shapeCast S16x2048x330 (full6 a' b' c' d' tabUp tabDn tabLh tabRh) shapeCasts_S16x2048x55x6_S16x2048x330 (ix3 p t (rot lhJ rfl i))
      = c' (ix3 p t i) := by
  pointwise
  have e : (ix4 p t ⟨(rot lhJ rfl i).val / 6, by omega⟩ ⟨(rot lhJ rfl i).val % 6, by omega⟩ : S16x2048x55x6.Idx)
      = ix4 p t (lhJ ⟨i.val / 6, by omega⟩) ⟨i.val % 6, by omega⟩ := by
    refine congrArg₂ (ix4 p t) (Fin.ext ?_) (Fin.ext ?_) <;> simp only [rot] <;> omega
  rw [e]
  unfold full6
  dsimp only
  rw [Index.scatter_joints_miss _ rfl rfl rfl rfl _ rhJ tab_rh _ _ _ _ _ fun r => rh_ne_lh _ r]
  rw [Index.scatter_joints_hit _ rfl rfl rfl rfl _ lhJ tab_lh inj_lh]
  pointwise

theorem full6_rh (i : Fin 90) :
    shapeCast S16x2048x330 (full6 a' b' c' d' tabUp tabDn tabLh tabRh) shapeCasts_S16x2048x55x6_S16x2048x330 (ix3 p t (rot rhJ rfl i))
      = d' (ix3 p t i) := by
  pointwise
  have e : (ix4 p t ⟨(rot rhJ rfl i).val / 6, by omega⟩ ⟨(rot rhJ rfl i).val % 6, by omega⟩ : S16x2048x55x6.Idx)
      = ix4 p t (rhJ ⟨i.val / 6, by omega⟩) ⟨i.val % 6, by omega⟩ := by
    refine congrArg₂ (ix4 p t) (Fin.ext ?_) (Fin.ext ?_) <;> simp only [rot] <;> omega
  rw [e]
  unfold full6
  dsimp only
  rw [Index.scatter_joints_hit _ rfl rfl rfl rfl _ rhJ tab_rh inj_rh]
  pointwise

end

end Cert.ReferenceIdeal.Form

end
-- ==== Proof.RefVal.lean ====
/-
The reference's results at an index, in plain functions of its arguments.
-/
module

public import proofs.«01_k».proof.Proof.RefForm

@[expose] public section

set_option maxRecDepth 16384

noncomputable section

namespace Cert.ReferenceIdeal.Form

open Cert.ReferenceIdeal Cert.ReferenceIdeal.Gen Cert.ReferenceIdeal.Line Idealize.ShloMosaic Cert.Vq

/-! ## A codebook row by its position -/

theorem word_row : ∀ j : Fin 512, Scalar.select (IntOp.cmpi CmpIPredicate.slt (BitVec.ofNat 32 j.val) 0#32)
      (IntOp.addi (BitVec.ofNat 32 j.val) 512#32) (BitVec.ofNat 32 j.val) = BitVec.ofNat 32 j.val
    ∧ IntOp.cmpi CmpIPredicate.sge (BitVec.ofNat 32 j.val) 0#32 = 1#1 ∧ IntOp.cmpi CmpIPredicate.sle (BitVec.ofNat 32 j.val) 511#32 = 1#1 := by
  decide +kernel

theorem take_at (cb : FVec Ideal S512x64 .f32) (p : IVec S32768 32) (n : Fin 32768) (j : Fin 512) (k : Fin 64)
    (h : p (ix1 n) = BitVec.ofNat 32 j.val) : takeOf cb p (ix2 n k) = cb (ix2 j k) := by
  have e : startOf p (ix2 n 0) = BitVec.ofNat 32 j.val := by
    pointwise [startOf]
    rw [h, (word_row j).1]
  have g : Host.gather gather_S512x64_S32768x1_S32768x64_1_0_n_n_0_1_164 cb (startOf p) (ix2 n k) = cb (ix2 j k) := by
    rw [Index.gather_rows (by omega) _ rfl rfl rfl rfl rfl rfl rfl, e, Index.slot_ofNat _ (by norm_num)]
  rw [← g]
  pointwise [takeOf]
  simp only [Finset.univ_unique, Finset.fold_singleton]
  have e' : ∀ x : Fin 1, startOf p (ix2 n x) = BitVec.ofNat 32 j.val := fun x => by
    obtain rfl : x = 0 := Subsingleton.elim _ _
    exact e
  have o : IntOp.andi (IntOp.andi 1#1 1#1) 1#1 = 1#1 := by decide
  rw [e' default, (word_row j).2.1, (word_row j).2.2, o]
  exact if_pos rfl

variable (z : FVec Ideal S32768x64 .f32) (cb : FVec Ideal S512x64 .f32)

theorem dist_at (n : Fin 32768) (k : Fin 512) :
    distOf z cb (ix2 n k) = dist (fun x => z (ix2 n x)) (fun k x => cb (ix2 k x)) k := by
  pointwise [distOf]
  rfl

/-- The row positions, spelled out. -/
theorem arg_rows (d : FVec Ideal S32768x512 .f32) : argOf d = fun j => (Host.argReduce (reducer_argmin_f32_i32 (F := Ideal)) d (iotaInDim S32768x512 32 1)
      (constant S_ .f32 0x7F800000#32) (constantI S_ 32 0#32)
      reducesTo_S32768x512_S32768_d1 h_S_ j).2 := rfl

/-- The position of a row is its least distance's. -/
theorem arg_eq (d : FVec Ideal S32768x512 .f32) (n : Fin 32768) (hd : ∀ k : Fin 512, (d (ix2 n k) : EReal) < ⊤) :
    argOf d (ix1 n) = BitVec.ofNat 32 (firstMin fun k => d (ix2 n k)).val := by
  have h := argmin_row d n hd
  generalize BitVec.ofNat 32 (firstMin fun k => d (ix2 n k)).val = X at h ⊢
  rw [arg_rows]
  exact h
/-- The row a codebook is read at. -/
theorem arg_at (hz : ∀ n x, Real' (z (ix2 n x))) (hcb : ∀ k x, Real' (cb (ix2 k x))) (n : Fin 32768) :
    argOf (distOf z cb) (ix1 n) = BitVec.ofNat 32 (code (fun x => z (ix2 n x)) (fun k x => cb (ix2 k x))).val := by
  have e : (fun k => distOf z cb (ix2 n k)) = dist (fun x => z (ix2 n x)) (fun k x => cb (ix2 k x)) := funext (dist_at z cb n)
  have h := arg_eq (distOf z cb) n fun k => (dist_at z cb n k).trans_lt (dist_lt_top (hz n) hcb k)
  rw [h]
  refine congrArg (fun j : Fin 512 => BitVec.ofNat 32 j.val) ?_
  exact (congrArg firstMin e).trans (firstMin_dist (hz n) hcb)

theorem row_at (hz : ∀ n x, Real' (z (ix2 n x))) (hcb : ∀ k x, Real' (cb (ix2 k x))) (n : Fin 32768) (k : Fin 64) :
    takeOf cb (argOf (distOf z cb)) (ix2 n k) = cb (ix2 (code (fun x => z (ix2 n x)) (fun k x => cb (ix2 k x))) k) :=
  take_at cb _ n _ k (arg_at z cb hz hcb n)

theorem loss_at (q : FVec Ideal S32768x64 .f32) (i : S_.Idx) :
    lossOf z q i = lossIn (∑ n : Fin 32768, ∑ x : Fin 64, (z (ix2 n x) - q (ix2 n x)) * (z (ix2 n x) - q (ix2 n x))) := by
  pointwise [lossOf, meanOf]
  rfl

/-- A sum over three pieces. -/
theorem sum_split3 (a b c : ℕ) {n : ℕ} (h : n = a + b + c) (f : Fin n → EReal) :
    ∑ i, f i = ∑ i : Fin a, f ⟨i.val, by omega⟩ + ∑ i : Fin b, f ⟨a + i.val, by omega⟩ + ∑ i : Fin c, f ⟨a + b + i.val, by omega⟩ := by
  subst h
  rw [Fin.sum_univ_add, Fin.sum_univ_add]
  rfl

theorem enc144_at (a : FVec Ideal S16x2048x48 .f32) (r : FVec Ideal S16x2048x96 .f32) (w : FVec Ideal S144x64 .f32) (b : FVec Ideal S64 .f32)
    (n : Fin 32768) (k : Fin 64) : enc144 a r w b (ix2 n k) = ∑ i : Fin 48, a (ix3 (rb n) (rt n) i) * w (ix2 ⟨i.val, by omega⟩ k)
      + ∑ i : Fin 96, r (ix3 (rb n) (rt n) i) * w (ix2 ⟨48 + i.val, by omega⟩ k) + b (ix1 k) := by
  pointwise [enc144]
  rfl

theorem enc135_at (a : FVec Ideal S16x2048x45 .f32) (r : FVec Ideal S16x2048x90 .f32) (w : FVec Ideal S135x64 .f32) (b : FVec Ideal S64 .f32)
    (n : Fin 32768) (k : Fin 64) : enc135 a r w b (ix2 n k) = ∑ i : Fin 45, a (ix3 (rb n) (rt n) i) * w (ix2 ⟨i.val, by omega⟩ k)
      + ∑ i : Fin 90, r (ix3 (rb n) (rt n) i) * w (ix2 ⟨45 + i.val, by omega⟩ k) + b (ix1 k) := by
  pointwise [enc135]
  rfl

theorem enc84_at (a : FVec Ideal S16x2048x27 .f32) (r : FVec Ideal S16x2048x54 .f32) (s : FVec Ideal S16x2048x3 .f32)
    (w : FVec Ideal S84x64 .f32) (b : FVec Ideal S64 .f32)
    (n : Fin 32768) (k : Fin 64) : enc84 a r s w b (ix2 n k) = ∑ i : Fin 27, a (ix3 (rb n) (rt n) i) * w (ix2 ⟨i.val, by omega⟩ k)
      + ∑ i : Fin 54, r (ix3 (rb n) (rt n) i) * w (ix2 ⟨27 + i.val, by omega⟩ k)
      + ∑ i : Fin 3, s (ix3 (rb n) (rt n) i) * w (ix2 ⟨27 + 54 + i.val, by omega⟩ k) + b (ix1 k) := by
  pointwise [enc84]
  rw [sum_split3 27 54 3 rfl]
  refine congrArg₂ _ (congrArg₂ _ (congrArg₂ _ (Finset.sum_congr rfl fun x _ => ?_) (Finset.sum_congr rfl fun x _ => ?_))
    (Finset.sum_congr rfl fun x _ => ?_)) rfl
  · exact congrArg (· * _) (dif_pos x.isLt)
  · refine congrArg (· * _) ((dif_neg (by simp only []; omega)).trans ((dif_pos (by simp only []; omega)).trans ?_))
    exact congrArg (fun j => r (ix3 _ _ j)) (Fin.ext (Nat.add_sub_cancel_left 27 x.val))
  · refine congrArg (· * _) ((dif_neg (by simp only []; omega)).trans ((dif_neg (by simp only []; omega)).trans ?_))
    exact congrArg (fun j => s (ix3 _ _ j)) (Fin.ext (by show 27 + 54 + x.val - 27 - 54 = x.val; omega))

theorem dec144_at (q : FVec Ideal S32768x64 .f32) (w : FVec Ideal S64x144 .f32) (b : FVec Ideal S144 .f32)
    (p : Fin 16) (t : Fin 2048) (c : Fin 144) : dec144 z q w b (ix3 p t c)
      = ∑ x : Fin 64, (z (ix2 (rn p t) x) + (q (ix2 (rn p t) x) - z (ix2 (rn p t) x))) * w (ix2 x c) + b (ix1 c) := by
  pointwise [dec144]
  rfl

theorem dec135_at (q : FVec Ideal S32768x64 .f32) (w : FVec Ideal S64x135 .f32) (b : FVec Ideal S135 .f32)
    (p : Fin 16) (t : Fin 2048) (c : Fin 135) : dec135 z q w b (ix3 p t c)
      = ∑ x : Fin 64, (z (ix2 (rn p t) x) + (q (ix2 (rn p t) x) - z (ix2 (rn p t) x))) * w (ix2 x c) + b (ix1 c) := by
  pointwise [dec135]
  rfl

theorem dec84_at (q : FVec Ideal S32768x64 .f32) (w : FVec Ideal S64x84 .f32) (b : FVec Ideal S84 .f32)
    (p : Fin 16) (t : Fin 2048) (c : Fin 84) : dec84 z q w b (ix3 p t c)
      = ∑ x : Fin 64, (z (ix2 (rn p t) x) + (q (ix2 (rn p t) x) - z (ix2 (rn p t) x))) * w (ix2 x c) + b (ix1 c) := by
  pointwise [dec84]
  rfl

end Cert.ReferenceIdeal.Form
end
-- ==== Proof.RefResult.lean ====
/-
The reference's results as the autoencoder in plain functions.
-/
module

public import proofs.«01_k».proof.Proof.RefVal

@[expose] public section

set_option maxRecDepth 16384

noncomputable section

namespace Cert.ReferenceIdeal.Form

open Cert.ReferenceIdeal Cert.ReferenceIdeal.Gen Cert.ReferenceIdeal.Line Idealize.ShloMosaic Idealize.ShloMosaic.TcCoe Idealize.SL.Sem
open Idealize.ShloMosaic.StableHlo Cert.Vq

/-! ## A part, over arrays -/

/-- A codebook row out of an encoding known in plain functions. -/
theorem row_of (z : FVec Ideal S32768x64 .f32) (cb : FVec Ideal S512x64 .f32) (g : Fin 32768 → Fin 64 → EReal)
    (h : ∀ n k, z (ix2 n k) = g n k) (hg : ∀ n k, Real' (g n k)) (hcb : ∀ k x, Real' (cb (ix2 k x))) (n : Fin 32768) (k : Fin 64) :
    takeOf cb (argOf (distOf z cb)) (ix2 n k) = cb (ix2 (code (g n) fun k x => cb (ix2 k x)) k) := by
  have e : g = fun n x => z (ix2 n x) := funext fun n => funext fun x => (h n x).symm
  subst e
  exact row_at z cb hg hcb n k

/-- Decoding the encoding moved to its row decodes the row. -/
theorem plain {m : ℕ} (W : Weights m) (z q : Fin 64 → EReal) (k : Fin 512) (c : Fin m) (hz : ∀ x, Real' (z x))
    (hb : ∀ k x, Real' (W.book k x)) (hq : ∀ x, q x = W.book k x) :
    ∑ x : Fin 64, (z x + (q x - z x)) * W.dec x c + W.decB c = decoded W k c := by
  simp only [hq, straight hz hb]
  rfl

variable (V : Valuation τ sig (Elt Ideal))

/-- The arguments in plain functions. -/
abbrev args : Args := argsOf (rd V main_arg0) (rd V main_arg1) (rd V main_arg2)
  (weightsOf (rd V main_arg3) (rd V main_arg4) (rd V main_arg5) (rd V main_arg6) (rd V main_arg7))
  (weightsOf (rd V main_arg8) (rd V main_arg9) (rd V main_arg10) (rd V main_arg11) (rd V main_arg12))
  (weightsOf (rd V main_arg13) (rd V main_arg14) (rd V main_arg15) (rd V main_arg16) (rd V main_arg17))
  (weightsOf (rd V main_arg18) (rd V main_arg19) (rd V main_arg20) (rd V main_arg21) (rd V main_arg22))

/-! ## Encodings -/

theorem z_up (n : Fin 32768) (k : Fin 64) : rd V main_v71 (ix2 n k) = (args V).zUp (rb n) (rt n) k := by
  rw [rd_z_up, enc144_at, rd_v9, rd_v41, rd_tab0]
  simp only [join_16_3 _ _ _ tab_up, join_16_6 _ _ _ tab_up]
  rfl

theorem z_dn (n : Fin 32768) (k : Fin 64) : rd V main_v194 (ix2 n k) = (args V).zDn (rb n) (rt n) k := by
  rw [rd_z_dn, enc84_at, rd_v17, rd_v49, rd_tab1]
  simp only [join_9_3 _ _ _ tab_dn, join_9_6 _ _ _ tab_dn]
  rfl

theorem z_lh (n : Fin 32768) (k : Fin 64) : rd V main_v112 (ix2 n k) = (args V).zLh (rb n) (rt n) k := by
  rw [rd_z_lh, enc135_at, rd_v25, rd_v57, rd_tab2]
  simp only [join_15_3 _ _ _ tab_lh, join_15_6 _ _ _ tab_lh]
  rfl

theorem z_rh (n : Fin 32768) (k : Fin 64) : rd V main_v153 (ix2 n k) = (args V).zRh (rb n) (rt n) k := by
  rw [rd_z_rh, enc135_at, rd_v33, rd_v65, rd_tab3]
  simp only [join_15_3 _ _ _ tab_rh, join_15_6 _ _ _ tab_rh]
  rfl

variable {V} (hA : (args V).Finite)
include hA

/-! ## Rows, decoded channels, errors -/

theorem q_up (n : Fin 32768) (k : Fin 64) :
    rd V main_v87 (ix2 n k) = (args V).up.book ((args V).kUp (rb n) (rt n)) k := by
  rw [rd_q_up, rd_i_up, rd_d_up]
  exact row_of (rd V main_v71) (rd V main_arg5) (fun n => (args V).zUp (rb n) (rt n)) (z_up V) (fun n => hA.zUp _ _) hA.up.book n k

theorem o_up (p : Fin 16) (t : Fin 2048) (c : Fin 144) :
    rd V main_v104 (ix3 p t c) = decoded (args V).up ((args V).kUp p t) c := by
  rw [rd_o_up, dec144_at]
  refine plain (args V).up (fun x => rd V main_v71 (ix2 (rn p t) x)) (fun x => rd V main_v87 (ix2 (rn p t) x)) _ c
    (fun x => ?_) hA.up.book fun x => ?_
  · rw [z_up]
    exact hA.zUp _ _ _
  · rw [q_up hA, rb_rn, rt_rn]

theorem l_up (i : S_.Idx) : rd V main_v97 i = lossIn (∑ n, (args V).errUp n) := by
  rw [rd_l_up, loss_at]
  simp only [z_up, q_up hA]
  rfl

theorem q_dn (n : Fin 32768) (k : Fin 64) :
    rd V main_v210 (ix2 n k) = (args V).dn.book ((args V).kDn (rb n) (rt n)) k := by
  rw [rd_q_dn, rd_i_dn, rd_d_dn]
  exact row_of (rd V main_v194) (rd V main_arg10) (fun n => (args V).zDn (rb n) (rt n)) (z_dn V) (fun n => hA.zDn _ _) hA.dn.book n k

theorem o_dn (p : Fin 16) (t : Fin 2048) (c : Fin 84) :
    rd V main_v227 (ix3 p t c) = decoded (args V).dn ((args V).kDn p t) c := by
  rw [rd_o_dn, dec84_at]
  refine plain (args V).dn (fun x => rd V main_v194 (ix2 (rn p t) x)) (fun x => rd V main_v210 (ix2 (rn p t) x)) _ c
    (fun x => ?_) hA.dn.book fun x => ?_
  · rw [z_dn]
    exact hA.zDn _ _ _
  · rw [q_dn hA, rb_rn, rt_rn]

theorem l_dn (i : S_.Idx) : rd V main_v220 i = lossIn (∑ n, (args V).errDn n) := by
  rw [rd_l_dn, loss_at]
  simp only [z_dn, q_dn hA]
  rfl

theorem q_lh (n : Fin 32768) (k : Fin 64) :
    rd V main_v128 (ix2 n k) = (args V).lh.book ((args V).kLh (rb n) (rt n)) k := by
  rw [rd_q_lh, rd_i_lh, rd_d_lh]
  exact row_of (rd V main_v112) (rd V main_arg15) (fun n => (args V).zLh (rb n) (rt n)) (z_lh V) (fun n => hA.zLh _ _) hA.lh.book n k

theorem o_lh (p : Fin 16) (t : Fin 2048) (c : Fin 135) :
    rd V main_v145 (ix3 p t c) = decoded (args V).lh ((args V).kLh p t) c := by
  rw [rd_o_lh, dec135_at]
  refine plain (args V).lh (fun x => rd V main_v112 (ix2 (rn p t) x)) (fun x => rd V main_v128 (ix2 (rn p t) x)) _ c
    (fun x => ?_) hA.lh.book fun x => ?_
  · rw [z_lh]
    exact hA.zLh _ _ _
  · rw [q_lh hA, rb_rn, rt_rn]

theorem l_lh (i : S_.Idx) : rd V main_v138 i = lossIn (∑ n, (args V).errLh n) := by
  rw [rd_l_lh, loss_at]
  simp only [z_lh, q_lh hA]
  rfl

theorem q_rh (n : Fin 32768) (k : Fin 64) :
    rd V main_v169 (ix2 n k) = (args V).rh.book ((args V).kRh (rb n) (rt n)) k := by
  rw [rd_q_rh, rd_i_rh, rd_d_rh]
  exact row_of (rd V main_v153) (rd V main_arg20) (fun n => (args V).zRh (rb n) (rt n)) (z_rh V) (fun n => hA.zRh _ _) hA.rh.book n k

theorem o_rh (p : Fin 16) (t : Fin 2048) (c : Fin 135) :
    rd V main_v186 (ix3 p t c) = decoded (args V).rh ((args V).kRh p t) c := by
  rw [rd_o_rh, dec135_at]
  refine plain (args V).rh (fun x => rd V main_v153 (ix2 (rn p t) x)) (fun x => rd V main_v169 (ix2 (rn p t) x)) _ c
    (fun x => ?_) hA.rh.book fun x => ?_
  · rw [z_rh]
    exact hA.zRh _ _ _
  · rw [q_rh hA, rb_rn, rt_rn]

theorem l_rh (i : S_.Idx) : rd V main_v179 i = lossIn (∑ n, (args V).errRh n) := by
  rw [rd_l_rh, loss_at]
  simp only [z_rh, q_rh hA]
  rfl

/-! ## The results -/

theorem x_up (p : Fin 16) (t : Fin 2048) (i : Fin 48) :
    rd V main_v300 (ix3 p t (pos upJ rfl i)) = decoded (args V).up ((args V).kUp p t) ⟨i.val, by omega⟩ := by
  rw [rd_v300, rd_v263, rd_tab0, rd_tab1, rd_tab2, rd_tab3, full3_up, rd_v105, ← o_up hA]
  pointwise

theorem x_dn (p : Fin 16) (t : Fin 2048) (i : Fin 27) :
    rd V main_v300 (ix3 p t (pos dnJ rfl i)) = decoded (args V).dn ((args V).kDn p t) ⟨i.val, by omega⟩ := by
  rw [rd_v300, rd_v263, rd_tab0, rd_tab1, rd_tab2, rd_tab3, full3_dn, rd_v228, ← o_dn hA]
  pointwise

omit hA in
theorem x_lh (p : Fin 16) (t : Fin 2048) (i : Fin 45) :
    rd V main_v300 (ix3 p t (pos lhJ rfl i)) = (args V).x p t (pos lhJ rfl i) := by
  rw [rd_v300, rd_v263, rd_tab0, rd_tab1, rd_tab2, rd_tab3, full3_lh, rd_v25, rd_tab2, join_15_3 _ _ _ tab_lh]
  rfl

omit hA in
theorem x_rh (p : Fin 16) (t : Fin 2048) (i : Fin 45) :
    rd V main_v300 (ix3 p t (pos rhJ rfl i)) = (args V).x p t (pos rhJ rfl i) := by
  rw [rd_v300, rd_v263, rd_tab0, rd_tab1, rd_tab2, rd_tab3, full3_rh, rd_v33, rd_tab3, join_15_3 _ _ _ tab_rh]
  rfl

theorem r_up (p : Fin 16) (t : Fin 2048) (i : Fin 96) :
    rd V main_v301 (ix3 p t (rot upJ rfl i)) = decoded (args V).up ((args V).kUp p t) ⟨48 + i.val, by omega⟩ := by
  rw [rd_v301, rd_v296, rd_tab0, rd_tab1, rd_tab2, rd_tab3, full6_up, rd_v106, ← o_up hA]
  pointwise

theorem r_dn (p : Fin 16) (t : Fin 2048) (i : Fin 54) :
    rd V main_v301 (ix3 p t (rot dnJ rfl i)) = decoded (args V).dn ((args V).kDn p t) ⟨27 + i.val, by omega⟩ := by
  rw [rd_v301, rd_v296, rd_tab0, rd_tab1, rd_tab2, rd_tab3, full6_dn, rd_v229, ← o_dn hA]
  pointwise

theorem r_lh (p : Fin 16) (t : Fin 2048) (i : Fin 90) :
    rd V main_v301 (ix3 p t (rot lhJ rfl i)) = decoded (args V).lh ((args V).kLh p t) ⟨45 + i.val, by omega⟩ := by
  rw [rd_v301, rd_v296, rd_tab0, rd_tab1, rd_tab2, rd_tab3, full6_lh, rd_v147, ← o_lh hA]
  pointwise

theorem r_rh (p : Fin 16) (t : Fin 2048) (i : Fin 90) :
    rd V main_v301 (ix3 p t (rot rhJ rfl i)) = decoded (args V).rh ((args V).kRh p t) ⟨45 + i.val, by omega⟩ := by
  rw [rd_v301, rd_v296, rd_tab0, rd_tab1, rd_tab2, rd_tab3, full6_rh, rd_v188, ← o_rh hA]
  pointwise

theorem s_dn (p : Fin 16) (t : Fin 2048) (i : Fin 3) :
    rd V main_v230 (ix3 p t i) = decoded (args V).dn ((args V).kDn p t) ⟨81 + i.val, by omega⟩ := by
  rw [rd_v230, ← o_dn hA]
  pointwise

theorem loss_all (i : S_.Idx) : rd V main_v299 i = (args V).loss := by
  rw [rd_v299]
  refine (congrArg₂ (· + ·) (congrArg₂ (· + ·) (congrArg₂ (· + ·) (l_up hA i) (l_dn hA i)) (l_lh hA i)) (l_rh hA i))

end Cert.ReferenceIdeal.Form
end
-- ==== Proof.KerHost.lean ====
/-
What the kernel's host program prepares: the four encoders side by side, their rows and the decoders' columns picked.
-/
module

public import proofs.«01_k».proof.Proof.Frame.Fold0
public import proofs.«01_k».proof.Proof.Index
public import Idealize.ShloMosaic.PureOps.Ideal
public import Idealize.ShloMosaic.Lib.Pointwise
public import Idealize.ShloMosaic.Lib.StableHlo.RunRead

@[expose] public section

set_option maxRecDepth 16384

noncomputable section

namespace Cert.KernelIdeal.Val

open Cert.KernelIdeal Cert.KernelIdeal.Gen Cert.Index Idealize.ShloMosaic Idealize.ShloMosaic.TcCoe Idealize.SL.Sem Idealize.ShloMosaic.StableHlo

/-! ## The encoders side by side -/

/-- The first encoder among zeros. -/
def wideUp (w : FVec Ideal S144x64 .f32) : FVec Ideal S144x256 .f32 :=
  pad S144x256 ![0, 0] ![0, 192] ![0, 0] w (constant S_ .f32 0x00000000#32) pads_S144x64_S144x256_000_01920 h_S_

/-- The second. -/
def wideDn (w : FVec Ideal S84x64 .f32) : FVec Ideal S84x256 .f32 :=
  pad S84x256 ![0, 64] ![0, 128] ![0, 0] w (constant S_ .f32 0x00000000#32) pads_S84x64_S84x256_000_641280 h_S_

/-- The third. -/
def wideLh (w : FVec Ideal S135x64 .f32) : FVec Ideal S135x256 .f32 :=
  pad S135x256 ![0, 128] ![0, 64] ![0, 0] w (constant S_ .f32 0x00000000#32) pads_S135x64_S135x256_000_128640 h_S_

/-- The fourth. -/
def wideRh (w : FVec Ideal S135x64 .f32) : FVec Ideal S135x256 .f32 :=
  pad S135x256 ![0, 192] ![0, 0] ![0, 0] w (constant S_ .f32 0x00000000#32) pads_S135x64_S135x256_000_19200 h_S_

/-- The four one below the other. -/
def stackOf (a : FVec Ideal S144x256 .f32) (b : FVec Ideal S84x256 .f32) (c d : FVec Ideal S135x256 .f32) : FVec Ideal S498x256 .f32 :=
  concatenate S498x256 0 [⟨S144x256, a⟩, ⟨S84x256, b⟩, ⟨S135x256, c⟩, ⟨S135x256, d⟩] concatenates_S144x256_S84x256_S135x256_S135x256_S498x256_d0

/-- Equal pieces, equal stacks. -/
theorem stack_congr {a a' : FVec Ideal S144x256 .f32} {b b' : FVec Ideal S84x256 .f32} {c c' d d' : FVec Ideal S135x256 .f32}
    (ha : a = a') (hb : b = b') (hc : c = c') (hd : d = d') :
    concatenate S498x256 0 [⟨S144x256, a⟩, ⟨S84x256, b⟩, ⟨S135x256, c⟩, ⟨S135x256, d⟩]
      concatenates_S144x256_S84x256_S135x256_S135x256_S498x256_d0 = stackOf a' b' c' d' := by
  subst ha hb hc hd
  rfl

/-- A row of the stack inside one encoder's columns: that encoder's own rows, zeros elsewhere. -/
def inPart {sz : ℕ} (off : ℕ) (w : Fin sz → EReal) (q : Fin 498) : EReal :=
  if h : off ≤ q.val ∧ q.val < off + sz then w ⟨q.val - off, by omega⟩ else 0

section
variable (a : FVec Ideal S144x64 .f32) (b : FVec Ideal S84x64 .f32) (c d : FVec Ideal S135x64 .f32) (q : Fin 498) (k : Fin 64)

theorem stack_up : stackOf (wideUp a) (wideDn b) (wideLh c) (wideRh d) (ix2 q ⟨k.val, by omega⟩)
    = inPart 0 (fun i => a (ix2 i k)) q := by
  unfold inPart
  pointwise [stackOf, wideUp, wideDn, wideLh, wideRh]
  simp only [Nat.sub_sub, Nat.reduceAdd, false_and, and_false, dite_false]
  have := k.isLt
  split_ifs <;> first | rfl | (exfalso; omega)

theorem stack_dn : stackOf (wideUp a) (wideDn b) (wideLh c) (wideRh d) (ix2 q ⟨64 + k.val, by omega⟩)
    = inPart 144 (fun i => b (ix2 i k)) q := by
  unfold inPart
  pointwise [stackOf, wideUp, wideDn, wideLh, wideRh]
  simp only [Nat.sub_sub, Nat.reduceAdd, false_and, and_false, dite_false]
  have := k.isLt
  split_ifs <;> first
    | rfl
    | (exfalso; omega)
    | (rename_i h2 h1 _
       have h1' : q.val - 144 < 84 := h1
       have h2' : ¬ q.val < 144 := h2
       rw [dif_pos (show 144 ≤ q.val ∧ q.val < 228 by omega)])

theorem stack_lh : stackOf (wideUp a) (wideDn b) (wideLh c) (wideRh d) (ix2 q ⟨128 + k.val, by omega⟩)
    = inPart 228 (fun i => c (ix2 i k)) q := by
  unfold inPart
  pointwise [stackOf, wideUp, wideDn, wideLh, wideRh]
  simp only [Nat.sub_sub, Nat.reduceAdd, false_and, and_false, dite_false]
  have := k.isLt
  split_ifs <;> first
    | rfl
    | (exfalso; omega)
    | (rename_i h3 h2 h1 _
       have h1' : q.val - 228 < 135 := h1
       have h2' : ¬ q.val - 144 < 84 := h2
       have h3' : ¬ q.val < 144 := h3
       rw [dif_pos (show 228 ≤ q.val ∧ q.val < 363 by omega)])

set_option maxHeartbeats 1000000 in
theorem stack_rh : stackOf (wideUp a) (wideDn b) (wideLh c) (wideRh d) (ix2 q ⟨192 + k.val, by omega⟩)
    = inPart 363 (fun i => d (ix2 i k)) q := by
  unfold inPart
  pointwise [stackOf, wideUp, wideDn, wideLh, wideRh]
  simp only [Nat.sub_sub, Nat.reduceAdd, false_and, and_false, dite_false]
  have := k.isLt
  split_ifs <;> first
    | rfl
    | (exfalso; omega)
    | (rename_i h3 h2 h1 _ _
       have h1' : ¬ q.val - 228 < 135 := h1
       have h2' : ¬ q.val - 144 < 84 := h2
       have h3' : ¬ q.val < 144 := h3
       rw [dif_pos (show 363 ≤ q.val by omega)])

end

/-! ## The stretches of the host program -/

section
variable (U : Valuation τ sig (Elt Ideal))

set_option maxHeartbeats 4000000 in
theorem host_v2 : after hostOps0_1 U (Proc.devRef .tc main_v2) = stackOf (wideUp (U (Proc.devRef .tc main_arg3)))
    (wideDn (U (Proc.devRef .tc main_arg8))) (wideLh (U (Proc.devRef .tc main_arg13))) (wideRh (U (Proc.devRef .tc main_arg18))) := by
  have h4 : upto hostOps0_1 U 8 (Proc.devRef .tc main_call0_v4) = wideUp (U (Proc.devRef .tc main_arg3)) := by
    after_reads_simp
    rfl
  have h5 : upto hostOps0_1 U 8 (Proc.devRef .tc main_call0_v5) = wideDn (U (Proc.devRef .tc main_arg8)) := by
    after_reads_simp
    rfl
  have h6 : upto hostOps0_1 U 8 (Proc.devRef .tc main_call0_v6) = wideLh (U (Proc.devRef .tc main_arg13)) := by
    after_reads_simp
    rfl
  have h7 : upto hostOps0_1 U 8 (Proc.devRef .tc main_call0_v7) = wideRh (U (Proc.devRef .tc main_arg18)) := by
    after_reads_simp
    rfl
  after_reads_simp
  exact stack_congr h4 h5 h6 h7

/-- Start indices of 165 rows; none is negative, so the choice takes them as they are. -/
def starts165 (p : IVec S165 1) (c : IVec S165 32) : IVec S165x1 32 :=
  broadcastInDim S165x1 ![0] bcast_S165_S165x1_0 (select p (addi c (broadcastInDim S165 ![] bcast_S_S165 (constantI S_ 32 498#32))) c)

/-- Start indices of 330 rows. -/
def starts330 (p : IVec S330 1) (c : IVec S330 32) : IVec S330x1 32 :=
  broadcastInDim S330x1 ![0] bcast_S330_S330x1_0 (select p (addi c (broadcastInDim S330 ![] bcast_S_S330 (constantI S_ 32 498#32))) c)

/-- Start indices of 3 rows. -/
def starts3 (p : IVec S3 1) (c : IVec S3 32) : IVec S3x1 32 :=
  broadcastInDim S3x1 ![0] bcast_S3_S3x1_0 (select p (addi c (broadcastInDim S3 ![] bcast_S_S3 (constantI S_ 32 498#32))) c)

/-- Start indices of 225 columns. -/
def starts225 (p : IVec S225 1) (c : IVec S225 32) : IVec S225x1 32 :=
  broadcastInDim S225x1 ![0] bcast_S225_S225x1_0 (select p (addi c (broadcastInDim S225 ![] bcast_S_S225 (constantI S_ 32 144#32))) c)

/-- Start indices of 111 columns. -/
def starts111 (p : IVec S111 1) (c : IVec S111 32) : IVec S111x1 32 :=
  broadcastInDim S111x1 ![0] bcast_S111_S111x1_0 (select p (addi c (broadcastInDim S111 ![] bcast_S_S111 (constantI S_ 32 84#32))) c)

set_option maxHeartbeats 4000000 in
theorem host_v7 : after hostOps0_2 U (Proc.devRef .tc main_v7) = Host.gather gather_S498x256_S165x1_S165x256_1_0_n_n_0_1_1256
    (U (Proc.devRef .tc main_v2) : FVec Ideal S498x256 .f32) (starts165 (U (Proc.devRef .tc main_c_0)) (U (Proc.devRef .tc main_c))) := by
  after_reads_simp
  rfl

set_option maxHeartbeats 4000000 in
theorem host_v12 : after hostOps0_2 U (Proc.devRef .tc main_v12) = Host.gather gather_S498x256_S330x1_S330x256_1_0_n_n_0_1_1256
    (U (Proc.devRef .tc main_v2) : FVec Ideal S498x256 .f32) (starts330 (U (Proc.devRef .tc main_c_2)) (U (Proc.devRef .tc main_c_1))) := by
  after_reads_simp
  rfl

set_option maxHeartbeats 4000000 in
theorem host_v17 : after hostOps0_2 U (Proc.devRef .tc main_v17) = Host.gather gather_S498x256_S3x1_S3x256_1_0_n_n_0_1_1256
    (U (Proc.devRef .tc main_v2) : FVec Ideal S498x256 .f32) (starts3 (U (Proc.devRef .tc main_c_4)) (U (Proc.devRef .tc main_c_3))) := by
  after_reads_simp
  rfl

/-- The four biases in a row. -/
def biasOf (a b c d : FVec Ideal S64 .f32) : FVec Ideal S1x256 .f32 :=
  broadcastInDim S1x256 ![1] bcast_S256_S1x256_1
    (concatenate S256 0 [⟨S64, a⟩, ⟨S64, b⟩, ⟨S64, c⟩, ⟨S64, d⟩] concatenates_S64_S64_S64_S64_S256_d0)

set_option maxHeartbeats 4000000 in
theorem host_v19 : after hostOps0_2 U (Proc.devRef .tc main_v19) = biasOf (U (Proc.devRef .tc main_arg4)) (U (Proc.devRef .tc main_arg9))
    (U (Proc.devRef .tc main_arg14)) (U (Proc.devRef .tc main_arg19)) := by
  after_reads_simp
  rfl

/-- Picked columns of the first decoder, the masked ones zero. -/
def pickUp (w : FVec Ideal S64x144 .f32) (p : IVec S225 1) (c : IVec S225 32) (k : FVec Ideal S1x225 .f32) : FVec Ideal S64x225 .f32 :=
  mulf (Host.gather gather_S64x144_S225x1_S64x225_0_1_n_n_1_1_641 w (starts225 p c)) (broadcastInDim S64x225 ![0, 1] bcast_S1x225_S64x225_0_1 k)

/-- Its bias. -/
def pickUpB (b : FVec Ideal S144 .f32) (p : IVec S225 1) (c : IVec S225 32) (k : FVec Ideal S225 .f32) : FVec Ideal S1x225 .f32 :=
  broadcastInDim S1x225 ![1] bcast_S225_S1x225_1 (mulf (Host.gather gather_S144_S225x1_S225_n_0_n_n_0_1_1 b (starts225 p c)) k)

/-- Picked columns of the second decoder, the masked ones zero. -/
def pickDn (w : FVec Ideal S64x84 .f32) (p : IVec S111 1) (c : IVec S111 32) (k : FVec Ideal S1x111 .f32) : FVec Ideal S64x111 .f32 :=
  mulf (Host.gather gather_S64x84_S111x1_S64x111_0_1_n_n_1_1_641 w (starts111 p c)) (broadcastInDim S64x111 ![0, 1] bcast_S1x111_S64x111_0_1 k)

/-- Its bias. -/
def pickDnB (b : FVec Ideal S84 .f32) (p : IVec S111 1) (c : IVec S111 32) (k : FVec Ideal S111 .f32) : FVec Ideal S1x111 .f32 :=
  broadcastInDim S1x111 ![1] bcast_S111_S1x111_1 (mulf (Host.gather gather_S84_S111x1_S111_n_0_n_n_0_1_1 b (starts111 p c)) k)

set_option maxHeartbeats 4000000 in
theorem host_v26 : after hostOps0_2 U (Proc.devRef .tc main_v26) = pickUp (U (Proc.devRef .tc main_arg6)) (U (Proc.devRef .tc main_c_6))
    (U (Proc.devRef .tc main_c_5)) (U (Proc.devRef .tc main_v0)) := by
  after_reads_simp
  rfl

set_option maxHeartbeats 4000000 in
theorem host_v33 : after hostOps0_2 U (Proc.devRef .tc main_v33) = pickUpB (U (Proc.devRef .tc main_arg7)) (U (Proc.devRef .tc main_c_7))
    (U (Proc.devRef .tc main_c_5)) (U (Proc.devRef .tc main_cst_8)) := by
  after_reads_simp
  rfl

set_option maxHeartbeats 4000000 in
theorem host_v40 : after hostOps0_2 U (Proc.devRef .tc main_v40) = pickDn (U (Proc.devRef .tc main_arg11)) (U (Proc.devRef .tc main_c_10))
    (U (Proc.devRef .tc main_c_9)) (U (Proc.devRef .tc main_v1)) := by
  after_reads_simp
  rfl

set_option maxHeartbeats 4000000 in
theorem host_v47 : after hostOps0_2 U (Proc.devRef .tc main_v47) = pickDnB (U (Proc.devRef .tc main_arg12)) (U (Proc.devRef .tc main_c_12))
    (U (Proc.devRef .tc main_c_9)) (U (Proc.devRef .tc main_cst_13)) := by
  after_reads_simp
  rfl

/-- The rotation columns of a hand's decoder. -/
def rotW (w : FVec Ideal S64x135 .f32) : FVec Ideal S64x90 .f32 := extractStridedSlice S64x90 ![0, 45] w slices_S64x135_S64x90_0_45

/-- The rotation entries of its bias. -/
def rotB (b : FVec Ideal S135 .f32) : FVec Ideal S1x90 .f32 :=
  broadcastInDim S1x90 ![1] bcast_S90_S1x90_1 (extractStridedSlice S90 ![45] b slices_S135_S90_45)

set_option maxHeartbeats 4000000 in
theorem host_v48 : after hostOps0_2 U (Proc.devRef .tc main_v48) = rotW (U (Proc.devRef .tc main_arg16)) := by
  after_reads_simp
  rfl

set_option maxHeartbeats 4000000 in
theorem host_v50 : after hostOps0_2 U (Proc.devRef .tc main_v50) = rotB (U (Proc.devRef .tc main_arg17)) := by
  after_reads_simp
  rfl

set_option maxHeartbeats 4000000 in
theorem host_v51 : after hostOps0_2 U (Proc.devRef .tc main_v51) = rotW (U (Proc.devRef .tc main_arg21)) := by
  after_reads_simp
  rfl

set_option maxHeartbeats 4000000 in
theorem host_v53 : after hostOps0_2 U (Proc.devRef .tc main_v53) = rotB (U (Proc.devRef .tc main_arg22)) := by
  after_reads_simp
  rfl

set_option maxHeartbeats 4000000 in
theorem host_c : after hostOps0 U (Proc.devRef .tc main_c) = fun i : S165.Idx => lit0 (S165.rowMajor i) := by
  after_reads_simp
  rfl

set_option maxHeartbeats 4000000 in
theorem host_c_0 : after hostOps0 U (Proc.devRef .tc main_c_0) = constantI S165 1 0#1 := by
  after_reads_simp

set_option maxHeartbeats 4000000 in
theorem host_c_1 : after hostOps0 U (Proc.devRef .tc main_c_1) = fun i : S330.Idx => lit1 (S330.rowMajor i) := by
  after_reads_simp
  rfl

set_option maxHeartbeats 4000000 in
theorem host_c_2 : after hostOps0 U (Proc.devRef .tc main_c_2) = constantI S330 1 0#1 := by
  after_reads_simp

set_option maxHeartbeats 4000000 in
theorem host_c_3 : after hostOps0 U (Proc.devRef .tc main_c_3) = fun i : S3.Idx => lit2 (S3.rowMajor i) := by
  after_reads_simp
  rfl

set_option maxHeartbeats 4000000 in
theorem host_c_4 : after hostOps0 U (Proc.devRef .tc main_c_4) = constantI S3 1 0#1 := by
  after_reads_simp

set_option maxHeartbeats 4000000 in
theorem host_c_5 : after hostOps0 U (Proc.devRef .tc main_c_5) = fun i : S225.Idx => lit3 (S225.rowMajor i) := by
  after_reads_simp
  rfl

set_option maxHeartbeats 4000000 in
theorem host_c_6 : after hostOps0 U (Proc.devRef .tc main_c_6) = constantI S225 1 0#1 := by
  after_reads_simp

set_option maxHeartbeats 4000000 in
theorem host_v0 : after hostOps0 U (Proc.devRef .tc main_v0)
    = broadcastInDim S1x225 ![1] bcast_S225_S1x225_1 (fun i : S225.Idx => Ideal.ofBits .f32 (lit4 (S225.rowMajor i))) := by
  after_reads_simp
  rfl

set_option maxHeartbeats 4000000 in
theorem host_c_7 : after hostOps0 U (Proc.devRef .tc main_c_7) = constantI S225 1 0#1 := by
  after_reads_simp

set_option maxHeartbeats 4000000 in
theorem host_cst_8 : after hostOps0 U (Proc.devRef .tc main_cst_8) = fun i : S225.Idx => Ideal.ofBits .f32 (lit5 (S225.rowMajor i)) := by
  after_reads_simp
  rfl

set_option maxHeartbeats 4000000 in
theorem host_c_9 : after hostOps0 U (Proc.devRef .tc main_c_9) = fun i : S111.Idx => lit6 (S111.rowMajor i) := by
  after_reads_simp
  rfl

set_option maxHeartbeats 4000000 in
theorem host_c_10 : after hostOps0 U (Proc.devRef .tc main_c_10) = constantI S111 1 0#1 := by
  after_reads_simp

set_option maxHeartbeats 4000000 in
theorem host_v1 : after hostOps0 U (Proc.devRef .tc main_v1)
    = broadcastInDim S1x111 ![1] bcast_S111_S1x111_1 (fun i : S111.Idx => Ideal.ofBits .f32 (lit7 (S111.rowMajor i))) := by
  after_reads_simp
  rfl

set_option maxHeartbeats 4000000 in
theorem host_c_12 : after hostOps0 U (Proc.devRef .tc main_c_12) = constantI S111 1 0#1 := by
  after_reads_simp

set_option maxHeartbeats 4000000 in
theorem host_cst_13 : after hostOps0 U (Proc.devRef .tc main_cst_13) = fun i : S111.Idx => Ideal.ofBits .f32 (lit8 (S111.rowMajor i)) := by
  after_reads_simp
  rfl

end

/-! ## The prepared arrays at an index -/

/-- The stack's row each position channel takes. -/
def rowX (j : Fin 165) : Fin 498 := slot 498 (by decide) (lit0 j)
/-- The stack's row each rotation channel takes. -/
def rowR (j : Fin 330) : Fin 498 := slot 498 (by decide) (lit1 j)
/-- The stack's row each shift channel takes. -/
def rowS (j : Fin 3) : Fin 498 := slot 498 (by decide) (lit2 j)
/-- The first decoder's column each table column takes. -/
def colUp (j : Fin 225) : Fin 144 := slot 144 (by decide) (lit3 j)
/-- The second decoder's column each table column takes. -/
def colDn (j : Fin 111) : Fin 84 := slot 84 (by decide) (lit6 j)

theorem starts165_at (j : Fin 165) : starts165 (constantI S165 1 0#1) (fun i : S165.Idx => lit0 (S165.rowMajor i)) (ix2 j 0) = lit0 j := by
  have e : S165.rowMajor (ix1 j) = j := Fin.ext (Shape.rowMajor_val_one _)
  pointwise [starts165]
  rw [e]

theorem starts330_at (j : Fin 330) : starts330 (constantI S330 1 0#1) (fun i : S330.Idx => lit1 (S330.rowMajor i)) (ix2 j 0) = lit1 j := by
  have e : S330.rowMajor (ix1 j) = j := Fin.ext (Shape.rowMajor_val_one _)
  pointwise [starts330]
  rw [e]

theorem starts3_at (j : Fin 3) : starts3 (constantI S3 1 0#1) (fun i : S3.Idx => lit2 (S3.rowMajor i)) (ix2 j 0) = lit2 j := by
  have e : S3.rowMajor (ix1 j) = j := Fin.ext (Shape.rowMajor_val_one _)
  pointwise [starts3]
  rw [e]

theorem starts225_at (j : Fin 225) : starts225 (constantI S225 1 0#1) (fun i : S225.Idx => lit3 (S225.rowMajor i)) (ix2 j 0) = lit3 j := by
  have e : S225.rowMajor (ix1 j) = j := Fin.ext (Shape.rowMajor_val_one _)
  pointwise [starts225]
  rw [e]

theorem starts111_at (j : Fin 111) : starts111 (constantI S111 1 0#1) (fun i : S111.Idx => lit6 (S111.rowMajor i)) (ix2 j 0) = lit6 j := by
  have e : S111.rowMajor (ix1 j) = j := Fin.ext (Shape.rowMajor_val_one _)
  pointwise [starts111]
  rw [e]

end Cert.KernelIdeal.Val

end
-- ==== Proof.KerBody.lean ====
/-
The second call's body: the entries each codebook row is chosen by, the decoded rows the one-hots pick, the least entries.
-/
module

public import proofs.«01_k».proof.Proof.Gen.KernelIdeal.Skeleton
public import proofs.«01_k».proof.Proof.Codes
public import Idealize.ShloMosaic.Lib.Pointwise

@[expose] public section

set_option maxRecDepth 16384

noncomputable section

namespace Cert.KernelIdeal.Val

open Idealize.ShloMosaic Idealize.ShloMosaic.TcCoe Idealize.ShloMosaic.Tactic
open Cert.KernelIdeal Cert.KernelIdeal.Gen Cert.Vq

/-- The entries the codebook row of part `p` of an encoding is chosen by. -/
def ent (z : S1024x256.Idx → EReal) (w : S512x64.Idx → EReal) (cn : S4x512.Idx → EReal) (p : Fin 4) (r : Fin 1024) (k : Fin 512) : EReal :=
  ∑ x : Fin 64, z (ix2 r ⟨64 * p.val + x.val, by omega⟩) * w (ix2 k x) + cn (ix2 p k)

variable (z : FVec Ideal S1024x256 .f32) (w : FVec Ideal S512x64 .f32) (cn : FVec Ideal S4x512 .f32)
variable (x0 : Vec Ideal S1x1024x165 .f32) (x1 : Vec Ideal S1x1024x330 .f32) (x2 : Vec Ideal S1x1024x3 .f32)
  (x3 : Vec Ideal S165x256 .f32) (x4 : Vec Ideal S330x256 .f32) (x5 : Vec Ideal S3x256 .f32) (x6 : Vec Ideal S1x256 .f32)

/-! ## The entries -/

theorem ent_up (r : Fin 1024) (k : Fin 512) :
    k1_pay10 (k1_pay5 cn) (k1_pay8 x0 x1 x2 x3 x4 x5 x6) (k1_pay9 w) (ix2 r k) = ent (k1_pay4 x0 x1 x2 x3 x4 x5 x6) w cn 0 r k := by
  pointwise [k1_pay10, k1_pay5, k1_pay8, k1_pay9]
  simp [ent]

theorem ent_dn (r : Fin 1024) (k : Fin 512) : k1_pay13 z (k1_pay5 cn) w (ix2 r k) = ent z w cn 1 r k := by
  pointwise [k1_pay13, k1_pay5]
  simp [ent]

theorem ent_lh (r : Fin 1024) (k : Fin 512) : k1_pay18 z (k1_pay5 cn) w (ix2 r k) = ent z w cn 2 r k := by
  pointwise [k1_pay18, k1_pay5]
  simp [ent]

theorem ent_rh (r : Fin 1024) (k : Fin 512) :
    k1_pay24 (k1_pay22 z w) (k1_pay23 (k1_pay5 cn)) (ix2 r k) = ent z w cn 3 r k := by
  pointwise [k1_pay24, k1_pay22, k1_pay23, k1_pay5]
  simp [ent]

/-! ## The least entries -/

/-- The least entry is the entry of the first least position. -/
theorem fold_least (f g : Fin 512 → EReal) (h : ∀ k, f k = g k) :
    Finset.fold min (Ideal.ofBits .f32 0x7F800000#32) f Finset.univ = g (firstMin g) := by
  obtain rfl : f = g := funext h
  rw [ofBits_top, fold_min]

theorem least_up (r : Fin 1024) :
    k1_pay11 (k1_pay5 cn) (k1_pay8 x0 x1 x2 x3 x4 x5 x6) (k1_pay9 w) (ix1 r)
      = ent (k1_pay4 x0 x1 x2 x3 x4 x5 x6) w cn 0 r (firstMin (ent (k1_pay4 x0 x1 x2 x3 x4 x5 x6) w cn 0 r)) := by
  pointwise [k1_pay11]
  exact fold_least _ _ (ent_up w cn x0 x1 x2 x3 x4 x5 x6 r)

theorem least_dn (r : Fin 1024) : k1_pay14 z (k1_pay5 cn) w (ix1 r) = ent z w cn 1 r (firstMin (ent z w cn 1 r)) := by
  pointwise [k1_pay14]
  exact fold_least _ _ (ent_dn z w cn r)

theorem least_lh (r : Fin 1024) : k1_pay19 z (k1_pay5 cn) w (ix1 r) = ent z w cn 2 r (firstMin (ent z w cn 2 r)) := by
  pointwise [k1_pay19]
  exact fold_least _ _ (ent_lh z w cn r)

theorem least_rh (r : Fin 1024) :
    k1_pay25 (k1_pay22 z w) (k1_pay23 (k1_pay5 cn)) (ix1 r) = ent z w cn 3 r (firstMin (ent z w cn 3 r)) := by
  pointwise [k1_pay25]
  exact fold_least _ _ (ent_rh z w cn r)

/-! ## The decoded rows -/

theorem hot_up (T : Vec Ideal S512x225 .f32) (r : Fin 1024) (c : Fin 225) :
    k1_pay12 (k1_pay5 cn) k1_pay7 (k1_pay8 x0 x1 x2 x3 x4 x5 x6) (k1_pay9 w) T (ix2 r c)
      = T (ix2 (firstMin (ent (k1_pay4 x0 x1 x2 x3 x4 x5 x6) w cn 0 r)) c) := by
  pointwise [k1_pay12, k1_pay11, k1_pay7]
  simp only [ent_up]
  exact hot_pick (ent (k1_pay4 x0 x1 x2 x3 x4 x5 x6) w cn 0 r) fun k => T (ix2 k c)

theorem hot_dn (T : Vec Ideal S512x111 .f32) (r : Fin 1024) (c : Fin 111) :
    k1_pay17 k1_pay7 (k1_pay16 z (k1_pay5 cn) k1_pay7 w) T (ix2 r c) = T (ix2 (firstMin (ent z w cn 1 r)) c) := by
  pointwise [k1_pay17, k1_pay16, k1_pay14, k1_pay7]
  simp only [ent_dn]
  exact hot_pick (ent z w cn 1 r) fun k => T (ix2 k c)

theorem hot_lh (T : Vec Ideal S512x90 .f32) (r : Fin 1024) (c : Fin 90) :
    k1_pay21 z (k1_pay5 cn) k1_pay7 w T (ix2 r c) = T (ix2 (firstMin (ent z w cn 2 r)) c) := by
  pointwise [k1_pay21, k1_pay19, k1_pay7]
  simp only [ent_lh]
  exact hot_pick (ent z w cn 2 r) fun k => T (ix2 k c)

/-! ## The outputs -/

/-- The rotations: of the two body tables, then the left hand's, then the right hand's. -/
theorem out_rot (u : FVec Ideal S1024x225 .f32) (d : FVec Ideal S1024x111 .f32) (l : FVec Ideal S1024x90 .f32) (T : Vec Ideal S512x90 .f32)
    (r : Fin 1024) (c : Fin 330) :
    k1_pay28 k1_pay7 u d l (k1_pay22 z w) (k1_pay23 (k1_pay5 cn)) T (ix3 0 r c)
      = if h : c.val < 72 then u (ix2 r ⟨75 + c.val, by omega⟩) + d (ix2 r ⟨36 + c.val, by omega⟩)
        else if h : c.val < 150 then u (ix2 r ⟨75 + c.val, by omega⟩)
        else if h : c.val < 240 then l (ix2 r ⟨c.val - 150, by omega⟩)
        else T (ix2 (firstMin (ent z w cn 3 r)) ⟨c.val - 240, by omega⟩) := by
  pointwise [k1_pay28, k1_pay25, k1_pay7]
  simp only [ent_rh]
  by_cases h1 : c.val < 72
  · rw [dif_pos h1, dif_pos h1]
  rw [dif_neg h1, dif_neg h1]
  by_cases h2 : c.val < 150
  · rw [dif_pos (show c.val - 72 < 78 by omega), dif_pos h2]
    exact congrArg (fun i => u (ix2 r i)) (Fin.ext (by show 147 + (c.val - 72) = 75 + c.val; omega))
  rw [dif_neg (show ¬ c.val - 72 < 78 by omega), dif_neg h2]
  by_cases h3 : c.val < 240
  · rw [dif_pos (show c.val - 72 - 78 < 90 by omega), dif_pos h3]
    exact congrArg (fun i => l (ix2 r i)) (Fin.ext (by show c.val - 72 - 78 = c.val - 150; omega))
  rw [dif_neg (show ¬ c.val - 72 - 78 < 90 by omega), dif_neg h3]
  refine (hot_pick (ent z w cn 3 r) fun k => T (ix2 k ⟨c.val - 72 - 78 - 90, by omega⟩)).trans ?_
  exact congrArg (fun i => T (ix2 (firstMin (ent z w cn 3 r)) i)) (Fin.ext (by show c.val - 72 - 78 - 90 = c.val - 240; omega))

/-- The positions. -/
theorem out_pos (x : FVec Ideal S1024x165 .f32) (u : FVec Ideal S1024x225 .f32) (d : FVec Ideal S1024x111 .f32)
    (r : Fin 1024) (c : Fin 165) :
    k1_pay27 x u d (ix3 0 r c)
      = if h : c.val < 36 then u (ix2 r ⟨c.val, by omega⟩) + d (ix2 r ⟨c.val, by omega⟩)
        else if h : c.val < 75 then u (ix2 r ⟨c.val, by omega⟩)
        else x (ix2 r ⟨c.val, by omega⟩) := by
  pointwise [k1_pay27]
  by_cases h1 : c.val < 36
  · rw [dif_pos h1, dif_pos h1]
  rw [dif_neg h1, dif_neg h1]
  by_cases h2 : c.val < 75
  · rw [dif_pos (show c.val - 36 < 39 by omega), dif_pos h2]
    exact congrArg (fun i => u (ix2 r i)) (Fin.ext (by show 36 + (c.val - 36) = c.val; omega))
  rw [dif_neg (show ¬ c.val - 36 < 39 by omega), dif_neg h2]
  exact congrArg (fun i => x (ix2 r i)) (Fin.ext (by show 75 + (c.val - 36 - 39) = c.val; omega))

/-- The shifts. -/
theorem out_shift (d : FVec Ideal S1024x111 .f32) (r : Fin 1024) (c : Fin 3) :
    k1_pay29 d (ix3 0 r c) = d (ix2 r ⟨108 + c.val, by omega⟩) := by
  pointwise [k1_pay29]

/-! ## The loss -/

theorem loss_up_dn (v : Ideal .f32) (w' : FVec Ideal S512x64 .f32) :
    k1_pay15 z (k1_pay5 cn) v (k1_pay8 x0 x1 x2 x3 x4 x5 x6) (k1_pay9 w) w'
      = v + ∑ r : Fin 1024, ent (k1_pay4 x0 x1 x2 x3 x4 x5 x6) w cn 0 r (firstMin (ent (k1_pay4 x0 x1 x2 x3 x4 x5 x6) w cn 0 r))
        + ∑ r : Fin 1024, ent z w' cn 1 r (firstMin (ent z w' cn 1 r)) := by
  pointwise [k1_pay15]
  simp only [least_up, least_dn]

/-- An encoding: the three inputs' products with their weights, and the bias. -/
theorem enc_at (r : Fin 1024) (k : Fin 256) :
    k1_pay4 x0 x1 x2 x3 x4 x5 x6 (ix2 r k)
      = ∑ i : Fin 165, x0 (ix3 0 r i) * x3 (ix2 i k) + ∑ i : Fin 330, x1 (ix3 0 r i) * x4 (ix2 i k)
        + ∑ i : Fin 3, x2 (ix3 0 r i) * x5 (ix2 i k) + x6 (ix2 0 k) := by
  pointwise [k1_pay4, k1_pay3]

/-- The encodings' squares. -/
theorem squares_at :
    k1_pay6 x0 x1 x2 x3 x4 x5 x6
      = ∑ r : Fin 1024, ∑ k : Fin 256, k1_pay4 x0 x1 x2 x3 x4 x5 x6 (ix2 r k) * k1_pay4 x0 x1 x2 x3 x4 x5 x6 (ix2 r k) := by
  pointwise [k1_pay6]

/-- The loss taken a point further. -/
theorem loss_step (v : Ideal .f32) (l : Vec Ideal S1x1 .f32) (i : S1x1.Idx) :
    k1_pay2 v l i = l i + Ideal.ofBits .f32 0x35200000#32 * v := by
  pointwise [k1_pay2]

/-- The loss starts at zero. -/
theorem loss_start (i : S1x1.Idx) : (k1_pay1 (F := Ideal)) i = 0 := by
  pointwise [k1_pay1]

theorem loss_lh (v : Ideal .f32) :
    k1_pay20 z (k1_pay5 cn) v w = v + ∑ r : Fin 1024, ent z w cn 2 r (firstMin (ent z w cn 2 r)) := by
  pointwise [k1_pay20]
  simp only [least_lh]

theorem loss_rh (v : Ideal .f32) :
    k1_pay26 v (k1_pay22 z w) (k1_pay23 (k1_pay5 cn)) = v + ∑ r : Fin 1024, ent z w cn 3 r (firstMin (ent z w cn 3 r)) := by
  pointwise [k1_pay26]
  simp only [least_rh]

end Cert.KernelIdeal.Val

end
-- ==== Proof.KerBlk.lean ====
/-
The second call's blocks: a batch entry's half rows, and the whole of each table.
-/
module

public import proofs.«01_k».proof.Proof.Frame
public import proofs.«01_k».proof.Proof.KerBody
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic
open Cert.KernelIdeal Cert.KernelIdeal.Gen Cert.Vq
open Idealize.ShloMosaic.Pipeline (Dat)

variable (V : (c : Dev nD) → (b : Ref sig .tc) → Buf (Elt Ideal) ((c : Thread nD τ).loc b))

/-- The blocks of every point: a batch entry and half its rows; the others whole. -/
theorem idx1 : ∀ t : Fin cfg1.N, win1_0.index t = ![t.val / 2, t.val % 2, 0] ∧ win1_1.index t = ![t.val / 2, t.val % 2, 0]
    ∧ win1_2.index t = ![t.val / 2, t.val % 2, 0] ∧ win1_3.index t = ![0, 0] ∧ win1_4.index t = ![0, 0] ∧ win1_5.index t = ![0, 0]
    ∧ win1_6.index t = ![0, 0] ∧ win1_7.index t = ![0, 0] ∧ win1_8.index t = ![0, 0] ∧ win1_9.index t = ![0, 0]
    ∧ win1_10.index t = ![0, 0] ∧ win1_11.index t = ![0, 0] ∧ win1_12.index t = ![0, 0] ∧ win1_13.index t = ![0, 0]
    ∧ win1_14.index t = ![0, 0] ∧ win1_15.index t = ![0, 0] ∧ win1_16.index t = ![t.val / 2, t.val % 2, 0]
    ∧ win1_17.index t = ![t.val / 2, t.val % 2, 0] ∧ win1_18.index t = ![t.val / 2, t.val % 2, 0] ∧ win1_19.index t = ![0, 0] :=
  (by decide +kernel : ∀ t : Fin grid1.N, _)

/-- There are 32 points. -/
theorem points (t : Fin cfg1.N) : t.val < 32 := t.isLt

/-- The batch entry of a point. -/
def bp (t : Fin cfg1.N) : Fin 16 := ⟨t.val / 2, by have := points t; omega⟩

/-- The step of a point's row. -/
def tp (t : Fin cfg1.N) (r : Fin 1024) : Fin 2048 := ⟨t.val % 2 * 1024 + r.val, by omega⟩

/-! ## The blocks -/

section
variable (c : Dev nD) (t : Fin cfg1.N)

theorem blk_0 (r : Fin 1024) (i : Fin 165) : iblk1 V c 0 t (ix3 0 r i) = V c main_arg0 (ix3 (bp t) (tp t r) i) := by
  blk_point [iblk1, idx1 t, bp, tp]

theorem blk_1 (r : Fin 1024) (i : Fin 330) : iblk1 V c 1 t (ix3 0 r i) = V c main_arg1 (ix3 (bp t) (tp t r) i) := by
  blk_point [iblk1, idx1 t, bp, tp]

theorem blk_2 (r : Fin 1024) (i : Fin 3) : iblk1 V c 2 t (ix3 0 r i) = V c main_arg2 (ix3 (bp t) (tp t r) i) := by
  blk_point [iblk1, idx1 t, bp, tp]

theorem blk_3 : (iblk1 V c 3 t : S165x256.Idx → EReal) = V c main_v7 := by funext k; blk_point [iblk1, idx1 t]

theorem blk_4 : (iblk1 V c 4 t : S330x256.Idx → EReal) = V c main_v12 := by funext k; blk_point [iblk1, idx1 t]

theorem blk_5 : (iblk1 V c 5 t : S3x256.Idx → EReal) = V c main_v17 := by funext k; blk_point [iblk1, idx1 t]

theorem blk_6 : (iblk1 V c 6 t : S1x256.Idx → EReal) = V c main_v19 := by funext k; blk_point [iblk1, idx1 t]

theorem blk_7 : (iblk1 V c 7 t : S512x64.Idx → EReal) = V c main_v54_4 := by funext k; blk_point [iblk1, idx1 t]

theorem blk_8 : (iblk1 V c 8 t : S512x64.Idx → EReal) = V c main_v54_5 := by funext k; blk_point [iblk1, idx1 t]

theorem blk_9 : (iblk1 V c 9 t : S512x64.Idx → EReal) = V c main_v54_6 := by funext k; blk_point [iblk1, idx1 t]

theorem blk_10 : (iblk1 V c 10 t : S512x64.Idx → EReal) = V c main_v54_7 := by funext k; blk_point [iblk1, idx1 t]

theorem blk_11 : (iblk1 V c 11 t : S4x512.Idx → EReal) = V c main_v54_8 := by funext k; blk_point [iblk1, idx1 t]

theorem blk_12 : (iblk1 V c 12 t : S512x225.Idx → EReal) = V c main_v54_0 := by funext k; blk_point [iblk1, idx1 t]

theorem blk_13 : (iblk1 V c 13 t : S512x111.Idx → EReal) = V c main_v54_1 := by funext k; blk_point [iblk1, idx1 t]

theorem blk_14 : (iblk1 V c 14 t : S512x90.Idx → EReal) = V c main_v54_2 := by funext k; blk_point [iblk1, idx1 t]

theorem blk_15 : (iblk1 V c 15 t : S512x90.Idx → EReal) = V c main_v54_3 := by funext k; blk_point [iblk1, idx1 t]

theorem emb_16 (r : Fin 1024) (i : Fin 165) :
    ((View.whole main_v55_0).slice (win1_16.rect t)).emb (ix3 0 r i) = (ix3 (bp t) (tp t r) i : S16x2048x165.Idx) := by
  blk_ext [idx1 t, bp, tp]

theorem emb_17 (r : Fin 1024) (i : Fin 330) :
    ((View.whole main_v55_1).slice (win1_17.rect t)).emb (ix3 0 r i) = (ix3 (bp t) (tp t r) i : S16x2048x330.Idx) := by
  blk_ext [idx1 t, bp, tp]

theorem emb_18 (r : Fin 1024) (i : Fin 3) :
    ((View.whole main_v55_2).slice (win1_18.rect t)).emb (ix3 0 r i) = (ix3 (bp t) (tp t r) i : S16x2048x3.Idx) := by
  blk_ext [idx1 t, bp, tp]

end

end Cert.KernelIdeal.Val
end
-- ==== Proof.KerOut.lean ====
/-
The second call: the three outputs and the loss it leaves.
-/
module

public import proofs.«01_k».proof.Proof.KerBlk
public import proofs.«01_k».proof.Proof.KerBody

@[expose] public section

set_option maxRecDepth 16384

noncomputable section

namespace Cert.KernelIdeal.Val

open Idealize.ShloMosaic Idealize.ShloMosaic.TcCoe Idealize.ShloMosaic.Tactic
open Cert.KernelIdeal Cert.KernelIdeal.Gen Cert.Vq
open Idealize.ShloMosaic.Pipeline (Dat)

variable (V : (c : Dev nD) → (b : Ref sig .tc) → Buf (Elt Ideal) ((c : Thread nD τ).loc b))

/-! ## Encodings and entries over the whole arrays -/

/-- A channel of an encoding. -/
def encOf (x : S16x2048x165.Idx → EReal) (r : S16x2048x330.Idx → EReal) (s : S16x2048x3.Idx → EReal) (wx : S165x256.Idx → EReal)
    (wr : S330x256.Idx → EReal) (ws : S3x256.Idx → EReal) (bias : S1x256.Idx → EReal) (b : Fin 16) (t : Fin 2048) (k : Fin 256) : EReal :=
  ∑ i : Fin 165, x (ix3 b t i) * wx (ix2 i k) + ∑ i : Fin 330, r (ix3 b t i) * wr (ix2 i k)
    + ∑ i : Fin 3, s (ix3 b t i) * ws (ix2 i k) + bias (ix2 0 k)

/-- The encodings of the arrays the call finds. -/
abbrev encAt (c : Dev nD) (b : Fin 16) (t : Fin 2048) (k : Fin 256) : EReal :=
  encOf (V c main_arg0) (V c main_arg1) (V c main_arg2) (V c main_v7) (V c main_v12) (V c main_v17) (V c main_v19) b t k

/-- The entries a codebook row is chosen by. -/
def entAt (c : Dev nD) (w : S512x64.Idx → EReal) (p : Fin 4) (b : Fin 16) (s : Fin 2048) (k : Fin 512) : EReal :=
  ∑ x : Fin 64, encAt V c b s ⟨64 * p.val + x.val, by omega⟩ * w (ix2 k x) + V c main_v54_8 (ix2 p k)

/-- The encodings of a point's block. -/
abbrev encBlk (c : Dev nD) (t : Fin cfg1.N) : FVec Ideal S1024x256 .f32 :=
  k1_pay4 (iblk1 V c 0 t) (iblk1 V c 1 t) (iblk1 V c 2 t) (iblk1 V c 3 t) (iblk1 V c 4 t) (iblk1 V c 5 t) (iblk1 V c 6 t)

theorem enc_blk (c : Dev nD) (t : Fin cfg1.N) (r : Fin 1024) (k : Fin 256) : encBlk V c t (ix2 r k) = encAt V c (bp t) (tp t r) k := by
  unfold encAt encOf
  rw [encBlk, enc_at, blk_3, blk_4, blk_5, blk_6]
  simp only [blk_0, blk_1, blk_2]

theorem ent_blk (c : Dev nD) (t : Fin cfg1.N) (w : S512x64.Idx → EReal) (p : Fin 4) (r : Fin 1024) :
    ent (encBlk V c t) w (iblk1 V c 11 t) p r = entAt V c w p (bp t) (tp t r) := by
  funext k
  unfold ent entAt
  rw [blk_11]
  simp only [enc_blk]

/-- The row taken of each codebook. -/
def rowAt (c : Dev nD) (w : S512x64.Idx → EReal) (p : Fin 4) (b : Fin 16) (s : Fin 2048) : Fin 512 := firstMin (entAt V c w p b s)

/-! ## The outputs -/

/-- A position: of the two body tables' rows, or the input's. -/
def posOf (x : Fin 165 → EReal) (u : Fin 225 → EReal) (d : Fin 111 → EReal) (i : Fin 165) : EReal :=
  if h : i.val < 36 then u ⟨i.val, by omega⟩ + d ⟨i.val, by omega⟩ else if h : i.val < 75 then u ⟨i.val, by omega⟩ else x i

/-- A rotation: of the four tables' rows. -/
def rotOf (u : Fin 225 → EReal) (d : Fin 111 → EReal) (l r : Fin 90 → EReal) (i : Fin 330) : EReal :=
  if h : i.val < 72 then u ⟨75 + i.val, by omega⟩ + d ⟨36 + i.val, by omega⟩ else if h : i.val < 150 then u ⟨75 + i.val, by omega⟩
  else if h : i.val < 240 then l ⟨i.val - 150, by omega⟩ else r ⟨i.val - 240, by omega⟩

/-- The rows taken of the four tables. -/
abbrev upAt (c : Dev nD) (b : Fin 16) (s : Fin 2048) (i : Fin 225) : EReal := V c main_v54_0 (ix2 (rowAt V c (V c main_v54_4) 0 b s) i)
abbrev dnAt (c : Dev nD) (b : Fin 16) (s : Fin 2048) (i : Fin 111) : EReal := V c main_v54_1 (ix2 (rowAt V c (V c main_v54_5) 1 b s) i)
abbrev lhAt (c : Dev nD) (b : Fin 16) (s : Fin 2048) (i : Fin 90) : EReal := V c main_v54_2 (ix2 (rowAt V c (V c main_v54_6) 2 b s) i)
abbrev rhAt (c : Dev nD) (b : Fin 16) (s : Fin 2048) (i : Fin 90) : EReal := V c main_v54_3 (ix2 (rowAt V c (V c main_v54_7) 3 b s) i)

/-- The positions. -/
abbrev posOut (c : Dev nD) (b : Fin 16) (s : Fin 2048) (i : Fin 165) : EReal :=
  posOf (fun i => V c main_arg0 (ix3 b s i)) (upAt V c b s) (dnAt V c b s) i

/-- The rotations. -/
abbrev rotOut (c : Dev nD) (b : Fin 16) (s : Fin 2048) (i : Fin 330) : EReal :=
  rotOf (upAt V c b s) (dnAt V c b s) (lhAt V c b s) (rhAt V c b s) i

theorem pay3_at (x : Vec Ideal S1x1024x165 .f32) (r : Fin 1024) (i : Fin 165) : k1_pay3 x (ix2 r i) = x (ix3 0 r i) := by
  pointwise [k1_pay3]

theorem up_blk (c : Dev nD) (t : Fin cfg1.N) (r : Fin 1024) (i : Fin 225) :
    k1_pay12 (k1_pay5 (iblk1 V c 11 t)) k1_pay7 (k1_pay8 (iblk1 V c 0 t) (iblk1 V c 1 t) (iblk1 V c 2 t) (iblk1 V c 3 t) (iblk1 V c 4 t)
      (iblk1 V c 5 t) (iblk1 V c 6 t)) (k1_pay9 (iblk1 V c 7 t)) (iblk1 V c 12 t) (ix2 r i)
      = V c main_v54_0 (ix2 (rowAt V c (V c main_v54_4) 0 (bp t) (tp t r)) i) := by
  refine (hot_up (iblk1 V c 7 t) (iblk1 V c 11 t) _ _ _ _ _ _ _ (iblk1 V c 12 t) r i).trans ?_
  unfold rowAt
  rw [ent_blk, blk_12, blk_7]

theorem dn_blk (c : Dev nD) (t : Fin cfg1.N) (r : Fin 1024) (i : Fin 111) :
    k1_pay17 k1_pay7 (k1_pay16 (encBlk V c t) (k1_pay5 (iblk1 V c 11 t)) k1_pay7 (iblk1 V c 8 t)) (iblk1 V c 13 t) (ix2 r i)
      = V c main_v54_1 (ix2 (rowAt V c (V c main_v54_5) 1 (bp t) (tp t r)) i) := by
  refine (hot_dn (encBlk V c t) (iblk1 V c 8 t) (iblk1 V c 11 t) (iblk1 V c 13 t) r i).trans ?_
  unfold rowAt
  rw [ent_blk, blk_13, blk_8]

theorem lh_blk (c : Dev nD) (t : Fin cfg1.N) (r : Fin 1024) (i : Fin 90) :
    k1_pay21 (encBlk V c t) (k1_pay5 (iblk1 V c 11 t)) k1_pay7 (iblk1 V c 9 t) (iblk1 V c 14 t) (ix2 r i)
      = V c main_v54_2 (ix2 (rowAt V c (V c main_v54_6) 2 (bp t) (tp t r)) i) := by
  refine (hot_lh (encBlk V c t) (iblk1 V c 9 t) (iblk1 V c 11 t) (iblk1 V c 14 t) r i).trans ?_
  unfold rowAt
  rw [ent_blk, blk_14, blk_9]

theorem pos_blk (c : Dev nD) (t : Fin cfg1.N) (r : Fin 1024) (i : Fin 165) :
    k1_pay27 (k1_pay3 (iblk1 V c 0 t)) (k1_pay12 (k1_pay5 (iblk1 V c 11 t)) k1_pay7 (k1_pay8 (iblk1 V c 0 t) (iblk1 V c 1 t) (iblk1 V c 2 t) (iblk1 V c 3 t) (iblk1 V c 4 t)
      (iblk1 V c 5 t) (iblk1 V c 6 t)) (k1_pay9 (iblk1 V c 7 t)) (iblk1 V c 12 t))
      (k1_pay17 k1_pay7 (k1_pay16 (encBlk V c t) (k1_pay5 (iblk1 V c 11 t)) k1_pay7 (iblk1 V c 8 t)) (iblk1 V c 13 t)) (ix3 0 r i)
      = posOut V c (bp t) (tp t r) i := by
  rw [out_pos]
  simp only [up_blk, dn_blk, pay3_at, blk_0]
  rfl

theorem rot_blk (c : Dev nD) (t : Fin cfg1.N) (r : Fin 1024) (i : Fin 330) :
    k1_pay28 k1_pay7 (k1_pay12 (k1_pay5 (iblk1 V c 11 t)) k1_pay7 (k1_pay8 (iblk1 V c 0 t) (iblk1 V c 1 t) (iblk1 V c 2 t) (iblk1 V c 3 t) (iblk1 V c 4 t)
      (iblk1 V c 5 t) (iblk1 V c 6 t)) (k1_pay9 (iblk1 V c 7 t)) (iblk1 V c 12 t))
      (k1_pay17 k1_pay7 (k1_pay16 (encBlk V c t) (k1_pay5 (iblk1 V c 11 t)) k1_pay7 (iblk1 V c 8 t)) (iblk1 V c 13 t))
      (k1_pay21 (encBlk V c t) (k1_pay5 (iblk1 V c 11 t)) k1_pay7 (iblk1 V c 9 t) (iblk1 V c 14 t))
      (k1_pay22 (encBlk V c t) (iblk1 V c 10 t)) (k1_pay23 (k1_pay5 (iblk1 V c 11 t))) (iblk1 V c 15 t) (ix3 0 r i)
      = rotOut V c (bp t) (tp t r) i := by
  refine (out_rot (encBlk V c t) (iblk1 V c 10 t) (iblk1 V c 11 t) _ _ _ (iblk1 V c 15 t) r i).trans ?_
  simp only [up_blk, dn_blk, lh_blk, ent_blk]
  rw [blk_15, blk_10]
  rfl

/-- A shift. -/
def shiftOut (c : Dev nD) (b : Fin 16) (s : Fin 2048) (i : Fin 3) : EReal := dnAt V c b s ⟨108 + i.val, by omega⟩

theorem shift_blk (c : Dev nD) (t : Fin cfg1.N) (r : Fin 1024) (i : Fin 3) :
    k1_pay29 (k1_pay17 k1_pay7 (k1_pay16 (encBlk V c t) (k1_pay5 (iblk1 V c 11 t)) k1_pay7 (iblk1 V c 8 t)) (iblk1 V c 13 t)) (ix3 0 r i)
      = shiftOut V c (bp t) (tp t r) i := by
  rw [out_shift, dn_blk]
  rfl

/-- An index of a block with one batch entry. -/
theorem point_eq {n0 n1 : ℕ} (y : (⟨3, ![1, n0, n1]⟩ : Shape).Idx) : ∃ (r : Fin n0) (i : Fin n1), y = ix3 0 r i :=
  ⟨y 1, y 2, (eq_ix3 y).trans (congrArg (fun a => ix3 a (y 1) (y 2)) (Subsingleton.elim (α := Fin 1) _ _))⟩

/-- The positions it leaves. -/
theorem out_16 (c : Dev nD) : (dat1 V c).arrAt 16 cfg1.N = fun i : S16x2048x165.Idx => posOut V c (i 0) (i 1) (i 2) := by
  refine (dat1 V c).arrAt_eq_of_covers 16 _ (by decide +kernel) fun t hf y => ?_
  obtain ⟨r, i, rfl⟩ : ∃ (r : Fin 1024) (i : Fin 165), y = ix3 0 r i := point_eq y
  blk_simp
  rw [after1_16, emb_16]
  refine Eq.trans ?_ (pos_blk V c t r i)
  by_cases h : t.val % 32 = 0
  · rw [outsAt1_A V c t h]
    frame_out
  · rw [outsAt1_B V c t h]
    frame_out

/-- The rotations it leaves. -/
theorem out_17 (c : Dev nD) : (dat1 V c).arrAt 17 cfg1.N = fun i : S16x2048x330.Idx => rotOut V c (i 0) (i 1) (i 2) := by
  refine (dat1 V c).arrAt_eq_of_covers 17 _ (by decide +kernel) fun t hf y => ?_
  obtain ⟨r, i, rfl⟩ : ∃ (r : Fin 1024) (i : Fin 330), y = ix3 0 r i := point_eq y
  blk_simp
  rw [after1_17, emb_17]
  refine Eq.trans ?_ (rot_blk V c t r i)
  by_cases h : t.val % 32 = 0
  · rw [outsAt1_A V c t h]
    frame_out
  · rw [outsAt1_B V c t h]
    frame_out

/-- The shifts it leaves. -/
theorem out_18 (c : Dev nD) : (dat1 V c).arrAt 18 cfg1.N = fun i : S16x2048x3.Idx => shiftOut V c (i 0) (i 1) (i 2) := by
  refine (dat1 V c).arrAt_eq_of_covers 18 _ (by decide +kernel) fun t hf y => ?_
  obtain ⟨r, i, rfl⟩ : ∃ (r : Fin 1024) (i : Fin 3), y = ix3 0 r i := point_eq y
  blk_simp
  rw [after1_18, emb_18]
  refine Eq.trans ?_ (shift_blk V c t r i)
  by_cases h : t.val % 32 = 0
  · rw [outsAt1_A V c t h]
    frame_out
  · rw [outsAt1_B V c t h]
    frame_out

/-! ## The loss -/

/-- A point's share of the loss, before its weight. -/
def share (c : Dev nD) (t : Fin cfg1.N) : EReal :=
  ∑ r : Fin 1024, ∑ k : Fin 256, encAt V c (bp t) (tp t r) k * encAt V c (bp t) (tp t r) k
    + ∑ r : Fin 1024, entAt V c (V c main_v54_4) 0 (bp t) (tp t r) (rowAt V c (V c main_v54_4) 0 (bp t) (tp t r))
    + ∑ r : Fin 1024, entAt V c (V c main_v54_5) 1 (bp t) (tp t r) (rowAt V c (V c main_v54_5) 1 (bp t) (tp t r))
    + ∑ r : Fin 1024, entAt V c (V c main_v54_6) 2 (bp t) (tp t r) (rowAt V c (V c main_v54_6) 2 (bp t) (tp t r))
    + ∑ r : Fin 1024, entAt V c (V c main_v54_7) 3 (bp t) (tp t r) (rowAt V c (V c main_v54_7) 3 (bp t) (tp t r))

theorem share_blk (c : Dev nD) (t : Fin cfg1.N) :
    k1_pay26 (k1_pay20 (encBlk V c t) (k1_pay5 (iblk1 V c 11 t)) (k1_pay15 (encBlk V c t) (k1_pay5 (iblk1 V c 11 t))
      (k1_pay6 (iblk1 V c 0 t) (iblk1 V c 1 t) (iblk1 V c 2 t) (iblk1 V c 3 t) (iblk1 V c 4 t) (iblk1 V c 5 t) (iblk1 V c 6 t))
      (k1_pay8 (iblk1 V c 0 t) (iblk1 V c 1 t) (iblk1 V c 2 t) (iblk1 V c 3 t) (iblk1 V c 4 t) (iblk1 V c 5 t) (iblk1 V c 6 t))
      (k1_pay9 (iblk1 V c 7 t)) (iblk1 V c 8 t)) (iblk1 V c 9 t)) (k1_pay22 (encBlk V c t) (iblk1 V c 10 t))
      (k1_pay23 (k1_pay5 (iblk1 V c 11 t))) = share V c t := by
  rw [loss_rh, loss_lh, loss_up_dn, squares_at]
  simp only [ent_blk, enc_blk]
  rw [blk_7, blk_8, blk_9, blk_10]
  rfl

/-- The loss after a point. -/
abbrev lossRun (c : Dev nD) (n : ℕ) (h : n < cfg1.N) : S1x1.Idx → EReal := (outsAt1 V c n h).2.2.2

theorem run_first (c : Dev nD) (t : Fin cfg1.N) (h : t.val % 32 = 0) (i : S1x1.Idx) :
    lossRun V c t.val t.isLt i = 0 + Ideal.ofBits .f32 0x35200000#32 * share V c t := by
  unfold lossRun
  rw [outsAt1_A V c t h]
  frame_out
  rw [loss_step, loss_start]
  exact congrArg (fun v => 0 + Ideal.ofBits .f32 0x35200000#32 * v) (share_blk V c t)

theorem run_next (c : Dev nD) (t : Fin cfg1.N) (h : ¬ t.val % 32 = 0) (i : S1x1.Idx) :
    lossRun V c t.val t.isLt i = lossRun V c (t.val - 1) (Nat.lt_of_le_of_lt (Nat.sub_le _ _) t.isLt) i
      + Ideal.ofBits .f32 0x35200000#32 * share V c t := by
  unfold lossRun
  rw [outsAt1_B V c t h]
  frame_out
  rw [loss_step]
  exact congrArg (fun v => _ + Ideal.ofBits .f32 0x35200000#32 * v) (share_blk V c t)

/-- The loss it leaves. -/
theorem out_19 (c : Dev nD) :
    (dat1 V c).arrAt 19 cfg1.N = fun _ : S1x1.Idx => ∑ t : Fin 32, Ideal.ofBits .f32 0x35200000#32 * share V c ⟨t.val, t.isLt⟩ := by
  refine (dat1 V c).arrAt_eq_of_covers 19 _ (by decide +kernel) fun t hf y => ?_
  blk_simp
  rw [after1_19]
  have hl : t.val % 32 = 31 := (flush1_19 t).mp hf
  have h := Pipeline.eq_sum_fin_of_reset_step_apply_of_flush (fun n h => lossRun V c n h) 32 (fun _ => 0)
    (fun t _ => Ideal.ofBits .f32 0x35200000#32 * share V c t) (run_first V c) (run_next V c) t hl y
  refine h.trans ?_
  rw [zero_add]
  refine Finset.sum_congr rfl fun s _ => ?_
  refine congrArg (fun t => Ideal.ofBits .f32 0x35200000#32 * share V c t) (Fin.ext ?_)
  have := points t
  simp only []
  omega

end Cert.KernelIdeal.Val
end
-- ==== Proof.KerEnc.lean ====
/-
The four encodings out of one wide product: each part's rows picked from the stack, the other parts' zeros.
-/
module

public import proofs.«01_k».proof.Proof.KerHost
public import proofs.«01_k».proof.Proof.KerOut
public import proofs.«01_k».proof.Proof.Model

@[expose] public section

set_option maxRecDepth 16384

noncomputable section

namespace Cert.KernelIdeal.Val

open Cert.KernelIdeal Cert.KernelIdeal.Gen Idealize.ShloMosaic Cert.Vq

/-! ## Picked sums -/

/-- A sum against picked rows of the stack, one part's: the part's features, each at its channel. -/
theorem sum_pick {n m sz : ℕ} (f : Fin n → EReal) (J : Fin m → Fin n) (inj : Function.Injective J) (p : Fin n → Fin 498) (off : ℕ)
    (w : Fin sz → EReal) (q : Fin m → Fin sz) (hit : ∀ i, (p (J i)).val = off + (q i).val)
    (miss : ∀ c, (∃ i, J i = c) ∨ ¬ (off ≤ (p c).val ∧ (p c).val < off + sz)) :
    ∑ c, f c * inPart off w (p c) = ∑ i, f (J i) * w (q i) := by
  refine (Fintype.sum_of_injective J inj _ _ (fun c hc => ?_) fun i => ?_).symm
  · rcases miss c with h | h
    · exact absurd h hc
    · rw [inPart, dif_neg h, mul_zero]
  · have h := hit i
    have h' := (q i).isLt
    rw [inPart, dif_pos (by omega)]
    exact congrArg (fun j => f (J i) * w j) (Fin.ext (by show (q i).val = (p (J i)).val - off; omega))

/-- A sum against rows of other parts. -/
theorem sum_none {n sz : ℕ} (f : Fin n → EReal) (p : Fin n → Fin 498) (off : ℕ) (w : Fin sz → EReal)
    (miss : ∀ c, ¬ (off ≤ (p c).val ∧ (p c).val < off + sz)) : ∑ c, f c * inPart off w (p c) = 0 :=
  Finset.sum_eq_zero fun c _ => by rw [inPart, dif_neg (miss c), mul_zero]

/-! ## Where the stack's rows come from -/

theorem pos_inj_up : Function.Injective (pos (n := 48) upJ rfl) := by decide +kernel
theorem pos_inj_dn : Function.Injective (pos (n := 27) dnJ rfl) := by decide +kernel
theorem pos_inj_lh : Function.Injective (pos (n := 45) lhJ rfl) := by decide +kernel
theorem pos_inj_rh : Function.Injective (pos (n := 45) rhJ rfl) := by decide +kernel
theorem rot_inj_up : Function.Injective (rot (n := 96) upJ rfl) := by decide +kernel
theorem rot_inj_dn : Function.Injective (rot (n := 54) dnJ rfl) := by decide +kernel
theorem rot_inj_lh : Function.Injective (rot (n := 90) lhJ rfl) := by decide +kernel
theorem rot_inj_rh : Function.Injective (rot (n := 90) rhJ rfl) := by decide +kernel

theorem rowX_up : ∀ i : Fin 48, (rowX (pos upJ rfl i)).val = 0 + i.val := by decide +kernel
theorem rowX_dn : ∀ i : Fin 27, (rowX (pos dnJ rfl i)).val = 144 + i.val := by decide +kernel
theorem rowX_lh : ∀ i : Fin 45, (rowX (pos lhJ rfl i)).val = 228 + i.val := by decide +kernel
theorem rowX_rh : ∀ i : Fin 45, (rowX (pos rhJ rfl i)).val = 363 + i.val := by decide +kernel
theorem rowR_up : ∀ i : Fin 96, (rowR (rot upJ rfl i)).val = 0 + (48 + i.val) := by decide +kernel
theorem rowR_dn : ∀ i : Fin 54, (rowR (rot dnJ rfl i)).val = 144 + (27 + i.val) := by decide +kernel
theorem rowR_lh : ∀ i : Fin 90, (rowR (rot lhJ rfl i)).val = 228 + (45 + i.val) := by decide +kernel
theorem rowR_rh : ∀ i : Fin 90, (rowR (rot rhJ rfl i)).val = 363 + (45 + i.val) := by decide +kernel
theorem rowS_dn : ∀ i : Fin 3, (rowS i).val = 144 + (27 + 54 + i.val) := by decide +kernel

/-- A channel is one of a part's or its row is another part's. -/
theorem miss_of {n m sz : ℕ} (J : Fin m → Fin n) (p : Fin n → Fin 498) (off : ℕ)
    (h : ∀ c, (∃ i, J i = c) ∨ (p c).val < off ∨ off + sz ≤ (p c).val) (c : Fin n) :
    (∃ i, J i = c) ∨ ¬ (off ≤ (p c).val ∧ (p c).val < off + sz) := (h c).imp id fun h => by omega

theorem missX_up : ∀ c, (∃ i : Fin 48, pos upJ rfl i = c) ∨ (rowX c).val < 0 ∨ 0 + 144 ≤ (rowX c).val := by decide +kernel
theorem missX_dn : ∀ c, (∃ i : Fin 27, pos dnJ rfl i = c) ∨ (rowX c).val < 144 ∨ 144 + 84 ≤ (rowX c).val := by decide +kernel
theorem missX_lh : ∀ c, (∃ i : Fin 45, pos lhJ rfl i = c) ∨ (rowX c).val < 228 ∨ 228 + 135 ≤ (rowX c).val := by decide +kernel
theorem missX_rh : ∀ c, (∃ i : Fin 45, pos rhJ rfl i = c) ∨ (rowX c).val < 363 ∨ 363 + 135 ≤ (rowX c).val := by decide +kernel
theorem missR_up : ∀ c, (∃ i : Fin 96, rot upJ rfl i = c) ∨ (rowR c).val < 0 ∨ 0 + 144 ≤ (rowR c).val := by decide +kernel
theorem missR_dn : ∀ c, (∃ i : Fin 54, rot dnJ rfl i = c) ∨ (rowR c).val < 144 ∨ 144 + 84 ≤ (rowR c).val := by decide +kernel
theorem missR_lh : ∀ c, (∃ i : Fin 90, rot lhJ rfl i = c) ∨ (rowR c).val < 228 ∨ 228 + 135 ≤ (rowR c).val := by decide +kernel
theorem missR_rh : ∀ c, (∃ i : Fin 90, rot rhJ rfl i = c) ∨ (rowR c).val < 363 ∨ 363 + 135 ≤ (rowR c).val := by decide +kernel
theorem missS_up : ∀ c, ¬ (0 ≤ (rowS c).val ∧ (rowS c).val < 0 + 144) := by decide +kernel
theorem missS_lh : ∀ c, ¬ (228 ≤ (rowS c).val ∧ (rowS c).val < 228 + 135) := by decide +kernel
theorem missS_rh : ∀ c, ¬ (363 ≤ (rowS c).val ∧ (rowS c).val < 363 + 135) := by decide +kernel

/-! ## The biases -/

section
variable (a b c d : FVec Ideal S64 .f32) (k : Fin 64)

theorem bias_up : biasOf a b c d (ix2 0 ⟨k.val, by omega⟩) = a (ix1 k) := by
  pointwise [biasOf]

theorem bias_dn : biasOf a b c d (ix2 0 ⟨64 + k.val, by omega⟩) = b (ix1 k) := by
  pointwise [biasOf]

theorem bias_lh : biasOf a b c d (ix2 0 ⟨128 + k.val, by omega⟩) = c (ix1 k) := by
  pointwise [biasOf]
  rw [dif_neg (by omega), dif_neg (by omega), dif_pos (by omega)]
  exact congrArg (fun i => c (ix1 i)) (Fin.ext (by show 128 + k.val - 64 - 64 = k.val; omega))

theorem bias_rh : biasOf a b c d (ix2 0 ⟨192 + k.val, by omega⟩) = d (ix1 k) := by
  pointwise [biasOf]
  rw [dif_neg (by omega), dif_neg (by omega), dif_neg (by omega)]
  exact congrArg (fun i => d (ix1 i)) (Fin.ext (by show 192 + k.val - 64 - 64 - 64 = k.val; omega))
end

/-! ## The encodings -/

section
variable (x : FVec Ideal S16x2048x165 .f32) (r : FVec Ideal S16x2048x330 .f32) (s : FVec Ideal S16x2048x3 .f32)
  (e1 : FVec Ideal S144x64 .f32) (e2 : FVec Ideal S84x64 .f32) (e3 e4 : FVec Ideal S135x64 .f32) (b1 b2 b3 b4 : FVec Ideal S64 .f32)
  (wx : S165x256.Idx → EReal) (wr : S330x256.Idx → EReal) (ws : S3x256.Idx → EReal)
  (hx : ∀ i k, wx (ix2 i k) = stackOf (wideUp e1) (wideDn e2) (wideLh e3) (wideRh e4) (ix2 (rowX i) k))
  (hr : ∀ i k, wr (ix2 i k) = stackOf (wideUp e1) (wideDn e2) (wideLh e3) (wideRh e4) (ix2 (rowR i) k))
  (hs : ∀ i k, ws (ix2 i k) = stackOf (wideUp e1) (wideDn e2) (wideLh e3) (wideRh e4) (ix2 (rowS i) k))
  (b : Fin 16) (t : Fin 2048) (k : Fin 64)
include hx hr hs

theorem encOf_up (W : Weights 144) (he : ∀ i k, W.enc i k = e1 (ix2 i k)) (hb : ∀ k, W.encB k = b1 (ix1 k)) :
    encOf x r s wx wr ws (biasOf b1 b2 b3 b4) b t ⟨k.val, by omega⟩
      = enc2 (a := 48) (b := 96) upJ rfl rfl rfl W (fun i => x (ix3 b t i)) (fun i => r (ix3 b t i)) k := by
  unfold encOf enc2
  simp only [hx, hr, hs, stack_up, bias_up, he, hb]
  rw [sum_pick _ _ pos_inj_up rowX 0 _ (fun i : Fin 48 => (⟨i.val, by omega⟩ : Fin 144)) rowX_up (miss_of _ _ _ missX_up),
    sum_pick _ _ rot_inj_up rowR 0 _ (fun i : Fin 96 => (⟨48 + i.val, by omega⟩ : Fin 144)) rowR_up (miss_of _ _ _ missR_up),
    sum_none _ rowS 0 _ missS_up, add_zero]

theorem encOf_dn (W : Weights 84) (he : ∀ i k, W.enc i k = e2 (ix2 i k)) (hb : ∀ k, W.encB k = b2 (ix1 k)) :
    encOf x r s wx wr ws (biasOf b1 b2 b3 b4) b t ⟨64 + k.val, by omega⟩
      = enc3 (a := 27) (b := 54) dnJ rfl rfl rfl W (fun i => x (ix3 b t i)) (fun i => r (ix3 b t i)) (fun i => s (ix3 b t i)) k := by
  unfold encOf enc3
  simp only [hx, hr, hs, stack_dn, bias_dn, he, hb]
  rw [sum_pick _ _ pos_inj_dn rowX 144 _ (fun i : Fin 27 => (⟨i.val, by omega⟩ : Fin 84)) rowX_dn (miss_of _ _ _ missX_dn),
    sum_pick _ _ rot_inj_dn rowR 144 _ (fun i : Fin 54 => (⟨27 + i.val, by omega⟩ : Fin 84)) rowR_dn (miss_of _ _ _ missR_dn),
    sum_pick _ id Function.injective_id rowS 144 _ (fun i : Fin 3 => (⟨27 + 54 + i.val, by omega⟩ : Fin 84)) rowS_dn fun c => .inl ⟨c, rfl⟩]
  rfl

theorem encOf_lh (W : Weights 135) (he : ∀ i k, W.enc i k = e3 (ix2 i k)) (hb : ∀ k, W.encB k = b3 (ix1 k)) :
    encOf x r s wx wr ws (biasOf b1 b2 b3 b4) b t ⟨128 + k.val, by omega⟩
      = enc2 (a := 45) (b := 90) lhJ rfl rfl rfl W (fun i => x (ix3 b t i)) (fun i => r (ix3 b t i)) k := by
  unfold encOf enc2
  simp only [hx, hr, hs, stack_lh, bias_lh, he, hb]
  rw [sum_pick _ _ pos_inj_lh rowX 228 _ (fun i : Fin 45 => (⟨i.val, by omega⟩ : Fin 135)) rowX_lh (miss_of _ _ _ missX_lh),
    sum_pick _ _ rot_inj_lh rowR 228 _ (fun i : Fin 90 => (⟨45 + i.val, by omega⟩ : Fin 135)) rowR_lh (miss_of _ _ _ missR_lh),
    sum_none _ rowS 228 _ missS_lh, add_zero]

theorem encOf_rh (W : Weights 135) (he : ∀ i k, W.enc i k = e4 (ix2 i k)) (hb : ∀ k, W.encB k = b4 (ix1 k)) :
    encOf x r s wx wr ws (biasOf b1 b2 b3 b4) b t ⟨192 + k.val, by omega⟩
      = enc2 (a := 45) (b := 90) rhJ rfl rfl rfl W (fun i => x (ix3 b t i)) (fun i => r (ix3 b t i)) k := by
  unfold encOf enc2
  simp only [hx, hr, hs, stack_rh, bias_rh, he, hb]
  rw [sum_pick _ _ pos_inj_rh rowX 363 _ (fun i : Fin 45 => (⟨i.val, by omega⟩ : Fin 135)) rowX_rh (miss_of _ _ _ missX_rh),
    sum_pick _ _ rot_inj_rh rowR 363 _ (fun i : Fin 90 => (⟨45 + i.val, by omega⟩ : Fin 135)) rowR_rh (miss_of _ _ _ missR_rh),
    sum_none _ rowS 363 _ missS_rh, add_zero]

end

end Cert.KernelIdeal.Val

end
-- ==== Proof.KerTab.lean ====
/-
The decoded tables at an entry, and the output channels they fill.
-/
module

public import proofs.«01_k».proof.Proof.KerHost
public import proofs.«01_k».proof.Proof.KerOut
public import proofs.«01_k».proof.Proof.Model

@[expose] public section

set_option maxRecDepth 16384

noncomputable section

namespace Cert.KernelIdeal.Val

open Cert.KernelIdeal Cert.KernelIdeal.Gen Idealize.ShloMosaic Cert.Vq

/-! ## The masks -/

/-- A table column of the first decoder that is kept. -/
def onUp (j : Fin 225) : Prop := lit4 j = 0x3F800000#32 ∧ lit5 j = 0x3F800000#32
/-- One that is zero. -/
def offUp (j : Fin 225) : Prop := lit4 j = 0x00000000#32 ∧ lit5 j = 0x00000000#32
/-- A table column of the second decoder that is kept. -/
def onDn (j : Fin 111) : Prop := lit7 j = 0x3F800000#32 ∧ lit8 j = 0x3F800000#32
/-- One that is zero. -/
def offDn (j : Fin 111) : Prop := lit7 j = 0x00000000#32 ∧ lit8 j = 0x00000000#32

instance (j : Fin 225) : Decidable (onUp j) := inferInstanceAs (Decidable (_ ∧ _))
instance (j : Fin 225) : Decidable (offUp j) := inferInstanceAs (Decidable (_ ∧ _))
instance (j : Fin 111) : Decidable (onDn j) := inferInstanceAs (Decidable (_ ∧ _))
instance (j : Fin 111) : Decidable (offDn j) := inferInstanceAs (Decidable (_ ∧ _))

/-! ## The tables -/

section
variable (cb : FVec Ideal S512x64 .f32)

/-- The columns the first table is decoded with. -/
abbrev colsUp (w : FVec Ideal S64x144 .f32) : FVec Ideal S64x225 .f32 :=
  pickUp w (constantI S225 1 0#1) (fun i : S225.Idx => lit3 (S225.rowMajor i))
    (broadcastInDim S1x225 ![1] bcast_S225_S1x225_1 (fun i : S225.Idx => Ideal.ofBits .f32 (lit4 (S225.rowMajor i))))

/-- Its bias. -/
abbrev biasUp (b : FVec Ideal S144 .f32) : FVec Ideal S1x225 .f32 :=
  pickUpB b (constantI S225 1 0#1) (fun i : S225.Idx => lit3 (S225.rowMajor i)) (fun i : S225.Idx => Ideal.ofBits .f32 (lit5 (S225.rowMajor i)))

/-- The columns the second table is decoded with. -/
abbrev colsDn (w : FVec Ideal S64x84 .f32) : FVec Ideal S64x111 .f32 :=
  pickDn w (constantI S111 1 0#1) (fun i : S111.Idx => lit6 (S111.rowMajor i))
    (broadcastInDim S1x111 ![1] bcast_S111_S1x111_1 (fun i : S111.Idx => Ideal.ofBits .f32 (lit7 (S111.rowMajor i))))

/-- Its bias. -/
abbrev biasDn (b : FVec Ideal S84 .f32) : FVec Ideal S1x111 .f32 :=
  pickDnB b (constantI S111 1 0#1) (fun i : S111.Idx => lit6 (S111.rowMajor i)) (fun i : S111.Idx => Ideal.ofBits .f32 (lit8 (S111.rowMajor i)))

theorem colsUp_at (w : FVec Ideal S64x144 .f32) (x : Fin 64) (j : Fin 225) :
    colsUp w (ix2 x j) = w (ix2 x (colUp j)) * Ideal.ofBits .f32 (lit4 j) := by
  have e : S225.rowMajor (ix1 j) = j := Fin.ext (Shape.rowMajor_val_one _)
  pointwise [colsUp, pickUp]
  rw [Index.gather_cols (by omega) _ rfl rfl rfl rfl rfl rfl rfl, starts225_at, e]
  rfl

theorem biasUp_at (b : FVec Ideal S144 .f32) (j : Fin 225) :
    biasUp b (ix2 0 j) = b (ix1 (colUp j)) * Ideal.ofBits .f32 (lit5 j) := by
  have e : S225.rowMajor (ix1 j) = j := Fin.ext (Shape.rowMajor_val_one _)
  pointwise [biasUp, pickUpB]
  rw [Index.gather_entries (by omega) _ rfl rfl rfl rfl rfl rfl rfl, starts225_at, e]
  rfl

theorem colsDn_at (w : FVec Ideal S64x84 .f32) (x : Fin 64) (j : Fin 111) :
    colsDn w (ix2 x j) = w (ix2 x (colDn j)) * Ideal.ofBits .f32 (lit7 j) := by
  have e : S111.rowMajor (ix1 j) = j := Fin.ext (Shape.rowMajor_val_one _)
  pointwise [colsDn, pickDn]
  rw [Index.gather_cols (by omega) _ rfl rfl rfl rfl rfl rfl rfl, starts111_at, e]
  rfl

theorem biasDn_at (b : FVec Ideal S84 .f32) (j : Fin 111) :
    biasDn b (ix2 0 j) = b (ix1 (colDn j)) * Ideal.ofBits .f32 (lit8 j) := by
  have e : S111.rowMajor (ix1 j) = j := Fin.ext (Shape.rowMajor_val_one _)
  pointwise [biasDn, pickDnB]
  rw [Index.gather_entries (by omega) _ rfl rfl rfl rfl rfl rfl rfl, starts111_at, e]
  rfl

theorem tabUp_at (w : FVec Ideal S64x225 .f32) (b : FVec Ideal S1x225 .f32) (k : Fin 512) (j : Fin 225) :
    k0_pay4 (F := Ideal) cb w b (ix2 k j) = ∑ x : Fin 64, cb (ix2 k x) * w (ix2 x j) + b (ix2 0 j) := by
  pointwise [k0_pay4]

theorem tabDn_at (w : FVec Ideal S64x111 .f32) (b : FVec Ideal S1x111 .f32) (k : Fin 512) (j : Fin 111) :
    k0_pay5 (F := Ideal) cb w b (ix2 k j) = ∑ x : Fin 64, cb (ix2 k x) * w (ix2 x j) + b (ix2 0 j) := by
  pointwise [k0_pay5]

variable (k : Fin 512)

theorem up_on (e) (eb) (w : FVec Ideal S64x144 .f32) (b : FVec Ideal S144 .f32) (j : Fin 225) (h : onUp j) :
    k0_pay4 (F := Ideal) cb (colsUp w) (biasUp b) (ix2 k j) = decoded (weightsOf e eb cb w b) k (colUp j) := by
  rw [tabUp_at, biasUp_at, h.2, lit_one, mul_one]
  simp only [colsUp_at, h.1, lit_one, mul_one]
  rfl

theorem up_off (w : FVec Ideal S64x144 .f32) (b : FVec Ideal S144 .f32) (j : Fin 225) (h : offUp j) :
    k0_pay4 (F := Ideal) cb (colsUp w) (biasUp b) (ix2 k j) = 0 := by
  rw [tabUp_at, biasUp_at, h.2, lit_zero, mul_zero]
  simp only [colsUp_at, h.1, lit_zero, mul_zero, Finset.sum_const_zero, add_zero]

theorem dn_on (e) (eb) (w : FVec Ideal S64x84 .f32) (b : FVec Ideal S84 .f32) (j : Fin 111) (h : onDn j) :
    k0_pay5 (F := Ideal) cb (colsDn w) (biasDn b) (ix2 k j) = decoded (weightsOf e eb cb w b) k (colDn j) := by
  rw [tabDn_at, biasDn_at, h.2, lit_one, mul_one]
  simp only [colsDn_at, h.1, lit_one, mul_one]
  rfl

theorem dn_off (w : FVec Ideal S64x84 .f32) (b : FVec Ideal S84 .f32) (j : Fin 111) (h : offDn j) :
    k0_pay5 (F := Ideal) cb (colsDn w) (biasDn b) (ix2 k j) = 0 := by
  rw [tabDn_at, biasDn_at, h.2, lit_zero, mul_zero]
  simp only [colsDn_at, h.1, lit_zero, mul_zero, Finset.sum_const_zero, add_zero]

theorem tabLh_at (e) (eb) (w : FVec Ideal S64x135 .f32) (b : FVec Ideal S135 .f32) (j : Fin 90) :
    k0_pay6 (F := Ideal) cb (rotW w) (rotB b) (ix2 k j) = decoded (weightsOf e eb cb w b) k ⟨45 + j.val, by omega⟩ := by
  pointwise [k0_pay6, rotW, rotB]
  rfl

theorem tabRh_at (e) (eb) (w : FVec Ideal S64x135 .f32) (b : FVec Ideal S135 .f32) (j : Fin 90) :
    k0_pay7 (F := Ideal) cb (rotW w) (rotB b) (ix2 k j) = decoded (weightsOf e eb cb w b) k ⟨45 + j.val, by omega⟩ := by
  pointwise [k0_pay7, rotW, rotB]
  rfl

/-- A scaled codebook. -/
theorem scale_up (x : Fin 64) : k0_pay8 (F := Ideal) cb (ix2 k x) = Ideal.ofBits .f32 0xC0000000#32 * cb (ix2 k x) := by
  pointwise [k0_pay8]

theorem scale_dn (x : Fin 64) : k0_pay10 (F := Ideal) cb (ix2 k x) = Ideal.ofBits .f32 0xC0000000#32 * cb (ix2 k x) := by
  pointwise [k0_pay10]

theorem scale_lh (x : Fin 64) : k0_pay12 (F := Ideal) cb (ix2 k x) = Ideal.ofBits .f32 0xC0000000#32 * cb (ix2 k x) := by
  pointwise [k0_pay12]

theorem scale_rh (x : Fin 64) : k0_pay2 (F := Ideal) cb (ix2 k x) = Ideal.ofBits .f32 0xC0000000#32 * cb (ix2 k x) := by
  pointwise [k0_pay2]

end

/-! ## The channels the tables fill -/

theorem fill_pos_up : ∀ i : Fin 48, (pos upJ rfl i).val < 75 ∧ ∀ h : (pos upJ rfl i).val < 75,
    onUp ⟨(pos upJ rfl i).val, by omega⟩ ∧ (colUp ⟨(pos upJ rfl i).val, by omega⟩).val = i.val
      ∧ ∀ h' : (pos upJ rfl i).val < 36, offDn ⟨(pos upJ rfl i).val, by omega⟩ := by decide +kernel

theorem fill_pos_dn : ∀ i : Fin 27, (pos dnJ rfl i).val < 36 ∧ ∀ h : (pos dnJ rfl i).val < 36,
    offUp ⟨(pos dnJ rfl i).val, by omega⟩ ∧ onDn ⟨(pos dnJ rfl i).val, by omega⟩
      ∧ (colDn ⟨(pos dnJ rfl i).val, by omega⟩).val = i.val := by decide +kernel

theorem fill_rot_up : ∀ i : Fin 96, (rot upJ rfl i).val < 150 ∧ ∀ h : (rot upJ rfl i).val < 150,
    onUp ⟨75 + (rot upJ rfl i).val, by omega⟩ ∧ (colUp ⟨75 + (rot upJ rfl i).val, by omega⟩).val = 48 + i.val
      ∧ ∀ h' : (rot upJ rfl i).val < 72, offDn ⟨36 + (rot upJ rfl i).val, by omega⟩ := by decide +kernel

theorem fill_rot_dn : ∀ i : Fin 54, (rot dnJ rfl i).val < 72 ∧ ∀ h : (rot dnJ rfl i).val < 72,
    offUp ⟨75 + (rot dnJ rfl i).val, by omega⟩ ∧ onDn ⟨36 + (rot dnJ rfl i).val, by omega⟩
      ∧ (colDn ⟨36 + (rot dnJ rfl i).val, by omega⟩).val = 27 + i.val := by decide +kernel

theorem fill_shift : ∀ i : Fin 3, onDn ⟨108 + i.val, by omega⟩ ∧ (colDn ⟨108 + i.val, by omega⟩).val = 81 + i.val := by decide +kernel

theorem at_rot_lh : ∀ i : Fin 90, (rot lhJ rfl i).val = 150 + i.val := by decide +kernel
theorem at_rot_rh : ∀ i : Fin 90, (rot rhJ rfl i).val = 240 + i.val := by decide +kernel
theorem at_pos_lh : ∀ i : Fin 45, 75 ≤ (pos lhJ rfl i).val := by decide +kernel
theorem at_pos_rh : ∀ i : Fin 45, 75 ≤ (pos rhJ rfl i).val := by decide +kernel

section
variable (x : Fin 165 → EReal) (u : Fin 225 → EReal) (d : Fin 111 → EReal) (l r : Fin 90 → EReal) (D : Fin 144 → EReal) (E : Fin 84 → EReal)

theorem posOf_up (h1 : ∀ j, onUp j → u j = D (colUp j)) (h0 : ∀ j, offDn j → d j = 0) (i : Fin 48) :
    posOf x u d (pos upJ rfl i) = D ⟨i.val, by omega⟩ := by
  obtain ⟨h, g⟩ := fill_pos_up i
  obtain ⟨g1, g2, g3⟩ := g h
  have e : u ⟨(pos upJ rfl i).val, by omega⟩ = D ⟨i.val, by omega⟩ := (h1 _ g1).trans (congrArg D (Fin.ext g2))
  unfold posOf
  by_cases h' : (pos upJ rfl i).val < 36
  · rw [dif_pos h', h0 _ (g3 h'), add_zero, e]
  · rw [dif_neg h', dif_pos h, e]

theorem posOf_dn (h1 : ∀ j, onDn j → d j = E (colDn j)) (h0 : ∀ j, offUp j → u j = 0) (i : Fin 27) :
    posOf x u d (pos dnJ rfl i) = E ⟨i.val, by omega⟩ := by
  obtain ⟨h, g⟩ := fill_pos_dn i
  obtain ⟨g1, g2, g3⟩ := g h
  unfold posOf
  rw [dif_pos h, h0 _ g1, zero_add]
  exact (h1 _ g2).trans (congrArg E (Fin.ext g3))

theorem posOf_hand (i : Fin 165) (h : 75 ≤ i.val) : posOf x u d i = x i := by
  unfold posOf
  rw [dif_neg (by omega), dif_neg (by omega)]

theorem rotOf_up (h1 : ∀ j, onUp j → u j = D (colUp j)) (h0 : ∀ j, offDn j → d j = 0) (i : Fin 96) :
    rotOf u d l r (rot upJ rfl i) = D ⟨48 + i.val, by omega⟩ := by
  obtain ⟨h, g⟩ := fill_rot_up i
  obtain ⟨g1, g2, g3⟩ := g h
  have e : u ⟨75 + (rot upJ rfl i).val, by omega⟩ = D ⟨48 + i.val, by omega⟩ := (h1 _ g1).trans (congrArg D (Fin.ext g2))
  unfold rotOf
  by_cases h' : (rot upJ rfl i).val < 72
  · rw [dif_pos h', h0 _ (g3 h'), add_zero, e]
  · rw [dif_neg h', dif_pos h, e]

theorem rotOf_dn (h1 : ∀ j, onDn j → d j = E (colDn j)) (h0 : ∀ j, offUp j → u j = 0) (i : Fin 54) :
    rotOf u d l r (rot dnJ rfl i) = E ⟨27 + i.val, by omega⟩ := by
  obtain ⟨h, g⟩ := fill_rot_dn i
  obtain ⟨g1, g2, g3⟩ := g h
  unfold rotOf
  rw [dif_pos h, h0 _ g1, zero_add]
  exact (h1 _ g2).trans (congrArg E (Fin.ext g3))

theorem rotOf_lh (i : Fin 90) : rotOf u d l r (rot lhJ rfl i) = l i := by
  have h := at_rot_lh i
  have h' := i.isLt
  unfold rotOf
  rw [dif_neg (by omega), dif_neg (by omega), dif_pos (by omega)]
  exact congrArg l (Fin.ext (by show (rot lhJ rfl i).val - 150 = i.val; omega))

theorem rotOf_rh (i : Fin 90) : rotOf u d l r (rot rhJ rfl i) = r i := by
  have h := at_rot_rh i
  unfold rotOf
  rw [dif_neg (by omega), dif_neg (by omega), dif_neg (by omega)]
  exact congrArg r (Fin.ext (by show (rot rhJ rfl i).val - 240 = i.val; omega))

end

end Cert.KernelIdeal.Val

end
-- ==== Proof.KerPrep.lean ====
/-
The first call: the decoded tables, the scaled codebooks and the codebook rows' squares it leaves.
-/
module

public import proofs.«01_k».proof.Proof.Frame
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic
open Cert.KernelIdeal Cert.KernelIdeal.Gen
open Idealize.ShloMosaic.Pipeline (Dat)

variable (V : (c : Dev nD) → (b : Ref sig .tc) → Buf (Elt Ideal) ((c : Thread nD τ).loc b))

/-- The only point's blocks are the whole arrays. -/
theorem idx0 : ∀ t : Fin cfg0.N, win0_0.index t = ![0, 0] ∧ win0_1.index t = ![0, 0] ∧ win0_2.index t = ![0, 0] ∧ win0_3.index t = ![0, 0] ∧ win0_4.index t = ![0, 0] ∧ win0_5.index t = ![0, 0] ∧ win0_6.index t = ![0, 0] ∧ win0_7.index t = ![0, 0] ∧ win0_8.index t = ![0, 0] ∧ win0_9.index t = ![0, 0] ∧ win0_10.index t = ![0, 0] ∧ win0_11.index t = ![0, 0] ∧ win0_12.index t = ![0, 0] ∧ win0_13.index t = ![0, 0] ∧ win0_14.index t = ![0, 0] ∧ win0_15.index t = ![0, 0] ∧ win0_16.index t = ![0, 0] ∧ win0_17.index t = ![0, 0] ∧ win0_18.index t = ![0, 0] ∧ win0_19.index t = ![0, 0] ∧ win0_20.index t = ![0, 0] := (by decide +kernel : ∀ t : Fin grid0.N, _)

/-- The decoded table of the first codebook. -/
theorem prep_t_up (c : Dev nD) : (dat0 V c).arrAt 12 cfg0.N = k0_pay4 (V c main_arg5) (V c main_v26) (V c main_v33) := by
  refine (dat0 V c).arrAt_eq_of_after_last 12 t0_0 (by decide +kernel) _ fun j => ?_
  blk_simp
  rw [after0_12]
  frame_out
  blk_point [iblk0, idx0 t0_0]

/-- The decoded table of the second codebook. -/
theorem prep_t_dn (c : Dev nD) : (dat0 V c).arrAt 13 cfg0.N = k0_pay5 (V c main_arg10) (V c main_v40) (V c main_v47) := by
  refine (dat0 V c).arrAt_eq_of_after_last 13 t0_0 (by decide +kernel) _ fun j => ?_
  blk_simp
  rw [after0_13]
  frame_out
  blk_point [iblk0, idx0 t0_0]

/-- The decoded table of the third codebook. -/
theorem prep_t_lh (c : Dev nD) : (dat0 V c).arrAt 14 cfg0.N = k0_pay6 (V c main_arg15) (V c main_v48) (V c main_v50) := by
  refine (dat0 V c).arrAt_eq_of_after_last 14 t0_0 (by decide +kernel) _ fun j => ?_
  blk_simp
  rw [after0_14]
  frame_out
  blk_point [iblk0, idx0 t0_0]

/-- The decoded table of the fourth codebook. -/
theorem prep_t_rh (c : Dev nD) : (dat0 V c).arrAt 15 cfg0.N = k0_pay7 (V c main_arg20) (V c main_v51) (V c main_v53) := by
  refine (dat0 V c).arrAt_eq_of_after_last 15 t0_0 (by decide +kernel) _ fun j => ?_
  blk_simp
  rw [after0_15]
  frame_out
  blk_point [iblk0, idx0 t0_0]

/-- The first codebook, scaled. -/
theorem prep_m_up (c : Dev nD) : (dat0 V c).arrAt 16 cfg0.N = k0_pay8 (V c main_arg5) := by
  refine (dat0 V c).arrAt_eq_of_after_last 16 t0_0 (by decide +kernel) _ fun j => ?_
  blk_simp
  rw [after0_16]
  frame_out
  blk_point [iblk0, idx0 t0_0]

/-- The second codebook, scaled. -/
theorem prep_m_dn (c : Dev nD) : (dat0 V c).arrAt 17 cfg0.N = k0_pay10 (V c main_arg10) := by
  refine (dat0 V c).arrAt_eq_of_after_last 17 t0_0 (by decide +kernel) _ fun j => ?_
  blk_simp
  rw [after0_17]
  frame_out
  blk_point [iblk0, idx0 t0_0]

/-- The third codebook, scaled. -/
theorem prep_m_lh (c : Dev nD) : (dat0 V c).arrAt 18 cfg0.N = k0_pay12 (V c main_arg15) := by
  refine (dat0 V c).arrAt_eq_of_after_last 18 t0_0 (by decide +kernel) _ fun j => ?_
  blk_simp
  rw [after0_18]
  frame_out
  blk_point [iblk0, idx0 t0_0]

/-- The fourth codebook, scaled. -/
theorem prep_m_rh (c : Dev nD) : (dat0 V c).arrAt 19 cfg0.N = k0_pay2 (V c main_arg20) := by
  refine (dat0 V c).arrAt_eq_of_after_last 19 t0_0 (by decide +kernel) _ fun j => ?_
  blk_simp
  rw [after0_19]
  frame_out
  blk_point [iblk0, idx0 t0_0]

end Cert.KernelIdeal.Val

end
-- ==== Proof.KerCn.lean ====
/-
The first call: the decoded tables, the scaled codebooks and the codebook rows' squares it leaves.
-/
module

public import proofs.«01_k».proof.Proof.KerPrep
public import Idealize.ShloMosaic.Lib.Pipeline.ValueKit

@[expose] public section

set_option maxRecDepth 16384

noncomputable section

namespace Cert.KernelIdeal.Val

open Idealize.ShloMosaic Idealize.ShloMosaic.TcCoe Idealize.ShloMosaic.Tactic
open Cert.KernelIdeal Cert.KernelIdeal.Gen
open Idealize.ShloMosaic.Pipeline (Dat)

variable (V : (c : Dev nD) → (b : Ref sig .tc) → Buf (Elt Ideal) ((c : Thread nD τ).loc b))

/-- The squares of the codebooks' rows, a codebook a row. -/
def squares (cb : Fin 4 → S512x64.Idx → EReal) (i : S4x512.Idx) : EReal :=
  ∑ x : Fin 64, cb (i 0) (ix2 (i 1) x) * cb (i 0) (ix2 (i 1) x)

/-- A row's square at a stored row's index. -/
theorem squares_row (cb : Fin 4 → S512x64.Idx → EReal) (j : S4x512.Idx) (x : S1x512.Idx) (p : Fin 4)
    (h0 : (j 0).val = p.val) (h1 : (j 1).val = (x 1).val) :
    squares cb j = ∑ y : Fin 64, cb p (ix2 (x 1) y) * cb p (ix2 (x 1) y) := by
  obtain rfl : j 0 = p := Fin.ext h0
  obtain e : j 1 = x 1 := Fin.ext h1
  unfold squares
  rw [e]

/-- The stored squares of each codebook. -/
theorem cn_rows (a : S512x64.Idx → EReal) (x : S1x512.Idx) :
    k0_pay3 (F := Ideal) a x = ∑ y : Fin 64, a (ix2 (x 1) y) * a (ix2 (x 1) y)
      ∧ k0_pay1 (F := Ideal) (k0_pay13 a) x = ∑ y : Fin 64, a (ix2 (x 1) y) * a (ix2 (x 1) y)
      ∧ k0_pay11 (F := Ideal) a x = ∑ y : Fin 64, a (ix2 (x 1) y) * a (ix2 (x 1) y)
      ∧ k0_pay9 (F := Ideal) a x = ∑ y : Fin 64, a (ix2 (x 1) y) * a (ix2 (x 1) y) := by
  refine ⟨?_, ?_, ?_, ?_⟩
  · pointwise [k0_pay3]
  · pointwise [k0_pay1, k0_pay13]
  · pointwise [k0_pay11]
  · pointwise [k0_pay9]

/-- The rows' squares at a block index. -/
theorem cn_point (a b c d : S512x64.Idx → EReal) (j : S4x512.Idx) :
    (View.canon [⟨r0_13, k0_pay3 (F := Ideal) d⟩, ⟨r0_12, k0_pay1 (F := Ideal) (k0_pay13 c)⟩, ⟨r0_11, k0_pay11 (F := Ideal) b⟩, ⟨r0_10, k0_pay9 (F := Ideal) a⟩] : Vec Ideal S4x512 .f32) j
      = squares ![a, b, c, d] j := by
  canon_tiles x h
  · exact (cn_rows d x).1.trans (squares_row ![a, b, c, d] j x 3 (by omega) h1).symm
  · exact (cn_rows c x).2.1.trans (squares_row ![a, b, c, d] j x 2 (by omega) h1).symm
  · exact (cn_rows b x).2.2.1.trans (squares_row ![a, b, c, d] j x 1 (by omega) h1).symm
  · exact (cn_rows a x).2.2.2.trans (squares_row ![a, b, c, d] j x 0 (by omega) h1).symm

/-- The rows' squares. -/
theorem prep_cn (c : Dev nD) :
    (dat0 V c).arrAt 20 cfg0.N = squares ![V c main_arg5, V c main_arg10, V c main_arg15, V c main_arg20] := by
  refine (dat0 V c).arrAt_eq_of_after_last 20 t0_0 (by decide +kernel) _ fun j => ?_
  blk_simp
  rw [after0_20]
  frame_out
  have e0 : (iblk0 V c 0 t0_0 : S512x64.Idx → EReal) = V c main_arg5 := by funext k; blk_point [iblk0, idx0 t0_0]
  have e1 : (iblk0 V c 1 t0_0 : S512x64.Idx → EReal) = V c main_arg10 := by funext k; blk_point [iblk0, idx0 t0_0]
  have e2 : (iblk0 V c 2 t0_0 : S512x64.Idx → EReal) = V c main_arg15 := by funext k; blk_point [iblk0, idx0 t0_0]
  have e3 : (iblk0 V c 3 t0_0 : S512x64.Idx → EReal) = V c main_arg20 := by funext k; blk_point [iblk0, idx0 t0_0]
  refine (cn_point (iblk0 V c 0 t0_0) (iblk0 V c 1 t0_0) (iblk0 V c 2 t0_0) (iblk0 V c 3 t0_0) j).trans ?_
  rw [e0, e1, e2, e3]

end Cert.KernelIdeal.Val

end
-- ==== Proof.Loss.lean ====
/-
The loss of a row's four least scores and its encodings' squares.
-/
module

public import proofs.«01_k».proof.Proof.Model

@[expose] public section

noncomputable section

namespace Cert.Vq

open Idealize.ShloMosaic

/-- The loss of a finite sum of squared errors. -/
theorem lossIn_coe (a : ℝ) : lossIn (a : EReal) = ((5 / 8388608 * a : ℝ) : EReal) := by
  have h : Ideal.div (a : EReal) (Ideal.ofBits .f32 0x4A000000#32) = ((a / 2097152 : ℝ) : EReal) := by
    rw [lit_count, Ideal.div, if_neg (fun e => by rw [← EReal.coe_zero, EReal.coe_eq_coe_iff] at e; norm_num at e), ← EReal.coe_inv, ← EReal.coe_mul]
    exact congrArg _ (by ring)
  rw [lossIn, h, lit_quarter, ← EReal.coe_mul, ← EReal.coe_add]
  exact congrArg _ (by ring)

/-- The row of a block's row. -/
def row (t : Fin 32) (r : Fin 1024) : Fin 32768 := ⟨t.val * 1024 + r.val, by omega⟩

theorem sum_row (f : Fin 32768 → ℝ) : ∑ t, ∑ r, f (row t r) = ∑ n, f n := by
  rw [← Fintype.sum_prod_type']
  refine Fintype.sum_equiv (finProdFinEquiv (m := 32) (n := 1024)) _ _ fun p => congrArg f (Fin.ext ?_)
  show p.1.val * 1024 + p.2.val = p.2.val + 1024 * p.1.val
  omega

/-- The weighted sums over blocks are the parts' losses. -/
theorem loss_blocks (e1 e2 e3 e4 : Fin 32768 → EReal) (h1 : ∀ n, Real' (e1 n)) (h2 : ∀ n, Real' (e2 n)) (h3 : ∀ n, Real' (e3 n))
    (h4 : ∀ n, Real' (e4 n)) :
    ∑ t : Fin 32, Ideal.ofBits .f32 0x35200000#32 * ∑ r : Fin 1024, (e1 (row t r) + e2 (row t r) + e3 (row t r) + e4 (row t r))
      = lossIn (∑ n, e1 n) + lossIn (∑ n, e2 n) + lossIn (∑ n, e3 n) + lossIn (∑ n, e4 n) := by
  choose f1 g1 using h1
  choose f2 g2 using h2
  choose f3 g3 using h3
  choose f4 g4 using h4
  simp only [g1, g2, g3, g4, lit_weight, ← EReal.coe_add, coe_sum, ← EReal.coe_mul, lossIn_coe]
  refine congrArg _ ?_
  rw [← Finset.mul_sum]
  simp only [Finset.sum_add_distrib, sum_row]
  ring

/-- A sum over four pieces. -/
theorem sum_four (a b c d : ℕ) {n : ℕ} (h : n = a + b + c + d) (f : Fin n → EReal) :
    ∑ i, f i = ∑ i : Fin a, f ⟨i.val, by omega⟩ + ∑ i : Fin b, f ⟨a + i.val, by omega⟩ + ∑ i : Fin c, f ⟨a + b + i.val, by omega⟩
      + ∑ i : Fin d, f ⟨a + b + c + i.val, by omega⟩ := by
  subst h
  rw [Fin.sum_univ_add, Fin.sum_univ_add, Fin.sum_univ_add]
  rfl

/-- A sum over 256 channels, by the four parts. -/
theorem sum_parts (f : Fin 256 → EReal) : ∑ k, f k = ∑ x : Fin 64, f ⟨x.val, by omega⟩ + ∑ x : Fin 64, f ⟨64 + x.val, by omega⟩
    + ∑ x : Fin 64, f ⟨128 + x.val, by omega⟩ + ∑ x : Fin 64, f ⟨192 + x.val, by omega⟩ := sum_four 64 64 64 64 rfl f

namespace Args
variable {A : Args} (h : A.Finite)
include h

theorem errUp_eq (n : Fin 32768) : A.errUp n = ∑ x, A.zUp (rb n) (rt n) x * A.zUp (rb n) (rt n) x
    + score (A.zUp (rb n) (rt n)) A.up.book (A.kUp (rb n) (rt n)) := error_eq (fun x => h.zUp _ _ x) h.up.book _
theorem errDn_eq (n : Fin 32768) : A.errDn n = ∑ x, A.zDn (rb n) (rt n) x * A.zDn (rb n) (rt n) x
    + score (A.zDn (rb n) (rt n)) A.dn.book (A.kDn (rb n) (rt n)) := error_eq (fun x => h.zDn _ _ x) h.dn.book _
theorem errLh_eq (n : Fin 32768) : A.errLh n = ∑ x, A.zLh (rb n) (rt n) x * A.zLh (rb n) (rt n) x
    + score (A.zLh (rb n) (rt n)) A.lh.book (A.kLh (rb n) (rt n)) := error_eq (fun x => h.zLh _ _ x) h.lh.book _
theorem errRh_eq (n : Fin 32768) : A.errRh n = ∑ x, A.zRh (rb n) (rt n) x * A.zRh (rb n) (rt n) x
    + score (A.zRh (rb n) (rt n)) A.rh.book (A.kRh (rb n) (rt n)) := error_eq (fun x => h.zRh _ _ x) h.rh.book _

omit h in
theorem real_add {z : Fin 64 → EReal} {s : EReal} (hz : ∀ x, Real' (z x)) (hs : Real' s) : Real' (∑ x, z x * z x + s) :=
  (Real'.sum fun x => (hz x).mul (hz x)).add hs

/-- The loss, block by block: the encodings' squares and the four least scores. -/
theorem loss_eq (z : Fin 32768 → Fin 256 → EReal)
    (h1 : ∀ n x, z n ⟨x.val, by omega⟩ = A.zUp (rb n) (rt n) x) (h2 : ∀ n x, z n ⟨64 + x.val, by omega⟩ = A.zDn (rb n) (rt n) x)
    (h3 : ∀ n x, z n ⟨128 + x.val, by omega⟩ = A.zLh (rb n) (rt n) x) (h4 : ∀ n x, z n ⟨192 + x.val, by omega⟩ = A.zRh (rb n) (rt n) x)
    (l1 l2 l3 l4 : Fin 32768 → EReal)
    (g1 : ∀ n, l1 n = score (A.zUp (rb n) (rt n)) A.up.book (A.kUp (rb n) (rt n)))
    (g2 : ∀ n, l2 n = score (A.zDn (rb n) (rt n)) A.dn.book (A.kDn (rb n) (rt n)))
    (g3 : ∀ n, l3 n = score (A.zLh (rb n) (rt n)) A.lh.book (A.kLh (rb n) (rt n)))
    (g4 : ∀ n, l4 n = score (A.zRh (rb n) (rt n)) A.rh.book (A.kRh (rb n) (rt n))) :
    ∑ t : Fin 32, Ideal.ofBits .f32 0x35200000#32 * (∑ r : Fin 1024, ∑ k, z (row t r) k * z (row t r) k + ∑ r, l1 (row t r) + ∑ r, l2 (row t r)
      + ∑ r, l3 (row t r) + ∑ r, l4 (row t r)) = A.loss := by
  refine Eq.trans ?_ (loss_blocks A.errUp A.errDn A.errLh A.errRh
    (fun n => by rw [errUp_eq h]; exact real_add (fun x => h.zUp _ _ x) (score_real (fun x => h.zUp _ _ x) h.up.book _))
    (fun n => by rw [errDn_eq h]; exact real_add (fun x => h.zDn _ _ x) (score_real (fun x => h.zDn _ _ x) h.dn.book _))
    (fun n => by rw [errLh_eq h]; exact real_add (fun x => h.zLh _ _ x) (score_real (fun x => h.zLh _ _ x) h.lh.book _))
    (fun n => by rw [errRh_eq h]; exact real_add (fun x => h.zRh _ _ x) (score_real (fun x => h.zRh _ _ x) h.rh.book _)))
  refine Finset.sum_congr rfl fun t _ => congrArg _ ?_
  simp only [← Finset.sum_add_distrib]
  refine Finset.sum_congr rfl fun r _ => ?_
  rw [sum_parts, errUp_eq h, errDn_eq h, errLh_eq h, errRh_eq h, g1, g2, g3, g4]
  simp only [h1, h2, h3, h4]
  abel

end Args

end Cert.Vq

end
-- ==== Proof.KerEq.lean ====
/-
The kernel's results as the autoencoder in plain functions.
-/
module

public import proofs.«01_k».proof.Proof.KerEnc
public import proofs.«01_k».proof.Proof.KerTab
public import proofs.«01_k».proof.Proof.KerCn
public import proofs.«01_k».proof.Proof.Loss

@[expose] public section

set_option maxRecDepth 16384

noncomputable section

namespace Cert.KernelIdeal.Val

open Cert.KernelIdeal Cert.KernelIdeal.Gen Idealize.ShloMosaic Idealize.ShloMosaic.TcCoe Idealize.SL.Sem Idealize.ShloMosaic.StableHlo
open Cert.Vq

variable (m : (ℓ : Loc nD τ sig) → Buf (Elt Ideal) ℓ) (ρ : Dev nD → PrngReg) (c : Dev nD)

/-- The arguments in plain functions. -/
abbrev args : Args := argsOf (m ((c : Thread nD τ).loc main_arg0)) (m ((c : Thread nD τ).loc main_arg1)) (m ((c : Thread nD τ).loc main_arg2))
  (weightsOf (m ((c : Thread nD τ).loc main_arg3)) (m ((c : Thread nD τ).loc main_arg4)) (m ((c : Thread nD τ).loc main_arg5)) (m ((c : Thread nD τ).loc main_arg6)) (m ((c : Thread nD τ).loc main_arg7)))
  (weightsOf (m ((c : Thread nD τ).loc main_arg8)) (m ((c : Thread nD τ).loc main_arg9)) (m ((c : Thread nD τ).loc main_arg10)) (m ((c : Thread nD τ).loc main_arg11)) (m ((c : Thread nD τ).loc main_arg12)))
  (weightsOf (m ((c : Thread nD τ).loc main_arg13)) (m ((c : Thread nD τ).loc main_arg14)) (m ((c : Thread nD τ).loc main_arg15)) (m ((c : Thread nD τ).loc main_arg16)) (m ((c : Thread nD τ).loc main_arg17)))
  (weightsOf (m ((c : Thread nD τ).loc main_arg18)) (m ((c : Thread nD τ).loc main_arg19)) (m ((c : Thread nD τ).loc main_arg20)) (m ((c : Thread nD τ).loc main_arg21)) (m ((c : Thread nD τ).loc main_arg22)))

/-! ## What the calls find -/

/-- The encoders side by side. -/
abbrev stackM : FVec Ideal S498x256 .f32 := stackOf (wideUp (m ((c : Thread nD τ).loc main_arg3))) (wideDn (m ((c : Thread nD τ).loc main_arg8)))
  (wideLh (m ((c : Thread nD τ).loc main_arg13))) (wideRh (m ((c : Thread nD τ).loc main_arg18)))

theorem at_stack : W2 m ρ c (Proc.devRef .tc main_v2) = stackM m c := by
  refine (host_v2 (W1 m ρ c)).trans ?_
  rw [W1_args m ρ c main_arg3 (by decide), W1_args m ρ c main_arg8 (by decide), W1_args m ρ c main_arg13 (by decide),
    W1_args m ρ c main_arg18 (by decide)]

theorem at_c : W2 m ρ c (Proc.devRef .tc main_c) = fun i : S165.Idx => lit0 (S165.rowMajor i) :=
  (W2_of m ρ c main_c (by decide)).trans (host_c (W0 m ρ c))
theorem at_c_0 : W2 m ρ c (Proc.devRef .tc main_c_0) = constantI S165 1 0#1 :=
  (W2_of m ρ c main_c_0 (by decide)).trans (host_c_0 (W0 m ρ c))
theorem at_c_1 : W2 m ρ c (Proc.devRef .tc main_c_1) = fun i : S330.Idx => lit1 (S330.rowMajor i) :=
  (W2_of m ρ c main_c_1 (by decide)).trans (host_c_1 (W0 m ρ c))
theorem at_c_2 : W2 m ρ c (Proc.devRef .tc main_c_2) = constantI S330 1 0#1 :=
  (W2_of m ρ c main_c_2 (by decide)).trans (host_c_2 (W0 m ρ c))
theorem at_c_3 : W2 m ρ c (Proc.devRef .tc main_c_3) = fun i : S3.Idx => lit2 (S3.rowMajor i) :=
  (W2_of m ρ c main_c_3 (by decide)).trans (host_c_3 (W0 m ρ c))
theorem at_c_4 : W2 m ρ c (Proc.devRef .tc main_c_4) = constantI S3 1 0#1 :=
  (W2_of m ρ c main_c_4 (by decide)).trans (host_c_4 (W0 m ρ c))
theorem at_c_5 : W2 m ρ c (Proc.devRef .tc main_c_5) = fun i : S225.Idx => lit3 (S225.rowMajor i) :=
  (W2_of m ρ c main_c_5 (by decide)).trans (host_c_5 (W0 m ρ c))
theorem at_c_6 : W2 m ρ c (Proc.devRef .tc main_c_6) = constantI S225 1 0#1 :=
  (W2_of m ρ c main_c_6 (by decide)).trans (host_c_6 (W0 m ρ c))
theorem at_v0 : W2 m ρ c (Proc.devRef .tc main_v0) = broadcastInDim S1x225 ![1] bcast_S225_S1x225_1 (fun i : S225.Idx => Ideal.ofBits .f32 (lit4 (S225.rowMajor i))) :=
  (W2_of m ρ c main_v0 (by decide)).trans (host_v0 (W0 m ρ c))
theorem at_c_7 : W2 m ρ c (Proc.devRef .tc main_c_7) = constantI S225 1 0#1 :=
  (W2_of m ρ c main_c_7 (by decide)).trans (host_c_7 (W0 m ρ c))
theorem at_cst_8 : W2 m ρ c (Proc.devRef .tc main_cst_8) = fun i : S225.Idx => Ideal.ofBits .f32 (lit5 (S225.rowMajor i)) :=
  (W2_of m ρ c main_cst_8 (by decide)).trans (host_cst_8 (W0 m ρ c))
theorem at_c_9 : W2 m ρ c (Proc.devRef .tc main_c_9) = fun i : S111.Idx => lit6 (S111.rowMajor i) :=
  (W2_of m ρ c main_c_9 (by decide)).trans (host_c_9 (W0 m ρ c))
theorem at_c_10 : W2 m ρ c (Proc.devRef .tc main_c_10) = constantI S111 1 0#1 :=
  (W2_of m ρ c main_c_10 (by decide)).trans (host_c_10 (W0 m ρ c))
theorem at_v1 : W2 m ρ c (Proc.devRef .tc main_v1) = broadcastInDim S1x111 ![1] bcast_S111_S1x111_1 (fun i : S111.Idx => Ideal.ofBits .f32 (lit7 (S111.rowMajor i))) :=
  (W2_of m ρ c main_v1 (by decide)).trans (host_v1 (W0 m ρ c))
theorem at_c_12 : W2 m ρ c (Proc.devRef .tc main_c_12) = constantI S111 1 0#1 :=
  (W2_of m ρ c main_c_12 (by decide)).trans (host_c_12 (W0 m ρ c))
theorem at_cst_13 : W2 m ρ c (Proc.devRef .tc main_cst_13) = fun i : S111.Idx => Ideal.ofBits .f32 (lit8 (S111.rowMajor i)) :=
  (W2_of m ρ c main_cst_13 (by decide)).trans (host_cst_13 (W0 m ρ c))

theorem row_x (i : Fin 165) (k : Fin 256) : V4 m ρ c main_v7 (ix2 i k) = stackM m c (ix2 (rowX i) k) := by
  have e := (W4_of m ρ c main_v7 (by decide +kernel)).trans (host_v7 (W2 m ρ c))
  rw [at_stack, at_c, at_c_0] at e
  refine (congrFun e (ix2 i k)).trans ?_
  rw [Index.gather_rows (by omega) _ rfl rfl rfl rfl rfl rfl rfl, starts165_at]
  rfl

theorem row_r (i : Fin 330) (k : Fin 256) : V4 m ρ c main_v12 (ix2 i k) = stackM m c (ix2 (rowR i) k) := by
  have e := (W4_of m ρ c main_v12 (by decide +kernel)).trans (host_v12 (W2 m ρ c))
  rw [at_stack, at_c_1, at_c_2] at e
  refine (congrFun e (ix2 i k)).trans ?_
  rw [Index.gather_rows (by omega) _ rfl rfl rfl rfl rfl rfl rfl, starts330_at]
  rfl

theorem row_s (i : Fin 3) (k : Fin 256) : V4 m ρ c main_v17 (ix2 i k) = stackM m c (ix2 (rowS i) k) := by
  have e := (W4_of m ρ c main_v17 (by decide +kernel)).trans (host_v17 (W2 m ρ c))
  rw [at_stack, at_c_3, at_c_4] at e
  refine (congrFun e (ix2 i k)).trans ?_
  rw [Index.gather_rows (by omega) _ rfl rfl rfl rfl rfl rfl rfl, starts3_at]
  rfl

theorem at_bias : V4 m ρ c main_v19 = biasOf (m ((c : Thread nD τ).loc main_arg4)) (m ((c : Thread nD τ).loc main_arg9))
    (m ((c : Thread nD τ).loc main_arg14)) (m ((c : Thread nD τ).loc main_arg19)) := by
  refine ((W4_of m ρ c main_v19 (by decide +kernel)).trans (host_v19 (W2 m ρ c))).trans ?_
  rw [W2_args m ρ c main_arg4 (by decide), W2_args m ρ c main_arg9 (by decide), W2_args m ρ c main_arg14 (by decide),
    W2_args m ρ c main_arg19 (by decide)]

theorem at_arg0 : V4 m ρ c main_arg0 = m ((c : Thread nD τ).loc main_arg0) := W4_args m ρ c main_arg0 (by decide)
theorem at_arg1 : V4 m ρ c main_arg1 = m ((c : Thread nD τ).loc main_arg1) := W4_args m ρ c main_arg1 (by decide)
theorem at_arg2 : V4 m ρ c main_arg2 = m ((c : Thread nD τ).loc main_arg2) := W4_args m ρ c main_arg2 (by decide)

/-- A codebook the first call finds. -/
theorem at_book (r : Ref sig .tc) (h : r ∈ argRefs) : V3 m ρ c r = m ((c : Thread nD τ).loc r) := W3_args m ρ c r h

theorem at_m_up : V4 m ρ c main_v54_4 = k0_pay8 (F := Ideal) (m ((c : Thread nD τ).loc main_arg5)) :=
  ((W4_arr m ρ c 16).trans (prep_m_up (V3 m ρ) c)).trans (congrArg k0_pay8 (at_book m ρ c main_arg5 (by decide)))

theorem at_m_dn : V4 m ρ c main_v54_5 = k0_pay10 (F := Ideal) (m ((c : Thread nD τ).loc main_arg10)) :=
  ((W4_arr m ρ c 17).trans (prep_m_dn (V3 m ρ) c)).trans (congrArg k0_pay10 (at_book m ρ c main_arg10 (by decide)))

theorem at_m_lh : V4 m ρ c main_v54_6 = k0_pay12 (F := Ideal) (m ((c : Thread nD τ).loc main_arg15)) :=
  ((W4_arr m ρ c 18).trans (prep_m_lh (V3 m ρ) c)).trans (congrArg k0_pay12 (at_book m ρ c main_arg15 (by decide)))

theorem at_m_rh : V4 m ρ c main_v54_7 = k0_pay2 (F := Ideal) (m ((c : Thread nD τ).loc main_arg20)) :=
  ((W4_arr m ρ c 19).trans (prep_m_rh (V3 m ρ) c)).trans (congrArg k0_pay2 (at_book m ρ c main_arg20 (by decide)))

theorem at_cn : V4 m ρ c main_v54_8 = squares ![m ((c : Thread nD τ).loc main_arg5), m ((c : Thread nD τ).loc main_arg10),
    m ((c : Thread nD τ).loc main_arg15), m ((c : Thread nD τ).loc main_arg20)] := by
  refine ((W4_arr m ρ c 20).trans (prep_cn (V3 m ρ) c)).trans ?_
  rw [at_book m ρ c main_arg5 (by decide), at_book m ρ c main_arg10 (by decide), at_book m ρ c main_arg15 (by decide),
    at_book m ρ c main_arg20 (by decide)]

theorem at_t_up : V4 m ρ c main_v54_0 = k0_pay4 (F := Ideal) (m ((c : Thread nD τ).loc main_arg5))
    (colsUp (m ((c : Thread nD τ).loc main_arg6))) (biasUp (m ((c : Thread nD τ).loc main_arg7))) := by
  have h1 : V3 m ρ c main_v26 = colsUp (m ((c : Thread nD τ).loc main_arg6)) := by
    refine (host_v26 (W2 m ρ c)).trans ?_
    rw [W2_args m ρ c main_arg6 (by decide), at_c_6, at_c_5, at_v0]
  have h2 : V3 m ρ c main_v33 = biasUp (m ((c : Thread nD τ).loc main_arg7)) := by
    refine (host_v33 (W2 m ρ c)).trans ?_
    rw [W2_args m ρ c main_arg7 (by decide), at_c_7, at_c_5, at_cst_8]
  refine ((W4_arr m ρ c 12).trans (prep_t_up (V3 m ρ) c)).trans ?_
  rw [at_book m ρ c main_arg5 (by decide), h1, h2]

theorem at_t_dn : V4 m ρ c main_v54_1 = k0_pay5 (F := Ideal) (m ((c : Thread nD τ).loc main_arg10))
    (colsDn (m ((c : Thread nD τ).loc main_arg11))) (biasDn (m ((c : Thread nD τ).loc main_arg12))) := by
  have h1 : V3 m ρ c main_v40 = colsDn (m ((c : Thread nD τ).loc main_arg11)) := by
    refine (host_v40 (W2 m ρ c)).trans ?_
    rw [W2_args m ρ c main_arg11 (by decide), at_c_10, at_c_9, at_v1]
  have h2 : V3 m ρ c main_v47 = biasDn (m ((c : Thread nD τ).loc main_arg12)) := by
    refine (host_v47 (W2 m ρ c)).trans ?_
    rw [W2_args m ρ c main_arg12 (by decide), at_c_12, at_c_9, at_cst_13]
  refine ((W4_arr m ρ c 13).trans (prep_t_dn (V3 m ρ) c)).trans ?_
  rw [at_book m ρ c main_arg10 (by decide), h1, h2]

theorem at_t_lh : V4 m ρ c main_v54_2 = k0_pay6 (F := Ideal) (m ((c : Thread nD τ).loc main_arg15))
    (rotW (m ((c : Thread nD τ).loc main_arg16))) (rotB (m ((c : Thread nD τ).loc main_arg17))) := by
  have h1 := (host_v48 (W2 m ρ c)).trans (congrArg rotW (W2_args m ρ c main_arg16 (by decide)))
  have h2 := (host_v50 (W2 m ρ c)).trans (congrArg rotB (W2_args m ρ c main_arg17 (by decide)))
  refine ((W4_arr m ρ c 14).trans (prep_t_lh (V3 m ρ) c)).trans ?_
  rw [at_book m ρ c main_arg15 (by decide), show V3 m ρ c main_v48 = _ from h1, show V3 m ρ c main_v50 = _ from h2]

theorem at_t_rh : V4 m ρ c main_v54_3 = k0_pay7 (F := Ideal) (m ((c : Thread nD τ).loc main_arg20))
    (rotW (m ((c : Thread nD τ).loc main_arg21))) (rotB (m ((c : Thread nD τ).loc main_arg22))) := by
  have h1 := (host_v51 (W2 m ρ c)).trans (congrArg rotW (W2_args m ρ c main_arg21 (by decide)))
  have h2 := (host_v53 (W2 m ρ c)).trans (congrArg rotB (W2_args m ρ c main_arg22 (by decide)))
  refine ((W4_arr m ρ c 15).trans (prep_t_rh (V3 m ρ) c)).trans ?_
  rw [at_book m ρ c main_arg20 (by decide), show V3 m ρ c main_v51 = _ from h1, show V3 m ρ c main_v53 = _ from h2]

/-! ## Encodings, entries, codes -/

section
variable (b : Fin 16) (t : Fin 2048)

theorem enc_up (x : Fin 64) : encAt (V4 m ρ) c b t ⟨x.val, by omega⟩ = (args m c).zUp b t x := by
  unfold encAt
  rw [at_bias, at_arg0, at_arg1, at_arg2]
  exact encOf_up _ _ _ _ _ _ _ _ _ _ _ _ _ _ (row_x m ρ c) (row_r m ρ c) (row_s m ρ c) b t x (args m c).up (fun _ _ => rfl) fun _ => rfl

theorem enc_dn (x : Fin 64) : encAt (V4 m ρ) c b t ⟨64 + x.val, by omega⟩ = (args m c).zDn b t x := by
  unfold encAt
  rw [at_bias, at_arg0, at_arg1, at_arg2]
  exact encOf_dn _ _ _ _ _ _ _ _ _ _ _ _ _ _ (row_x m ρ c) (row_r m ρ c) (row_s m ρ c) b t x (args m c).dn (fun _ _ => rfl) fun _ => rfl

theorem enc_lh (x : Fin 64) : encAt (V4 m ρ) c b t ⟨128 + x.val, by omega⟩ = (args m c).zLh b t x := by
  unfold encAt
  rw [at_bias, at_arg0, at_arg1, at_arg2]
  exact encOf_lh _ _ _ _ _ _ _ _ _ _ _ _ _ _ (row_x m ρ c) (row_r m ρ c) (row_s m ρ c) b t x (args m c).lh (fun _ _ => rfl) fun _ => rfl

theorem enc_rh (x : Fin 64) : encAt (V4 m ρ) c b t ⟨192 + x.val, by omega⟩ = (args m c).zRh b t x := by
  unfold encAt
  rw [at_bias, at_arg0, at_arg1, at_arg2]
  exact encOf_rh _ _ _ _ _ _ _ _ _ _ _ _ _ _ (row_x m ρ c) (row_r m ρ c) (row_s m ρ c) b t x (args m c).rh (fun _ _ => rfl) fun _ => rfl

/-- A part's entries are its scores. -/
theorem ent_score (w : S512x64.Idx → EReal) (p : Fin 4) (z : Fin 64 → EReal) (cb : Fin 512 → Fin 64 → EReal)
    (hz : ∀ x : Fin 64, encAt (V4 m ρ) c b t ⟨64 * p.val + x.val, by omega⟩ = z x)
    (hw : ∀ k x, w (ix2 k x) = Ideal.ofBits .f32 0xC0000000#32 * cb k x)
    (hc : ∀ k, V4 m ρ c main_v54_8 (ix2 p k) = ∑ x, cb k x * cb k x) :
    entAt (V4 m ρ) c w p b t = score z cb := by
  funext k
  unfold entAt score
  rw [hc]
  simp only [hz, hw]

theorem score_up : entAt (V4 m ρ) c (V4 m ρ c main_v54_4) 0 b t = score ((args m c).zUp b t) (args m c).up.book :=
  ent_score m ρ c b t _ 0 _ _ (fun x => (congrArg (encAt (V4 m ρ) c b t) (Fin.ext (by show 64 * 0 + x.val = x.val; omega))).trans (enc_up m ρ c b t x))
    (fun k x => (congrFun (at_m_up m ρ c) (ix2 k x)).trans (scale_up _ k x)) fun k => congrFun (at_cn m ρ c) (ix2 0 k)

theorem code_up : rowAt (V4 m ρ) c (V4 m ρ c main_v54_4) 0 b t = (args m c).kUp b t := congrArg firstMin (score_up m ρ c b t)

theorem score_dn : entAt (V4 m ρ) c (V4 m ρ c main_v54_5) 1 b t = score ((args m c).zDn b t) (args m c).dn.book :=
  ent_score m ρ c b t _ 1 _ _ (enc_dn m ρ c b t)
    (fun k x => (congrFun (at_m_dn m ρ c) (ix2 k x)).trans (scale_dn _ k x)) fun k => congrFun (at_cn m ρ c) (ix2 1 k)

theorem code_dn : rowAt (V4 m ρ) c (V4 m ρ c main_v54_5) 1 b t = (args m c).kDn b t := congrArg firstMin (score_dn m ρ c b t)

theorem score_lh : entAt (V4 m ρ) c (V4 m ρ c main_v54_6) 2 b t = score ((args m c).zLh b t) (args m c).lh.book :=
  ent_score m ρ c b t _ 2 _ _ (enc_lh m ρ c b t)
    (fun k x => (congrFun (at_m_lh m ρ c) (ix2 k x)).trans (scale_lh _ k x)) fun k => congrFun (at_cn m ρ c) (ix2 2 k)

theorem code_lh : rowAt (V4 m ρ) c (V4 m ρ c main_v54_6) 2 b t = (args m c).kLh b t := congrArg firstMin (score_lh m ρ c b t)

theorem score_rh : entAt (V4 m ρ) c (V4 m ρ c main_v54_7) 3 b t = score ((args m c).zRh b t) (args m c).rh.book :=
  ent_score m ρ c b t _ 3 _ _ (enc_rh m ρ c b t)
    (fun k x => (congrFun (at_m_rh m ρ c) (ix2 k x)).trans (scale_rh _ k x)) fun k => congrFun (at_cn m ρ c) (ix2 3 k)

theorem code_rh : rowAt (V4 m ρ) c (V4 m ρ c main_v54_7) 3 b t = (args m c).kRh b t := congrArg firstMin (score_rh m ρ c b t)

/-! ## The tables' rows -/

theorem up_kept (j : Fin 225) (h : onUp j) : upAt (V4 m ρ) c b t j = decoded (args m c).up ((args m c).kUp b t) (colUp j) := by
  unfold upAt
  rw [code_up, at_t_up]
  exact up_on _ _ _ _ _ _ j h

theorem up_zero (j : Fin 225) (h : offUp j) : upAt (V4 m ρ) c b t j = 0 := by
  unfold upAt
  rw [at_t_up]
  exact up_off _ _ _ _ j h

theorem dn_kept (j : Fin 111) (h : onDn j) : dnAt (V4 m ρ) c b t j = decoded (args m c).dn ((args m c).kDn b t) (colDn j) := by
  unfold dnAt
  rw [code_dn, at_t_dn]
  exact dn_on _ _ _ _ _ _ j h

theorem dn_zero (j : Fin 111) (h : offDn j) : dnAt (V4 m ρ) c b t j = 0 := by
  unfold dnAt
  rw [at_t_dn]
  exact dn_off _ _ _ _ j h

theorem lh_row (j : Fin 90) : lhAt (V4 m ρ) c b t j = decoded (args m c).lh ((args m c).kLh b t) ⟨45 + j.val, by omega⟩ := by
  unfold lhAt
  rw [code_lh, at_t_lh]
  exact tabLh_at _ _ _ _ _ _ j

theorem rh_row (j : Fin 90) : rhAt (V4 m ρ) c b t j = decoded (args m c).rh ((args m c).kRh b t) ⟨45 + j.val, by omega⟩ := by
  unfold rhAt
  rw [code_rh, at_t_rh]
  exact tabRh_at _ _ _ _ _ _ j

/-! ## The results -/

theorem x_at (i : Fin 165) : W6 m ρ c (Proc.devRef .tc main_v55_0) (ix3 b t i) = posOut (V4 m ρ) c b t i :=
  congrFun (((W6_of m ρ c main_v55_0 (by decide)).trans (W5_arr m ρ c 16)).trans (out_16 (V4 m ρ) c)) (ix3 b t i)

theorem r_at (i : Fin 330) : W6 m ρ c (Proc.devRef .tc main_v55_1) (ix3 b t i) = rotOut (V4 m ρ) c b t i :=
  congrFun (((W6_of m ρ c main_v55_1 (by decide)).trans (W5_arr m ρ c 17)).trans (out_17 (V4 m ρ) c)) (ix3 b t i)

theorem s_at (i : Fin 3) : W6 m ρ c (Proc.devRef .tc main_v55_2) (ix3 b t i) = shiftOut (V4 m ρ) c b t i :=
  congrFun (((W6_of m ρ c main_v55_2 (by decide)).trans (W5_arr m ρ c 18)).trans (out_18 (V4 m ρ) c)) (ix3 b t i)

theorem x_up (i : Fin 48) : W6 m ρ c (Proc.devRef .tc main_v55_0) (ix3 b t (pos upJ rfl i))
    = decoded (args m c).up ((args m c).kUp b t) ⟨i.val, by omega⟩ :=
  (x_at m ρ c b t _).trans (posOf_up _ _ _ (decoded (args m c).up ((args m c).kUp b t)) (up_kept m ρ c b t) (dn_zero m ρ c b t) i)

theorem x_dn (i : Fin 27) : W6 m ρ c (Proc.devRef .tc main_v55_0) (ix3 b t (pos dnJ rfl i))
    = decoded (args m c).dn ((args m c).kDn b t) ⟨i.val, by omega⟩ :=
  (x_at m ρ c b t _).trans (posOf_dn _ _ _ (decoded (args m c).dn ((args m c).kDn b t)) (dn_kept m ρ c b t) (up_zero m ρ c b t) i)

theorem x_hand (i : Fin 165) (h : 75 ≤ i.val) : W6 m ρ c (Proc.devRef .tc main_v55_0) (ix3 b t i) = (args m c).x b t i := by
  refine (x_at m ρ c b t _).trans ((posOf_hand _ _ _ i h).trans ?_)
  rw [at_arg0]
  rfl

theorem r_up (i : Fin 96) : W6 m ρ c (Proc.devRef .tc main_v55_1) (ix3 b t (rot upJ rfl i))
    = decoded (args m c).up ((args m c).kUp b t) ⟨48 + i.val, by omega⟩ :=
  (r_at m ρ c b t _).trans (rotOf_up _ _ _ _ (decoded (args m c).up ((args m c).kUp b t)) (up_kept m ρ c b t) (dn_zero m ρ c b t) i)

theorem r_dn (i : Fin 54) : W6 m ρ c (Proc.devRef .tc main_v55_1) (ix3 b t (rot dnJ rfl i))
    = decoded (args m c).dn ((args m c).kDn b t) ⟨27 + i.val, by omega⟩ :=
  (r_at m ρ c b t _).trans (rotOf_dn _ _ _ _ (decoded (args m c).dn ((args m c).kDn b t)) (dn_kept m ρ c b t) (up_zero m ρ c b t) i)

theorem r_lh (i : Fin 90) : W6 m ρ c (Proc.devRef .tc main_v55_1) (ix3 b t (rot lhJ rfl i))
    = decoded (args m c).lh ((args m c).kLh b t) ⟨45 + i.val, by omega⟩ :=
  (r_at m ρ c b t _).trans ((rotOf_lh _ _ _ _ i).trans (lh_row m ρ c b t i))

theorem r_rh (i : Fin 90) : W6 m ρ c (Proc.devRef .tc main_v55_1) (ix3 b t (rot rhJ rfl i))
    = decoded (args m c).rh ((args m c).kRh b t) ⟨45 + i.val, by omega⟩ :=
  (r_at m ρ c b t _).trans ((rotOf_rh _ _ _ _ i).trans (rh_row m ρ c b t i))

theorem s_dn (i : Fin 3) : W6 m ρ c (Proc.devRef .tc main_v55_2) (ix3 b t i)
    = decoded (args m c).dn ((args m c).kDn b t) ⟨81 + i.val, by omega⟩ := by
  refine (s_at m ρ c b t i).trans ?_
  obtain ⟨h1, h2⟩ := fill_shift i
  exact (dn_kept m ρ c b t _ h1).trans (congrArg (decoded (args m c).dn ((args m c).kDn b t)) (Fin.ext h2))

end

/-! ## The loss -/

theorem at_loss (i : S_.Idx) : W6 m ρ c (Proc.devRef .tc main_v56) i = ∑ t : Fin 32, Ideal.ofBits .f32 0x35200000#32 * share (V4 m ρ) c ⟨t.val, t.isLt⟩ := by
  have e : after hostOps2 (W5 m ρ c) (Proc.devRef .tc main_v56)
      = shapeCast S_ (W5 m ρ c (Proc.devRef .tc main_v55_3) : FVec Ideal S1x1 .f32) shapeCasts_S1x1_S_ := by
    generalize W5 m ρ c = U
    after_reads_simp
    rfl
  have h := (W5_arr m ρ c 19).trans (out_19 (V4 m ρ) c)
  refine (congrFun e i).trans ?_
  rw [show W5 m ρ c (Proc.devRef .tc main_v55_3) = _ from h]
  rfl

theorem bp_row (t : Fin 32) (r : Fin 1024) : bp ⟨t.val, t.isLt⟩ = rb (row t r) := Fin.ext (by simp only [bp, rb, row]; omega)

theorem tp_row (t : Fin 32) (r : Fin 1024) : tp ⟨t.val, t.isLt⟩ r = rt (row t r) := Fin.ext (by simp only [tp, rt, row]; omega)

/-- A sum over points and block rows, by batch row and time step. -/
theorem regroup (w : EReal) (E : Fin 16 → Fin 2048 → Fin 256 → EReal) (S1 S2 S3 S4 : Fin 16 → Fin 2048 → EReal) :
    (∑ t : Fin 32, w * (∑ r : Fin 1024, ∑ k, E (bp ⟨t.val, t.isLt⟩) (tp ⟨t.val, t.isLt⟩ r) k * E (bp ⟨t.val, t.isLt⟩) (tp ⟨t.val, t.isLt⟩ r) k
      + ∑ r, S1 (bp ⟨t.val, t.isLt⟩) (tp ⟨t.val, t.isLt⟩ r) + ∑ r, S2 (bp ⟨t.val, t.isLt⟩) (tp ⟨t.val, t.isLt⟩ r)
      + ∑ r, S3 (bp ⟨t.val, t.isLt⟩) (tp ⟨t.val, t.isLt⟩ r) + ∑ r, S4 (bp ⟨t.val, t.isLt⟩) (tp ⟨t.val, t.isLt⟩ r)))
    = ∑ t : Fin 32, w * (∑ r : Fin 1024, ∑ k, E (rb (row t r)) (rt (row t r)) k * E (rb (row t r)) (rt (row t r)) k
      + ∑ r, S1 (rb (row t r)) (rt (row t r)) + ∑ r, S2 (rb (row t r)) (rt (row t r))
      + ∑ r, S3 (rb (row t r)) (rt (row t r)) + ∑ r, S4 (rb (row t r)) (rt (row t r))) := by
  simp only [← bp_row, ← tp_row]

theorem loss_all (h : (args m c).Finite) (i : S_.Idx) : W6 m ρ c (Proc.devRef .tc main_v56) i = (args m c).loss := by
  refine (at_loss m ρ c i).trans ?_
  unfold share
  refine (regroup _ (encAt (V4 m ρ) c)
    (fun b t => entAt (V4 m ρ) c (V4 m ρ c main_v54_4) 0 b t (rowAt (V4 m ρ) c (V4 m ρ c main_v54_4) 0 b t))
    (fun b t => entAt (V4 m ρ) c (V4 m ρ c main_v54_5) 1 b t (rowAt (V4 m ρ) c (V4 m ρ c main_v54_5) 1 b t))
    (fun b t => entAt (V4 m ρ) c (V4 m ρ c main_v54_6) 2 b t (rowAt (V4 m ρ) c (V4 m ρ c main_v54_6) 2 b t))
    (fun b t => entAt (V4 m ρ) c (V4 m ρ c main_v54_7) 3 b t (rowAt (V4 m ρ) c (V4 m ρ c main_v54_7) 3 b t))).trans ?_
  exact Args.loss_eq h (fun n k => encAt (V4 m ρ) c (rb n) (rt n) k) (fun n => enc_up m ρ c (rb n) (rt n))
    (fun n => enc_dn m ρ c (rb n) (rt n)) (fun n => enc_lh m ρ c (rb n) (rt n)) (fun n => enc_rh m ρ c (rb n) (rt n))
    (fun n => entAt (V4 m ρ) c (V4 m ρ c main_v54_4) 0 (rb n) (rt n) (rowAt (V4 m ρ) c (V4 m ρ c main_v54_4) 0 (rb n) (rt n)))
    (fun n => entAt (V4 m ρ) c (V4 m ρ c main_v54_5) 1 (rb n) (rt n) (rowAt (V4 m ρ) c (V4 m ρ c main_v54_5) 1 (rb n) (rt n)))
    (fun n => entAt (V4 m ρ) c (V4 m ρ c main_v54_6) 2 (rb n) (rt n) (rowAt (V4 m ρ) c (V4 m ρ c main_v54_6) 2 (rb n) (rt n)))
    (fun n => entAt (V4 m ρ) c (V4 m ρ c main_v54_7) 3 (rb n) (rt n) (rowAt (V4 m ρ) c (V4 m ρ c main_v54_7) 3 (rb n) (rt n)))
    (fun n => congr (score_up m ρ c (rb n) (rt n)) (code_up m ρ c (rb n) (rt n)))
    (fun n => congr (score_dn m ρ c (rb n) (rt n)) (code_dn m ρ c (rb n) (rt n)))
    (fun n => congr (score_lh m ρ c (rb n) (rt n)) (code_lh m ρ c (rb n) (rt n)))
    (fun n => congr (score_rh m ρ c (rb n) (rt n)) (code_rh m ρ c (rb n) (rt n)))

end Cert.KernelIdeal.Val

end
-- ==== Proof.Value.lean ====
/-
The ideal kernel and the reference compute the same four results.
-/
module

public import proofs.«01_k».proof.Defs
public import proofs.«01_k».proof.Proof.Frame
public import proofs.«01_k».proof.Proof.RefFrame
public import proofs.«01_k».proof.Proof.RefResult
public import proofs.«01_k».proof.Proof.KerEq
public import proofs.«01_k».proof.Proof.Inputs
public import proofs.«01_k».proof.Proof.Transfer

@[expose] public section

set_option maxRecDepth 16384

noncomputable section

namespace Cert.Proof

open Idealize.ShloMosaic Idealize.ShloMosaic.TcCoe Idealize.SL.Sem Idealize.ShloMosaic.StableHlo
open Cert.Vq

/-! ## The two runs -/

/-- Under the precondition, the kernel's run. -/
theorem ideal_frame_pre [Cert.Pre_finite_inputs.Facts] : Cert.quiescent_KernelIdeal_pre_finite_inputs := fun m g _ => Cert.KernelIdeal.Gen.frame m g

/-- Under the precondition, the reference's run. -/
theorem reference_frame_pre [Cert.Pre_finite_inputs.Facts] : Cert.quiescent_ReferenceIdeal_pre_finite_inputs := fun m g _ => reference_frame m g trivial

/-! ## The same arguments -/

/-- Equal arrays give equal arguments. -/
theorem argsOf_congr
    {a0 b0 : (⟨3, ![16, 2048, 165]⟩ : Shape).Idx → EReal} (h0 : a0 = b0)
    {a1 b1 : (⟨3, ![16, 2048, 330]⟩ : Shape).Idx → EReal} (h1 : a1 = b1)
    {a2 b2 : (⟨3, ![16, 2048, 3]⟩ : Shape).Idx → EReal} (h2 : a2 = b2)
    {a3 b3 : (⟨2, ![144, 64]⟩ : Shape).Idx → EReal} (h3 : a3 = b3)
    {a4 b4 : (⟨1, ![64]⟩ : Shape).Idx → EReal} (h4 : a4 = b4)
    {a5 b5 : (⟨2, ![512, 64]⟩ : Shape).Idx → EReal} (h5 : a5 = b5)
    {a6 b6 : (⟨2, ![64, 144]⟩ : Shape).Idx → EReal} (h6 : a6 = b6)
    {a7 b7 : (⟨1, ![144]⟩ : Shape).Idx → EReal} (h7 : a7 = b7)
    {a8 b8 : (⟨2, ![84, 64]⟩ : Shape).Idx → EReal} (h8 : a8 = b8)
    {a9 b9 : (⟨1, ![64]⟩ : Shape).Idx → EReal} (h9 : a9 = b9)
    {a10 b10 : (⟨2, ![512, 64]⟩ : Shape).Idx → EReal} (h10 : a10 = b10)
    {a11 b11 : (⟨2, ![64, 84]⟩ : Shape).Idx → EReal} (h11 : a11 = b11)
    {a12 b12 : (⟨1, ![84]⟩ : Shape).Idx → EReal} (h12 : a12 = b12)
    {a13 b13 : (⟨2, ![135, 64]⟩ : Shape).Idx → EReal} (h13 : a13 = b13)
    {a14 b14 : (⟨1, ![64]⟩ : Shape).Idx → EReal} (h14 : a14 = b14)
    {a15 b15 : (⟨2, ![512, 64]⟩ : Shape).Idx → EReal} (h15 : a15 = b15)
    {a16 b16 : (⟨2, ![64, 135]⟩ : Shape).Idx → EReal} (h16 : a16 = b16)
    {a17 b17 : (⟨1, ![135]⟩ : Shape).Idx → EReal} (h17 : a17 = b17)
    {a18 b18 : (⟨2, ![135, 64]⟩ : Shape).Idx → EReal} (h18 : a18 = b18)
    {a19 b19 : (⟨1, ![64]⟩ : Shape).Idx → EReal} (h19 : a19 = b19)
    {a20 b20 : (⟨2, ![512, 64]⟩ : Shape).Idx → EReal} (h20 : a20 = b20)
    {a21 b21 : (⟨2, ![64, 135]⟩ : Shape).Idx → EReal} (h21 : a21 = b21)
    {a22 b22 : (⟨1, ![135]⟩ : Shape).Idx → EReal} (h22 : a22 = b22)
    : argsOf a0 a1 a2 (weightsOf a3 a4 a5 a6 a7) (weightsOf a8 a9 a10 a11 a12) (weightsOf a13 a14 a15 a16 a17) (weightsOf a18 a19 a20 a21 a22)
      = argsOf b0 b1 b2 (weightsOf b3 b4 b5 b6 b7) (weightsOf b8 b9 b10 b11 b12) (weightsOf b13 b14 b15 b16 b17) (weightsOf b18 b19 b20 b21 b22) := by
  subst h0 h1 h2 h3 h4 h5 h6 h7 h8 h9 h10 h11 h12 h13 h14 h15 h16 h17 h18 h19 h20 h21 h22
  rfl

variable (m : (ℓ : Loc KernelIdeal.nD KernelIdeal.τ KernelIdeal.sig) → Buf (Elt Ideal) ℓ)
  (m' : (ℓ : Loc ReferenceIdeal.nD ReferenceIdeal.τ ReferenceIdeal.sig) → Buf (Elt Ideal) ℓ) (ρ : Dev KernelIdeal.nD → PrngReg)

/-- The two memories agree on the arguments of a device. -/
def Agree (c : Dev KernelIdeal.nD) : Prop :=
  m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
  ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
  ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
  ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
  ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
  ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
  ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
  ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
  ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
  ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
  ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
  ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
  ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
  ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
  ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)
  ∧ m' ((c.tc : Thread Cert.ReferenceIdeal.nD Cert.ReferenceIdeal.τ).loc Cert.ReferenceIdeal.main_arg15) = m ((c.tc : Thread Cert.KernelIdeal.nD Cert.KernelIdeal.τ).loc Cert.KernelIdeal.main_arg15)
  ∧ m' ((c.tc : Thread Cert.ReferenceIdeal.nD Cert.ReferenceIdeal.τ).loc Cert.ReferenceIdeal.main_arg16) = m ((c.tc : Thread Cert.KernelIdeal.nD Cert.KernelIdeal.τ).loc Cert.KernelIdeal.main_arg16)
  ∧ m' ((c.tc : Thread Cert.ReferenceIdeal.nD Cert.ReferenceIdeal.τ).loc Cert.ReferenceIdeal.main_arg17) = m ((c.tc : Thread Cert.KernelIdeal.nD Cert.KernelIdeal.τ).loc Cert.KernelIdeal.main_arg17)
  ∧ m' ((c.tc : Thread Cert.ReferenceIdeal.nD Cert.ReferenceIdeal.τ).loc Cert.ReferenceIdeal.main_arg18) = m ((c.tc : Thread Cert.KernelIdeal.nD Cert.KernelIdeal.τ).loc Cert.KernelIdeal.main_arg18)
  ∧ m' ((c.tc : Thread Cert.ReferenceIdeal.nD Cert.ReferenceIdeal.τ).loc Cert.ReferenceIdeal.main_arg19) = m ((c.tc : Thread Cert.KernelIdeal.nD Cert.KernelIdeal.τ).loc Cert.KernelIdeal.main_arg19)
  ∧ m' ((c.tc : Thread Cert.ReferenceIdeal.nD Cert.ReferenceIdeal.τ).loc Cert.ReferenceIdeal.main_arg20) = m ((c.tc : Thread Cert.KernelIdeal.nD Cert.KernelIdeal.τ).loc Cert.KernelIdeal.main_arg20)
  ∧ m' ((c.tc : Thread Cert.ReferenceIdeal.nD Cert.ReferenceIdeal.τ).loc Cert.ReferenceIdeal.main_arg21) = m ((c.tc : Thread Cert.KernelIdeal.nD Cert.KernelIdeal.τ).loc Cert.KernelIdeal.main_arg21)
  ∧ m' ((c.tc : Thread Cert.ReferenceIdeal.nD Cert.ReferenceIdeal.τ).loc Cert.ReferenceIdeal.main_arg22) = m ((c.tc : Thread Cert.KernelIdeal.nD Cert.KernelIdeal.τ).loc Cert.KernelIdeal.main_arg22)

set_option maxHeartbeats 1000000 in
/-- Then the reference's arguments are the kernel's. -/
theorem same_args (c : Dev KernelIdeal.nD) (h : Agree m m' c) :
    ReferenceIdeal.Form.args (launchContents m' c) = KernelIdeal.Val.args m c := by
  obtain ⟨h0, h1, h2, h3, h4, h5, h6, h7, h8, h9, h10, h11, h12, h13, h14, h15, h16, h17, h18, h19, h20, h21, h22⟩ := h
  exact argsOf_congr ((kept m' c (by decide +kernel)).trans h0)
    ((kept m' c (by decide +kernel)).trans h1)
    ((kept m' c (by decide +kernel)).trans h2)
    ((kept m' c (by decide +kernel)).trans h3)
    ((kept m' c (by decide +kernel)).trans h4)
    ((kept m' c (by decide +kernel)).trans h5)
    ((kept m' c (by decide +kernel)).trans h6)
    ((kept m' c (by decide +kernel)).trans h7)
    ((kept m' c (by decide +kernel)).trans h8)
    ((kept m' c (by decide +kernel)).trans h9)
    ((kept m' c (by decide +kernel)).trans h10)
    ((kept m' c (by decide +kernel)).trans h11)
    ((kept m' c (by decide +kernel)).trans h12)
    ((kept m' c (by decide +kernel)).trans h13)
    ((kept m' c (by decide +kernel)).trans h14)
    ((kept m' c (by decide +kernel)).trans h15)
    ((kept m' c (by decide +kernel)).trans h16)
    ((kept m' c (by decide +kernel)).trans h17)
    ((kept m' c (by decide +kernel)).trans h18)
    ((kept m' c (by decide +kernel)).trans h19)
    ((kept m' c (by decide +kernel)).trans h20)
    ((kept m' c (by decide +kernel)).trans h21)
    ((kept m' c (by decide +kernel)).trans h22)

/-! ## The same results -/

section
variable {m} {m'} {c : Dev KernelIdeal.nD} (ha : ReferenceIdeal.Form.args (launchContents m' c) = KernelIdeal.Val.args m c)
  (hA : (KernelIdeal.Val.args m c).Finite)
include ha hA

/-- The positions. -/
theorem same_x (b : Fin 16) (t : Fin 2048) (i : Fin 165) :
    ReferenceIdeal.Line.rd (launchContents m' c) ReferenceIdeal.main_v300 (ix3 b t i)
      = KernelIdeal.Gen.W6 m ρ c (Proc.devRef .tc KernelIdeal.main_v55_0) (ix3 b t i) := by
  have hR := ha ▸ hA
  obtain ⟨k, rfl⟩ | ⟨k, rfl⟩ | ⟨k, rfl⟩ | ⟨k, rfl⟩ := pos_cases i
  · rw [ReferenceIdeal.Form.x_up hR b t k, ha]; exact (KernelIdeal.Val.x_up m ρ c b t k).symm
  · rw [ReferenceIdeal.Form.x_dn hR b t k, ha]; exact (KernelIdeal.Val.x_dn m ρ c b t k).symm
  · rw [ReferenceIdeal.Form.x_lh b t k, ha]; exact (KernelIdeal.Val.x_hand m ρ c b t _ (KernelIdeal.Val.at_pos_lh k)).symm
  · rw [ReferenceIdeal.Form.x_rh b t k, ha]; exact (KernelIdeal.Val.x_hand m ρ c b t _ (KernelIdeal.Val.at_pos_rh k)).symm

/-- The rotations. -/
theorem same_r (b : Fin 16) (t : Fin 2048) (i : Fin 330) :
    ReferenceIdeal.Line.rd (launchContents m' c) ReferenceIdeal.main_v301 (ix3 b t i)
      = KernelIdeal.Gen.W6 m ρ c (Proc.devRef .tc KernelIdeal.main_v55_1) (ix3 b t i) := by
  have hR := ha ▸ hA
  obtain ⟨k, rfl⟩ | ⟨k, rfl⟩ | ⟨k, rfl⟩ | ⟨k, rfl⟩ := rot_cases i
  · rw [ReferenceIdeal.Form.r_up hR b t k, ha]; exact (KernelIdeal.Val.r_up m ρ c b t k).symm
  · rw [ReferenceIdeal.Form.r_dn hR b t k, ha]; exact (KernelIdeal.Val.r_dn m ρ c b t k).symm
  · rw [ReferenceIdeal.Form.r_lh hR b t k, ha]; exact (KernelIdeal.Val.r_lh m ρ c b t k).symm
  · rw [ReferenceIdeal.Form.r_rh hR b t k, ha]; exact (KernelIdeal.Val.r_rh m ρ c b t k).symm

/-- The shifts. -/
theorem same_s (b : Fin 16) (t : Fin 2048) (i : Fin 3) :
    ReferenceIdeal.Line.rd (launchContents m' c) ReferenceIdeal.main_v230 (ix3 b t i)
      = KernelIdeal.Gen.W6 m ρ c (Proc.devRef .tc KernelIdeal.main_v55_2) (ix3 b t i) := by
  have hR := ha ▸ hA
  rw [ReferenceIdeal.Form.s_dn hR b t i, ha]; exact (KernelIdeal.Val.s_dn m ρ c b t i).symm

/-- The loss. -/
theorem same_loss (i : ReferenceIdeal.S_.Idx) :
    ReferenceIdeal.Line.rd (launchContents m' c) ReferenceIdeal.main_v299 i
      = KernelIdeal.Gen.W6 m ρ c (Proc.devRef .tc KernelIdeal.main_v56) i := by
  rw [ReferenceIdeal.Form.loss_all (ha ▸ hA) i, ha]; exact (KernelIdeal.Val.loss_all m ρ c hA i).symm

end

/-- Two arrays of three axes that agree at every index. -/
theorem ext3 {a b c : ℕ} {f g : (⟨3, ![a, b, c]⟩ : Shape).Idx → EReal} (h : ∀ x y z, f (ix3 x y z) = g (ix3 x y z)) : f = g :=
  funext fun j => by rw [eq_ix3 j]; exact h _ _ _

/-! ## The claim -/

set_option maxHeartbeats 4000000 in
/-- On finite inputs the ideal kernel's four results are the reference's. -/
theorem values [Cert.Pre_finite_inputs.Facts] : Cert.algebraic_KernelIdeal_ReferenceIdeal_pre_finite_inputs := fun m g m' g' hp hm => by
  have hA : ∀ c, (KernelIdeal.Val.args m c).Finite := fun c => inputs_real _ _ _ _ _ _ _ _ _ _ _ _ _ _ _ _ _ _ _ _ _ _ _ (hp c)
  have ha : ∀ c, ReferenceIdeal.Form.args (launchContents m' c) = KernelIdeal.Val.args m c := fun c => same_args m m' c (hm c)
  refine ⟨fun c => KernelIdeal.Gen.W6 m g c (Proc.devRef .tc KernelIdeal.main_v55_0), fun c => KernelIdeal.Gen.W6 m g c (Proc.devRef .tc KernelIdeal.main_v55_1),
    fun c => KernelIdeal.Gen.W6 m g c (Proc.devRef .tc KernelIdeal.main_v55_2), fun c => KernelIdeal.Gen.W6 m g c (Proc.devRef .tc KernelIdeal.main_v56), ?_, ?_⟩
  · refine (θ_run KernelIdeal.defs _ _).mono (fun r h c => ?_) (KernelIdeal.Gen.run m g)
    refine ⟨h.1 c _ (KernelIdeal.Gen.mem_uc KernelIdeal.main_v55_0 (by decide)), h.1 c _ (KernelIdeal.Gen.mem_uc KernelIdeal.main_v55_1 (by decide)),
      h.1 c _ (KernelIdeal.Gen.mem_uc KernelIdeal.main_v55_2 (by decide)), h.1 c _ (KernelIdeal.Gen.mem_uc KernelIdeal.main_v56 (by decide)), ?_⟩
    exact ⟨(h.1 c _ (KernelIdeal.Gen.mem_uc KernelIdeal.main_arg0 (by decide))).trans (KernelIdeal.Gen.W6_main_arg0 m g c),
      (h.1 c _ (KernelIdeal.Gen.mem_uc KernelIdeal.main_arg1 (by decide))).trans (KernelIdeal.Gen.W6_main_arg1 m g c),
      (h.1 c _ (KernelIdeal.Gen.mem_uc KernelIdeal.main_arg2 (by decide))).trans (KernelIdeal.Gen.W6_main_arg2 m g c),
      (h.1 c _ (KernelIdeal.Gen.mem_uc KernelIdeal.main_arg3 (by decide))).trans (KernelIdeal.Gen.W6_main_arg3 m g c),
      (h.1 c _ (KernelIdeal.Gen.mem_uc KernelIdeal.main_arg4 (by decide))).trans (KernelIdeal.Gen.W6_main_arg4 m g c),
      (h.1 c _ (KernelIdeal.Gen.mem_uc KernelIdeal.main_arg5 (by decide))).trans (KernelIdeal.Gen.W6_main_arg5 m g c),
      (h.1 c _ (KernelIdeal.Gen.mem_uc KernelIdeal.main_arg6 (by decide))).trans (KernelIdeal.Gen.W6_main_arg6 m g c),
      (h.1 c _ (KernelIdeal.Gen.mem_uc KernelIdeal.main_arg7 (by decide))).trans (KernelIdeal.Gen.W6_main_arg7 m g c),
      (h.1 c _ (KernelIdeal.Gen.mem_uc KernelIdeal.main_arg8 (by decide))).trans (KernelIdeal.Gen.W6_main_arg8 m g c),
      (h.1 c _ (KernelIdeal.Gen.mem_uc KernelIdeal.main_arg9 (by decide))).trans (KernelIdeal.Gen.W6_main_arg9 m g c),
      (h.1 c _ (KernelIdeal.Gen.mem_uc KernelIdeal.main_arg10 (by decide))).trans (KernelIdeal.Gen.W6_main_arg10 m g c),
      (h.1 c _ (KernelIdeal.Gen.mem_uc KernelIdeal.main_arg11 (by decide))).trans (KernelIdeal.Gen.W6_main_arg11 m g c),
      (h.1 c _ (KernelIdeal.Gen.mem_uc KernelIdeal.main_arg12 (by decide))).trans (KernelIdeal.Gen.W6_main_arg12 m g c),
      (h.1 c _ (KernelIdeal.Gen.mem_uc KernelIdeal.main_arg13 (by decide))).trans (KernelIdeal.Gen.W6_main_arg13 m g c),
      (h.1 c _ (KernelIdeal.Gen.mem_uc KernelIdeal.main_arg14 (by decide))).trans (KernelIdeal.Gen.W6_main_arg14 m g c),
      (h.1 c _ (KernelIdeal.Gen.mem_uc KernelIdeal.main_arg15 (by decide))).trans (KernelIdeal.Gen.W6_main_arg15 m g c),
      (h.1 c _ (KernelIdeal.Gen.mem_uc KernelIdeal.main_arg16 (by decide))).trans (KernelIdeal.Gen.W6_main_arg16 m g c),
      (h.1 c _ (KernelIdeal.Gen.mem_uc KernelIdeal.main_arg17 (by decide))).trans (KernelIdeal.Gen.W6_main_arg17 m g c),
      (h.1 c _ (KernelIdeal.Gen.mem_uc KernelIdeal.main_arg18 (by decide))).trans (KernelIdeal.Gen.W6_main_arg18 m g c),
      (h.1 c _ (KernelIdeal.Gen.mem_uc KernelIdeal.main_arg19 (by decide))).trans (KernelIdeal.Gen.W6_main_arg19 m g c),
      (h.1 c _ (KernelIdeal.Gen.mem_uc KernelIdeal.main_arg20 (by decide))).trans (KernelIdeal.Gen.W6_main_arg20 m g c),
      (h.1 c _ (KernelIdeal.Gen.mem_uc KernelIdeal.main_arg21 (by decide))).trans (KernelIdeal.Gen.W6_main_arg21 m g c),
      (h.1 c _ (KernelIdeal.Gen.mem_uc KernelIdeal.main_arg22 (by decide))).trans (KernelIdeal.Gen.W6_main_arg22 m g c)⟩
  · refine (θ_run ReferenceIdeal.defs _ _).mono (fun r h c => ?_) (ReferenceIdeal.Line.run m' g')
    refine ⟨(h c _).trans (ext3 (same_x g (ha c) (hA c))), (h c _).trans (ext3 (same_r g (ha c) (hA c))),
      (h c _).trans (ext3 (same_s g (ha c) (hA c))), (h c _).trans (funext (same_loss g (ha c) (hA c))), ?_⟩
    refine ⟨?_, ?_, ?_, ?_, ?_, ?_, ?_, ?_, ?_, ?_, ?_, ?_, ?_, ?_, ?_, ?_, ?_, ?_, ?_, ?_, ?_, ?_, ?_⟩ <;>
      exact (h c _).trans (kept m' c (by decide +kernel))

end Cert.Proof

end
-- ==== Proof.lean ====
/-
The claims, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Transfer
public import proofs.«01_k».proof.Proof.RefFrame
public import proofs.«01_k».proof.Proof.Inputs
public import proofs.«01_k».proof.Proof.Value

@[expose] public section

noncomputable section

namespace Cert.Proof

/-- Every claim of the certificate. -/
theorem claim : Cert.Claim :=
  haveI := pre_facts
  ⟨Cert.Kernel.Gen.facts, Cert.KernelIdeal.Gen.facts, Cert.ReferenceIdeal.Gen.facts, pre_facts,
    kernel_frame, ideal_frame, ideal_frame_pre, reference_frame, reference_frame_pre, trivial, values⟩

end Cert.Proof

end
